-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_qk [hPre_finite_qk : Cert.Pre_finite_qk.Facts] (m : (ℓ : Loc Cert.MlaIdeal.nD Cert.MlaIdeal.τ Cert.MlaIdeal.sig) → Buf (Elt Ideal) ℓ) : Prop :=
  ∀ c : Dev Cert.MlaIdeal.nD,
    (Cert.Pre_finite_qk.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_qk [hPre_finite_qk : Cert.Pre_finite_qk.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_qk.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_qkv_lam [hPre_finite_qkv_lam : Cert.Pre_finite_qkv_lam.Facts] (m : (ℓ : Loc Cert.DiffIdeal.nD Cert.DiffIdeal.τ Cert.DiffIdeal.sig) → Buf (Elt Ideal) ℓ) : Prop :=
  ∀ c : Dev Cert.DiffIdeal.nD,
    (Cert.Pre_finite_qkv_lam.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_qkv_lam [hPre_finite_qkv_lam : Cert.Pre_finite_qkv_lam.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_qkv_lam.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3))) = (fun _ => 1#1)

def Pre_EvenQk (m : (ℓ : Loc Cert.EvenQk.nD Cert.EvenQk.τ Cert.EvenQk.sig) → Buf (Elt Bits) ℓ) : Prop :=
  True

def Pre_EvenQkIdeal (m : (ℓ : Loc Cert.EvenQkIdeal.nD Cert.EvenQkIdeal.τ Cert.EvenQkIdeal.sig) → Buf (Elt Ideal) ℓ) : Prop :=
  True

def Pre_EvenQkRefIdeal (m : (ℓ : Loc Cert.EvenQkRefIdeal.nD Cert.EvenQkRefIdeal.τ Cert.EvenQkRefIdeal.sig) → Buf (Elt Ideal) ℓ) : Prop :=
  True

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjRefIdeal (m : (ℓ : Loc Cert.EvenProjRefIdeal.nD Cert.EvenProjRefIdeal.τ Cert.EvenProjRefIdeal.sig) → Buf (Elt Ideal) ℓ) : Prop :=
  True

def Pre_OddQk (m : (ℓ : Loc Cert.OddQk.nD Cert.OddQk.τ Cert.OddQk.sig) → Buf (Elt Bits) ℓ) : Prop :=
  True

def Pre_OddQkIdeal (m : (ℓ : Loc Cert.OddQkIdeal.nD Cert.OddQkIdeal.τ Cert.OddQkIdeal.sig) → Buf (Elt Ideal) ℓ) : Prop :=
  True

def Pre_OddQkRefIdeal (m : (ℓ : Loc Cert.OddQkRefIdeal.nD Cert.OddQkRefIdeal.τ Cert.OddQkRefIdeal.sig) → Buf (Elt Ideal) ℓ) : Prop :=
  True

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddProjRefIdeal (m : (ℓ : Loc Cert.OddProjRefIdeal.nD Cert.OddProjRefIdeal.τ Cert.OddProjRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_MlaPrep (m : (ℓ : Loc Cert.MlaPrep.nD Cert.MlaPrep.τ Cert.MlaPrep.sig) → Buf (Elt Bits) ℓ) : Prop :=
  True

def Pre_MlaPrepIdeal (m : (ℓ : Loc Cert.MlaPrepIdeal.nD Cert.MlaPrepIdeal.τ Cert.MlaPrepIdeal.sig) → Buf (Elt Ideal) ℓ) : Prop :=
  True

def Pre_MlaPrepRefIdeal (m : (ℓ : Loc Cert.MlaPrepRefIdeal.nD Cert.MlaPrepRefIdeal.τ Cert.MlaPrepRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_qk [hMlaIdeal : Cert.MlaIdeal.Facts] [hPre_finite_qk : Cert.Pre_finite_qk.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_qk m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_qk [hMlaRefIdeal : Cert.MlaRefIdeal.Facts] [hPre_finite_qk : Cert.Pre_finite_qk.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_qk m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffIdeal_pre_finite_qkv_lam [hDiffIdeal : Cert.DiffIdeal.Facts] [hPre_finite_qkv_lam : Cert.Pre_finite_qkv_lam.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_qkv_lam m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3))
      ∧ r.2.sem = fun _ => 0)

def quiescent_DiffRefIdeal_pre_finite_qkv_lam [hDiffRefIdeal : Cert.DiffRefIdeal.Facts] [hPre_finite_qkv_lam : Cert.Pre_finite_qkv_lam.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_qkv_lam m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3))
      ∧ r.2.sem = fun _ => 0)

def quiescent_EvenQk [hEvenQk : Cert.EvenQk.Facts] : Prop :=
  ∀ (m : (ℓ : Loc Cert.EvenQk.nD Cert.EvenQk.τ Cert.EvenQk.sig) → Buf (Elt Bits) ℓ) (g : Dev Cert.EvenQk.nD → PrngReg), Pre_EvenQk m →
    θ_run (Cert.EvenQk.defs (F := Bits)) (onTc (τ := Cert.EvenQk.τ) (Cert.EvenQk.main (F := Bits))) ⟨m, fun _ => 0, g⟩ (fun r => (∀ c : Dev Cert.EvenQk.nD,
      r.2.mem ((c.tc : Thread Cert.EvenQk.nD Cert.EvenQk.τ).loc Cert.EvenQk.main_arg0) = m ((c.tc : Thread Cert.EvenQk.nD Cert.EvenQk.τ).loc Cert.EvenQk.main_arg0)
      ∧ r.2.mem ((c.tc : Thread Cert.EvenQk.nD Cert.EvenQk.τ).loc Cert.EvenQk.main_arg1) = m ((c.tc : Thread Cert.EvenQk.nD Cert.EvenQk.τ).loc Cert.EvenQk.main_arg1)
      ∧ r.2.mem ((c.tc : Thread Cert.EvenQk.nD Cert.EvenQk.τ).loc Cert.EvenQk.main_arg2) = m ((c.tc : Thread Cert.EvenQk.nD Cert.EvenQk.τ).loc Cert.EvenQk.main_arg2))
      ∧ r.2.sem = fun _ => 0)

def quiescent_EvenQkIdeal [hEvenQkIdeal : Cert.EvenQkIdeal.Facts] : Prop :=
  ∀ (m : (ℓ : Loc Cert.EvenQkIdeal.nD Cert.EvenQkIdeal.τ Cert.EvenQkIdeal.sig) → Buf (Elt Ideal) ℓ) (g : Dev Cert.EvenQkIdeal.nD → PrngReg), Pre_EvenQkIdeal m →
    θ_run (Cert.EvenQkIdeal.defs (F := Ideal)) (onTc (τ := Cert.EvenQkIdeal.τ) (Cert.EvenQkIdeal.main (F := Ideal))) ⟨m, fun _ => 0, g⟩ (fun r => (∀ c : Dev Cert.EvenQkIdeal.nD,
      r.2.mem ((c.tc : Thread Cert.EvenQkIdeal.nD Cert.EvenQkIdeal.τ).loc Cert.EvenQkIdeal.main_arg0) = m ((c.tc : Thread Cert.EvenQkIdeal.nD Cert.EvenQkIdeal.τ).loc Cert.EvenQkIdeal.main_arg0)
      ∧ r.2.mem ((c.tc : Thread Cert.EvenQkIdeal.nD Cert.EvenQkIdeal.τ).loc Cert.EvenQkIdeal.main_arg1) = m ((c.tc : Thread Cert.EvenQkIdeal.nD Cert.EvenQkIdeal.τ).loc Cert.EvenQkIdeal.main_arg1)
      ∧ r.2.mem ((c.tc : Thread Cert.EvenQkIdeal.nD Cert.EvenQkIdeal.τ).loc Cert.EvenQkIdeal.main_arg2) = m ((c.tc : Thread Cert.EvenQkIdeal.nD Cert.EvenQkIdeal.τ).loc Cert.EvenQkIdeal.main_arg2))
      ∧ r.2.sem = fun _ => 0)

def quiescent_EvenQkRefIdeal [hEvenQkRefIdeal : Cert.EvenQkRefIdeal.Facts] : Prop :=
  ∀ (m : (ℓ : Loc Cert.EvenQkRefIdeal.nD Cert.EvenQkRefIdeal.τ Cert.EvenQkRefIdeal.sig) → Buf (Elt Ideal) ℓ) (g : Dev Cert.EvenQkRefIdeal.nD → PrngReg), Pre_EvenQkRefIdeal m →
    θ_run (Cert.EvenQkRefIdeal.defs (F := Ideal)) (onTc (τ := Cert.EvenQkRefIdeal.τ) (Cert.EvenQkRefIdeal.main (F := Ideal))) ⟨m, fun _ => 0, g⟩ (fun r => (∀ c : Dev Cert.EvenQkRefIdeal.nD,
      r.2.mem ((c.tc : Thread Cert.EvenQkRefIdeal.nD Cert.EvenQkRefIdeal.τ).loc Cert.EvenQkRefIdeal.main_arg0) = m ((c.tc : Thread Cert.EvenQkRefIdeal.nD Cert.EvenQkRefIdeal.τ).loc Cert.EvenQkRefIdeal.main_arg0)
      ∧ r.2.mem ((c.tc : Thread Cert.EvenQkRefIdeal.nD Cert.EvenQkRefIdeal.τ).loc Cert.EvenQkRefIdeal.main_arg1) = m ((c.tc : Thread Cert.EvenQkRefIdeal.nD Cert.EvenQkRefIdeal.τ).loc Cert.EvenQkRefIdeal.main_arg1)
      ∧ r.2.mem ((c.tc : Thread Cert.EvenQkRefIdeal.nD Cert.EvenQkRefIdeal.τ).loc Cert.EvenQkRefIdeal.main_arg2) = m ((c.tc : Thread Cert.EvenQkRefIdeal.nD Cert.EvenQkRefIdeal.τ).loc Cert.EvenQkRefIdeal.main_arg2))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1))
      ∧ r.2.sem = fun _ => 0)

def quiescent_EvenProjRefIdeal [hEvenProjRefIdeal : Cert.EvenProjRefIdeal.Facts] : Prop :=
  ∀ (m : (ℓ : Loc Cert.EvenProjRefIdeal.nD Cert.EvenProjRefIdeal.τ Cert.EvenProjRefIdeal.sig) → Buf (Elt Ideal) ℓ) (g : Dev Cert.EvenProjRefIdeal.nD → PrngReg), Pre_EvenProjRefIdeal m →
    θ_run (Cert.EvenProjRefIdeal.defs (F := Ideal)) (onTc (τ := Cert.EvenProjRefIdeal.τ) (Cert.EvenProjRefIdeal.main (F := Ideal))) ⟨m, fun _ => 0, g⟩ (fun r => (∀ c : Dev Cert.EvenProjRefIdeal.nD,
      r.2.mem ((c.tc : Thread Cert.EvenProjRefIdeal.nD Cert.EvenProjRefIdeal.τ).loc Cert.EvenProjRefIdeal.main_arg0) = m ((c.tc : Thread Cert.EvenProjRefIdeal.nD Cert.EvenProjRefIdeal.τ).loc Cert.EvenProjRefIdeal.main_arg0)
      ∧ r.2.mem ((c.tc : Thread Cert.EvenProjRefIdeal.nD Cert.EvenProjRefIdeal.τ).loc Cert.EvenProjRefIdeal.main_arg1) = m ((c.tc : Thread Cert.EvenProjRefIdeal.nD Cert.EvenProjRefIdeal.τ).loc Cert.EvenProjRefIdeal.main_arg1))
      ∧ r.2.sem = fun _ => 0)

def quiescent_OddQk [hOddQk : Cert.OddQk.Facts] : Prop :=
  ∀ (m : (ℓ : Loc Cert.OddQk.nD Cert.OddQk.τ Cert.OddQk.sig) → Buf (Elt Bits) ℓ) (g : Dev Cert.OddQk.nD → PrngReg), Pre_OddQk m →
    θ_run (Cert.OddQk.defs (F := Bits)) (onTc (τ := Cert.OddQk.τ) (Cert.OddQk.main (F := Bits))) ⟨m, fun _ => 0, g⟩ (fun r => (∀ c : Dev Cert.OddQk.nD,
      r.2.mem ((c.tc : Thread Cert.OddQk.nD Cert.OddQk.τ).loc Cert.OddQk.main_arg0) = m ((c.tc : Thread Cert.OddQk.nD Cert.OddQk.τ).loc Cert.OddQk.main_arg0)
      ∧ r.2.mem ((c.tc : Thread Cert.OddQk.nD Cert.OddQk.τ).loc Cert.OddQk.main_arg1) = m ((c.tc : Thread Cert.OddQk.nD Cert.OddQk.τ).loc Cert.OddQk.main_arg1)
      ∧ r.2.mem ((c.tc : Thread Cert.OddQk.nD Cert.OddQk.τ).loc Cert.OddQk.main_arg2) = m ((c.tc : Thread Cert.OddQk.nD Cert.OddQk.τ).loc Cert.OddQk.main_arg2))
      ∧ r.2.sem = fun _ => 0)

def quiescent_OddQkIdeal [hOddQkIdeal : Cert.OddQkIdeal.Facts] : Prop :=
  ∀ (m : (ℓ : Loc Cert.OddQkIdeal.nD Cert.OddQkIdeal.τ Cert.OddQkIdeal.sig) → Buf (Elt Ideal) ℓ) (g : Dev Cert.OddQkIdeal.nD → PrngReg), Pre_OddQkIdeal m →
    θ_run (Cert.OddQkIdeal.defs (F := Ideal)) (onTc (τ := Cert.OddQkIdeal.τ) (Cert.OddQkIdeal.main (F := Ideal))) ⟨m, fun _ => 0, g⟩ (fun r => (∀ c : Dev Cert.OddQkIdeal.nD,
      r.2.mem ((c.tc : Thread Cert.OddQkIdeal.nD Cert.OddQkIdeal.τ).loc Cert.OddQkIdeal.main_arg0) = m ((c.tc : Thread Cert.OddQkIdeal.nD Cert.OddQkIdeal.τ).loc Cert.OddQkIdeal.main_arg0)
      ∧ r.2.mem ((c.tc : Thread Cert.OddQkIdeal.nD Cert.OddQkIdeal.τ).loc Cert.OddQkIdeal.main_arg1) = m ((c.tc : Thread Cert.OddQkIdeal.nD Cert.OddQkIdeal.τ).loc Cert.OddQkIdeal.main_arg1)
      ∧ r.2.mem ((c.tc : Thread Cert.OddQkIdeal.nD Cert.OddQkIdeal.τ).loc Cert.OddQkIdeal.main_arg2) = m ((c.tc : Thread Cert.OddQkIdeal.nD Cert.OddQkIdeal.τ).loc Cert.OddQkIdeal.main_arg2))
      ∧ r.2.sem = fun _ => 0)

def quiescent_OddQkRefIdeal [hOddQkRefIdeal : Cert.OddQkRefIdeal.Facts] : Prop :=
  ∀ (m : (ℓ : Loc Cert.OddQkRefIdeal.nD Cert.OddQkRefIdeal.τ Cert.OddQkRefIdeal.sig) → Buf (Elt Ideal) ℓ) (g : Dev Cert.OddQkRefIdeal.nD → PrngReg), Pre_OddQkRefIdeal m →
    θ_run (Cert.OddQkRefIdeal.defs (F := Ideal)) (onTc (τ := Cert.OddQkRefIdeal.τ) (Cert.OddQkRefIdeal.main (F := Ideal))) ⟨m, fun _ => 0, g⟩ (fun r => (∀ c : Dev Cert.OddQkRefIdeal.nD,
      r.2.mem ((c.tc : Thread Cert.OddQkRefIdeal.nD Cert.OddQkRefIdeal.τ).loc Cert.OddQkRefIdeal.main_arg0) = m ((c.tc : Thread Cert.OddQkRefIdeal.nD Cert.OddQkRefIdeal.τ).loc Cert.OddQkRefIdeal.main_arg0)
      ∧ r.2.mem ((c.tc : Thread Cert.OddQkRefIdeal.nD Cert.OddQkRefIdeal.τ).loc Cert.OddQkRefIdeal.main_arg1) = m ((c.tc : Thread Cert.OddQkRefIdeal.nD Cert.OddQkRefIdeal.τ).loc Cert.OddQkRefIdeal.main_arg1)
      ∧ r.2.mem ((c.tc : Thread Cert.OddQkRefIdeal.nD Cert.OddQkRefIdeal.τ).loc Cert.OddQkRefIdeal.main_arg2) = m ((c.tc : Thread Cert.OddQkRefIdeal.nD Cert.OddQkRefIdeal.τ).loc Cert.OddQkRefIdeal.main_arg2))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1))
      ∧ r.2.sem = fun _ => 0)

def quiescent_OddProjRefIdeal [hOddProjRefIdeal : Cert.OddProjRefIdeal.Facts] : Prop :=
  ∀ (m : (ℓ : Loc Cert.OddProjRefIdeal.nD Cert.OddProjRefIdeal.τ Cert.OddProjRefIdeal.sig) → Buf (Elt Ideal) ℓ) (g : Dev Cert.OddProjRefIdeal.nD → PrngReg), Pre_OddProjRefIdeal m →
    θ_run (Cert.OddProjRefIdeal.defs (F := Ideal)) (onTc (τ := Cert.OddProjRefIdeal.τ) (Cert.OddProjRefIdeal.main (F := Ideal))) ⟨m, fun _ => 0, g⟩ (fun r => (∀ c : Dev Cert.OddProjRefIdeal.nD,
      r.2.mem ((c.tc : Thread Cert.OddProjRefIdeal.nD Cert.OddProjRefIdeal.τ).loc Cert.OddProjRefIdeal.main_arg0) = m ((c.tc : Thread Cert.OddProjRefIdeal.nD Cert.OddProjRefIdeal.τ).loc Cert.OddProjRefIdeal.main_arg0)
      ∧ r.2.mem ((c.tc : Thread Cert.OddProjRefIdeal.nD Cert.OddProjRefIdeal.τ).loc Cert.OddProjRefIdeal.main_arg1) = m ((c.tc : Thread Cert.OddProjRefIdeal.nD Cert.OddProjRefIdeal.τ).loc Cert.OddProjRefIdeal.main_arg1))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4))
      ∧ r.2.sem = fun _ => 0)

def quiescent_MlaPrep [hMlaPrep : Cert.MlaPrep.Facts] : Prop :=
  ∀ (m : (ℓ : Loc Cert.MlaPrep.nD Cert.MlaPrep.τ Cert.MlaPrep.sig) → Buf (Elt Bits) ℓ) (g : Dev Cert.MlaPrep.nD → PrngReg), Pre_MlaPrep m →
    θ_run (Cert.MlaPrep.defs (F := Bits)) (onTc (τ := Cert.MlaPrep.τ) (Cert.MlaPrep.main (F := Bits))) ⟨m, fun _ => 0, g⟩ (fun r => (∀ c : Dev Cert.MlaPrep.nD,
      r.2.mem ((c.tc : Thread Cert.MlaPrep.nD Cert.MlaPrep.τ).loc Cert.MlaPrep.main_arg0) = m ((c.tc : Thread Cert.MlaPrep.nD Cert.MlaPrep.τ).loc Cert.MlaPrep.main_arg0)
      ∧ r.2.mem ((c.tc : Thread Cert.MlaPrep.nD Cert.MlaPrep.τ).loc Cert.MlaPrep.main_arg1) = m ((c.tc : Thread Cert.MlaPrep.nD Cert.MlaPrep.τ).loc Cert.MlaPrep.main_arg1)
      ∧ r.2.mem ((c.tc : Thread Cert.MlaPrep.nD Cert.MlaPrep.τ).loc Cert.MlaPrep.main_arg2) = m ((c.tc : Thread Cert.MlaPrep.nD Cert.MlaPrep.τ).loc Cert.MlaPrep.main_arg2)
      ∧ r.2.mem ((c.tc : Thread Cert.MlaPrep.nD Cert.MlaPrep.τ).loc Cert.MlaPrep.main_arg3) = m ((c.tc : Thread Cert.MlaPrep.nD Cert.MlaPrep.τ).loc Cert.MlaPrep.main_arg3)
      ∧ r.2.mem ((c.tc : Thread Cert.MlaPrep.nD Cert.MlaPrep.τ).loc Cert.MlaPrep.main_arg4) = m ((c.tc : Thread Cert.MlaPrep.nD Cert.MlaPrep.τ).loc Cert.MlaPrep.main_arg4)
      ∧ r.2.mem ((c.tc : Thread Cert.MlaPrep.nD Cert.MlaPrep.τ).loc Cert.MlaPrep.main_arg5) = m ((c.tc : Thread Cert.MlaPrep.nD Cert.MlaPrep.τ).loc Cert.MlaPrep.main_arg5))
      ∧ r.2.sem = fun _ => 0)

def quiescent_MlaPrepIdeal [hMlaPrepIdeal : Cert.MlaPrepIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
      ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5))
      ∧ r.2.sem = fun _ => 0)

def quiescent_MlaPrepRefIdeal [hMlaPrepRefIdeal : Cert.MlaPrepRefIdeal.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4)
      ∧ r.2.mem ((c.tc : Thread Cert.MlaPrepRefIdeal.nD Cert.MlaPrepRefIdeal.τ).loc Cert.MlaPrepRefIdeal.main_arg5) = m ((c.tc : Thread Cert.MlaPrepRefIdeal.nD Cert.MlaPrepRefIdeal.τ).loc Cert.MlaPrepRefIdeal.main_arg5))
      ∧ r.2.sem = fun _ => 0)

def preserves_Mla_MlaIdeal : Prop :=
  True

def algebraic_MlaIdeal_MlaRefIdeal_pre_finite_qk [hMlaIdeal : Cert.MlaIdeal.Facts] [hMlaRefIdeal : Cert.MlaRefIdeal.Facts] [hPre_finite_qk : Cert.Pre_finite_qk.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_qk m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v21) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Diff_DiffIdeal : Prop :=
  True

def algebraic_DiffIdeal_DiffRefIdeal_pre_finite_qkv_lam [hDiffIdeal : Cert.DiffIdeal.Facts] [hDiffRefIdeal : Cert.DiffRefIdeal.Facts] [hPre_finite_qkv_lam : Cert.Pre_finite_qkv_lam.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_qkv_lam m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)) →
    ∃ (v0 : (c : Dev Cert.DiffIdeal.nD) → Buf (Elt Ideal) ((c.tc : Thread Cert.DiffIdeal.nD Cert.DiffIdeal.τ).loc Cert.DiffIdeal.main_v0)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v0) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v83) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3))

def preserves_EvenQk_EvenQkIdeal : Prop :=
  True

def algebraic_EvenQkIdeal_EvenQkRefIdeal [hEvenQkIdeal : Cert.EvenQkIdeal.Facts] [hEvenQkRefIdeal : Cert.EvenQkRefIdeal.Facts] : Prop :=
  ∀ (m : (ℓ : Loc Cert.EvenQkIdeal.nD Cert.EvenQkIdeal.τ Cert.EvenQkIdeal.sig) → Buf (Elt Ideal) ℓ) (g : Dev Cert.EvenQkIdeal.nD → PrngReg)
    (m' : (ℓ : Loc Cert.EvenQkRefIdeal.nD Cert.EvenQkRefIdeal.τ Cert.EvenQkRefIdeal.sig) → Buf (Elt Ideal) ℓ) (g' : Dev Cert.EvenQkRefIdeal.nD → PrngReg), Pre_EvenQkIdeal m →
    (∀ c : Dev Cert.EvenQkIdeal.nD,
      m' ((c.tc : Thread Cert.EvenQkRefIdeal.nD Cert.EvenQkRefIdeal.τ).loc Cert.EvenQkRefIdeal.main_arg0) = m ((c.tc : Thread Cert.EvenQkIdeal.nD Cert.EvenQkIdeal.τ).loc Cert.EvenQkIdeal.main_arg0)
      ∧ m' ((c.tc : Thread Cert.EvenQkRefIdeal.nD Cert.EvenQkRefIdeal.τ).loc Cert.EvenQkRefIdeal.main_arg1) = m ((c.tc : Thread Cert.EvenQkIdeal.nD Cert.EvenQkIdeal.τ).loc Cert.EvenQkIdeal.main_arg1)
      ∧ m' ((c.tc : Thread Cert.EvenQkRefIdeal.nD Cert.EvenQkRefIdeal.τ).loc Cert.EvenQkRefIdeal.main_arg2) = m ((c.tc : Thread Cert.EvenQkIdeal.nD Cert.EvenQkIdeal.τ).loc Cert.EvenQkIdeal.main_arg2)) →
    ∃ (v0 : (c : Dev Cert.EvenQkIdeal.nD) → Buf (Elt Ideal) ((c.tc : Thread Cert.EvenQkIdeal.nD Cert.EvenQkIdeal.τ).loc Cert.EvenQkIdeal.main_v66)),
      θ_run (Cert.EvenQkIdeal.defs (F := Ideal)) (onTc (τ := Cert.EvenQkIdeal.τ) (Cert.EvenQkIdeal.main (F := Ideal))) ⟨m, fun _ => 0, g⟩ (fun r => ∀ c : Dev Cert.EvenQkIdeal.nD,
          r.2.mem ((c.tc : Thread Cert.EvenQkIdeal.nD Cert.EvenQkIdeal.τ).loc Cert.EvenQkIdeal.main_v66) = v0 c
          ∧ r.2.mem ((c.tc : Thread Cert.EvenQkIdeal.nD Cert.EvenQkIdeal.τ).loc Cert.EvenQkIdeal.main_arg0) = m ((c.tc : Thread Cert.EvenQkIdeal.nD Cert.EvenQkIdeal.τ).loc Cert.EvenQkIdeal.main_arg0)
          ∧ r.2.mem ((c.tc : Thread Cert.EvenQkIdeal.nD Cert.EvenQkIdeal.τ).loc Cert.EvenQkIdeal.main_arg1) = m ((c.tc : Thread Cert.EvenQkIdeal.nD Cert.EvenQkIdeal.τ).loc Cert.EvenQkIdeal.main_arg1)
          ∧ r.2.mem ((c.tc : Thread Cert.EvenQkIdeal.nD Cert.EvenQkIdeal.τ).loc Cert.EvenQkIdeal.main_arg2) = m ((c.tc : Thread Cert.EvenQkIdeal.nD Cert.EvenQkIdeal.τ).loc Cert.EvenQkIdeal.main_arg2))
      ∧ θ_run (Cert.EvenQkRefIdeal.defs (F := Ideal)) (onTc (τ := Cert.EvenQkRefIdeal.τ) (Cert.EvenQkRefIdeal.main (F := Ideal))) ⟨m', fun _ => 0, g'⟩ (fun r => ∀ c : Dev Cert.EvenQkRefIdeal.nD,
          r.2.mem ((c.tc : Thread Cert.EvenQkRefIdeal.nD Cert.EvenQkRefIdeal.τ).loc Cert.EvenQkRefIdeal.main_v104) = v0 c
          ∧ r.2.mem ((c.tc : Thread Cert.EvenQkRefIdeal.nD Cert.EvenQkRefIdeal.τ).loc Cert.EvenQkRefIdeal.main_arg0) = m' ((c.tc : Thread Cert.EvenQkRefIdeal.nD Cert.EvenQkRefIdeal.τ).loc Cert.EvenQkRefIdeal.main_arg0)
          ∧ r.2.mem ((c.tc : Thread Cert.EvenQkRefIdeal.nD Cert.EvenQkRefIdeal.τ).loc Cert.EvenQkRefIdeal.main_arg1) = m' ((c.tc : Thread Cert.EvenQkRefIdeal.nD Cert.EvenQkRefIdeal.τ).loc Cert.EvenQkRefIdeal.main_arg1)
          ∧ r.2.mem ((c.tc : Thread Cert.EvenQkRefIdeal.nD Cert.EvenQkRefIdeal.τ).loc Cert.EvenQkRefIdeal.main_arg2) = m' ((c.tc : Thread Cert.EvenQkRefIdeal.nD Cert.EvenQkRefIdeal.τ).loc Cert.EvenQkRefIdeal.main_arg2))

def preserves_EvenProj_EvenProjIdeal : Prop :=
  True

def algebraic_EvenProjIdeal_EvenProjRefIdeal [hEvenProjIdeal : Cert.EvenProjIdeal.Facts] [hEvenProjRefIdeal : Cert.EvenProjRefIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjRefIdeal.nD Cert.EvenProjRefIdeal.τ Cert.EvenProjRefIdeal.sig) → Buf (Elt Ideal) ℓ) (g' : Dev Cert.EvenProjRefIdeal.nD → PrngReg), Pre_EvenProjIdeal m →
    (∀ c : Dev Cert.EvenProjIdeal.nD,
      m' ((c.tc : Thread Cert.EvenProjRefIdeal.nD Cert.EvenProjRefIdeal.τ).loc Cert.EvenProjRefIdeal.main_arg0) = m ((c.tc : Thread Cert.EvenProjIdeal.nD Cert.EvenProjIdeal.τ).loc Cert.EvenProjIdeal.main_arg0)
      ∧ m' ((c.tc : Thread Cert.EvenProjRefIdeal.nD Cert.EvenProjRefIdeal.τ).loc Cert.EvenProjRefIdeal.main_arg1) = m ((c.tc : Thread Cert.EvenProjIdeal.nD Cert.EvenProjIdeal.τ).loc Cert.EvenProjIdeal.main_arg1)) →
    ∃ (v0 : (c : Dev Cert.EvenProjIdeal.nD) → Buf (Elt Ideal) ((c.tc : Thread Cert.EvenProjIdeal.nD Cert.EvenProjIdeal.τ).loc Cert.EvenProjIdeal.main_v14)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v14) = v0 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1))
      ∧ θ_run (Cert.EvenProjRefIdeal.defs (F := Ideal)) (onTc (τ := Cert.EvenProjRefIdeal.τ) (Cert.EvenProjRefIdeal.main (F := Ideal))) ⟨m', fun _ => 0, g'⟩ (fun r => ∀ c : Dev Cert.EvenProjRefIdeal.nD,
          r.2.mem ((c.tc : Thread Cert.EvenProjRefIdeal.nD Cert.EvenProjRefIdeal.τ).loc Cert.EvenProjRefIdeal.main_v6) = v0 c
          ∧ r.2.mem ((c.tc : Thread Cert.EvenProjRefIdeal.nD Cert.EvenProjRefIdeal.τ).loc Cert.EvenProjRefIdeal.main_arg0) = m' ((c.tc : Thread Cert.EvenProjRefIdeal.nD Cert.EvenProjRefIdeal.τ).loc Cert.EvenProjRefIdeal.main_arg0)
          ∧ r.2.mem ((c.tc : Thread Cert.EvenProjRefIdeal.nD Cert.EvenProjRefIdeal.τ).loc Cert.EvenProjRefIdeal.main_arg1) = m' ((c.tc : Thread Cert.EvenProjRefIdeal.nD Cert.EvenProjRefIdeal.τ).loc Cert.EvenProjRefIdeal.main_arg1))

def preserves_OddQk_OddQkIdeal : Prop :=
  True

def algebraic_OddQkIdeal_OddQkRefIdeal [hOddQkIdeal : Cert.OddQkIdeal.Facts] [hOddQkRefIdeal : Cert.OddQkRefIdeal.Facts] : Prop :=
  ∀ (m : (ℓ : Loc Cert.OddQkIdeal.nD Cert.OddQkIdeal.τ Cert.OddQkIdeal.sig) → Buf (Elt Ideal) ℓ) (g : Dev Cert.OddQkIdeal.nD → PrngReg)
    (m' : (ℓ : Loc Cert.OddQkRefIdeal.nD Cert.OddQkRefIdeal.τ Cert.OddQkRefIdeal.sig) → Buf (Elt Ideal) ℓ) (g' : Dev Cert.OddQkRefIdeal.nD → PrngReg), Pre_OddQkIdeal m →
    (∀ c : Dev Cert.OddQkIdeal.nD,
      m' ((c.tc : Thread Cert.OddQkRefIdeal.nD Cert.OddQkRefIdeal.τ).loc Cert.OddQkRefIdeal.main_arg0) = m ((c.tc : Thread Cert.OddQkIdeal.nD Cert.OddQkIdeal.τ).loc Cert.OddQkIdeal.main_arg0)
      ∧ m' ((c.tc : Thread Cert.OddQkRefIdeal.nD Cert.OddQkRefIdeal.τ).loc Cert.OddQkRefIdeal.main_arg1) = m ((c.tc : Thread Cert.OddQkIdeal.nD Cert.OddQkIdeal.τ).loc Cert.OddQkIdeal.main_arg1)
      ∧ m' ((c.tc : Thread Cert.OddQkRefIdeal.nD Cert.OddQkRefIdeal.τ).loc Cert.OddQkRefIdeal.main_arg2) = m ((c.tc : Thread Cert.OddQkIdeal.nD Cert.OddQkIdeal.τ).loc Cert.OddQkIdeal.main_arg2)) →
    ∃ (v0 : (c : Dev Cert.OddQkIdeal.nD) → Buf (Elt Ideal) ((c.tc : Thread Cert.OddQkIdeal.nD Cert.OddQkIdeal.τ).loc Cert.OddQkIdeal.main_v66)),
      θ_run (Cert.OddQkIdeal.defs (F := Ideal)) (onTc (τ := Cert.OddQkIdeal.τ) (Cert.OddQkIdeal.main (F := Ideal))) ⟨m, fun _ => 0, g⟩ (fun r => ∀ c : Dev Cert.OddQkIdeal.nD,
          r.2.mem ((c.tc : Thread Cert.OddQkIdeal.nD Cert.OddQkIdeal.τ).loc Cert.OddQkIdeal.main_v66) = v0 c
          ∧ r.2.mem ((c.tc : Thread Cert.OddQkIdeal.nD Cert.OddQkIdeal.τ).loc Cert.OddQkIdeal.main_arg0) = m ((c.tc : Thread Cert.OddQkIdeal.nD Cert.OddQkIdeal.τ).loc Cert.OddQkIdeal.main_arg0)
          ∧ r.2.mem ((c.tc : Thread Cert.OddQkIdeal.nD Cert.OddQkIdeal.τ).loc Cert.OddQkIdeal.main_arg1) = m ((c.tc : Thread Cert.OddQkIdeal.nD Cert.OddQkIdeal.τ).loc Cert.OddQkIdeal.main_arg1)
          ∧ r.2.mem ((c.tc : Thread Cert.OddQkIdeal.nD Cert.OddQkIdeal.τ).loc Cert.OddQkIdeal.main_arg2) = m ((c.tc : Thread Cert.OddQkIdeal.nD Cert.OddQkIdeal.τ).loc Cert.OddQkIdeal.main_arg2))
      ∧ θ_run (Cert.OddQkRefIdeal.defs (F := Ideal)) (onTc (τ := Cert.OddQkRefIdeal.τ) (Cert.OddQkRefIdeal.main (F := Ideal))) ⟨m', fun _ => 0, g'⟩ (fun r => ∀ c : Dev Cert.OddQkRefIdeal.nD,
          r.2.mem ((c.tc : Thread Cert.OddQkRefIdeal.nD Cert.OddQkRefIdeal.τ).loc Cert.OddQkRefIdeal.main_v63) = v0 c
          ∧ r.2.mem ((c.tc : Thread Cert.OddQkRefIdeal.nD Cert.OddQkRefIdeal.τ).loc Cert.OddQkRefIdeal.main_arg0) = m' ((c.tc : Thread Cert.OddQkRefIdeal.nD Cert.OddQkRefIdeal.τ).loc Cert.OddQkRefIdeal.main_arg0)
          ∧ r.2.mem ((c.tc : Thread Cert.OddQkRefIdeal.nD Cert.OddQkRefIdeal.τ).loc Cert.OddQkRefIdeal.main_arg1) = m' ((c.tc : Thread Cert.OddQkRefIdeal.nD Cert.OddQkRefIdeal.τ).loc Cert.OddQkRefIdeal.main_arg1)
          ∧ r.2.mem ((c.tc : Thread Cert.OddQkRefIdeal.nD Cert.OddQkRefIdeal.τ).loc Cert.OddQkRefIdeal.main_arg2) = m' ((c.tc : Thread Cert.OddQkRefIdeal.nD Cert.OddQkRefIdeal.τ).loc Cert.OddQkRefIdeal.main_arg2))

def preserves_OddProj_OddProjIdeal : Prop :=
  True

def algebraic_OddProjIdeal_OddProjRefIdeal [hOddProjIdeal : Cert.OddProjIdeal.Facts] [hOddProjRefIdeal : Cert.OddProjRefIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddProjRefIdeal.nD Cert.OddProjRefIdeal.τ Cert.OddProjRefIdeal.sig) → Buf (Elt Ideal) ℓ) (g' : Dev Cert.OddProjRefIdeal.nD → PrngReg), Pre_OddProjIdeal m →
    (∀ c : Dev Cert.OddProjIdeal.nD,
      m' ((c.tc : Thread Cert.OddProjRefIdeal.nD Cert.OddProjRefIdeal.τ).loc Cert.OddProjRefIdeal.main_arg0) = m ((c.tc : Thread Cert.OddProjIdeal.nD Cert.OddProjIdeal.τ).loc Cert.OddProjIdeal.main_arg0)
      ∧ m' ((c.tc : Thread Cert.OddProjRefIdeal.nD Cert.OddProjRefIdeal.τ).loc Cert.OddProjRefIdeal.main_arg1) = m ((c.tc : Thread Cert.OddProjIdeal.nD Cert.OddProjIdeal.τ).loc Cert.OddProjIdeal.main_arg1)) →
    ∃ (v0 : (c : Dev Cert.OddProjIdeal.nD) → Buf (Elt Ideal) ((c.tc : Thread Cert.OddProjIdeal.nD Cert.OddProjIdeal.τ).loc Cert.OddProjIdeal.main_v14)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v14) = v0 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1))
      ∧ θ_run (Cert.OddProjRefIdeal.defs (F := Ideal)) (onTc (τ := Cert.OddProjRefIdeal.τ) (Cert.OddProjRefIdeal.main (F := Ideal))) ⟨m', fun _ => 0, g'⟩ (fun r => ∀ c : Dev Cert.OddProjRefIdeal.nD,
          r.2.mem ((c.tc : Thread Cert.OddProjRefIdeal.nD Cert.OddProjRefIdeal.τ).loc Cert.OddProjRefIdeal.main_v5) = v0 c
          ∧ r.2.mem ((c.tc : Thread Cert.OddProjRefIdeal.nD Cert.OddProjRefIdeal.τ).loc Cert.OddProjRefIdeal.main_arg0) = m' ((c.tc : Thread Cert.OddProjRefIdeal.nD Cert.OddProjRefIdeal.τ).loc Cert.OddProjRefIdeal.main_arg0)
          ∧ r.2.mem ((c.tc : Thread Cert.OddProjRefIdeal.nD Cert.OddProjRefIdeal.τ).loc Cert.OddProjRefIdeal.main_arg1) = m' ((c.tc : Thread Cert.OddProjRefIdeal.nD Cert.OddProjRefIdeal.τ).loc Cert.OddProjRefIdeal.main_arg1))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)) →
    ∃ (v0 : (c : Dev Cert.EvenOutIdeal.nD) → Buf (Elt Ideal) ((c.tc : Thread Cert.EvenOutIdeal.nD Cert.EvenOutIdeal.τ).loc Cert.EvenOutIdeal.main_v6_0)) (v1 : (c : Dev Cert.EvenOutIdeal.nD) → Buf (Elt Ideal) ((c.tc : Thread Cert.EvenOutIdeal.nD Cert.EvenOutIdeal.τ).loc Cert.EvenOutIdeal.main_v6_1)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v6_0) = v0 c
          ∧ r.2.mem ((c.tc : Thread Cert.EvenOutIdeal.nD Cert.EvenOutIdeal.τ).loc Cert.EvenOutIdeal.main_v6_1) = v1 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v29) = v0 c
          ∧ r.2.mem ((c.tc : Thread Cert.EvenOutRefIdeal.nD Cert.EvenOutRefIdeal.τ).loc Cert.EvenOutRefIdeal.main_v30) = v1 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)) →
    ∃ (v0 : (c : Dev Cert.OddOutIdeal.nD) → Buf (Elt Ideal) ((c.tc : Thread Cert.OddOutIdeal.nD Cert.OddOutIdeal.τ).loc Cert.OddOutIdeal.main_v3_0)) (v1 : (c : Dev Cert.OddOutIdeal.nD) → Buf (Elt Ideal) ((c.tc : Thread Cert.OddOutIdeal.nD Cert.OddOutIdeal.τ).loc Cert.OddOutIdeal.main_v3_1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v3_0) = v0 c
          ∧ r.2.mem ((c.tc : Thread Cert.OddOutIdeal.nD Cert.OddOutIdeal.τ).loc Cert.OddOutIdeal.main_v3_1) = v1 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v28) = v0 c
          ∧ r.2.mem ((c.tc : Thread Cert.OddOutRefIdeal.nD Cert.OddOutRefIdeal.τ).loc Cert.OddOutRefIdeal.main_v29) = v1 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4))

def preserves_MlaPrep_MlaPrepIdeal : Prop :=
  True

def algebraic_MlaPrepIdeal_MlaPrepRefIdeal [hMlaPrepIdeal : Cert.MlaPrepIdeal.Facts] [hMlaPrepRefIdeal : Cert.MlaPrepRefIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg)
    (m' : (ℓ : Loc Cert.MlaPrepRefIdeal.nD Cert.MlaPrepRefIdeal.τ Cert.MlaPrepRefIdeal.sig) → Buf (Elt Ideal) ℓ) (g' : Dev Cert.MlaPrepRefIdeal.nD → PrngReg), Pre_MlaPrepIdeal m →
    (∀ c : Dev Cert.MlaPrepIdeal.nD,
      m' ((c.tc : Thread Cert.MlaPrepRefIdeal.nD Cert.MlaPrepRefIdeal.τ).loc Cert.MlaPrepRefIdeal.main_arg0) = m ((c.tc : Thread Cert.MlaPrepIdeal.nD Cert.MlaPrepIdeal.τ).loc Cert.MlaPrepIdeal.main_arg0)
      ∧ m' ((c.tc : Thread Cert.MlaPrepRefIdeal.nD Cert.MlaPrepRefIdeal.τ).loc Cert.MlaPrepRefIdeal.main_arg1) = m ((c.tc : Thread Cert.MlaPrepIdeal.nD Cert.MlaPrepIdeal.τ).loc Cert.MlaPrepIdeal.main_arg1)
      ∧ m' ((c.tc : Thread Cert.MlaPrepRefIdeal.nD Cert.MlaPrepRefIdeal.τ).loc Cert.MlaPrepRefIdeal.main_arg2) = m ((c.tc : Thread Cert.MlaPrepIdeal.nD Cert.MlaPrepIdeal.τ).loc Cert.MlaPrepIdeal.main_arg2)
      ∧ m' ((c.tc : Thread Cert.MlaPrepRefIdeal.nD Cert.MlaPrepRefIdeal.τ).loc Cert.MlaPrepRefIdeal.main_arg3) = m ((c.tc : Thread Cert.MlaPrepIdeal.nD Cert.MlaPrepIdeal.τ).loc Cert.MlaPrepIdeal.main_arg3)
      ∧ m' ((c.tc : Thread Cert.MlaPrepRefIdeal.nD Cert.MlaPrepRefIdeal.τ).loc Cert.MlaPrepRefIdeal.main_arg4) = m ((c.tc : Thread Cert.MlaPrepIdeal.nD Cert.MlaPrepIdeal.τ).loc Cert.MlaPrepIdeal.main_arg4)
      ∧ m' ((c.tc : Thread Cert.MlaPrepRefIdeal.nD Cert.MlaPrepRefIdeal.τ).loc Cert.MlaPrepRefIdeal.main_arg5) = m ((c.tc : Thread Cert.MlaPrepIdeal.nD Cert.MlaPrepIdeal.τ).loc Cert.MlaPrepIdeal.main_arg5)) →
    ∃ (v0 : (c : Dev Cert.MlaPrepIdeal.nD) → Buf (Elt Ideal) ((c.tc : Thread Cert.MlaPrepIdeal.nD Cert.MlaPrepIdeal.τ).loc Cert.MlaPrepIdeal.main_v62_0)) (v1 : (c : Dev Cert.MlaPrepIdeal.nD) → Buf (Elt Ideal) ((c.tc : Thread Cert.MlaPrepIdeal.nD Cert.MlaPrepIdeal.τ).loc Cert.MlaPrepIdeal.main_v62_1)) (v2 : (c : Dev Cert.MlaPrepIdeal.nD) → Buf (Elt Ideal) ((c.tc : Thread Cert.MlaPrepIdeal.nD Cert.MlaPrepIdeal.τ).loc Cert.MlaPrepIdeal.main_v62_2)),
      θ_run (Cert.MlaPrepIdeal.defs (F := Ideal)) (onTc (τ := Cert.MlaPrepIdeal.τ) (Cert.MlaPrepIdeal.main (F := Ideal))) ⟨m, fun _ => 0, g⟩ (fun r => ∀ c : Dev Cert.MlaPrepIdeal.nD,
          r.2.mem ((c.tc : Thread Cert.MlaPrepIdeal.nD Cert.MlaPrepIdeal.τ).loc Cert.MlaPrepIdeal.main_v62_0) = v0 c
          ∧ r.2.mem ((c.tc : Thread Cert.MlaPrepIdeal.nD Cert.MlaPrepIdeal.τ).loc Cert.MlaPrepIdeal.main_v62_1) = v1 c
          ∧ r.2.mem ((c.tc : Thread Cert.MlaPrepIdeal.nD Cert.MlaPrepIdeal.τ).loc Cert.MlaPrepIdeal.main_v62_2) = v2 c
          ∧ r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
          ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
          ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
          ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
          ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
          ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5))
      ∧ θ_run (Cert.MlaPrepRefIdeal.defs (F := Ideal)) (onTc (τ := Cert.MlaPrepRefIdeal.τ) (Cert.MlaPrepRefIdeal.main (F := Ideal))) ⟨m', fun _ => 0, g'⟩ (fun r => ∀ c : Dev Cert.MlaPrepRefIdeal.nD,
          r.2.mem ((c.tc : Thread Cert.MlaPrepRefIdeal.nD Cert.MlaPrepRefIdeal.τ).loc Cert.MlaPrepRefIdeal.main_v89) = v0 c
          ∧ r.2.mem ((c.tc : Thread Cert.MlaPrepRefIdeal.nD Cert.MlaPrepRefIdeal.τ).loc Cert.MlaPrepRefIdeal.main_v91) = v1 c
          ∧ r.2.mem ((c.tc : Thread Cert.MlaPrepRefIdeal.nD Cert.MlaPrepRefIdeal.τ).loc Cert.MlaPrepRefIdeal.main_v94) = v2 c
          ∧ r.2.mem ((c.tc : Thread Cert.MlaPrepRefIdeal.nD Cert.MlaPrepRefIdeal.τ).loc Cert.MlaPrepRefIdeal.main_arg0) = m' ((c.tc : Thread Cert.MlaPrepRefIdeal.nD Cert.MlaPrepRefIdeal.τ).loc Cert.MlaPrepRefIdeal.main_arg0)
          ∧ r.2.mem ((c.tc : Thread Cert.MlaPrepRefIdeal.nD Cert.MlaPrepRefIdeal.τ).loc Cert.MlaPrepRefIdeal.main_arg1) = m' ((c.tc : Thread Cert.MlaPrepRefIdeal.nD Cert.MlaPrepRefIdeal.τ).loc Cert.MlaPrepRefIdeal.main_arg1)
          ∧ r.2.mem ((c.tc : Thread Cert.MlaPrepRefIdeal.nD Cert.MlaPrepRefIdeal.τ).loc Cert.MlaPrepRefIdeal.main_arg2) = m' ((c.tc : Thread Cert.MlaPrepRefIdeal.nD Cert.MlaPrepRefIdeal.τ).loc Cert.MlaPrepRefIdeal.main_arg2)
          ∧ r.2.mem ((c.tc : Thread Cert.MlaPrepRefIdeal.nD Cert.MlaPrepRefIdeal.τ).loc Cert.MlaPrepRefIdeal.main_arg3) = m' ((c.tc : Thread Cert.MlaPrepRefIdeal.nD Cert.MlaPrepRefIdeal.τ).loc Cert.MlaPrepRefIdeal.main_arg3)
          ∧ r.2.mem ((c.tc : Thread Cert.MlaPrepRefIdeal.nD Cert.MlaPrepRefIdeal.τ).loc Cert.MlaPrepRefIdeal.main_arg4) = m' ((c.tc : Thread Cert.MlaPrepRefIdeal.nD Cert.MlaPrepRefIdeal.τ).loc Cert.MlaPrepRefIdeal.main_arg4)
          ∧ r.2.mem ((c.tc : Thread Cert.MlaPrepRefIdeal.nD Cert.MlaPrepRefIdeal.τ).loc Cert.MlaPrepRefIdeal.main_arg5) = m' ((c.tc : Thread Cert.MlaPrepRefIdeal.nD Cert.MlaPrepRefIdeal.τ).loc Cert.MlaPrepRefIdeal.main_arg5))

def Claim : Prop :=
  ∃ (hMla : Cert.Mla.Facts) (hMlaIdeal : Cert.MlaIdeal.Facts) (hMlaRefIdeal : Cert.MlaRefIdeal.Facts) (hDiff : Cert.Diff.Facts) (hDiffIdeal : Cert.DiffIdeal.Facts) (hDiffRefIdeal : Cert.DiffRefIdeal.Facts) (hEvenQk : Cert.EvenQk.Facts) (hEvenQkIdeal : Cert.EvenQkIdeal.Facts) (hEvenQkRefIdeal : Cert.EvenQkRefIdeal.Facts) (hEvenProj : Cert.EvenProj.Facts) (hEvenProjIdeal : Cert.EvenProjIdeal.Facts) (hEvenProjRefIdeal : Cert.EvenProjRefIdeal.Facts) (hOddQk : Cert.OddQk.Facts) (hOddQkIdeal : Cert.OddQkIdeal.Facts) (hOddQkRefIdeal : Cert.OddQkRefIdeal.Facts) (hOddProj : Cert.OddProj.Facts) (hOddProjIdeal : Cert.OddProjIdeal.Facts) (hOddProjRefIdeal : Cert.OddProjRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hMlaPrep : Cert.MlaPrep.Facts) (hMlaPrepIdeal : Cert.MlaPrepIdeal.Facts) (hMlaPrepRefIdeal : Cert.MlaPrepRefIdeal.Facts) (hPre_finite_qk : Cert.Pre_finite_qk.Facts) (hPre_finite_qkv_lam : Cert.Pre_finite_qkv_lam.Facts),
    quiescent_Mla (hMla := hMla)
    ∧ quiescent_MlaIdeal (hMlaIdeal := hMlaIdeal)
    ∧ quiescent_MlaIdeal_pre_finite_qk (hMlaIdeal := hMlaIdeal) (hPre_finite_qk := hPre_finite_qk)
    ∧ quiescent_MlaRefIdeal (hMlaRefIdeal := hMlaRefIdeal)
    ∧ quiescent_MlaRefIdeal_pre_finite_qk (hMlaRefIdeal := hMlaRefIdeal) (hPre_finite_qk := hPre_finite_qk)
    ∧ quiescent_Diff (hDiff := hDiff)
    ∧ quiescent_DiffIdeal (hDiffIdeal := hDiffIdeal)
    ∧ quiescent_DiffIdeal_pre_finite_qkv_lam (hDiffIdeal := hDiffIdeal) (hPre_finite_qkv_lam := hPre_finite_qkv_lam)
    ∧ quiescent_DiffRefIdeal (hDiffRefIdeal := hDiffRefIdeal)
    ∧ quiescent_DiffRefIdeal_pre_finite_qkv_lam (hDiffRefIdeal := hDiffRefIdeal) (hPre_finite_qkv_lam := hPre_finite_qkv_lam)
    ∧ quiescent_EvenQk (hEvenQk := hEvenQk)
    ∧ quiescent_EvenQkIdeal (hEvenQkIdeal := hEvenQkIdeal)
    ∧ quiescent_EvenQkRefIdeal (hEvenQkRefIdeal := hEvenQkRefIdeal)
    ∧ quiescent_EvenProj (hEvenProj := hEvenProj)
    ∧ quiescent_EvenProjIdeal (hEvenProjIdeal := hEvenProjIdeal)
    ∧ quiescent_EvenProjRefIdeal (hEvenProjRefIdeal := hEvenProjRefIdeal)
    ∧ quiescent_OddQk (hOddQk := hOddQk)
    ∧ quiescent_OddQkIdeal (hOddQkIdeal := hOddQkIdeal)
    ∧ quiescent_OddQkRefIdeal (hOddQkRefIdeal := hOddQkRefIdeal)
    ∧ quiescent_OddProj (hOddProj := hOddProj)
    ∧ quiescent_OddProjIdeal (hOddProjIdeal := hOddProjIdeal)
    ∧ quiescent_OddProjRefIdeal (hOddProjRefIdeal := hOddProjRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_MlaPrep (hMlaPrep := hMlaPrep)
    ∧ quiescent_MlaPrepIdeal (hMlaPrepIdeal := hMlaPrepIdeal)
    ∧ quiescent_MlaPrepRefIdeal (hMlaPrepRefIdeal := hMlaPrepRefIdeal)
    ∧ preserves_Mla_MlaIdeal
    ∧ algebraic_MlaIdeal_MlaRefIdeal_pre_finite_qk (hMlaIdeal := hMlaIdeal) (hMlaRefIdeal := hMlaRefIdeal) (hPre_finite_qk := hPre_finite_qk)
    ∧ preserves_Diff_DiffIdeal
    ∧ algebraic_DiffIdeal_DiffRefIdeal_pre_finite_qkv_lam (hDiffIdeal := hDiffIdeal) (hDiffRefIdeal := hDiffRefIdeal) (hPre_finite_qkv_lam := hPre_finite_qkv_lam)
    ∧ preserves_EvenQk_EvenQkIdeal
    ∧ algebraic_EvenQkIdeal_EvenQkRefIdeal (hEvenQkIdeal := hEvenQkIdeal) (hEvenQkRefIdeal := hEvenQkRefIdeal)
    ∧ preserves_EvenProj_EvenProjIdeal
    ∧ algebraic_EvenProjIdeal_EvenProjRefIdeal (hEvenProjIdeal := hEvenProjIdeal) (hEvenProjRefIdeal := hEvenProjRefIdeal)
    ∧ preserves_OddQk_OddQkIdeal
    ∧ algebraic_OddQkIdeal_OddQkRefIdeal (hOddQkIdeal := hOddQkIdeal) (hOddQkRefIdeal := hOddQkRefIdeal)
    ∧ preserves_OddProj_OddProjIdeal
    ∧ algebraic_OddProjIdeal_OddProjRefIdeal (hOddProjIdeal := hOddProjIdeal) (hOddProjRefIdeal := hOddProjRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_MlaPrep_MlaPrepIdeal
    ∧ algebraic_MlaPrepIdeal_MlaPrepRefIdeal (hMlaPrepIdeal := hMlaPrepIdeal) (hMlaPrepRefIdeal := hMlaPrepRefIdeal)
-- ==== Pre_finite_qk.lean ====
abbrev S2x8x8192x256 : Shape := ⟨4, ![2, 8, 8192, 256]⟩
abbrev S2x8x8192x128 : Shape := ⟨4, ![2, 8, 8192, 128]⟩
abbrev S_ : Shape := ⟨0, ![]⟩

class Facts : Prop where
  bitsLt_bf16_f32 : FTy.bits .bf16 < FTy.bits .f32
  bcast_S_S2x8x8192x256 : S_.BroadcastsInDim S2x8x8192x256 (![] : Fin 0 → Fin S2x8x8192x256.rank)
  reducesTo_S2x8x8192x256_S_d0_1_2_3 : S2x8x8192x256.ReducesTo [0, 1, 2, 3] S_
  h_S_ : 0 < S_.numel

variable [Facts]

def fn {F : FTy → Type} [FloatOps F] (main_arg0 : FVec F S2x8x8192x256 .bf16) (main_arg1 : FVec F S2x8x8192x256 .bf16) (main_arg2 : FVec F S2x8x8192x128 .bf16) : IVec S_ 1 :=
  let main_v0 : FVec F S2x8x8192x256 .f32 := (extf .f32 · bitsLt_bf16_f32) main_arg0
  let main_v1 : FVec F S2x8x8192x256 .f32 := Host.absf main_v0
  let main_cst : FVec F S_ .f32 := constant S_ .f32 0x7F800000#32
  let main_v2 : FVec F S2x8x8192x256 .f32 := broadcastInDim S2x8x8192x256 ![] bcast_S_S2x8x8192x256 main_cst
  let main_v3 : IVec S2x8x8192x256 1 := cmpf .olt main_v1 main_v2
  let main_c : IVec S_ 1 := constantI S_ 1 1#1
  let main_v4 : IVec S_ 1 := (fun x v => Host.reduce IntOp.andi x v reducesTo_S2x8x8192x256_S_d0_1_2_3 h_S_) main_v3 main_c
  let main_v5 : FVec F S2x8x8192x256 .f32 := (extf .f32 · bitsLt_bf16_f32) main_arg1
  let main_v6 : FVec F S2x8x8192x256 .f32 := Host.absf main_v5
  let main_cst_0 : FVec F S_ .f32 := constant S_ .f32 0x7F800000#32
  let main_v7 : FVec F S2x8x8192x256 .f32 := broadcastInDim S2x8x8192x256 ![] bcast_S_S2x8x8192x256 main_cst_0
  let main_v8 : IVec S2x8x8192x256 1 := cmpf .olt main_v6 main_v7
  let main_c_1 : IVec S_ 1 := constantI S_ 1 1#1
  let main_v9 : IVec S_ 1 := (fun x v => Host.reduce IntOp.andi x v reducesTo_S2x8x8192x256_S_d0_1_2_3 h_S_) main_v8 main_c_1
  let main_v10 : IVec S_ 1 := andi main_v4 main_v9
  main_v10
-- ==== Pre_finite_qkv_lam.lean ====
abbrev S16384x2048 : Shape := ⟨2, ![16384, 2048]⟩
abbrev S4x64 : Shape := ⟨2, ![4, 64]⟩
abbrev S1x128 : Shape := ⟨2, ![1, 128]⟩
abbrev S_ : Shape := ⟨0, ![]⟩
abbrev S16384x1024 : Shape := ⟨2, ![16384, 1024]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  slices_S16384x2048_S16384x1024_0_0 : S16384x2048.Slices ![0, 0] S16384x1024
  bcast_S_S16384x1024 : S_.BroadcastsInDim S16384x1024 (![] : Fin 0 → Fin S16384x1024.rank)
  reducesTo_S16384x1024_S_d0_1 : S16384x1024.ReducesTo [0, 1] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16384x2048 .bf16) (main_arg1 : FVec F S16384x2048 .bf16) (main_arg2 : FVec F S4x64 .f32) (main_arg3 : FVec F S1x128 .f32) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x1024 .bf16 := (extractStridedSlice S16384x1024 ![0, 0] · slices_S16384x2048_S16384x1024_0_0) main_arg1
  let main_v6 : FVec F S16384x1024 .f32 := (extf .f32 · bitsLt_bf16_f32) main_v5
  let main_v7 : FVec F S16384x1024 .f32 := Host.absf main_v6
  let main_cst_0 : FVec F S_ .f32 := constant S_ .f32 0x7F800000#32
  let main_v8 : FVec F S16384x1024 .f32 := broadcastInDim S16384x1024 ![] bcast_S_S16384x1024 main_cst_0
  let main_v9 : IVec S16384x1024 1 := cmpf .olt main_v7 main_v8
  let main_c_1 : IVec S_ 1 := constantI S_ 1 1#1
  let main_v10 : IVec S_ 1 := (fun x v => Host.reduce IntOp.andi x v reducesTo_S16384x1024_S_d0_1 h_S_) main_v9 main_c_1
  let main_v11 : IVec S_ 1 := andi main_v4 main_v10
  let main_v12 : FVec F S4x64 .f32 := Host.absf main_arg2
  let main_cst_2 : FVec F S_ .f32 := constant S_ .f32 0x7F800000#32
  let main_v13 : FVec F S4x64 .f32 := broadcastInDim S4x64 ![] bcast_S_S4x64 main_cst_2
  let main_v14 : IVec S4x64 1 := cmpf .olt main_v12 main_v13
  let main_c_3 : IVec S_ 1 := constantI S_ 1 1#1
  let main_v15 : IVec S_ 1 := (fun x v => Host.reduce IntOp.andi x v reducesTo_S4x64_S_d0_1 h_S_) main_v14 main_c_3
  let main_v16 : IVec S_ 1 := andi main_v11 main_v15
  main_v16
-- ==== Mla.lean ====
abbrev S2x8x8192x256 : Shape := ⟨4, ![2, 8, 8192, 256]⟩
abbrev S2x8x8192x128 : Shape := ⟨4, ![2, 8, 8192, 128]⟩
abbrev S2x8192x1024 : Shape := ⟨3, ![2, 8192, 1024]⟩
abbrev S1x1x1024x256 : Shape := ⟨4, ![1, 1, 1024, 256]⟩
abbrev S1x1x8192x256 : Shape := ⟨4, ![1, 1, 8192, 256]⟩
abbrev S1x1x8192x128 : Shape := ⟨4, ![1, 1, 8192, 128]⟩
abbrev S1x1024x128 : Shape := ⟨3, ![1, 1024, 128]⟩
abbrev S1024x256 : Shape := ⟨2, ![1024, 256]⟩
abbrev S1024x1 : Shape := ⟨2, ![1024, 1]⟩
abbrev S1024x128 : Shape := ⟨2, ![1024, 128]⟩
abbrev S1x1x2048x128 : Shape := ⟨4, ![1, 1, 2048, 128]⟩
abbrev S2048x128 : Shape := ⟨2, ![2048, 128]⟩
abbrev S1x1x2048x256 : Shape := ⟨4, ![1, 1, 2048, 256]⟩
abbrev S2048x256 : Shape := ⟨2, ![2048, 256]⟩
abbrev S1024x2048 : Shape := ⟨2, ![1024, 2048]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S2x8x8192x256, .bf16⟩
  | .hbm, ⟨1, _⟩ => ⟨S2x8x8192x256, .bf16⟩
  | .hbm, ⟨2, _⟩ => ⟨S2x8x8192x128, .bf16⟩
  | .hbm, ⟨3, _⟩ => ⟨S2x8192x1024, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1x8192x256, .bf16⟩
  | .local _ .vmem, ⟨3, _⟩ => ⟨S1x1x8192x256, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S1x1024x128, .bf16⟩
  | .local _ .vmem, ⟨7, _⟩ => ⟨S1x1024x128, .bf16⟩
  | _, _ => ⟨S2x8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_mult1 : BitVec 32 :=
  let c0_i32 : BitVec 32 := 0#32
  let c2048_i32 : BitVec 32 := 2048#32
  let v5 : BitVec 32 := Scalar.muli c0_i32 c2048_i32
  v5
def k0_off1 (c0_i32 : BitVec 32) : Fin 4 → Nat :=
  let c0_5 : Index := 0#32
  let c0_6 : Index := 0#32
  let c2048_i32 : BitVec 32 := 2048#32
  let v5 : BitVec 32 := Scalar.muli c0_i32 c2048_i32
  let v6 : BitVec 32 := v5
  let v7 : Index := Scalar.indexCast v6
  let c0_7 : Index := 0#32
  ![0, 0, v7.toNat, 0]
def k0_mult2 : BitVec 32 :=
  let c0_i32 : BitVec 32 := 0#32
  let c2048_i32_8 : BitVec 32 := 2048#32
  let v10 : BitVec 32 := Scalar.muli c0_i32 c2048_i32_8
  v10
def k0_off2 (c0_i32 : BitVec 32) : Fin 4 → Nat :=
  let c0_9 : Index := 0#32
  let c0_10 : Index := 0#32
  let c2048_i32_8 : BitVec 32 := 2048#32
  let v10 : BitVec 32 := Scalar.muli c0_i32 c2048_i32_8
  let v11 : BitVec 32 := v10
  let v12 : Index := Scalar.indexCast v11
  let c0_11 : Index := 0#32
  ![0, 0, v12.toNat, 0]
def k0_mult3 : BitVec 32 :=
  let c1_i32 : BitVec 32 := 1#32
  let c2048_i32_16 : BitVec 32 := 2048#32
  let v33 : BitVec 32 := Scalar.muli c1_i32 c2048_i32_16
  v33
def k0_mult4 : BitVec 32 :=
  let c1_i32 : BitVec 32 := 1#32
  let c2048_i32_20 : BitVec 32 := 2048#32
  let v38 : BitVec 32 := Scalar.muli c1_i32 c2048_i32_20
  v38
def k0_mult5 : BitVec 32 :=
  let c2_i32 : BitVec 32 := 2#32
  let c2048_i32_28 : BitVec 32 := 2048#32
  let v61 : BitVec 32 := Scalar.muli c2_i32 c2048_i32_28
  v61
def k0_mult6 : BitVec 32 :=
  let c2_i32 : BitVec 32 := 2#32
  let c2048_i32_32 : BitVec 32 := 2048#32
  let v66 : BitVec 32 := Scalar.muli c2_i32 c2048_i32_32
  v66
def k0_mult7 : BitVec 32 :=
  let c3_i32 : BitVec 32 := 3#32
  let c2048_i32_40 : BitVec 32 := 2048#32
  let v89 : BitVec 32 := Scalar.muli c3_i32 c2048_i32_40
  v89
def k0_mult8 : BitVec 32 :=
  let c3_i32 : BitVec 32 := 3#32
  let c2048_i32_44 : BitVec 32 := 2048#32
  let v94 : BitVec 32 := Scalar.muli c3_i32 c2048_i32_44
  v94
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaRefIdeal.lean ====
abbrev S2x8x8192x256 : Shape := ⟨4, ![2, 8, 8192, 256]⟩
abbrev S2x8x8192x128 : Shape := ⟨4, ![2, 8, 8192, 128]⟩
abbrev S2x8x8192x8192 : Shape := ⟨4, ![2, 8, 8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S2x8192x8x128 : Shape := ⟨4, ![2, 8192, 8, 128]⟩
abbrev S2x8192x1024 : Shape := ⟨3, ![2, 8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x8x8192x256, .bf16⟩
  | .hbm, ⟨1, _⟩ => ⟨S2x8x8192x256, .bf16⟩
  | .hbm, ⟨2, _⟩ => ⟨S2x8x8192x128, .bf16⟩
  | .hbm, ⟨3, _⟩ => ⟨S2x8x8192x256, .f32⟩
  | .hbm, ⟨4, _⟩ => ⟨S2x8x8192x256, .f32⟩
  | .hbm, ⟨5, _⟩ => ⟨S2x8x8192x128, .f32⟩
  | .hbm, ⟨6, _⟩ => ⟨S2x8x8192x8192, .f32⟩
  | .hbm, ⟨7, _⟩ => ⟨S_, .f32⟩
  | .hbm, ⟨8, _⟩ => ⟨S_, .f32⟩
  | .hbm, ⟨9, _⟩ => ⟨S2x8x8192x8192, .f32⟩
  | .hbm, ⟨10, _⟩ => ⟨S2x8x8192x8192, .f32⟩
  | .hbm, ⟨11, _⟩ => ⟨S_, .f32⟩
  | .hbm, ⟨12, _⟩ => ⟨S2x8x8192, .f32⟩
  | .hbm, ⟨13, _⟩ => ⟨S_, .f32⟩
  | .hbm, ⟨14, _⟩ => ⟨S2x8x8192, .f32⟩
  | .hbm, ⟨15, _⟩ => ⟨S2x8x8192, .f32⟩
  | .hbm, ⟨16, _⟩ => ⟨S2x8x8192x1, .f32⟩
  | .hbm, ⟨17, _⟩ => ⟨S2x8x8192x8192, .f32⟩
  | .hbm, ⟨18, _⟩ => ⟨S2x8x8192x8192, .f32⟩
  | .hbm, ⟨19, _⟩ => ⟨S2x8x8192x8192, .f32⟩
  | .hbm, ⟨20, _⟩ => ⟨S_, .f32⟩
  | .hbm, ⟨21, _⟩ => ⟨S2x8x8192, .f32⟩
  | .hbm, ⟨22, _⟩ => ⟨S2x8x8192x1, .f32⟩
  | .hbm, ⟨23, _⟩ => ⟨S2x8x8192x8192, .f32⟩
  | .hbm, ⟨24, _⟩ => ⟨S2x8x8192x8192, .f32⟩
  | .hbm, ⟨25, _⟩ => ⟨S2x8x128x8192, .f32⟩
  | .hbm, ⟨26, _⟩ => ⟨S2x8192x8x128, .f32⟩
  | .hbm, ⟨27, _⟩ => ⟨S2x8192x1024, .f32⟩
  | .hbm, ⟨28, _⟩ => ⟨S2x8192x1024, .bf16⟩
  | _, _ => ⟨S2x8x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Diff.lean ====
abbrev S16384x2048 : Shape := ⟨2, ![16384, 2048]⟩
abbrev S4x64 : Shape := ⟨2, ![4, 64]⟩
abbrev S1x128 : Shape := ⟨2, ![1, 128]⟩
abbrev S2x8192x1024 : Shape := ⟨3, ![2, 8192, 1024]⟩
abbrev S512x128 : Shape := ⟨2, ![512, 128]⟩
abbrev S8192x128 : Shape := ⟨2, ![8192, 128]⟩
abbrev S1x512x128 : Shape := ⟨3, ![1, 512, 128]⟩
abbrev S512x1 : Shape := ⟨2, ![512, 1]⟩
abbrev S2048x128 : Shape := ⟨2, ![2048, 128]⟩
abbrev S512x2048 : Shape := ⟨2, ![512, 2048]⟩
abbrev S512 : Shape := ⟨1, ![512]⟩
abbrev S1x64 : Shape := ⟨2, ![1, 64]⟩
abbrev S1 : Shape := ⟨1, ![1]⟩
abbrev S1x1 : Shape := ⟨2, ![1, 1]⟩

abbrev nBuf : Space → Nat
  | .hbm => 5
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4x64, .f32⟩
  | .hbm, ⟨3, _⟩ => ⟨S1x128, .f32⟩
  | .hbm, ⟨4, _⟩ => ⟨S2x8192x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S4x64, .f32⟩
  | .local _ .vmem, ⟨11, _⟩ => ⟨S1x128, .f32⟩
  | .local _ .vmem, ⟨12, _⟩ => ⟨S1x512x128, .bf16⟩
  | .local _ .vmem, ⟨13, _⟩ => ⟨S1x512x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 8, 16], ![false, false, false]⟩

def k0_mult1 : BitVec 32 :=
  let c0_i32_16 : BitVec 32 := 0#32
  let c2048_i32 : BitVec 32 := 2048#32
  let v46 : BitVec 32 := Scalar.muli c0_i32_16 c2048_i32
  v46
def k0_off1 (c0_i32_16 : BitVec 32) : Fin 2 → Nat :=
  let c2048_i32 : BitVec 32 := 2048#32
  let v46 : BitVec 32 := Scalar.muli c0_i32_16 c2048_i32
  let v47 : BitVec 32 := v46
  let v48 : Index := Scalar.indexCast v47
  let c0_17 : Index := 0#32
  ![v48.toNat, 0]
def k0_mult2 : BitVec 32 :=
  let c0_i32_16 : BitVec 32 := 0#32
  let c2048_i32_18 : BitVec 32 := 2048#32
  let v50 : BitVec 32 := Scalar.muli c0_i32_16 c2048_i32_18
  v50
def k0_mult3 : BitVec 32 :=
  let c0_i32_16 : BitVec 32 := 0#32
  let c2048_i32_24 : BitVec 32 := 2048#32
  let v72 : BitVec 32 := Scalar.muli c0_i32_16 c2048_i32_24
  v72
def k0_mult4 : BitVec 32 :=
  let c1_i32_30 : BitVec 32 := 1#32
  let c2048_i32_31 : BitVec 32 := 2048#32
  let v94 : BitVec 32 := Scalar.muli c1_i32_30 c2048_i32_31
  v94
def k0_mult5 : BitVec 32 :=
  let c1_i32_30 : BitVec 32 := 1#32
  let c2048_i32_33 : BitVec 32 := 2048#32
  let v98 : BitVec 32 := Scalar.muli c1_i32_30 c2048_i32_33
  v98
def k0_mult6 : BitVec 32 :=
  let c1_i32_30 : BitVec 32 := 1#32
  let c2048_i32_39 : BitVec 32 := 2048#32
  let v120 : BitVec 32 := Scalar.muli c1_i32_30 c2048_i32_39
  v120
def k0_mult7 : BitVec 32 :=
  let c2_i32_45 : BitVec 32 := 2#32
  let c2048_i32_46 : BitVec 32 := 2048#32
  let v142 : BitVec 32 := Scalar.muli c2_i32_45 c2048_i32_46
  v142
def k0_mult8 : BitVec 32 :=
  let c2_i32_45 : BitVec 32 := 2#32
  let c2048_i32_48 : BitVec 32 := 2048#32
  let v146 : BitVec 32 := Scalar.muli c2_i32_45 c2048_i32_48
  v146
def k0_mult9 : BitVec 32 :=
  let c2_i32_45 : BitVec 32 := 2#32
  let c2048_i32_54 : BitVec 32 := 2048#32
  let v168 : BitVec 32 := Scalar.muli c2_i32_45 c2048_i32_54
  v168
def k0_mult10 : BitVec 32 :=
  let c3_i32 : BitVec 32 := 3#32
  let c2048_i32_60 : BitVec 32 := 2048#32
  let v190 : BitVec 32 := Scalar.muli c3_i32 c2048_i32_60
  v190
def k0_mult11 : BitVec 32 :=
  let c3_i32 : BitVec 32 := 3#32
  let c2048_i32_62 : BitVec 32 := 2048#32
  let v194 : BitVec 32 := Scalar.muli c3_i32 c2048_i32_62
  v194
def k0_mult12 : BitVec 32 :=
  let c3_i32 : BitVec 32 := 3#32
  let c2048_i32_68 : BitVec 32 := 2048#32
  let v216 : BitVec 32 := Scalar.muli c3_i32 c2048_i32_68
  v216
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.divsi arg1 c2_i32
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi arg1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let v19 : BitVec 32 := Scalar.addi c0_i32_4 v18
  let c0_i32_5 : BitVec 32 := 0#32
  ![v1.toNat, v19.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.divsi arg1 c2_i32
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi arg1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.addi c4_i32 v18
  let c0_i32_4 : BitVec 32 := 0#32
  ![v1.toNat, v19.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 v16
  let c0_i32_4 : BitVec 32 := 0#32
  ![arg0.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32 : BitVec 32 := 12#32
  let v17 : BitVec 32 := Scalar.addi c12_i32 v16
  let c0_i32_4 : BitVec 32 := 0#32
  ![arg0.toNat, v17.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DiffRefIdeal.lean ====
abbrev S16384x2048 : Shape := ⟨2, ![16384, 2048]⟩
abbrev S4x64 : Shape := ⟨2, ![4, 64]⟩
abbrev S1x128 : Shape := ⟨2, ![1, 128]⟩
abbrev S16384x512 : Shape := ⟨2, ![16384, 512]⟩
abbrev S2x8192x8x64 : Shape := ⟨4, ![2, 8192, 8, 64]⟩
abbrev S16384x1024 : Shape := ⟨2, ![16384, 1024]⟩
abbrev S2x8192x8x128 : Shape := ⟨4, ![2, 8192, 8, 128]⟩
abbrev S1x64 : Shape := ⟨2, ![1, 64]⟩
abbrev S64 : Shape := ⟨1, ![64]⟩
abbrev S_ : Shape := ⟨0, ![]⟩
abbrev S2x8x8192x8192 : Shape := ⟨4, ![2, 8, 8192, 8192]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S128 : Shape := ⟨1, ![128]⟩
abbrev S1x1x1x128 : Shape := ⟨4, ![1, 1, 1, 128]⟩
abbrev S2x8192x1024 : Shape := ⟨3, ![2, 8192, 1024]⟩

abbrev nBuf : Space → Nat
  | .hbm => 103
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4x64, .f32⟩
  | .hbm, ⟨3, _⟩ => ⟨S1x128, .f32⟩
  | .hbm, ⟨4, _⟩ => ⟨S16384x512, .bf16⟩
  | .hbm, ⟨5, _⟩ => ⟨S16384x512, .f32⟩
  | .hbm, ⟨6, _⟩ => ⟨S2x8192x8x64, .f32⟩
  | .hbm, ⟨7, _⟩ => ⟨S16384x512, .bf16⟩
  | .hbm, ⟨8, _⟩ => ⟨S16384x512, .f32⟩
  | .hbm, ⟨9, _⟩ => ⟨S2x8192x8x64, .f32⟩
  | .hbm, ⟨10, _⟩ => ⟨S16384x512, .bf16⟩
  | .hbm, ⟨11, _⟩ => ⟨S16384x512, .f32⟩
  | .hbm, ⟨12, _⟩ => ⟨S2x8192x8x64, .f32⟩
  | .hbm, ⟨13, _⟩ => ⟨S16384x512, .bf16⟩
  | .hbm, ⟨14, _⟩ => ⟨S16384x512, .f32⟩
  | .hbm, ⟨15, _⟩ => ⟨S2x8192x8x64, .f32⟩
  | .hbm, ⟨16, _⟩ => ⟨S16384x1024, .bf16⟩
  | .hbm, ⟨17, _⟩ => ⟨S16384x1024, .f32⟩
  | .hbm, ⟨18, _⟩ => ⟨S2x8192x8x128, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2x8x8192x8192, .f32⟩
  | .hbm, ⟨39, _⟩ => ⟨S_, .f32⟩
  | .hbm, ⟨40, _⟩ => ⟨S_, .f32⟩
  | .hbm, ⟨41, _⟩ => ⟨S2x8x8192x8192, .f32⟩
  | .hbm, ⟨42, _⟩ => ⟨S2x8x8192x8192, .f32⟩
  | .hbm, ⟨43, _⟩ => ⟨S_, .f32⟩
  | .hbm, ⟨44, _⟩ => ⟨S2x8x8192, .f32⟩
  | .hbm, ⟨45, _⟩ => ⟨S_, .f32⟩
  | .hbm, ⟨46, _⟩ => ⟨S2x8x8192, .f32⟩
  | .hbm, ⟨47, _⟩ => ⟨S2x8x8192, .f32⟩
  | .hbm, ⟨48, _⟩ => ⟨S2x8x8192x1, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S_, .f32⟩
  | .hbm, ⟨53, _⟩ => ⟨S2x8x8192, .f32⟩
  | .hbm, ⟨54, _⟩ => ⟨S2x8x8192x1, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S_, .f32⟩
  | .hbm, ⟨59, _⟩ => ⟨S_, .f32⟩
  | .hbm, ⟨60, _⟩ => ⟨S2x8x8192x8192, .f32⟩
  | .hbm, ⟨61, _⟩ => ⟨S2x8x8192x8192, .f32⟩
  | .hbm, ⟨62, _⟩ => ⟨S_, .f32⟩
  | .hbm, ⟨63, _⟩ => ⟨S2x8x8192, .f32⟩
  | .hbm, ⟨64, _⟩ => ⟨S_, .f32⟩
  | .hbm, ⟨65, _⟩ => ⟨S2x8x8192, .f32⟩
  | .hbm, ⟨66, _⟩ => ⟨S2x8x8192, .f32⟩
  | .hbm, ⟨67, _⟩ => ⟨S2x8x8192x1, .f32⟩
  | .hbm, ⟨68, _⟩ => ⟨S2x8x8192x8192, .f32⟩
  | .hbm, ⟨69, _⟩ => ⟨S2x8x8192x8192, .f32⟩
  | .hbm, ⟨70, _⟩ => ⟨S2x8x8192x8192, .f32⟩
  | .hbm, ⟨71, _⟩ => ⟨S_, .f32⟩
  | .hbm, ⟨72, _⟩ => ⟨S2x8x8192, .f32⟩
  | .hbm, ⟨73, _⟩ => ⟨S2x8x8192x1, .f32⟩
  | .hbm, ⟨74, _⟩ => ⟨S2x8x8192x8192, .f32⟩
  | .hbm, ⟨75, _⟩ => ⟨S2x8x8192x8192, .f32⟩
  | .hbm, ⟨76, _⟩ => ⟨S2x8x8192x8192, .f32⟩
  | .hbm, ⟨77, _⟩ => ⟨S2x8x8192x8192, .f32⟩
  | .hbm, ⟨78, _⟩ => ⟨S2x8x8192x8192, .f32⟩
  | .hbm, ⟨79, _⟩ => ⟨S2x8x128x8192, .f32⟩
  | .hbm, ⟨80, _⟩ => ⟨S2x8192x8x128, .f32⟩
  | .hbm, ⟨81, _⟩ => ⟨S2x8192x8x128, .f32⟩
  | .hbm, ⟨82, _⟩ => ⟨S_, .f32⟩
  | .hbm, ⟨83, _⟩ => ⟨S2x8192x8, .f32⟩
  | .hbm, ⟨84, _⟩ => ⟨S2x8192x8x1, .f32⟩
  | .hbm, ⟨85, _⟩ => ⟨S_, .f32⟩
  | .hbm, ⟨86, _⟩ => ⟨S2x8192x8x1, .f32⟩
  | .hbm, ⟨87, _⟩ => ⟨S2x8192x8x1, .f32⟩
  | .hbm, ⟨88, _⟩ => ⟨S_, .f32⟩
  | .hbm, ⟨89, _⟩ => ⟨S2x8192x8x1, .f32⟩
  | .hbm, ⟨90, _⟩ => ⟨S2x8192x8x1, .f32⟩
  | .hbm, ⟨91, _⟩ => ⟨S2x8192x8x1, .f32⟩
  | .hbm, ⟨92, _⟩ => ⟨S2x8192x8x128, .f32⟩
  | .hbm, ⟨93, _⟩ => ⟨S2x8192x8x128, .f32⟩
  | .hbm, ⟨94, _⟩ => ⟨S128, .f32⟩
  | .hbm, ⟨95, _⟩ => ⟨S1x1x1x128, .f32⟩
  | .hbm, ⟨96, _⟩ => ⟨S2x8192x8x128, .f32⟩
  | .hbm, ⟨97, _⟩ => ⟨S2x8192x8x128, .f32⟩
  | .hbm, ⟨98, _⟩ => ⟨S_, .f32⟩
  | .hbm, ⟨99, _⟩ => ⟨S2x8192x8x128, .f32⟩
  | .hbm, ⟨100, _⟩ => ⟨S2x8192x8x128, .f32⟩
  | .hbm, ⟨101, _⟩ => ⟨S2x8192x1024, .f32⟩
  | .hbm, ⟨102, _⟩ => ⟨S2x8192x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_10 : Ref sig .tc := ⟨.hbm, 82, rfl⟩
abbrev main_v67 : Ref sig .tc := ⟨.hbm, 83, rfl⟩
abbrev main_v68 : Ref sig .tc := ⟨.hbm, 84, rfl⟩
abbrev main_cst_11 : Ref sig .tc := ⟨.hbm, 85, rfl⟩
abbrev main_v69 : Ref sig .tc := ⟨.hbm, 86, rfl⟩
abbrev main_v70 : Ref sig .tc := ⟨.hbm, 87, rfl⟩
abbrev main_cst_12 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_13 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩

abbrev nD : Nat := 1
abbrev τ : Topo := Topo.v7x

variable {F : FTy → Type} [FloatOps F]
-- ==== EvenQk.lean ====
abbrev S2x8192x2048 : Shape := ⟨3, ![2, 8192, 2048]⟩
abbrev S2x8192 : Shape := ⟨2, ![2, 8192]⟩
abbrev S2048x3904 : Shape := ⟨2, ![2048, 3904]⟩
abbrev S128 : Shape := ⟨1, ![128]⟩
abbrev S16384x1 : Shape := ⟨2, ![16384, 1]⟩
abbrev S16384x128 : Shape := ⟨2, ![16384, 128]⟩
abbrev S32 : Shape := ⟨1, ![32]⟩
abbrev S_ : Shape := ⟨0, ![]⟩
abbrev S8 : Shape := ⟨1, ![8]⟩
abbrev S128x1 : Shape := ⟨2, ![128, 1]⟩
abbrev S1x128 : Shape := ⟨2, ![1, 128]⟩
abbrev S8x128 : Shape := ⟨2, ![8, 128]⟩
abbrev S6x16384x128 : Shape := ⟨3, ![6, 16384, 128]⟩
abbrev S512x128 : Shape := ⟨2, ![512, 128]⟩
abbrev S6x512x128 : Shape := ⟨3, ![6, 512, 128]⟩
abbrev S1x512x128 : Shape := ⟨3, ![1, 512, 128]⟩
abbrev S16384x2048 : Shape := ⟨2, ![16384, 2048]⟩
abbrev S2048x512 : Shape := ⟨2, ![2048, 512]⟩
abbrev S2048x256 : Shape := ⟨2, ![2048, 256]⟩
abbrev S2048x64 : Shape := ⟨2, ![2048, 64]⟩
abbrev S2048x2048 : Shape := ⟨2, ![2048, 2048]⟩
abbrev S2048x1024 : Shape := ⟨2, ![2048, 1024]⟩
abbrev S2048x8x4x64 : Shape := ⟨4, ![2048, 8, 4, 64]⟩
abbrev S2048x4x8x64 : Shape := ⟨4, ![2048, 4, 8, 64]⟩
abbrev S2048x192 : Shape := ⟨2, ![2048, 192]⟩
abbrev S2048x4096 : Shape := ⟨2, ![2048, 4096]⟩
abbrev S2048 : Shape := ⟨1, ![2048]⟩
abbrev S1x2048 : Shape := ⟨2, ![1, 2048]⟩
abbrev S512x2048 : Shape := ⟨2, ![512, 2048]⟩
abbrev S3x512x128 : Shape := ⟨3, ![3, 512, 128]⟩
abbrev S1x1024 : Shape := ⟨2, ![1, 1024]⟩
abbrev S512x1024 : Shape := ⟨2, ![512, 1024]⟩

abbrev nBuf : Space → Nat
  | .hbm => 100
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S2x8192, .i32⟩
  | .hbm, ⟨2, _⟩ => ⟨S2048x3904, .f32⟩
  | .hbm, ⟨3, _⟩ => ⟨S128, .i32⟩
  | .hbm, ⟨4, _⟩ => ⟨S128, .i1⟩
  | .hbm, ⟨5, _⟩ => ⟨S128, .i32⟩
  | .hbm, ⟨6, _⟩ => ⟨S128, .i1⟩
  | .hbm, ⟨7, _⟩ => ⟨S128, .i1⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S16384x1, .i32⟩
  | .hbm, ⟨13, _⟩ => ⟨S16384x1, .f32⟩
  | .hbm, ⟨14, _⟩ => ⟨S16384x128, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S128x1, .i32⟩
  | .hbm, ⟨48, _⟩ => ⟨S128, .f32⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S128, .i32⟩
  | .hbm, ⟨53, _⟩ => ⟨S128x1, .i32⟩
  | .hbm, ⟨54, _⟩ => ⟨S128, .f32⟩
  | .hbm, ⟨55, _⟩ => ⟨S_, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S8x128, .f32⟩
  | .hbm, ⟨72, _⟩ => ⟨S6x16384x128, .f32⟩
  | .hbm, ⟨73, _⟩ => ⟨S16384x2048, .f32⟩
  | .hbm, ⟨74, _⟩ => ⟨S16384x2048, .bf16⟩
  | .hbm, ⟨75, _⟩ => ⟨S2048x512, .f32⟩
  | .hbm, ⟨76, _⟩ => ⟨S2048x256, .f32⟩
  | .hbm, ⟨77, _⟩ => ⟨S2048x64, .f32⟩
  | .hbm, ⟨78, _⟩ => ⟨S2048x2048, .f32⟩
  | .hbm, ⟨79, _⟩ => ⟨S2048x1024, .f32⟩
  | .hbm, ⟨80, _⟩ => ⟨S2048x8x4x64, .f32⟩
  | .hbm, ⟨81, _⟩ => ⟨S2048x4x8x64, .f32⟩
  | .hbm, ⟨82, _⟩ => ⟨S2048x2048, .f32⟩
  | .hbm, ⟨83, _⟩ => ⟨S_, .f32⟩
  | .hbm, ⟨84, _⟩ => ⟨S2048x192, .f32⟩
  | .hbm, ⟨85, _⟩ => ⟨S2048x4096, .f32⟩
  | .hbm, ⟨86, _⟩ => ⟨S2048x4096, .bf16⟩
  | .hbm, ⟨87, _⟩ => ⟨S2048x2048, .bf16⟩
  | .hbm, ⟨88, _⟩ => ⟨S2048, .i32⟩
  | .hbm, ⟨89, _⟩ => ⟨S_, .i32⟩
  | .hbm, ⟨90, _⟩ => ⟨S2048, .i32⟩
  | .hbm, ⟨91, _⟩ => ⟨S2048, .i1⟩
  | .hbm, ⟨92, _⟩ => ⟨S_, .f32⟩
  | .hbm, ⟨93, _⟩ => ⟨S_, .f32⟩
  | .hbm, ⟨94, _⟩ => ⟨S2048, .f32⟩
  | .hbm, ⟨95, _⟩ => ⟨S2048, .f32⟩
  | .hbm, ⟨96, _⟩ => ⟨S2048, .f32⟩
  | .hbm, ⟨97, _⟩ => ⟨S2048, .f32⟩
  | .hbm, ⟨98, _⟩ => ⟨S1x2048, .f32⟩
  | .hbm, ⟨99, _⟩ => ⟨S16384x2048, .bf16⟩
  | .local _ .vmem, ⟨0, _⟩ => ⟨S512x128, .f32⟩
  | .local _ .vmem, ⟨1, _⟩ => ⟨S512x128, .f32⟩
  | .local _ .vmem, ⟨2, _⟩ => ⟨S8x128, .f32⟩
  | .local _ .vmem, ⟨3, _⟩ => ⟨S6x512x128, .f32⟩
  | .local _ .vmem, ⟨4, _⟩ => ⟨S6x512x128, .f32⟩
  | .local _ .vmem, ⟨5, _⟩ => ⟨S512x2048, .bf16⟩
  | .local _ .vmem, ⟨6, _⟩ => ⟨S512x2048, .bf16⟩
  | .local _ .vmem, ⟨7, _⟩ => ⟨S2048x1024, .bf16⟩
  | .local _ .vmem, ⟨8, _⟩ => ⟨S2048x1024, .bf16⟩
  | .local _ .vmem, ⟨9, _⟩ => ⟨S3x512x128, .f32⟩
  | .local _ .vmem, ⟨10, _⟩ => ⟨S3x512x128, .f32⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_cst : Ref sig .tc := ⟨.hbm, 8, rfl⟩
abbrev main_cst_4 : Ref sig .tc := ⟨.hbm, 9, rfl⟩
abbrev main_cst_5 : Ref sig .tc := ⟨.hbm, 10, rfl⟩
abbrev main_cst_6 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_7 : Ref sig .tc := ⟨.hbm, 16, rfl⟩
abbrev main_v4 : Ref sig .tc := ⟨.hbm, 17, rfl⟩
abbrev main_v5 : Ref sig .tc := ⟨.hbm, 18, rfl⟩
abbrev main_cst_8 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_9 : Ref sig .tc := ⟨.hbm, 23, rfl⟩
abbrev main_v9 : Ref sig .tc := ⟨.hbm, 24, rfl⟩
abbrev main_v10 : Ref sig .tc := ⟨.hbm, 25, rfl⟩
abbrev main_cst_10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_11 : Ref sig .tc := ⟨.hbm, 30, rfl⟩
abbrev main_v14 : Ref sig .tc := ⟨.hbm, 31, rfl⟩
abbrev main_v15 : Ref sig .tc := ⟨.hbm, 32, rfl⟩
abbrev main_cst_12 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_13 : Ref sig .tc := ⟨.hbm, 37, rfl⟩
abbrev main_v19 : Ref sig .tc := ⟨.hbm, 38, rfl⟩
abbrev main_v20 : Ref sig .tc := ⟨.hbm, 39, rfl⟩
abbrev main_cst_14 : Ref sig .tc := ⟨.hbm, 40, rfl⟩
abbrev main_v21 : Ref sig .tc := ⟨.hbm, 41, rfl⟩
abbrev main_v22 : Ref sig .tc := ⟨.hbm, 42, rfl⟩
abbrev main_c_15 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_16 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_17 : Ref sig .tc := ⟨.hbm, 55, rfl⟩
abbrev main_call0_v0 : Ref sig .tc := ⟨.hbm, 56, rfl⟩
abbrev main_call0_v1 : Ref sig .tc := ⟨.hbm, 57, rfl⟩
abbrev main_v33 : Ref sig .tc := ⟨.hbm, 58, rfl⟩
abbrev main_cst_18 : Ref sig .tc := ⟨.hbm, 59, rfl⟩
abbrev main_v34 : Ref sig .tc := ⟨.hbm, 60, rfl⟩
abbrev main_cst_19 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_20 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_21 : Ref sig .tc := ⟨.hbm, 89, rfl⟩
abbrev main_v61 : Ref sig .tc := ⟨.hbm, 90, rfl⟩
abbrev main_v62 : Ref sig .tc := ⟨.hbm, 91, rfl⟩
abbrev main_cst_22 : Ref sig .tc := ⟨.hbm, 92, rfl⟩
abbrev main_cst_23 : Ref sig .tc := ⟨.hbm, 93, rfl⟩
abbrev main_call1_v0 : Ref sig .tc := ⟨.hbm, 94, rfl⟩
abbrev main_call1_v1 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S3x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== EvenQkRefIdeal.lean ====
abbrev S2x8192x2048 : Shape := ⟨3, ![2, 8192, 2048]⟩
abbrev S2x8192 : Shape := ⟨2, ![2, 8192]⟩
abbrev S2048x3904 : Shape := ⟨2, ![2048, 3904]⟩
abbrev S8 : Shape := ⟨1, ![8]⟩
abbrev S_ : Shape := ⟨0, ![]⟩
abbrev S2x8192x1 : Shape := ⟨3, ![2, 8192, 1]⟩
abbrev S1x1x8 : Shape := ⟨3, ![1, 1, 8]⟩
abbrev S2x8192x8 : Shape := ⟨3, ![2, 8192, 8]⟩
abbrev S2x8192x1x8 : Shape := ⟨4, ![2, 8192, 1, 8]⟩
abbrev S2x8192x3904 : Shape := ⟨3, ![2, 8192, 3904]⟩
abbrev S2x8192x8x4x64 : Shape := ⟨5, ![2, 8192, 8, 4, 64]⟩
abbrev S2x8192x8x1x64 : Shape := ⟨5, ![2, 8192, 8, 1, 64]⟩
abbrev S2x8192x8x64 : Shape := ⟨4, ![2, 8192, 8, 64]⟩
abbrev S2x8192x8x16 : Shape := ⟨4, ![2, 8192, 8, 16]⟩
abbrev S2x8192x8x8 : Shape := ⟨4, ![2, 8192, 8, 8]⟩
abbrev S2x8192x8x48 : Shape := ⟨4, ![2, 8192, 8, 48]⟩
abbrev S16384x512 : Shape := ⟨2, ![16384, 512]⟩
abbrev S16384x2048 : Shape := ⟨2, ![16384, 2048]⟩

abbrev nBuf : Space → Nat
  | .hbm => 114
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192, .i32⟩
  | .hbm, ⟨2, _⟩ => ⟨S2048x3904, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S2x8192, .f32⟩
  | .hbm, ⟨18, _⟩ => ⟨S2x8192x1, .f32⟩
  | .hbm, ⟨19, _⟩ => ⟨S1x1x8, .f32⟩
  | .hbm, ⟨20, _⟩ => ⟨S2x8192x8, .f32⟩
  | .hbm, ⟨21, _⟩ => ⟨S2x8192x8, .f32⟩
  | .hbm, ⟨22, _⟩ => ⟨S2x8192x8, .f32⟩
  | .hbm, ⟨23, _⟩ => ⟨S2x8192x8, .f32⟩
  | .hbm, ⟨24, _⟩ => ⟨S2x8192x1x8, .f32⟩
  | .hbm, ⟨25, _⟩ => ⟨S2x8192x8, .f32⟩
  | .hbm, ⟨26, _⟩ => ⟨S2x8192x1x8, .f32⟩
  | .hbm, ⟨27, _⟩ => ⟨S2x8192x3904, .f32⟩
  | .hbm, ⟨28, _⟩ => ⟨S2x8192x2048, .f32⟩
  | .hbm, ⟨29, _⟩ => ⟨S2x8192x8x4x64, .f32⟩
  | .hbm, ⟨30, _⟩ => ⟨S2x8192x8x1x64, .f32⟩
  | .hbm, ⟨31, _⟩ => ⟨S2x8192x8x64, .f32⟩
  | .hbm, ⟨32, _⟩ => ⟨S2x8192x8x16, .f32⟩
  | .hbm, ⟨33, _⟩ => ⟨S2x8192x8x8, .f32⟩
  | .hbm, ⟨34, _⟩ => ⟨S2x8192x8x8, .f32⟩
  | .hbm, ⟨35, _⟩ => ⟨S2x8192x8x8, .f32⟩
  | .hbm, ⟨36, _⟩ => ⟨S2x8192x8x8, .f32⟩
  | .hbm, ⟨37, _⟩ => ⟨S2x8192x8x8, .f32⟩
  | .hbm, ⟨38, _⟩ => ⟨S2x8192x8x8, .f32⟩
  | .hbm, ⟨39, _⟩ => ⟨S2x8192x8x8, .f32⟩
  | .hbm, ⟨40, _⟩ => ⟨S2x8192x8x8, .f32⟩
  | .hbm, ⟨41, _⟩ => ⟨S2x8192x8x8, .f32⟩
  | .hbm, ⟨42, _⟩ => ⟨S2x8192x8x8, .f32⟩
  | .hbm, ⟨43, _⟩ => ⟨S2x8192x8x8, .f32⟩
  | .hbm, ⟨44, _⟩ => ⟨S2x8192x8x8, .f32⟩
  | .hbm, ⟨45, _⟩ => ⟨S2x8192x8x16, .f32⟩
  | .hbm, ⟨46, _⟩ => ⟨S2x8192x8x48, .f32⟩
  | .hbm, ⟨47, _⟩ => ⟨S2x8192x8x64, .f32⟩
  | .hbm, ⟨48, _⟩ => ⟨S16384x512, .f32⟩
  | .hbm, ⟨49, _⟩ => ⟨S2x8192x8x1x64, .f32⟩
  | .hbm, ⟨50, _⟩ => ⟨S2x8192x8x64, .f32⟩
  | .hbm, ⟨51, _⟩ => ⟨S2x8192x8x16, .f32⟩
  | .hbm, ⟨52, _⟩ => ⟨S2x8192x8x8, .f32⟩
  | .hbm, ⟨53, _⟩ => ⟨S2x8192x8x8, .f32⟩
  | .hbm, ⟨54, _⟩ => ⟨S2x8192x8x8, .f32⟩
  | .hbm, ⟨55, _⟩ => ⟨S2x8192x8x8, .f32⟩
  | .hbm, ⟨56, _⟩ => ⟨S2x8192x8x8, .f32⟩
  | .hbm, ⟨57, _⟩ => ⟨S2x8192x8x8, .f32⟩
  | .hbm, ⟨58, _⟩ => ⟨S2x8192x8x8, .f32⟩
  | .hbm, ⟨59, _⟩ => ⟨S2x8192x8x8, .f32⟩
  | .hbm, ⟨60, _⟩ => ⟨S2x8192x8x8, .f32⟩
  | .hbm, ⟨61, _⟩ => ⟨S2x8192x8x8, .f32⟩
  | .hbm, ⟨62, _⟩ => ⟨S2x8192x8x8, .f32⟩
  | .hbm, ⟨63, _⟩ => ⟨S2x8192x8x8, .f32⟩
  | .hbm, ⟨64, _⟩ => ⟨S2x8192x8x16, .f32⟩
  | .hbm, ⟨65, _⟩ => ⟨S2x8192x8x48, .f32⟩
  | .hbm, ⟨66, _⟩ => ⟨S2x8192x8x64, .f32⟩
  | .hbm, ⟨67, _⟩ => ⟨S16384x512, .f32⟩
  | .hbm, ⟨68, _⟩ => ⟨S2x8192x8x1x64, .f32⟩
  | .hbm, ⟨69, _⟩ => ⟨S2x8192x8x64, .f32⟩
  | .hbm, ⟨70, _⟩ => ⟨S2x8192x8x16, .f32⟩
  | .hbm, ⟨71, _⟩ => ⟨S2x8192x8x8, .f32⟩
  | .hbm, ⟨72, _⟩ => ⟨S2x8192x8x8, .f32⟩
  | .hbm, ⟨73, _⟩ => ⟨S2x8192x8x8, .f32⟩
  | .hbm, ⟨74, _⟩ => ⟨S2x8192x8x8, .f32⟩
  | .hbm, ⟨75, _⟩ => ⟨S2x8192x8x8, .f32⟩
  | .hbm, ⟨76, _⟩ => ⟨S2x8192x8x8, .f32⟩
  | .hbm, ⟨77, _⟩ => ⟨S2x8192x8x8, .f32⟩
  | .hbm, ⟨78, _⟩ => ⟨S2x8192x8x8, .f32⟩
  | .hbm, ⟨79, _⟩ => ⟨S2x8192x8x8, .f32⟩
  | .hbm, ⟨80, _⟩ => ⟨S2x8192x8x8, .f32⟩
  | .hbm, ⟨81, _⟩ => ⟨S2x8192x8x8, .f32⟩
  | .hbm, ⟨82, _⟩ => ⟨S2x8192x8x8, .f32⟩
  | .hbm, ⟨83, _⟩ => ⟨S2x8192x8x16, .f32⟩
  | .hbm, ⟨84, _⟩ => ⟨S2x8192x8x48, .f32⟩
  | .hbm, ⟨85, _⟩ => ⟨S2x8192x8x64, .f32⟩
  | .hbm, ⟨86, _⟩ => ⟨S16384x512, .f32⟩
  | .hbm, ⟨87, _⟩ => ⟨S2x8192x8x1x64, .f32⟩
  | .hbm, ⟨88, _⟩ => ⟨S2x8192x8x64, .f32⟩
  | .hbm, ⟨89, _⟩ => ⟨S2x8192x8x16, .f32⟩
  | .hbm, ⟨90, _⟩ => ⟨S2x8192x8x8, .f32⟩
  | .hbm, ⟨91, _⟩ => ⟨S2x8192x8x8, .f32⟩
  | .hbm, ⟨92, _⟩ => ⟨S2x8192x8x8, .f32⟩
  | .hbm, ⟨93, _⟩ => ⟨S2x8192x8x8, .f32⟩
  | .hbm, ⟨94, _⟩ => ⟨S2x8192x8x8, .f32⟩
  | .hbm, ⟨95, _⟩ => ⟨S2x8192x8x8, .f32⟩
  | .hbm, ⟨96, _⟩ => ⟨S2x8192x8x8, .f32⟩
  | .hbm, ⟨97, _⟩ => ⟨S2x8192x8x8, .f32⟩
  | .hbm, ⟨98, _⟩ => ⟨S2x8192x8x8, .f32⟩
  | .hbm, ⟨99, _⟩ => ⟨S2x8192x8x8, .f32⟩
  | .hbm, ⟨100, _⟩ => ⟨S2x8192x8x8, .f32⟩
  | .hbm, ⟨101, _⟩ => ⟨S2x8192x8x8, .f32⟩
  | .hbm, ⟨102, _⟩ => ⟨S2x8192x8x16, .f32⟩
  | .hbm, ⟨103, _⟩ => ⟨S2x8192x8x48, .f32⟩
  | .hbm, ⟨104, _⟩ => ⟨S2x8192x8x64, .f32⟩
  | .hbm, ⟨105, _⟩ => ⟨S16384x512, .f32⟩
  | .hbm, ⟨106, _⟩ => ⟨S_, .f32⟩
  | .hbm, ⟨107, _⟩ => ⟨S16384x512, .f32⟩
  | .hbm, ⟨108, _⟩ => ⟨S16384x512, .f32⟩
  | .hbm, ⟨109, _⟩ => ⟨S_, .f32⟩
  | .hbm, ⟨110, _⟩ => ⟨S16384x512, .f32⟩
  | .hbm, ⟨111, _⟩ => ⟨S16384x512, .f32⟩
  | .hbm, ⟨112, _⟩ => ⟨S16384x2048, .f32⟩
  | .hbm, ⟨113, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_cst_3 : Ref sig .tc := ⟨.hbm, 106, rfl⟩
abbrev main_v99 : Ref sig .tc := ⟨.hbm, 107, rfl⟩
abbrev main_v100 : Ref sig .tc := ⟨.hbm, 108, rfl⟩
abbrev main_cst_4 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩

abbrev nD : Nat := 1
abbrev τ : Topo := Topo.v7x

variable {F : FTy → Type} [FloatOps F]
-- ==== EvenProj.lean ====
abbrev S2x8192x2048 : Shape := ⟨3, ![2, 8192, 2048]⟩
abbrev S2048x3904 : Shape := ⟨2, ![2048, 3904]⟩
abbrev S16384x2048 : Shape := ⟨2, ![16384, 2048]⟩
abbrev S2048x512 : Shape := ⟨2, ![2048, 512]⟩
abbrev S2048x256 : Shape := ⟨2, ![2048, 256]⟩
abbrev S2048x64 : Shape := ⟨2, ![2048, 64]⟩
abbrev S2048x2048 : Shape := ⟨2, ![2048, 2048]⟩
abbrev S2048x1024 : Shape := ⟨2, ![2048, 1024]⟩
abbrev S2048x8x4x64 : Shape := ⟨4, ![2048, 8, 4, 64]⟩
abbrev S2048x4x8x64 : Shape := ⟨4, ![2048, 4, 8, 64]⟩
abbrev S_ : Shape := ⟨0, ![]⟩
abbrev S2048x192 : Shape := ⟨2, ![2048, 192]⟩
abbrev S2048x4096 : Shape := ⟨2, ![2048, 4096]⟩
abbrev S512x2048 : Shape := ⟨2, ![512, 2048]⟩
abbrev S512x1024 : Shape := ⟨2, ![512, 1024]⟩

abbrev nBuf : Space → Nat
  | .hbm => 18
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S2048x3904, .f32⟩
  | .hbm, ⟨2, _⟩ => ⟨S16384x2048, .f32⟩
  | .hbm, ⟨3, _⟩ => ⟨S16384x2048, .bf16⟩
  | .hbm, ⟨4, _⟩ => ⟨S2048x512, .f32⟩
  | .hbm, ⟨5, _⟩ => ⟨S2048x256, .f32⟩
  | .hbm, ⟨6, _⟩ => ⟨S2048x64, .f32⟩
  | .hbm, ⟨7, _⟩ => ⟨S2048x2048, .f32⟩
  | .hbm, ⟨8, _⟩ => ⟨S2048x1024, .f32⟩
  | .hbm, ⟨9, _⟩ => ⟨S2048x8x4x64, .f32⟩
  | .hbm, ⟨10, _⟩ => ⟨S2048x4x8x64, .f32⟩
  | .hbm, ⟨11, _⟩ => ⟨S2048x2048, .f32⟩
  | .hbm, ⟨12, _⟩ => ⟨S_, .f32⟩
  | .hbm, ⟨13, _⟩ => ⟨S2048x192, .f32⟩
  | .hbm, ⟨14, _⟩ => ⟨S2048x4096, .f32⟩
  | .hbm, ⟨15, _⟩ => ⟨S2048x4096, .bf16⟩
  | .hbm, ⟨16, _⟩ => ⟨S2048x2048, .bf16⟩
  | .hbm, ⟨17, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenProjRefIdeal.lean ====
abbrev S2x8192x2048 : Shape := ⟨3, ![2, 8192, 2048]⟩
abbrev S2048x3904 : Shape := ⟨2, ![2048, 3904]⟩
abbrev S2x8192x3904 : Shape := ⟨3, ![2, 8192, 3904]⟩
abbrev S16384x3904 : Shape := ⟨2, ![16384, 3904]⟩
abbrev S_ : Shape := ⟨0, ![]⟩
abbrev S16384x192 : Shape := ⟨2, ![16384, 192]⟩
abbrev S16384x1024 : Shape := ⟨2, ![16384, 1024]⟩
abbrev S16384x832 : Shape := ⟨2, ![16384, 832]⟩
abbrev S16384x2048 : Shape := ⟨2, ![16384, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x3904, .f32⟩
  | .hbm, ⟨2, _⟩ => ⟨S2x8192x3904, .f32⟩
  | .hbm, ⟨3, _⟩ => ⟨S16384x3904, .f32⟩
  | .hbm, ⟨4, _⟩ => ⟨S_, .f32⟩
  | .hbm, ⟨5, _⟩ => ⟨S16384x192, .f32⟩
  | .hbm, ⟨6, _⟩ => ⟨S16384x1024, .f32⟩
  | .hbm, ⟨7, _⟩ => ⟨S16384x832, .f32⟩
  | .hbm, ⟨8, _⟩ => ⟨S16384x2048, .f32⟩
  | .hbm, ⟨9, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OddQk.lean ====
abbrev S2x8192x2048 : Shape := ⟨3, ![2, 8192, 2048]⟩
abbrev S2x8192 : Shape := ⟨2, ![2, 8192]⟩
abbrev S2048x2560 : Shape := ⟨2, ![2048, 2560]⟩
abbrev S128 : Shape := ⟨1, ![128]⟩
abbrev S16384x1 : Shape := ⟨2, ![16384, 1]⟩
abbrev S16384x128 : Shape := ⟨2, ![16384, 128]⟩
abbrev S32 : Shape := ⟨1, ![32]⟩
abbrev S_ : Shape := ⟨0, ![]⟩
abbrev S8 : Shape := ⟨1, ![8]⟩
abbrev S128x1 : Shape := ⟨2, ![128, 1]⟩
abbrev S1x128 : Shape := ⟨2, ![1, 128]⟩
abbrev S8x128 : Shape := ⟨2, ![8, 128]⟩
abbrev S6x16384x128 : Shape := ⟨3, ![6, 16384, 128]⟩
abbrev S512x128 : Shape := ⟨2, ![512, 128]⟩
abbrev S6x512x128 : Shape := ⟨3, ![6, 512, 128]⟩
abbrev S1x512x128 : Shape := ⟨3, ![1, 512, 128]⟩
abbrev S16384x2048 : Shape := ⟨2, ![16384, 2048]⟩
abbrev S2048x2048 : Shape := ⟨2, ![2048, 2048]⟩
abbrev S2048x256 : Shape := ⟨2, ![2048, 256]⟩
abbrev S2048x4x1x64 : Shape := ⟨4, ![2048, 4, 1, 64]⟩
abbrev S2048x4x2x64 : Shape := ⟨4, ![2048, 4, 2, 64]⟩
abbrev S2048x512 : Shape := ⟨2, ![2048, 512]⟩
abbrev S2048x3072 : Shape := ⟨2, ![2048, 3072]⟩
abbrev S2560 : Shape := ⟨1, ![2560]⟩
abbrev S1x2560 : Shape := ⟨2, ![1, 2560]⟩
abbrev S16384x2560 : Shape := ⟨2, ![16384, 2560]⟩
abbrev S512x2048 : Shape := ⟨2, ![512, 2048]⟩
abbrev S2048x1280 : Shape := ⟨2, ![2048, 1280]⟩
abbrev S3x512x128 : Shape := ⟨3, ![3, 512, 128]⟩
abbrev S1x1280 : Shape := ⟨2, ![1, 1280]⟩
abbrev S512x1280 : Shape := ⟨2, ![512, 1280]⟩

abbrev nBuf : Space → Nat
  | .hbm => 99
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S2x8192, .i32⟩
  | .hbm, ⟨2, _⟩ => ⟨S2048x2560, .f32⟩
  | .hbm, ⟨3, _⟩ => ⟨S128, .i32⟩
  | .hbm, ⟨4, _⟩ => ⟨S128, .i1⟩
  | .hbm, ⟨5, _⟩ => ⟨S128, .i32⟩
  | .hbm, ⟨6, _⟩ => ⟨S128, .i1⟩
  | .hbm, ⟨7, _⟩ => ⟨S128, .i1⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S16384x1, .i32⟩
  | .hbm, ⟨13, _⟩ => ⟨S16384x1, .f32⟩
  | .hbm, ⟨14, _⟩ => ⟨S16384x128, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S128x1, .i32⟩
  | .hbm, ⟨48, _⟩ => ⟨S128, .f32⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S128, .i32⟩
  | .hbm, ⟨53, _⟩ => ⟨S128x1, .i32⟩
  | .hbm, ⟨54, _⟩ => ⟨S128, .f32⟩
  | .hbm, ⟨55, _⟩ => ⟨S_, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S8x128, .f32⟩
  | .hbm, ⟨72, _⟩ => ⟨S6x16384x128, .f32⟩
  | .hbm, ⟨73, _⟩ => ⟨S16384x2048, .f32⟩
  | .hbm, ⟨74, _⟩ => ⟨S16384x2048, .bf16⟩
  | .hbm, ⟨75, _⟩ => ⟨S2048x2048, .f32⟩
  | .hbm, ⟨76, _⟩ => ⟨S2048x256, .f32⟩
  | .hbm, ⟨77, _⟩ => ⟨S2048x4x1x64, .f32⟩
  | .hbm, ⟨78, _⟩ => ⟨S2048x4x2x64, .f32⟩
  | .hbm, ⟨79, _⟩ => ⟨S2048x512, .f32⟩
  | .hbm, ⟨80, _⟩ => ⟨S2048x256, .f32⟩
  | .hbm, ⟨81, _⟩ => ⟨S2048x4x1x64, .f32⟩
  | .hbm, ⟨82, _⟩ => ⟨S2048x4x2x64, .f32⟩
  | .hbm, ⟨83, _⟩ => ⟨S2048x512, .f32⟩
  | .hbm, ⟨84, _⟩ => ⟨S2048x3072, .f32⟩
  | .hbm, ⟨85, _⟩ => ⟨S2048x3072, .bf16⟩
  | .hbm, ⟨86, _⟩ => ⟨S2048x2560, .bf16⟩
  | .hbm, ⟨87, _⟩ => ⟨S2560, .i32⟩
  | .hbm, ⟨88, _⟩ => ⟨S_, .i32⟩
  | .hbm, ⟨89, _⟩ => ⟨S2560, .i32⟩
  | .hbm, ⟨90, _⟩ => ⟨S2560, .i1⟩
  | .hbm, ⟨91, _⟩ => ⟨S_, .f32⟩
  | .hbm, ⟨92, _⟩ => ⟨S_, .f32⟩
  | .hbm, ⟨93, _⟩ => ⟨S2560, .f32⟩
  | .hbm, ⟨94, _⟩ => ⟨S2560, .f32⟩
  | .hbm, ⟨95, _⟩ => ⟨S2560, .f32⟩
  | .hbm, ⟨96, _⟩ => ⟨S2560, .f32⟩
  | .hbm, ⟨97, _⟩ => ⟨S1x2560, .f32⟩
  | .hbm, ⟨98, _⟩ => ⟨S16384x2560, .bf16⟩
  | .local _ .vmem, ⟨0, _⟩ => ⟨S512x128, .f32⟩
  | .local _ .vmem, ⟨1, _⟩ => ⟨S512x128, .f32⟩
  | .local _ .vmem, ⟨2, _⟩ => ⟨S8x128, .f32⟩
  | .local _ .vmem, ⟨3, _⟩ => ⟨S6x512x128, .f32⟩
  | .local _ .vmem, ⟨4, _⟩ => ⟨S6x512x128, .f32⟩
  | .local _ .vmem, ⟨5, _⟩ => ⟨S512x2048, .bf16⟩
  | .local _ .vmem, ⟨6, _⟩ => ⟨S512x2048, .bf16⟩
  | .local _ .vmem, ⟨7, _⟩ => ⟨S2048x1280, .bf16⟩
  | .local _ .vmem, ⟨8, _⟩ => ⟨S2048x1280, .bf16⟩
  | .local _ .vmem, ⟨9, _⟩ => ⟨S3x512x128, .f32⟩
  | .local _ .vmem, ⟨10, _⟩ => ⟨S3x512x128, .f32⟩
  | .local _ .vmem, ⟨11, _⟩ => ⟨S1x1280, .f32⟩
  | .local _ .vmem, ⟨12, _⟩ => ⟨S1x1280, .f32⟩
  | .local _ .vmem, ⟨13, _⟩ => ⟨S512x1280, .bf16⟩
  | .local _ .vmem, ⟨14, _⟩ => ⟨S512x1280, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_cst : Ref sig .tc := ⟨.hbm, 8, rfl⟩
abbrev main_cst_4 : Ref sig .tc := ⟨.hbm, 9, rfl⟩
abbrev main_cst_5 : Ref sig .tc := ⟨.hbm, 10, rfl⟩
abbrev main_cst_6 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_7 : Ref sig .tc := ⟨.hbm, 16, rfl⟩
abbrev main_v4 : Ref sig .tc := ⟨.hbm, 17, rfl⟩
abbrev main_v5 : Ref sig .tc := ⟨.hbm, 18, rfl⟩
abbrev main_cst_8 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_9 : Ref sig .tc := ⟨.hbm, 23, rfl⟩
abbrev main_v9 : Ref sig .tc := ⟨.hbm, 24, rfl⟩
abbrev main_v10 : Ref sig .tc := ⟨.hbm, 25, rfl⟩
abbrev main_cst_10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_11 : Ref sig .tc := ⟨.hbm, 30, rfl⟩
abbrev main_v14 : Ref sig .tc := ⟨.hbm, 31, rfl⟩
abbrev main_v15 : Ref sig .tc := ⟨.hbm, 32, rfl⟩
abbrev main_cst_12 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_13 : Ref sig .tc := ⟨.hbm, 37, rfl⟩
abbrev main_v19 : Ref sig .tc := ⟨.hbm, 38, rfl⟩
abbrev main_v20 : Ref sig .tc := ⟨.hbm, 39, rfl⟩
abbrev main_cst_14 : Ref sig .tc := ⟨.hbm, 40, rfl⟩
abbrev main_v21 : Ref sig .tc := ⟨.hbm, 41, rfl⟩
abbrev main_v22 : Ref sig .tc := ⟨.hbm, 42, rfl⟩
abbrev main_c_15 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_16 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_17 : Ref sig .tc := ⟨.hbm, 55, rfl⟩
abbrev main_call0_v0 : Ref sig .tc := ⟨.hbm, 56, rfl⟩
abbrev main_call0_v1 : Ref sig .tc := ⟨.hbm, 57, rfl⟩
abbrev main_v33 : Ref sig .tc := ⟨.hbm, 58, rfl⟩
abbrev main_cst_18 : Ref sig .tc := ⟨.hbm, 59, rfl⟩
abbrev main_v34 : Ref sig .tc := ⟨.hbm, 60, rfl⟩
abbrev main_cst_19 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_20 : Ref sig .tc := ⟨.hbm, 88, rfl⟩
abbrev main_v61 : Ref sig .tc := ⟨.hbm, 89, rfl⟩
abbrev main_v62 : Ref sig .tc := ⟨.hbm, 90, rfl⟩
abbrev main_cst_21 : Ref sig .tc := ⟨.hbm, 91, rfl⟩
abbrev main_cst_22 : Ref sig .tc := ⟨.hbm, 92, rfl⟩
abbrev main_call1_v0 : Ref sig .tc := ⟨.hbm, 93, rfl⟩
abbrev main_call1_v1 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S3x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1280 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== OddQkRefIdeal.lean ====
abbrev S2x8192x2048 : Shape := ⟨3, ![2, 8192, 2048]⟩
abbrev S2x8192 : Shape := ⟨2, ![2, 8192]⟩
abbrev S2048x2560 : Shape := ⟨2, ![2048, 2560]⟩
abbrev S8 : Shape := ⟨1, ![8]⟩
abbrev S_ : Shape := ⟨0, ![]⟩
abbrev S2x8192x1 : Shape := ⟨3, ![2, 8192, 1]⟩
abbrev S1x1x8 : Shape := ⟨3, ![1, 1, 8]⟩
abbrev S2x8192x8 : Shape := ⟨3, ![2, 8192, 8]⟩
abbrev S2x8192x1x8 : Shape := ⟨4, ![2, 8192, 1, 8]⟩
abbrev S2x8192x2560 : Shape := ⟨3, ![2, 8192, 2560]⟩
abbrev S2x8192x32x64 : Shape := ⟨4, ![2, 8192, 32, 64]⟩
abbrev S2x8192x32x16 : Shape := ⟨4, ![2, 8192, 32, 16]⟩
abbrev S2x8192x32x8 : Shape := ⟨4, ![2, 8192, 32, 8]⟩
abbrev S2x8192x32x48 : Shape := ⟨4, ![2, 8192, 32, 48]⟩
abbrev S16384x2048 : Shape := ⟨2, ![16384, 2048]⟩
abbrev S2x8192x256 : Shape := ⟨3, ![2, 8192, 256]⟩
abbrev S2x8192x4x64 : Shape := ⟨4, ![2, 8192, 4, 64]⟩
abbrev S2x8192x4x16 : Shape := ⟨4, ![2, 8192, 4, 16]⟩
abbrev S2x8192x4x8 : Shape := ⟨4, ![2, 8192, 4, 8]⟩
abbrev S2x8192x4x48 : Shape := ⟨4, ![2, 8192, 4, 48]⟩
abbrev S2x8192x4x128 : Shape := ⟨4, ![2, 8192, 4, 128]⟩
abbrev S16384x512 : Shape := ⟨2, ![16384, 512]⟩
abbrev S16384x2560 : Shape := ⟨2, ![16384, 2560]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192, .i32⟩
  | .hbm, ⟨2, _⟩ => ⟨S2048x2560, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S2x8192, .f32⟩
  | .hbm, ⟨18, _⟩ => ⟨S2x8192x1, .f32⟩
  | .hbm, ⟨19, _⟩ => ⟨S1x1x8, .f32⟩
  | .hbm, ⟨20, _⟩ => ⟨S2x8192x8, .f32⟩
  | .hbm, ⟨21, _⟩ => ⟨S2x8192x8, .f32⟩
  | .hbm, ⟨22, _⟩ => ⟨S2x8192x8, .f32⟩
  | .hbm, ⟨23, _⟩ => ⟨S2x8192x8, .f32⟩
  | .hbm, ⟨24, _⟩ => ⟨S2x8192x1x8, .f32⟩
  | .hbm, ⟨25, _⟩ => ⟨S2x8192x8, .f32⟩
  | .hbm, ⟨26, _⟩ => ⟨S2x8192x1x8, .f32⟩
  | .hbm, ⟨27, _⟩ => ⟨S2x8192x2560, .f32⟩
  | .hbm, ⟨28, _⟩ => ⟨S2x8192x2048, .f32⟩
  | .hbm, ⟨29, _⟩ => ⟨S2x8192x32x64, .f32⟩
  | .hbm, ⟨30, _⟩ => ⟨S2x8192x32x16, .f32⟩
  | .hbm, ⟨31, _⟩ => ⟨S2x8192x32x8, .f32⟩
  | .hbm, ⟨32, _⟩ => ⟨S2x8192x32x8, .f32⟩
  | .hbm, ⟨33, _⟩ => ⟨S2x8192x32x8, .f32⟩
  | .hbm, ⟨34, _⟩ => ⟨S2x8192x32x8, .f32⟩
  | .hbm, ⟨35, _⟩ => ⟨S2x8192x32x8, .f32⟩
  | .hbm, ⟨36, _⟩ => ⟨S2x8192x32x8, .f32⟩
  | .hbm, ⟨37, _⟩ => ⟨S2x8192x32x8, .f32⟩
  | .hbm, ⟨38, _⟩ => ⟨S2x8192x32x8, .f32⟩
  | .hbm, ⟨39, _⟩ => ⟨S2x8192x32x8, .f32⟩
  | .hbm, ⟨40, _⟩ => ⟨S2x8192x32x8, .f32⟩
  | .hbm, ⟨41, _⟩ => ⟨S2x8192x32x8, .f32⟩
  | .hbm, ⟨42, _⟩ => ⟨S2x8192x32x8, .f32⟩
  | .hbm, ⟨43, _⟩ => ⟨S2x8192x32x16, .f32⟩
  | .hbm, ⟨44, _⟩ => ⟨S2x8192x32x48, .f32⟩
  | .hbm, ⟨45, _⟩ => ⟨S2x8192x32x64, .f32⟩
  | .hbm, ⟨46, _⟩ => ⟨S16384x2048, .f32⟩
  | .hbm, ⟨47, _⟩ => ⟨S2x8192x256, .f32⟩
  | .hbm, ⟨48, _⟩ => ⟨S2x8192x4x64, .f32⟩
  | .hbm, ⟨49, _⟩ => ⟨S2x8192x4x16, .f32⟩
  | .hbm, ⟨50, _⟩ => ⟨S2x8192x4x8, .f32⟩
  | .hbm, ⟨51, _⟩ => ⟨S2x8192x4x8, .f32⟩
  | .hbm, ⟨52, _⟩ => ⟨S2x8192x4x8, .f32⟩
  | .hbm, ⟨53, _⟩ => ⟨S2x8192x4x8, .f32⟩
  | .hbm, ⟨54, _⟩ => ⟨S2x8192x4x8, .f32⟩
  | .hbm, ⟨55, _⟩ => ⟨S2x8192x4x8, .f32⟩
  | .hbm, ⟨56, _⟩ => ⟨S2x8192x4x8, .f32⟩
  | .hbm, ⟨57, _⟩ => ⟨S2x8192x4x8, .f32⟩
  | .hbm, ⟨58, _⟩ => ⟨S2x8192x4x8, .f32⟩
  | .hbm, ⟨59, _⟩ => ⟨S2x8192x4x8, .f32⟩
  | .hbm, ⟨60, _⟩ => ⟨S2x8192x4x8, .f32⟩
  | .hbm, ⟨61, _⟩ => ⟨S2x8192x4x8, .f32⟩
  | .hbm, ⟨62, _⟩ => ⟨S2x8192x4x16, .f32⟩
  | .hbm, ⟨63, _⟩ => ⟨S2x8192x4x48, .f32⟩
  | .hbm, ⟨64, _⟩ => ⟨S2x8192x4x64, .f32⟩
  | .hbm, ⟨65, _⟩ => ⟨S2x8192x4x128, .f32⟩
  | .hbm, ⟨66, _⟩ => ⟨S16384x512, .f32⟩
  | .hbm, ⟨67, _⟩ => ⟨S_, .f32⟩
  | .hbm, ⟨68, _⟩ => ⟨S16384x2048, .f32⟩
  | .hbm, ⟨69, _⟩ => ⟨S16384x2048, .f32⟩
  | .hbm, ⟨70, _⟩ => ⟨S16384x2560, .f32⟩
  | .hbm, ⟨71, _⟩ => ⟨S16384x2560, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_cst_3 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩

abbrev nD : Nat := 1
abbrev τ : Topo := Topo.v7x

variable {F : FTy → Type} [FloatOps F]
-- ==== OddProj.lean ====
abbrev S2x8192x2048 : Shape := ⟨3, ![2, 8192, 2048]⟩
abbrev S2048x2560 : Shape := ⟨2, ![2048, 2560]⟩
abbrev S16384x2048 : Shape := ⟨2, ![16384, 2048]⟩
abbrev S2048x2048 : Shape := ⟨2, ![2048, 2048]⟩
abbrev S2048x256 : Shape := ⟨2, ![2048, 256]⟩
abbrev S2048x4x1x64 : Shape := ⟨4, ![2048, 4, 1, 64]⟩
abbrev S2048x4x2x64 : Shape := ⟨4, ![2048, 4, 2, 64]⟩
abbrev S2048x512 : Shape := ⟨2, ![2048, 512]⟩
abbrev S2048x3072 : Shape := ⟨2, ![2048, 3072]⟩
abbrev S16384x512 : Shape := ⟨2, ![16384, 512]⟩
abbrev S512x2048 : Shape := ⟨2, ![512, 2048]⟩
abbrev S512x512 : Shape := ⟨2, ![512, 512]⟩

abbrev nBuf : Space → Nat
  | .hbm => 17
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S2048x2560, .f32⟩
  | .hbm, ⟨2, _⟩ => ⟨S16384x2048, .f32⟩
  | .hbm, ⟨3, _⟩ => ⟨S16384x2048, .bf16⟩
  | .hbm, ⟨4, _⟩ => ⟨S2048x2048, .f32⟩
  | .hbm, ⟨5, _⟩ => ⟨S2048x256, .f32⟩
  | .hbm, ⟨6, _⟩ => ⟨S2048x4x1x64, .f32⟩
  | .hbm, ⟨7, _⟩ => ⟨S2048x4x2x64, .f32⟩
  | .hbm, ⟨8, _⟩ => ⟨S2048x512, .f32⟩
  | .hbm, ⟨9, _⟩ => ⟨S2048x256, .f32⟩
  | .hbm, ⟨10, _⟩ => ⟨S2048x4x1x64, .f32⟩
  | .hbm, ⟨11, _⟩ => ⟨S2048x4x2x64, .f32⟩
  | .hbm, ⟨12, _⟩ => ⟨S2048x512, .f32⟩
  | .hbm, ⟨13, _⟩ => ⟨S2048x3072, .f32⟩
  | .hbm, ⟨14, _⟩ => ⟨S2048x3072, .bf16⟩
  | .hbm, ⟨15, _⟩ => ⟨S2048x512, .bf16⟩
  | .hbm, ⟨16, _⟩ => ⟨S16384x512, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S512x512, .bf16⟩
  | .local _ .vmem, ⟨4, _⟩ => ⟨S512x512, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddProjRefIdeal.lean ====
abbrev S2x8192x2048 : Shape := ⟨3, ![2, 8192, 2048]⟩
abbrev S2048x2560 : Shape := ⟨2, ![2048, 2560]⟩
abbrev S2x8192x2560 : Shape := ⟨3, ![2, 8192, 2560]⟩
abbrev S2x8192x256 : Shape := ⟨3, ![2, 8192, 256]⟩
abbrev S2x8192x4x64 : Shape := ⟨4, ![2, 8192, 4, 64]⟩
abbrev S2x8192x4x128 : Shape := ⟨4, ![2, 8192, 4, 128]⟩
abbrev S16384x512 : Shape := ⟨2, ![16384, 512]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x2560, .f32⟩
  | .hbm, ⟨2, _⟩ => ⟨S2x8192x2560, .f32⟩
  | .hbm, ⟨3, _⟩ => ⟨S2x8192x256, .f32⟩
  | .hbm, ⟨4, _⟩ => ⟨S2x8192x4x64, .f32⟩
  | .hbm, ⟨5, _⟩ => ⟨S2x8192x4x128, .f32⟩
  | .hbm, ⟨6, _⟩ => ⟨S16384x512, .f32⟩
  | .hbm, ⟨7, _⟩ => ⟨S16384x512, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== EvenOut.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S1024x2048 : Shape := ⟨2, ![1024, 2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S2048, .f32⟩
  | .hbm, ⟨6, _⟩ => ⟨S1024x2048, .f32⟩
  | .hbm, ⟨7, _⟩ => ⟨S1024x2048, .bf16⟩
  | .hbm, ⟨8, _⟩ => ⟨S1024x2048, .f32⟩
  | .hbm, ⟨9, _⟩ => ⟨S1024x2048, .bf16⟩
  | .hbm, ⟨10, _⟩ => ⟨S1x2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EvenOutRefIdeal.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S2048, .f32⟩
  | .hbm, ⟨6, _⟩ => ⟨S16384x2048, .bf16⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S16384x2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== OddOut.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OddOutRefIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== MlaPrep.lean ====
abbrev S16384x2048 : Shape := ⟨2, ![16384, 2048]⟩
abbrev S2x8192 : Shape := ⟨2, ![2, 8192]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S128 : Shape := ⟨1, ![128]⟩
abbrev S16384x1 : Shape := ⟨2, ![16384, 1]⟩
abbrev S16384x128 : Shape := ⟨2, ![16384, 128]⟩
abbrev S32 : Shape := ⟨1, ![32]⟩
abbrev S_ : Shape := ⟨0, ![]⟩
abbrev S8 : Shape := ⟨1, ![8]⟩
abbrev S128x1 : Shape := ⟨2, ![128, 1]⟩
abbrev S1x128 : Shape := ⟨2, ![1, 128]⟩
abbrev S8x128 : Shape := ⟨2, ![8, 128]⟩
abbrev S6x16384x128 : Shape := ⟨3, ![6, 16384, 128]⟩
abbrev S512x128 : Shape := ⟨2, ![512, 128]⟩
abbrev S6x512x128 : Shape := ⟨3, ![6, 512, 128]⟩
abbrev S1x512x128 : Shape := ⟨3, ![1, 512, 128]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S512x512 : Shape := ⟨2, ![512, 512]⟩
abbrev S256x8x256 : Shape := ⟨3, ![256, 8, 256]⟩
abbrev S256x8x128 : Shape := ⟨3, ![256, 8, 128]⟩
abbrev S256x1024 : Shape := ⟨2, ![256, 1024]⟩
abbrev S1x512 : Shape := ⟨2, ![1, 512]⟩
abbrev S1x256 : Shape := ⟨2, ![1, 256]⟩
abbrev S2x8x8192x256 : Shape := ⟨4, ![2, 8, 8192, 256]⟩
abbrev S2x8x8192x128 : Shape := ⟨4, ![2, 8, 8192, 128]⟩
abbrev S256x512 : Shape := ⟨2, ![256, 512]⟩
abbrev S3x256x128 : Shape := ⟨3, ![3, 256, 128]⟩
abbrev S1x8x256x256 : Shape := ⟨4, ![1, 8, 256, 256]⟩
abbrev S1x8x256x128 : Shape := ⟨4, ![1, 8, 256, 128]⟩
abbrev S256x256 : Shape := ⟨2, ![256, 256]⟩
abbrev S256x128 : Shape := ⟨2, ![256, 128]⟩
abbrev S256x1 : Shape := ⟨2, ![256, 1]⟩
abbrev S1x256x128 : Shape := ⟨3, ![1, 256, 128]⟩
abbrev S1x1x256x128 : Shape := ⟨4, ![1, 1, 256, 128]⟩

abbrev nBuf : Space → Nat
  | .hbm => 95
  | .vmem => 23
  | .smem => 0
  | _ => 0

abbrev bufTy : (tb : Table) → Fin (tcTables nBuf tb) → BufTy
  | .hbm, ⟨0, _⟩ => ⟨S16384x2048, .bf16⟩
  | .hbm, ⟨1, _⟩ => ⟨S2x8192, .i32⟩
  | .hbm, ⟨2, _⟩ => ⟨S512, .f32⟩
  | .hbm, ⟨3, _⟩ => ⟨S256, .f32⟩
  | .hbm, ⟨4, _⟩ => ⟨S512x1536, .f32⟩
  | .hbm, ⟨5, _⟩ => ⟨S256x2048, .f32⟩
  | .hbm, ⟨6, _⟩ => ⟨S128, .i32⟩
  | .hbm, ⟨7, _⟩ => ⟨S128, .i1⟩
  | .hbm, ⟨8, _⟩ => ⟨S128, .i32⟩
  | .hbm, ⟨9, _⟩ => ⟨S128, .i1⟩
  | .hbm, ⟨10, _⟩ => ⟨S128, .i1⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S16384x1, .i32⟩
  | .hbm, ⟨16, _⟩ => ⟨S16384x1, .f32⟩
  | .hbm, ⟨17, _⟩ => ⟨S16384x128, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S128x1, .i32⟩
  | .hbm, ⟨51, _⟩ => ⟨S128, .f32⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S128, .i32⟩
  | .hbm, ⟨56, _⟩ => ⟨S128x1, .i32⟩
  | .hbm, ⟨57, _⟩ => ⟨S128, .f32⟩
  | .hbm, ⟨58, _⟩ => ⟨S_, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S8x128, .f32⟩
  | .hbm, ⟨75, _⟩ => ⟨S6x16384x128, .f32⟩
  | .hbm, ⟨76, _⟩ => ⟨S512x8x192, .f32⟩
  | .hbm, ⟨77, _⟩ => ⟨S512x8x128, .f32⟩
  | .hbm, ⟨78, _⟩ => ⟨S512x1024, .f32⟩
  | .hbm, ⟨79, _⟩ => ⟨S512x1024, .bf16⟩
  | .hbm, ⟨80, _⟩ => ⟨S512x8x64, .f32⟩
  | .hbm, ⟨81, _⟩ => ⟨S512x512, .f32⟩
  | .hbm, ⟨82, _⟩ => ⟨S512x512, .bf16⟩
  | .hbm, ⟨83, _⟩ => ⟨S256x8x256, .f32⟩
  | .hbm, ⟨84, _⟩ => ⟨S256x8x128, .f32⟩
  | .hbm, ⟨85, _⟩ => ⟨S256x1024, .f32⟩
  | .hbm, ⟨86, _⟩ => ⟨S256x1024, .bf16⟩
  | .hbm, ⟨87, _⟩ => ⟨S256x8x128, .f32⟩
  | .hbm, ⟨88, _⟩ => ⟨S256x1024, .f32⟩
  | .hbm, ⟨89, _⟩ => ⟨S256x1024, .bf16⟩
  | .hbm, ⟨90, _⟩ => ⟨S1x512, .f32⟩
  | .hbm, ⟨91, _⟩ => ⟨S1x256, .f32⟩
  | .hbm, ⟨92, _⟩ => ⟨S2x8x8192x256, .bf16⟩
  | .hbm, ⟨93, _⟩ => ⟨S2x8x8192x256, .bf16⟩
  | .hbm, ⟨94, _⟩ => ⟨S2x8x8192x128, .bf16⟩
  | .local _ .vmem, ⟨0, _⟩ => ⟨S512x128, .f32⟩
  | .local _ .vmem, ⟨1, _⟩ => ⟨S512x128, .f32⟩
  | .local _ .vmem, ⟨2, _⟩ => ⟨S8x128, .f32⟩
  | .local _ .vmem, ⟨3, _⟩ => ⟨S6x512x128, .f32⟩
  | .local _ .vmem, ⟨4, _⟩ => ⟨S6x512x128, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S3x256x128, .f32⟩
  | .local _ .vmem, ⟨10, _⟩ => ⟨S3x256x128, .f32⟩
  | .local _ .vmem, ⟨11, _⟩ => ⟨S1x512, .f32⟩
  | .local _ .vmem, ⟨12, _⟩ => ⟨S1x256, .f32⟩
  | .local _ .vmem, ⟨13, _⟩ => ⟨S512x1024, .bf16⟩
  | .local _ .vmem, ⟨14, _⟩ => ⟨S512x512, .bf16⟩
  | .local _ .vmem, ⟨15, _⟩ => ⟨S256x1024, .bf16⟩
  | .local _ .vmem, ⟨16, _⟩ => ⟨S256x1024, .bf16⟩
  | .local _ .vmem, ⟨17, _⟩ => ⟨S1x8x256x256, .bf16⟩
  | .local _ .vmem, ⟨18, _⟩ => ⟨S1x8x256x256, .bf16⟩
  | .local _ .vmem, ⟨19, _⟩ => ⟨S1x8x256x256, .bf16⟩
  | .local _ .vmem, ⟨20, _⟩ => ⟨S1x8x256x256, .bf16⟩
  | .local _ .vmem, ⟨21, _⟩ => ⟨S1x8x256x128, .bf16⟩
  | .local _ .vmem, ⟨22, _⟩ => ⟨S1x8x256x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_cst : Ref sig .tc := ⟨.hbm, 11, rfl⟩
abbrev main_cst_4 : Ref sig .tc := ⟨.hbm, 12, rfl⟩
abbrev main_cst_5 : Ref sig .tc := ⟨.hbm, 13, rfl⟩
abbrev main_cst_6 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_7 : Ref sig .tc := ⟨.hbm, 19, rfl⟩
abbrev main_v4 : Ref sig .tc := ⟨.hbm, 20, rfl⟩
abbrev main_v5 : Ref sig .tc := ⟨.hbm, 21, rfl⟩
abbrev main_cst_8 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_9 : Ref sig .tc := ⟨.hbm, 26, rfl⟩
abbrev main_v9 : Ref sig .tc := ⟨.hbm, 27, rfl⟩
abbrev main_v10 : Ref sig .tc := ⟨.hbm, 28, rfl⟩
abbrev main_cst_10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_11 : Ref sig .tc := ⟨.hbm, 33, rfl⟩
abbrev main_v14 : Ref sig .tc := ⟨.hbm, 34, rfl⟩
abbrev main_v15 : Ref sig .tc := ⟨.hbm, 35, rfl⟩
abbrev main_cst_12 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_13 : Ref sig .tc := ⟨.hbm, 40, rfl⟩
abbrev main_v19 : Ref sig .tc := ⟨.hbm, 41, rfl⟩
abbrev main_v20 : Ref sig .tc := ⟨.hbm, 42, rfl⟩
abbrev main_cst_14 : Ref sig .tc := ⟨.hbm, 43, rfl⟩
abbrev main_v21 : Ref sig .tc := ⟨.hbm, 44, rfl⟩
abbrev main_v22 : Ref sig .tc := ⟨.hbm, 45, rfl⟩
abbrev main_c_15 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_16 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_17 : Ref sig .tc := ⟨.hbm, 58, rfl⟩
abbrev main_call0_v0 : Ref sig .tc := ⟨.hbm, 59, rfl⟩
abbrev main_call0_v1 : Ref sig .tc := ⟨.hbm, 60, rfl⟩
abbrev main_v33 : Ref sig .tc := ⟨.hbm, 61, rfl⟩
abbrev main_cst_18 : Ref sig .tc := ⟨.hbm, 62, rfl⟩
abbrev main_v34 : Ref sig .tc := ⟨.hbm, 63, rfl⟩
abbrev main_cst_19 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62_0 : Ref sig .tc := ⟨.hbm, 92, rfl⟩
abbrev main_v62_1 : Ref sig .tc := ⟨.hbm, 93, rfl⟩
abbrev main_v62_2 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc1_stg11_0 : Ref sig .tc := ⟨.vmem, 21, rfl⟩
abbrev cc1_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem10_1 : DmaSem sig := 20
abbrev cc1_sem11_0 : DmaSem sig := 21
abbrev cc1_sem11_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc1_transform_2 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_11 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S3x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S256x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S256x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x8x256x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x8x256x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x8x256x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]
-- ==== MlaPrepRefIdeal.lean ====
abbrev S16384x2048 : Shape := ⟨2, ![16384, 2048]⟩
abbrev S2x8192 : Shape := ⟨2, ![2, 8192]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S32 : Shape := ⟨1, ![32]⟩
abbrev S_ : Shape := ⟨0, ![]⟩
abbrev S2x8192x1 : Shape := ⟨3, ![2, 8192, 1]⟩
abbrev S1x1x32 : Shape := ⟨3, ![1, 1, 32]⟩
abbrev S2x8192x32 : Shape := ⟨3, ![2, 8192, 32]⟩
abbrev S2x8192x1x32 : Shape := ⟨4, ![2, 8192, 1, 32]⟩
abbrev S16384x1024 : Shape := ⟨2, ![16384, 1024]⟩
abbrev S2x8192x1024 : Shape := ⟨3, ![2, 8192, 1024]⟩
abbrev S2x8192x512 : Shape := ⟨3, ![2, 8192, 512]⟩
abbrev S2x8192x256 : Shape := ⟨3, ![2, 8192, 256]⟩
abbrev S2x8192x64 : Shape := ⟨3, ![2, 8192, 64]⟩
abbrev S2x8192x8x64 : Shape := ⟨4, ![2, 8192, 8, 64]⟩
abbrev S1x1x512 : Shape := ⟨3, ![1, 1, 512]⟩
abbrev S2x8192x1536 : Shape := ⟨3, ![2, 8192, 1536]⟩
abbrev S2x8192x8x192 : Shape := ⟨4, ![2, 8192, 8, 192]⟩
abbrev S2x8192x8x128 : Shape := ⟨4, ![2, 8192, 8, 128]⟩
abbrev S2x8192x8x32 : Shape := ⟨4, ![2, 8192, 8, 32]⟩
abbrev S2x8192x8x256 : Shape := ⟨4, ![2, 8192, 8, 256]⟩
abbrev S1x1x256 : Shape := ⟨3, ![1, 1, 256]⟩
abbrev S2x8192x2048 : Shape := ⟨3, ![2, 8192, 2048]⟩
abbrev S2x8192x1x64 : Shape := ⟨4, ![2, 8192, 1, 64]⟩
abbrev S2x8x8192x256 : Shape := ⟨4, ![2, 8, 8192, 256]⟩
abbrev S2x8x8192x128 : Shape := ⟨4, ![2, 8, 8192, 128]⟩

abbrev nBuf : Space → Nat
  | .hbm => 113
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x8192, .i32⟩
  | .hbm, ⟨2, _⟩ => ⟨S512, .f32⟩
  | .hbm, ⟨3, _⟩ => ⟨S256, .f32⟩
  | .hbm, ⟨4, _⟩ => ⟨S512x1536, .f32⟩
  | .hbm, ⟨5, _⟩ => ⟨S256x2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2x8192, .f32⟩
  | .hbm, ⟨21, _⟩ => ⟨S2x8192x1, .f32⟩
  | .hbm, ⟨22, _⟩ => ⟨S1x1x32, .f32⟩
  | .hbm, ⟨23, _⟩ => ⟨S2x8192x32, .f32⟩
  | .hbm, ⟨24, _⟩ => ⟨S2x8192x32, .f32⟩
  | .hbm, ⟨25, _⟩ => ⟨S2x8192x32, .f32⟩
  | .hbm, ⟨26, _⟩ => ⟨S2x8192x32, .f32⟩
  | .hbm, ⟨27, _⟩ => ⟨S2x8192x1x32, .f32⟩
  | .hbm, ⟨28, _⟩ => ⟨S2x8192x32, .f32⟩
  | .hbm, ⟨29, _⟩ => ⟨S2x8192x1x32, .f32⟩
  | .hbm, ⟨30, _⟩ => ⟨S16384x1024, .bf16⟩
  | .hbm, ⟨31, _⟩ => ⟨S16384x1024, .f32⟩
  | .hbm, ⟨32, _⟩ => ⟨S2x8192x1024, .f32⟩
  | .hbm, ⟨33, _⟩ => ⟨S2x8192x512, .f32⟩
  | .hbm, ⟨34, _⟩ => ⟨S2x8192x256, .f32⟩
  | .hbm, ⟨35, _⟩ => ⟨S2x8192x64, .f32⟩
  | .hbm, ⟨36, _⟩ => ⟨S_, .f32⟩
  | .hbm, ⟨37, _⟩ => ⟨S2x8192x8x64, .f32⟩
  | .hbm, ⟨38, _⟩ => ⟨S2x8192x512, .f32⟩
  | .hbm, ⟨39, _⟩ => ⟨S_, .f32⟩
  | .hbm, ⟨40, _⟩ => ⟨S2x8192, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1, .f32⟩
  | .hbm, ⟨49, _⟩ => ⟨S2x8192x512, .f32⟩
  | .hbm, ⟨50, _⟩ => ⟨S2x8192x512, .f32⟩
  | .hbm, ⟨51, _⟩ => ⟨S1x1x512, .f32⟩
  | .hbm, ⟨52, _⟩ => ⟨S2x8192x512, .f32⟩
  | .hbm, ⟨53, _⟩ => ⟨S2x8192x512, .f32⟩
  | .hbm, ⟨54, _⟩ => ⟨S2x8192x1536, .f32⟩
  | .hbm, ⟨55, _⟩ => ⟨S2x8192x8x192, .f32⟩
  | .hbm, ⟨56, _⟩ => ⟨S_, .f32⟩
  | .hbm, ⟨57, _⟩ => ⟨S2x8192x8x192, .f32⟩
  | .hbm, ⟨58, _⟩ => ⟨S2x8192x8x192, .f32⟩
  | .hbm, ⟨59, _⟩ => ⟨S2x8192x8x128, .f32⟩
  | .hbm, ⟨60, _⟩ => ⟨S2x8192x8x64, .f32⟩
  | .hbm, ⟨61, _⟩ => ⟨S2x8192x8x32, .f32⟩
  | .hbm, ⟨62, _⟩ => ⟨S2x8192x8x32, .f32⟩
  | .hbm, ⟨63, _⟩ => ⟨S2x8192x8x32, .f32⟩
  | .hbm, ⟨64, _⟩ => ⟨S2x8192x8x32, .f32⟩
  | .hbm, ⟨65, _⟩ => ⟨S2x8192x8x32, .f32⟩
  | .hbm, ⟨66, _⟩ => ⟨S2x8192x8x32, .f32⟩
  | .hbm, ⟨67, _⟩ => ⟨S2x8192x8x32, .f32⟩
  | .hbm, ⟨68, _⟩ => ⟨S2x8192x8x32, .f32⟩
  | .hbm, ⟨69, _⟩ => ⟨S2x8192x8x32, .f32⟩
  | .hbm, ⟨70, _⟩ => ⟨S2x8192x8x32, .f32⟩
  | .hbm, ⟨71, _⟩ => ⟨S2x8192x8x32, .f32⟩
  | .hbm, ⟨72, _⟩ => ⟨S2x8192x8x32, .f32⟩
  | .hbm, ⟨73, _⟩ => ⟨S2x8192x8x64, .f32⟩
  | .hbm, ⟨74, _⟩ => ⟨S2x8192x8x256, .f32⟩
  | .hbm, ⟨75, _⟩ => ⟨S2x8192x256, .f32⟩
  | .hbm, ⟨76, _⟩ => ⟨S_, .f32⟩
  | .hbm, ⟨77, _⟩ => ⟨S2x8192, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S_, .f32⟩
  | .hbm, ⟨83, _⟩ => ⟨S2x8192x1, .f32⟩
  | .hbm, ⟨84, _⟩ => ⟨S2x8192x1, .f32⟩
  | .hbm, ⟨85, _⟩ => ⟨S2x8192x1, .f32⟩
  | .hbm, ⟨86, _⟩ => ⟨S2x8192x256, .f32⟩
  | .hbm, ⟨87, _⟩ => ⟨S2x8192x256, .f32⟩
  | .hbm, ⟨88, _⟩ => ⟨S1x1x256, .f32⟩
  | .hbm, ⟨89, _⟩ => ⟨S2x8192x256, .f32⟩
  | .hbm, ⟨90, _⟩ => ⟨S2x8192x256, .f32⟩
  | .hbm, ⟨91, _⟩ => ⟨S2x8192x2048, .f32⟩
  | .hbm, ⟨92, _⟩ => ⟨S2x8192x8x256, .f32⟩
  | .hbm, ⟨93, _⟩ => ⟨S2x8192x1x64, .f32⟩
  | .hbm, ⟨94, _⟩ => ⟨S2x8192x1x32, .f32⟩
  | .hbm, ⟨95, _⟩ => ⟨S2x8192x1x32, .f32⟩
  | .hbm, ⟨96, _⟩ => ⟨S2x8192x1x32, .f32⟩
  | .hbm, ⟨97, _⟩ => ⟨S2x8192x1x32, .f32⟩
  | .hbm, ⟨98, _⟩ => ⟨S2x8192x1x32, .f32⟩
  | .hbm, ⟨99, _⟩ => ⟨S2x8192x1x32, .f32⟩
  | .hbm, ⟨100, _⟩ => ⟨S2x8192x1x32, .f32⟩
  | .hbm, ⟨101, _⟩ => ⟨S2x8192x1x32, .f32⟩
  | .hbm, ⟨102, _⟩ => ⟨S2x8192x1x64, .f32⟩
  | .hbm, ⟨103, _⟩ => ⟨S2x8192x8x64, .f32⟩
  | .hbm, ⟨104, _⟩ => ⟨S2x8192x8x128, .f32⟩
  | .hbm, ⟨105, _⟩ => ⟨S2x8192x8x256, .f32⟩
  | .hbm, ⟨106, _⟩ => ⟨S2x8x8192x256, .f32⟩
  | .hbm, ⟨107, _⟩ => ⟨S2x8x8192x256, .bf16⟩
  | .hbm, ⟨108, _⟩ => ⟨S2x8x8192x256, .f32⟩
  | .hbm, ⟨109, _⟩ => ⟨S2x8x8192x256, .bf16⟩
  | .hbm, ⟨110, _⟩ => ⟨S2x8192x8x128, .f32⟩
  | .hbm, ⟨111, _⟩ => ⟨S2x8x8192x128, .f32⟩
  | .hbm, ⟨112, _⟩ => ⟨S2x8x8192x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩

abbrev nD : Nat := 1
abbrev τ : Topo := Topo.v7x

variable {F : FTy → Type} [FloatOps F]
-- ==== Proof.Math.Online.lean ====
/- The arithmetic of the online softmax over the extended reals: the running maximum, the running sum of the
   weights and the running weighted sum, chunk by chunk, and what their quotient is in the end. -/
module

public import Idealize.ShloMosaic.PureOps.Ideal
public import Mathlib.Data.EReal.Operations
public import Mathlib.Analysis.SpecialFunctions.Pow.Real
public import Mathlib.Algebra.BigOperators.Intervals

@[expose] public section

noncomputable section

namespace Attn

open Idealize.ShloMosaic Finset

/-- The weight `2 ^ (s k - μ)` of key `k` against the level `μ`. -/
def wt (s : ℕ → ℝ) (μ : ℝ) (k : ℕ) : ℝ := Real.rpow 2 (s k - μ)

/-- The softmax weight of key `k` among the first `N`, to the base two. -/
def soft (s : ℕ → ℝ) (N k : ℕ) : ℝ := wt s 0 k / ∑ j ∈ range N, wt s 0 j

/-- After `N` keys: the level is some real, the running sum and the running weighted sum are the sums of the
    weights against that level. -/
def Inv (N : ℕ) (s : ℕ → ℝ) (v : ℕ → EReal) (m l a : EReal) : Prop :=
  ∃ μ : ℝ, m = (μ : EReal) ∧ l = ((∑ k ∈ range N, wt s μ k : ℝ) : EReal)
    ∧ a = ∑ k ∈ range N, ((wt s μ k : ℝ) : EReal) * v k

theorem wt_pos (s : ℕ → ℝ) (μ : ℝ) (k : ℕ) : 0 < wt s μ k := Real.rpow_pos_of_pos (by norm_num) _

/-- Moving the level rescales every weight by the same factor. -/
theorem wt_level (s : ℕ → ℝ) (μ ν : ℝ) (k : ℕ) : wt s ν k = Real.rpow 2 (μ - ν) * wt s μ k := by
  unfold wt
  rw [show s k - ν = (μ - ν) + (s k - μ) by ring]
  exact Real.rpow_add (by norm_num) _ _

/-- A sum of reals, coerced. -/
theorem coe_sum {ι : Type*} (t : Finset ι) (f : ι → ℝ) :
    ((∑ k ∈ t, f k : ℝ) : EReal) = ∑ k ∈ t, ((f k : ℝ) : EReal) := by
  classical
  induction t using Finset.induction_on with
  | empty => simp
  | insert a t ha ih => rw [sum_insert ha, sum_insert ha, EReal.coe_add, ih]

/-- A nonnegative real factor distributes over any sum of extended reals. -/
theorem mul_sum_coe {ι : Type*} (t : Finset ι) (c : ℝ) (hc : 0 ≤ c) (f : ι → EReal) :
    (c : EReal) * ∑ k ∈ t, f k = ∑ k ∈ t, (c : EReal) * f k := by
  classical
  induction t using Finset.induction_on with
  | empty => simp
  | insert a t ha ih =>
    rw [sum_insert ha, sum_insert ha, EReal.left_distrib_of_nonneg_of_ne_top (by exact_mod_cast hc) (EReal.coe_ne_top c), ih]

theorem exp2_coe (r : ℝ) : Ideal.exp2 (r : EReal) = ((Real.rpow 2 r : ℝ) : EReal) := rfl
theorem exp_coe (r : ℝ) : Ideal.exp (r : EReal) = ((Real.exp r : ℝ) : EReal) := rfl

/-- The maximum of reals with `-∞` is `-∞` or a real. -/
theorem fold_max_real {ι : Type*} (t : Finset ι) (S : ι → EReal) (s : ι → ℝ) (hS : ∀ k, S k = (s k : EReal)) :
    t.fold max ⊥ S = ⊥ ∨ ∃ r : ℝ, t.fold max ⊥ S = (r : EReal) := by
  classical
  induction t using Finset.induction_on with
  | empty => left; simp
  | insert a t ha ih =>
    right
    rw [fold_insert ha, hS a]
    rcases ih with h | ⟨r, h⟩
    · exact ⟨s a, by rw [h]; simp⟩
    · exact ⟨max (s a) r, by rw [h]; exact (EReal.coe_strictMono.monotone.map_max).symm⟩

/-- … and a real where there is an element. -/
theorem fold_max_coe {n : ℕ} (hn : 0 < n) (S : Fin n → EReal) (s : Fin n → ℝ) (hS : ∀ k, S k = (s k : EReal)) :
    ∃ r : ℝ, (univ : Finset (Fin n)).fold max ⊥ S = (r : EReal) := by
  rcases fold_max_real univ S s hS with h | h
  · exfalso
    have h1 : S ⟨0, hn⟩ ≤ (univ : Finset (Fin n)).fold max ⊥ S :=
      (Finset.le_fold_max _).2 (Or.inr ⟨_, mem_univ _, le_rfl⟩)
    rw [h, hS, le_bot_iff] at h1
    exact EReal.coe_ne_bot _ h1
  · exact h

/-- The chunk's sums against a real level `ν`, over the naturals. -/
theorem chunk_sums {N n : ℕ} {s : ℕ → ℝ} {v : ℕ → EReal} {S V : Fin n → EReal} (ν : ℝ)
    (hS : ∀ k : Fin n, S k = (s (N + k) : EReal)) (hV : ∀ k : Fin n, V k = v (N + k)) :
    (∑ k, Ideal.exp2 (S k - (ν : EReal))) = ((∑ k ∈ range n, wt s ν (N + k) : ℝ) : EReal)
    ∧ (∑ k, Ideal.exp2 (S k - (ν : EReal)) * V k) = ∑ k ∈ range n, ((wt s ν (N + k) : ℝ) : EReal) * v (N + k) := by
  constructor
  · rw [coe_sum, ← Fin.sum_univ_eq_sum_range (fun k => ((wt s ν (N + k) : ℝ) : EReal))]
    exact sum_congr rfl fun k _ => by rw [hS k, ← EReal.coe_sub, exp2_coe]; rfl
  · rw [← Fin.sum_univ_eq_sum_range (fun k => ((wt s ν (N + k) : ℝ) : EReal) * v (N + k))]
    exact sum_congr rfl fun k _ => by rw [hS k, hV k, ← EReal.coe_sub, exp2_coe]; rfl

/-- THE FIRST CHUNK, from `-∞` and zeros. -/
theorem first {n : ℕ} (hn : 0 < n) {s : ℕ → ℝ} {v : ℕ → EReal} {S V : Fin n → EReal} {m' : EReal}
    (hS : ∀ k : Fin n, S k = (s k : EReal)) (hV : ∀ k : Fin n, V k = v k)
    (hm : m' = max ⊥ ((univ : Finset (Fin n)).fold max ⊥ S)) :
    Inv n s v m' (Ideal.exp2 (⊥ - m') * 0 + ∑ k, Ideal.exp2 (S k - m'))
      (Ideal.exp2 (⊥ - m') * 0 + ∑ k, Ideal.exp2 (S k - m') * V k) := by
  obtain ⟨ν, hν⟩ := fold_max_coe hn S (fun k => s k) hS
  have hm' : m' = (ν : EReal) := by rw [hm, hν]; simp
  subst hm'
  obtain ⟨h1, h2⟩ := chunk_sums (N := 0) (s := s) (v := v) (S := S) (V := V) ν (by simpa using hS) (by simpa using hV)
  refine ⟨ν, rfl, ?_, ?_⟩
  · rw [h1, mul_zero, zero_add]; simp
  · rw [h2, mul_zero, zero_add]; simp

/-- A LATER CHUNK: the new level, both sums rescaled to it, the chunk's own sums added. -/
theorem step {N n : ℕ} {s : ℕ → ℝ} {v : ℕ → EReal} {m l a : EReal} {S V : Fin n → EReal} {m' : EReal}
    (h : Inv N s v m l a)
    (hS : ∀ k : Fin n, S k = (s (N + k) : EReal)) (hV : ∀ k : Fin n, V k = v (N + k))
    (hm : m' = max m ((univ : Finset (Fin n)).fold max ⊥ S)) :
    Inv (N + n) s v m' (Ideal.exp2 (m - m') * l + ∑ k, Ideal.exp2 (S k - m'))
      (Ideal.exp2 (m - m') * a + ∑ k, Ideal.exp2 (S k - m') * V k) := by
  obtain ⟨μ, rfl, rfl, rfl⟩ := h
  obtain ⟨ν, rfl⟩ : ∃ ν : ℝ, m' = (ν : EReal) := by
    rw [hm]
    rcases fold_max_real univ S (fun k => s (N + k)) hS with h | ⟨r, h⟩
    · exact ⟨μ, by rw [h]; simp⟩
    · exact ⟨max μ r, by rw [h]; exact (EReal.coe_strictMono.monotone.map_max).symm⟩
  obtain ⟨h1, h2⟩ := chunk_sums (N := N) (s := s) (v := v) (S := S) (V := V) ν hS hV
  refine ⟨ν, rfl, ?_, ?_⟩
  · rw [h1, ← EReal.coe_sub, exp2_coe, ← EReal.coe_mul, ← EReal.coe_add, sum_range_add, mul_sum]
    congr 2
    exact sum_congr rfl fun k _ => (wt_level s μ ν k).symm
  · rw [h2, ← EReal.coe_sub, exp2_coe, sum_range_add,
      mul_sum_coe _ (Real.rpow 2 (μ - ν)) (Real.rpow_nonneg (by norm_num) _)]
    congr 1
    exact sum_congr rfl fun k _ => by rw [← mul_assoc, ← EReal.coe_mul, ← wt_level]

/-- The quotient of a weighted sum by a positive real, term by term. -/
theorem div_sum {ι : Type*} (t : Finset ι) (w : ι → ℝ) (v : ι → EReal) (L : ℝ) (hL : 0 < L) :
    Ideal.div (∑ k ∈ t, ((w k : ℝ) : EReal) * v k) (L : EReal) = ∑ k ∈ t, ((w k / L : ℝ) : EReal) * v k := by
  have h0 : (L : EReal) ≠ 0 := by exact_mod_cast hL.ne'
  unfold Ideal.div
  rw [if_neg h0, ← EReal.coe_inv, mul_comm, mul_sum_coe _ _ (inv_nonneg.2 hL.le)]
  exact sum_congr rfl fun k _ => by rw [← mul_assoc, ← EReal.coe_mul, div_eq_inv_mul]

/-- The softmax weight does not depend on the level. -/
theorem soft_level (s : ℕ → ℝ) (N k : ℕ) (μ : ℝ) : wt s μ k / ∑ j ∈ range N, wt s μ j = soft s N k := by
  unfold soft
  have h : ∀ j, wt s μ j = Real.rpow 2 (0 - μ) * wt s 0 j := fun j => wt_level s 0 μ j
  simp only [h, ← mul_sum]
  exact mul_div_mul_left _ _ (Real.rpow_pos_of_pos (by norm_num) _).ne'

/-- IN THE END the quotient of the two running sums is the softmax-weighted sum of the values. -/
theorem finish {N : ℕ} (hN : 0 < N) {s : ℕ → ℝ} {v : ℕ → EReal} {m l a : EReal} (h : Inv N s v m l a) :
    Ideal.div a l = ∑ k ∈ range N, ((soft s N k : ℝ) : EReal) * v k := by
  obtain ⟨μ, rfl, rfl, rfl⟩ := h
  rw [div_sum _ _ _ _ (sum_pos (fun k _ => wt_pos s μ k) ⟨0, mem_range.2 hN⟩)]
  exact sum_congr rfl fun k _ => by rw [soft_level]

/-- A softmax written with the natural exponential of `ln 2 · s`, its maximum subtracted, has these weights. -/
theorem natural {N : ℕ} (hN : 0 < N) {s : ℕ → ℝ} {T : Fin N → EReal} {M : EReal}
    (hT : ∀ k : Fin N, T k = (s k : EReal) * (Real.log 2 : EReal))
    (hM : M = (univ : Finset (Fin N)).fold max ⊥ T) (k : Fin N) :
    Ideal.div (Ideal.exp (T k - M)) (∑ j, Ideal.exp (T j - M)) = ((soft s N k : ℝ) : EReal) := by
  have hT' : ∀ k : Fin N, T k = ((s k * Real.log 2 : ℝ) : EReal) := fun k => by rw [hT, EReal.coe_mul]
  obtain ⟨μ, hμ⟩ := fold_max_coe hN T (fun k => s k * Real.log 2) hT'
  rw [hμ] at hM
  subst hM
  have hlog : Real.log 2 ≠ 0 := (Real.log_pos (by norm_num)).ne'
  have he : ∀ j : Fin N, Ideal.exp (T j - (μ : EReal)) = ((wt s (μ / Real.log 2) j : ℝ) : EReal) := fun j => by
    rw [hT' j, ← EReal.coe_sub, exp_coe]
    unfold wt
    congr 1
    show _ = (2 : ℝ) ^ (s j - μ / Real.log 2)
    rw [Real.rpow_def_of_pos (by norm_num)]
    congr 1
    field_simp
  simp only [he]
  rw [← coe_sum, Fin.sum_univ_eq_sum_range (fun j => wt s (μ / Real.log 2) j) N]
  have hL : 0 < ∑ j ∈ range N, wt s (μ / Real.log 2) j := sum_pos (fun k _ => wt_pos s _ k) ⟨0, mem_range.2 hN⟩
  unfold Ideal.div
  rw [if_neg (by exact_mod_cast hL.ne'), ← EReal.coe_inv, ← EReal.coe_mul, ← div_eq_mul_inv, soft_level]

/-- A finite extended real is a real. -/
theorem coe_toReal_of {x : EReal} (h : x ≠ ⊤ ∧ x ≠ ⊥) : ((x.toReal : ℝ) : EReal) = x := EReal.coe_toReal h.1 h.2

/-- A finite sum of products of finite extended reals is finite. -/
theorem dot_real {n : ℕ} (x y : Fin n → EReal) (hx : ∀ d, x d ≠ ⊤ ∧ x d ≠ ⊥) (hy : ∀ d, y d ≠ ⊤ ∧ y d ≠ ⊥) :
    (((∑ d, x d * y d).toReal : ℝ) : EReal) = ∑ d, x d * y d := by
  have h : ∑ d, x d * y d = ((∑ d, (x d).toReal * (y d).toReal : ℝ) : EReal) := by
    rw [coe_sum]
    exact sum_congr rfl fun d _ => by rw [EReal.coe_mul, coe_toReal_of (hx d), coe_toReal_of (hy d)]
  rw [h, EReal.toReal_coe]

end Attn

end
-- ==== Proof.Math.Ops.lean ====
/- The elementwise operations of a body read at an index, over the extended reals. -/
module

public import Idealize.ShloMosaic.PureOps.Ideal
public import Idealize.ShloMosaic.Lib.Pointwise

@[expose] public section

noncomputable section

namespace Attn

open Idealize.ShloMosaic

variable {s : Shape} (a b : FVec Ideal s .f32) (j : s.Idx)

theorem maxi_at : maximumf a b j = max (a j) (b j) := rfl
theorem subi_at : subf a b j = a j - b j := rfl
theorem addi_at : addf a b j = a j + b j := rfl
theorem muli_at : mulf a b j = a j * b j := rfl
theorem divi_at : divf a b j = Ideal.div (a j) (b j) := rfl
theorem exp2i_at : exp2 a j = Ideal.exp2 (a j) := rfl
theorem trunci_at (h) : truncf .bf16 a h j = a j := rfl
theorem bcast_at (x : EReal) : (broadcast s x : FVec Ideal s .f32) j = x := rfl

/-- The pattern of `-∞`. -/
theorem neg_inf : Ideal.ofBits .f32 0xFF800000#32 = ⊥ := by simp [Ideal.ofBits, Ideal.ieee]

/-- The pattern of zero. -/
theorem zero_word : Ideal.ofBits .f32 0x00000000#32 = 0 := by simp [Ideal.ofBits, Ideal.ieee]

end Attn

end
-- ==== Proof.Mla.Block.lean ====
/- One block of the latent attention's kernel: 1024 queries of a head against its 8192 keys in four chunks of
   2048, each intermediate read at one query row and one value column. -/
module

public import proofs.«01_k».proof.Proof.Gen.MlaIdeal.Skeleton
public import proofs.«01_k».proof.Proof.Math.Online
public import proofs.«01_k».proof.Proof.Math.Ops
public import Idealize.ShloMosaic.Lib.Pointwise

@[expose] public section

set_option maxRecDepth 16384

noncomputable section

open Idealize.ShloMosaic Idealize.ShloMosaic.TcCoe

namespace Cert.MlaIdeal.Block

open Cert.MlaIdeal Cert.MlaIdeal.Gen Attn

variable (q : FVec Ideal S1x1x1024x256 .bf16) (Q : FVec Ideal S1024x256 .bf16)
  (K K' : FVec Ideal S1x1x2048x256 .bf16) (V V' : FVec Ideal S1x1x2048x128 .bf16)
  (M L : FVec Ideal S1024x1 .f32) (A : FVec Ideal S1024x128 .f32)
  (r : Fin 1024) (k : Fin 2048) (d : Fin 128)

/-- The score of query row `r` and key `k` of a chunk. -/
def sc (Q : FVec Ideal S1024x256 .bf16) (K : FVec Ideal S1x1x2048x256 .bf16) (r : Fin 1024) (k : Fin 2048) : EReal :=
  ∑ e : Fin 256, Q (ix2 r e) * K (ix4 0 0 k e)

/-- The level after a chunk, from the level before it. -/
def lvl (Q : FVec Ideal S1024x256 .bf16) (K : FVec Ideal S1x1x2048x256 .bf16) (r : Fin 1024) (x : EReal) : EReal :=
  max x (Finset.univ.fold max ⊥ (sc Q K r))

/-! The operations between shapes. -/

/-- The block of queries without its unit axes. -/
theorem queries_at (e : Fin 256) : k0_pay2 (F := Ideal) q (ix2 r e) = q (ix4 0 0 r e) := by pointwise [k0_pay2]

/-- A column read at a row. -/
theorem col_at (X : FVec Ideal S1024 .f32) :
    shapeCast S1024x1 X shapeCasts_S1024_S1024x1 (ix2 r 0) = X (ix1 r) := by pointwise []

/-- A column spread over the keys, -/
theorem spread_at (X : FVec Ideal S1024x1 .f32) :
    broadcastTo S1024x2048 X broadcasts_S1024x1_S1024x2048 (ix2 r k) = X (ix2 r 0) := by pointwise []

/-- … and over the value columns. -/
theorem spread_at' (X : FVec Ideal S1024x1 .f32) :
    broadcastTo S1024x128 X broadcasts_S1024x1_S1024x128 (ix2 r d) = X (ix2 r 0) := by pointwise []

/-- The maxima of the rows, -/
def rowMax (X : FVec Ideal S1024x2048 .f32) : FVec Ideal S1024 .f32 :=
  multiReduction .maximumf [1] S1024 X 0xFF800000#32 reduces_S1024x2048_S1024 (.inl rfl) rfl

/-- … at a row. -/
theorem max_at (X : FVec Ideal S1024x2048 .f32) : rowMax X (ix1 r) = Finset.univ.fold max ⊥ fun k : Fin 2048 => X (ix2 r k) := by
  pointwise [rowMax]
  rw [neg_inf]

/-- The sums of the rows, -/
def rowSum (X : FVec Ideal S1024x2048 .f32) : FVec Ideal S1024 .f32 :=
  multiReduction .add [1] S1024 X 0x00000000#32 reduces_S1024x2048_S1024 (.inl rfl) rfl

/-- … at a row. -/
theorem sum_at (X : FVec Ideal S1024x2048 .f32) : rowSum X (ix1 r) = ∑ k : Fin 2048, X (ix2 r k) := by
  pointwise [rowSum]

/-- The weights' product with a chunk of values, -/
def dotv (X : FVec Ideal S1024x2048 .f32) (V : FVec Ideal S1x1x2048x128 .bf16) : FVec Ideal S1024x128 .f32 :=
  matmul dot_S1024x2048_S2048x128_S1024x128_1_0_0_1_n_n none (truncf .bf16 X bitsLt_bf16_f32)
    (shapeCast S2048x128 V shapeCasts_S1x1x2048x128_S2048x128) (constant S1024x128 .f32 0x00000000#32)

/-- … at a row and a column. -/
theorem dotv_at (X : FVec Ideal S1024x2048 .f32) : dotv X V (ix2 r d) = ∑ k : Fin 2048, X (ix2 r k) * V (ix4 0 0 k d) := by
  pointwise [dotv]

/-! The first chunk. -/

theorem level0_at : k0_pay3 (F := Ideal) (ix2 r 0) = ⊥ := by
  pointwise [k0_pay3]
  exact neg_inf

theorem scores1_at : k0_pay4 (F := Ideal) q K (ix2 r k) = sc (k0_pay2 q) K r k := by
  pointwise [k0_pay4]
  rfl

theorem level1_eq : k0_pay5 (F := Ideal) q K = maximumf (k0_pay3 (F := Ideal))
    (shapeCast S1024x1 (rowMax (k0_pay4 (F := Ideal) q K)) shapeCasts_S1024_S1024x1) := rfl
theorem level1_at : k0_pay5 (F := Ideal) q K (ix2 r 0) = lvl (k0_pay2 q) K r ⊥ := by
  rw [level1_eq, maxi_at, col_at, max_at, level0_at]
  simp only [scores1_at]
  unfold lvl
  with_reducible rfl

theorem factor1_eq : k0_pay6 (F := Ideal) q K = exp2 (subf (k0_pay3 (F := Ideal)) (k0_pay5 (F := Ideal) q K)) := rfl
theorem factor1_at : k0_pay6 (F := Ideal) q K (ix2 r 0) = Ideal.exp2 (⊥ - lvl (k0_pay2 q) K r ⊥) := by
  rw [factor1_eq, exp2i_at, subi_at, level0_at, level1_at]

theorem weights1_eq : k0_pay7 (F := Ideal) q K = exp2 (subf (k0_pay4 (F := Ideal) q K)
    (broadcastTo S1024x2048 (k0_pay5 (F := Ideal) q K) broadcasts_S1024x1_S1024x2048)) := rfl
theorem weights1_at : k0_pay7 (F := Ideal) q K (ix2 r k) = Ideal.exp2 (sc (k0_pay2 q) K r k - lvl (k0_pay2 q) K r ⊥) := by
  rw [weights1_eq, exp2i_at, subi_at, spread_at, scores1_at, level1_at]

theorem sum1_eq : k0_pay8 (F := Ideal) q K = addf (mulf (k0_pay6 (F := Ideal) q K) (broadcast S1024x1 (Ideal.ofBits .f32 0x00000000#32)))
    (shapeCast S1024x1 (rowSum (k0_pay7 (F := Ideal) q K)) shapeCasts_S1024_S1024x1) := rfl
theorem sum1_at : k0_pay8 (F := Ideal) q K (ix2 r 0)
    = Ideal.exp2 (⊥ - lvl (k0_pay2 q) K r ⊥) * 0 + ∑ k, Ideal.exp2 (sc (k0_pay2 q) K r k - lvl (k0_pay2 q) K r ⊥) := by
  rw [sum1_eq, addi_at, muli_at, bcast_at, col_at, sum_at, factor1_at, zero_word]
  simp only [weights1_at]

theorem acc1_eq : k0_pay9 (F := Ideal) q V K = addf (mulf
    (broadcastTo S1024x128 (k0_pay6 (F := Ideal) q K) broadcasts_S1024x1_S1024x128) (broadcast S1024x128 (Ideal.ofBits .f32 0x00000000#32)))
    (dotv (k0_pay7 (F := Ideal) q K) V) := rfl
theorem acc1_at : k0_pay9 (F := Ideal) q V K (ix2 r d)
    = Ideal.exp2 (⊥ - lvl (k0_pay2 q) K r ⊥) * 0
      + ∑ k, Ideal.exp2 (sc (k0_pay2 q) K r k - lvl (k0_pay2 q) K r ⊥) * V (ix4 0 0 k d) := by
  rw [acc1_eq, addi_at, muli_at, bcast_at, spread_at', dotv_at, factor1_at, zero_word]
  simp only [weights1_at]

/-! A later chunk, over the level, the sum and the weighted sum before it. -/

theorem scores_at : k0_pay10 (F := Ideal) Q K (ix2 r k) = sc Q K r k := by
  pointwise [k0_pay10]
  rfl

theorem level_eq : k0_pay11 (F := Ideal) Q M K = maximumf M
    (shapeCast S1024x1 (rowMax (k0_pay10 (F := Ideal) Q K)) shapeCasts_S1024_S1024x1) := rfl
theorem level_at : k0_pay11 (F := Ideal) Q M K (ix2 r 0) = lvl Q K r (M (ix2 r 0)) := by
  rw [level_eq, maxi_at, col_at, max_at]
  simp only [scores_at]
  unfold lvl
  with_reducible rfl

theorem factor_eq : k0_pay12 (F := Ideal) Q M K = exp2 (subf M (k0_pay11 (F := Ideal) Q M K)) := rfl
theorem factor_at : k0_pay12 (F := Ideal) Q M K (ix2 r 0) = Ideal.exp2 (M (ix2 r 0) - lvl Q K r (M (ix2 r 0))) := by
  rw [factor_eq, exp2i_at, subi_at, level_at]

theorem weights_eq : k0_pay13 (F := Ideal) Q M K = exp2 (subf (k0_pay10 (F := Ideal) Q K)
    (broadcastTo S1024x2048 (k0_pay11 (F := Ideal) Q M K) broadcasts_S1024x1_S1024x2048)) := rfl
theorem weights_at : k0_pay13 (F := Ideal) Q M K (ix2 r k) = Ideal.exp2 (sc Q K r k - lvl Q K r (M (ix2 r 0))) := by
  rw [weights_eq, exp2i_at, subi_at, spread_at, scores_at, level_at]

theorem sum_eq : k0_pay14 (F := Ideal) Q M L K = addf (mulf (k0_pay12 (F := Ideal) Q M K) L)
    (shapeCast S1024x1 (rowSum (k0_pay13 (F := Ideal) Q M K)) shapeCasts_S1024_S1024x1) := rfl
theorem total_at : k0_pay14 (F := Ideal) Q M L K (ix2 r 0)
    = Ideal.exp2 (M (ix2 r 0) - lvl Q K r (M (ix2 r 0))) * L (ix2 r 0)
      + ∑ k, Ideal.exp2 (sc Q K r k - lvl Q K r (M (ix2 r 0))) := by
  rw [sum_eq, addi_at, muli_at, col_at, sum_at, factor_at]
  simp only [weights_at]

theorem acc_eq : k0_pay15 (F := Ideal) Q M A V K = addf
    (mulf (broadcastTo S1024x128 (k0_pay12 (F := Ideal) Q M K) broadcasts_S1024x1_S1024x128) A)
    (dotv (k0_pay13 (F := Ideal) Q M K) V) := rfl
theorem acc_at : k0_pay15 (F := Ideal) Q M A V K (ix2 r d)
    = Ideal.exp2 (M (ix2 r 0) - lvl Q K r (M (ix2 r 0))) * A (ix2 r d)
      + ∑ k, Ideal.exp2 (sc Q K r k - lvl Q K r (M (ix2 r 0))) * V (ix4 0 0 k d) := by
  rw [acc_eq, addi_at, muli_at, spread_at', dotv_at, factor_at]
  simp only [weights_at]

/-! The body's last two chunks are printed as one computation: they are the later chunk's, twice. -/

theorem two_chunks_sum : k0_pay26 (F := Ideal) Q M L (k0_pay17 Q K) (k0_pay18 Q K) K'
    = k0_pay14 Q (k0_pay11 Q M K) (k0_pay14 Q M L K) K' := by
  unfold k0_pay26 k0_pay24 k0_pay23 k0_pay25 k0_pay23 k0_pay22 k0_pay21 k0_pay20 k0_pay19 k0_pay18 k0_pay17
    k0_pay14 k0_pay12 k0_pay13 k0_pay11 k0_pay10
  dsimp only

theorem two_chunks_acc : k0_pay27 (F := Ideal) Q M A (k0_pay16 V) (k0_pay17 Q K) (k0_pay18 Q K) V' K'
    = k0_pay15 Q (k0_pay11 Q M K) (k0_pay15 Q M A V K) V' K' := by
  unfold k0_pay27 k0_pay16 k0_pay24 k0_pay23 k0_pay25 k0_pay23 k0_pay22 k0_pay21 k0_pay20 k0_pay19 k0_pay18 k0_pay17
    k0_pay15 k0_pay12 k0_pay13 k0_pay11 k0_pay10
  dsimp only

/-- The quotient the body stores. -/
theorem store_at (u : Fin 1) : k0_pay1 (F := Ideal) L A (ix3 u r d) = Ideal.div (A (ix2 r d)) (L (ix2 r 0)) := by
  pointwise [k0_pay1]

/-! The invariant of the online softmax. -/

section
variable {q Q K V M L A r d}

/-- After the first chunk. -/
theorem inv_first {s : ℕ → ℝ} {v : ℕ → EReal} (hs : ∀ k : Fin 2048, sc (k0_pay2 q) K r k = (s k : EReal))
    (hv : ∀ k : Fin 2048, V (ix4 0 0 k d) = v k) :
    Inv 2048 s v (k0_pay5 (F := Ideal) q K (ix2 r 0)) (k0_pay8 (F := Ideal) q K (ix2 r 0))
      (k0_pay9 (F := Ideal) q V K (ix2 r d)) := by
  rw [level1_at, sum1_at, acc1_at]
  exact first (by norm_num) hs hv rfl

/-- After a later chunk. -/
theorem inv_step {N : ℕ} {s : ℕ → ℝ} {v : ℕ → EReal} (hi : Inv N s v (M (ix2 r 0)) (L (ix2 r 0)) (A (ix2 r d)))
    (hs : ∀ k : Fin 2048, sc Q K r k = (s (N + k) : EReal))
    (hv : ∀ k : Fin 2048, V (ix4 0 0 k d) = v (N + k)) :
    Inv (N + 2048) s v (k0_pay11 (F := Ideal) Q M K (ix2 r 0)) (k0_pay14 (F := Ideal) Q M L K (ix2 r 0))
      (k0_pay15 (F := Ideal) Q M A V K (ix2 r d)) := by
  rw [level_at, total_at, acc_at]
  exact step hi hs hv rfl

end

/-- THE BLOCK: what the body stores at a row and a column is the softmax-weighted sum of the values there, when the
    scores of the row are the reals `s`, chunk by chunk, and the column's values are `v`. -/
theorem block_at (K₀ K₁ K₂ K₃ : FVec Ideal S1x1x2048x256 .bf16) (V₀ V₁ V₂ V₃ : FVec Ideal S1x1x2048x128 .bf16)
    (u : Fin 1) {s : ℕ → ℝ} {v : ℕ → EReal}
    (hs₀ : ∀ k : Fin 2048, sc (k0_pay2 q) K₀ r k = (s k : EReal))
    (hs₁ : ∀ k : Fin 2048, sc (k0_pay2 q) K₁ r k = (s (2048 + k) : EReal))
    (hs₂ : ∀ k : Fin 2048, sc (k0_pay2 q) K₂ r k = (s (4096 + k) : EReal))
    (hs₃ : ∀ k : Fin 2048, sc (k0_pay2 q) K₃ r k = (s (6144 + k) : EReal))
    (hv₀ : ∀ k : Fin 2048, V₀ (ix4 0 0 k d) = v k)
    (hv₁ : ∀ k : Fin 2048, V₁ (ix4 0 0 k d) = v (2048 + k))
    (hv₂ : ∀ k : Fin 2048, V₂ (ix4 0 0 k d) = v (4096 + k))
    (hv₃ : ∀ k : Fin 2048, V₃ (ix4 0 0 k d) = v (6144 + k)) :
    k0_pay1 (F := Ideal)
      (k0_pay26 (k0_pay2 q) (k0_pay11 (k0_pay2 q) (k0_pay5 q K₀) K₁) (k0_pay14 (k0_pay2 q) (k0_pay5 q K₀) (k0_pay8 q K₀) K₁)
        (k0_pay17 (k0_pay2 q) K₂) (k0_pay18 (k0_pay2 q) K₂) K₃)
      (k0_pay27 (k0_pay2 q) (k0_pay11 (k0_pay2 q) (k0_pay5 q K₀) K₁) (k0_pay15 (k0_pay2 q) (k0_pay5 q K₀) (k0_pay9 q V₀ K₀) V₁ K₁)
        (k0_pay16 V₂) (k0_pay17 (k0_pay2 q) K₂) (k0_pay18 (k0_pay2 q) K₂) V₃ K₃) (ix3 u r d)
      = ∑ k ∈ Finset.range 8192, ((soft s 8192 k : ℝ) : EReal) * v k := by
  rw [two_chunks_sum, two_chunks_acc, store_at]
  exact finish (by norm_num) (inv_step (inv_step (inv_step (inv_first hs₀ hv₀) hs₁ hv₁) hs₂ hv₂) hs₃ hv₃)

end Cert.MlaIdeal.Block

end
-- ==== Proof.Mla.Spec.lean ====
/- The latent attention as one formula over the arrays of queries, keys and values. -/
module

public import proofs.«01_k».proof.Proof.Math.Online
public import Idealize.ShloMosaic.Lib.Pointwise

@[expose] public section

noncomputable section

namespace Attn.Mla

open Idealize.ShloMosaic Finset

/-- The arrays of queries and of keys: batch, head, position, width. -/
abbrev Keys : Type := FVec Ideal ⟨4, ![2, 8, 8192, 256]⟩ .bf16
/-- The array of values. -/
abbrev Vals : Type := FVec Ideal ⟨4, ![2, 8, 8192, 128]⟩ .bf16

/-- The inner product of query `i` and key `k` of a head. -/
def inner (X Y : Keys) (b : Fin 2) (h : Fin 8) (i k : Fin 8192) : EReal := ∑ e : Fin 256, X (ix4 b h i e) * Y (ix4 b h k e)

/-- The score of query `i` against key `k`, a real. -/
def score (X Y : Keys) (b : Fin 2) (h : Fin 8) (i : Fin 8192) (k : ℕ) : ℝ :=
  if hk : k < 8192 then (inner X Y b h i ⟨k, hk⟩).toReal else 0

/-- The value of key `k` in column `d`. -/
def val (Z : Vals) (b : Fin 2) (h : Fin 8) (d : Fin 128) (k : ℕ) : EReal :=
  if hk : k < 8192 then Z (ix4 b h ⟨k, hk⟩ d) else 0

/-- The attention: the values weighted by the softmax, to the base two, of the query's scores. -/
def attn (X Y : Keys) (Z : Vals) (b : Fin 2) (h : Fin 8) (i : Fin 8192) (d : Fin 128) : EReal :=
  ∑ k ∈ range 8192, ((soft (score X Y b h i) 8192 k : ℝ) : EReal) * val Z b h d k

/-- All entries are reals. -/
def Finite (X : Keys) : Prop := ∀ i, X i ≠ ⊤ ∧ X i ≠ ⊥

theorem inner_real {X Y : Keys} (hX : Finite X) (hY : Finite Y) (b : Fin 2) (h : Fin 8) (i : Fin 8192) {k : ℕ} (hk : k < 8192) :
    inner X Y b h i ⟨k, hk⟩ = (score X Y b h i k : EReal) := by
  unfold score
  rw [dif_pos hk]
  exact (dot_real _ _ (fun d => hX _) (fun d => hY _)).symm

theorem val_at (Z : Vals) (b : Fin 2) (h : Fin 8) (d : Fin 128) {k : ℕ} (hk : k < 8192) : Z (ix4 b h ⟨k, hk⟩ d) = val Z b h d k := by
  unfold val
  rw [dif_pos hk]

end Attn.Mla

end
-- ==== Proof.Mla.Value.lean ====
/- The array the latent attention's kernel leaves: every block is the formula of `Spec` at the places the block
   covers, and the blocks cover the array. -/
module

public import proofs.«01_k».proof.Proof.Gen.MlaIdeal.Value
public import proofs.«01_k».proof.Proof.Mla.Block
public import proofs.«01_k».proof.Proof.Mla.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlaIdeal.Value

open Cert.MlaIdeal Cert.MlaIdeal.Gen Cert.MlaIdeal.Block Attn Attn.Mla

variable (m : (ℓ : Loc nD τ sig) → Buf (Elt Ideal) ℓ)

/-- Where the blocks of a grid point sit: batch, head and query tile from the point's number. -/
theorem idx : ∀ t : Fin cfg0.N, win0_0.index t = ![t.val / 64, t.val / 8 % 8, t.val % 8, 0]
    ∧ win0_1.index t = ![t.val / 64, t.val / 8 % 8, 0, 0] ∧ win0_2.index t = ![t.val / 64, t.val / 8 % 8, 0, 0]
    ∧ win0_3.index t = ![t.val / 64, t.val % 8, t.val / 8 % 8] ∧ t.val < 128 :=
  (by decide +kernel : ∀ t : Fin grid0.N, _)

/-- The result as one function of the argument arrays. -/
def G (X Y : Keys) (Z : Vals) : FVec Ideal S2x8192x1024 .bf16 := fun j =>
  attn X Y Z (j 0) ⟨(j 2 : ℕ) / 128, by have := (j 2).isLt; simp at this; omega⟩ (j 1) ⟨(j 2 : ℕ) % 128, by omega⟩

theorem attn_congr (X Y : Keys) (Z : Vals) {b b' : Fin 2} {h h' : Fin 8} {i i' : Fin 8192} {d d' : Fin 128}
    (hb : b.val = b'.val) (hh : h.val = h'.val) (hi : i.val = i'.val) (hd : d.val = d'.val) :
    attn X Y Z b h i d = attn X Y Z b' h' i' d' := by
  rw [Fin.ext hb, Fin.ext hh, Fin.ext hi, Fin.ext hd]

/-- The result at an index whose coordinates are known. -/
theorem G_of (X Y : Keys) (Z : Vals) (j : S2x8192x1024.Idx) (b : Fin 2) (h : Fin 8) (i : Fin 8192) (d : Fin 128)
    (hb : (j 0 : ℕ) = b.val) (hi : (j 1 : ℕ) = i.val) (hd : (j 2 : ℕ) = h.val * 128 + d.val) :
    ∑ k ∈ Finset.range 8192, ((soft (score X Y b h i) 8192 k : ℝ) : EReal) * val Z b h d k = G X Y Z j :=
  attn_congr X Y Z hb.symm (show h.val = (j 2 : ℕ) / 128 by rw [hd]; omega) hi.symm
    (show d.val = (j 2 : ℕ) % 128 by rw [hd]; omega)

/-- A chunk's score, from the blocks. -/
theorem sc_block (c : Dev nD) (t : Fin cfg0.N) (r : Fin 1024) (b : Fin 2) (h : Fin 8) (i : Fin 8192)
    (hb : b.val = t.val / 64) (hh : h.val = t.val / 8 % 8) (hi : i.val = t.val % 8 * 1024 + r.val)
    (K : FVec Ideal S1x1x2048x256 .bf16) (o : ℕ) (ho : o + 2048 ≤ 8192)
    (hK : ∀ (k : Fin 2048) (e : Fin 256), K (ix4 0 0 k e) = (iblk m c 1 t : FVec Ideal S1x1x8192x256 .bf16) (ix4 0 0 ⟨o + k.val, by omega⟩ e))
    (hX : Finite (m ((c : Thread nD τ).loc main_arg0))) (hY : Finite (m ((c : Thread nD τ).loc main_arg1))) (k : Fin 2048) :
    sc (k0_pay2 (F := Ideal) (iblk m c 0 t)) K r k
      = (score (m ((c : Thread nD τ).loc main_arg0)) (m ((c : Thread nD τ).loc main_arg1)) b h i (o + k.val) : EReal) := by
  rw [← inner_real hX hY b h i (show o + k.val < 8192 by omega)]
  unfold sc Mla.inner
  refine Finset.sum_congr rfl fun e _ => ?_
  rw [queries_at, hK]
  refine congrArg₂ (fun x y : EReal => x * y) ?_ ?_
  · blk_ext [iblk, V, idx t]
  · blk_ext [iblk, V, idx t]

/-- A chunk's value, from the blocks. -/
theorem val_block (c : Dev nD) (t : Fin cfg0.N) (b : Fin 2) (h : Fin 8) (d : Fin 128)
    (hb : b.val = t.val / 64) (hh : h.val = t.val / 8 % 8)
    (W : FVec Ideal S1x1x2048x128 .bf16) (o : ℕ) (ho : o + 2048 ≤ 8192)
    (hW : ∀ (k : Fin 2048), W (ix4 0 0 k d) = (iblk m c 2 t : FVec Ideal S1x1x8192x128 .bf16) (ix4 0 0 ⟨o + k.val, by omega⟩ d)) (k : Fin 2048) :
    W (ix4 0 0 k d) = val (m ((c : Thread nD τ).loc main_arg2)) b h d (o + k.val) := by
  rw [← val_at _ b h d (show o + k.val < 8192 by omega), hW]
  blk_ext [iblk, V, idx t]

/-- THE ARRAY after the run. -/
theorem final (c : Dev nD) (hX : Finite (m ((c : Thread nD τ).loc main_arg0))) (hY : Finite (m ((c : Thread nD τ).loc main_arg1))) :
    (dats m 0 c).arrAt 3 (cfgs 0).N
      = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  obtain ⟨u, r, d, rfl⟩ : ∃ (u : Fin 1) (r : Fin 1024) (d : Fin 128), y = ix3 u r d := ⟨y 0, y 1, y 2, eq_ix3 y⟩
  have ht := (idx t).2.2.2.2
  have key := fun (K : FVec Ideal S1x1x2048x256 .bf16) => sc_block m c t r ⟨t.val / 64, by omega⟩ ⟨t.val / 8 % 8, by omega⟩
    ⟨t.val % 8 * 1024 + r.val, by omega⟩ rfl rfl rfl K
  have vkey := val_block m c t ⟨t.val / 64, by omega⟩ ⟨t.val / 8 % 8, by omega⟩ d rfl rfl
  refine (block_at (iblk m c 0 t) r d _ _ _ _ _ _ _ _ u
    (s := score (m ((c : Thread nD τ).loc main_arg0)) (m ((c : Thread nD τ).loc main_arg1)) ⟨t.val / 64, by omega⟩
      ⟨t.val / 8 % 8, by omega⟩ ⟨t.val % 8 * 1024 + r.val, by omega⟩)
    (v := val (m ((c : Thread nD τ).loc main_arg2)) ⟨t.val / 64, by omega⟩ ⟨t.val / 8 % 8, by omega⟩ d)
    (fun k => ?_) (fun k => ?_) (fun k => ?_) (fun k => ?_) (fun k => ?_) (fun k => ?_) (fun k => ?_) (fun k => ?_)).trans ?_
  · rw [← Nat.zero_add k.val]
    exact key _ 0 (by omega) (fun k e => by pointwise []) hX hY k
  · exact key _ 2048 (by omega) (fun k e => by pointwise []) hX hY k
  · exact key _ 4096 (by omega) (fun k e => by pointwise []) hX hY k
  · exact key _ 6144 (by omega) (fun k e => by pointwise []) hX hY k
  · rw [← Nat.zero_add k.val]
    exact vkey _ 0 (by omega) (fun k => by pointwise []) k
  · exact vkey _ 2048 (by omega) (fun k => by pointwise []) k
  · exact vkey _ 4096 (by omega) (fun k => by pointwise []) k
  · exact vkey _ 6144 (by omega) (fun k => by pointwise []) k
  · refine G_of _ _ _ _ _ _ _ _ ?_ ?_ ?_ <;> blk_simp [idx t] <;> omega

end Cert.MlaIdeal.Value

end
-- ==== Proof.Mla.Ref.lean ====
/- The reference's attention, each intermediate array read at an index, and in the end the formula of `Spec`. -/
module

public import proofs.«01_k».proof.Proof.Gen.MlaRefIdeal.Run
public import proofs.«01_k».proof.Proof.Mla.Spec
public import proofs.«01_k».proof.Proof.Math.Ops
public import Idealize.ShloMosaic.Lib.Pointwise

@[expose] public section

set_option maxRecDepth 16384

noncomputable section

open Idealize.ShloMosaic Idealize.ShloMosaic.TcCoe

namespace Cert.MlaRefIdeal.Pure

open Cert.MlaRefIdeal Cert.MlaRefIdeal.Gen Attn Attn.Mla

variable (X Y : FVec Ideal S2x8x8192x256 .bf16) (Z : FVec Ideal S2x8x8192x128 .bf16)
  (b : Fin 2) (h : Fin 8) (i k : Fin 8192) (d : Fin 128)

/-- The scores, times the logarithm of two. -/
def T : FVec Ideal S2x8x8192x8192 .f32 :=
  mulf (Host.dotGeneral dot_S2x8x8192x256_S2x8x8192x256_S2x8x8192x8192_3_3_2_2_01_01 none (extf .f32 X bitsLt_bf16_f32) (extf .f32 Y bitsLt_bf16_f32))
    (broadcastInDim S2x8x8192x8192 ![] bcast_S_S2x8x8192x8192 (Host.log (constant S_ .f32 0x40000000#32)))

/-- Their maximum over the keys. -/
def M (T : FVec Ideal S2x8x8192x8192 .f32) : FVec Ideal S2x8x8192 .f32 :=
  Host.reduce FloatOps.maximumf T (constant S_ .f32 0xFF800000#32) reducesTo_S2x8x8192x8192_S2x8x8192_d3 h_S_

/-- A row's number, spread over the keys. -/
def spread (M : FVec Ideal S2x8x8192 .f32) : FVec Ideal S2x8x8192x8192 .f32 :=
  broadcastInDim S2x8x8192x8192 ![0, 1, 2, 3] bcast_S2x8x8192x1_S2x8x8192x8192_0_1_2_3
    (broadcastInDim S2x8x8192x1 ![0, 1, 2] bcast_S2x8x8192_S2x8x8192x1_0_1_2 M)

/-- The exponentials, the maximum subtracted. -/
def E (T : FVec Ideal S2x8x8192x8192 .f32) : FVec Ideal S2x8x8192x8192 .f32 :=
  Host.exp (subf T (spread (maximumf (broadcastInDim S2x8x8192 ![] bcast_S_S2x8x8192 (constant S_ .f32 0xFF800000#32)) (M T))))

/-- Their sum over the keys. -/
def L (E : FVec Ideal S2x8x8192x8192 .f32) : FVec Ideal S2x8x8192 .f32 :=
  Host.reduceAdd E (constant S_ .f32 0x00000000#32) reducesTo_S2x8x8192x8192_S2x8x8192_d3 h_S_

/-- The softmax. -/
def W (E : FVec Ideal S2x8x8192x8192 .f32) : FVec Ideal S2x8x8192x8192 .f32 := Host.divf E (spread (L E))

/-- The values weighted. -/
def O (W : FVec Ideal S2x8x8192x8192 .f32) (Z : FVec Ideal S2x8x8192x128 .bf16) : FVec Ideal S2x8x128x8192 .f32 :=
  Host.dotGeneral dot_S2x8x8192x128_S2x8x8192x8192_S2x8x128x8192_2_3_3_2_01_01 none (extf .f32 Z bitsLt_bf16_f32) W

/-- The heads side by side. -/
def REF : FVec Ideal S2x8192x1024 .bf16 :=
  truncf .bf16 (shapeCast S2x8192x1024 (transpose S2x8192x8x128 [0, 3, 1, 2] (O (W (E (T X Y))) Z)
    transposes_S2x8x128x8192_S2x8192x8x128_0_3_1_2) shapeCasts_S2x8192x8x128_S2x8192x1024) bitsLt_bf16_f32

theorem two : Ideal.ofBits .f32 0x40000000#32 = ((2 : ℝ) : EReal) := by
  simp [Ideal.ofBits, Ideal.ieee, -EReal.coe_mul]; norm_num

theorem log_two : Ideal.log ((2 : ℝ) : EReal) = ((Real.log 2 : ℝ) : EReal) := by
  show (if (2 : ℝ) ≤ 0 then (⊥ : EReal) else _) = _
  rw [if_neg (by norm_num)]

theorem scale_at : broadcastInDim S2x8x8192x8192 ![] bcast_S_S2x8x8192x8192 (Host.log (constant (F := Ideal) S_ .f32 0x40000000#32)) (ix4 b h i k)
    = ((Real.log 2 : ℝ) : EReal) := by
  rw [← log_two, ← two]
  pointwise []

theorem dot_at : Host.dotGeneral dot_S2x8x8192x256_S2x8x8192x256_S2x8x8192x8192_3_3_2_2_01_01 none (extf .f32 X bitsLt_bf16_f32) (extf .f32 Y bitsLt_bf16_f32)
    (ix4 b h i k) = inner X Y b h i k := by
  pointwise []
  rfl

theorem T_at : T X Y (ix4 b h i k) = inner X Y b h i k * ((Real.log 2 : ℝ) : EReal) := by
  unfold T
  rw [muli_at, scale_at, dot_at]

theorem M_at (T : FVec Ideal S2x8x8192x8192 .f32) : M T (ix3 b h i) = Finset.univ.fold max ⊥ fun k : Fin 8192 => T (ix4 b h i k) := by
  pointwise [M]
  rw [neg_inf]

theorem spread_at (M : FVec Ideal S2x8x8192 .f32) : spread M (ix4 b h i k) = M (ix3 b h i) := by
  pointwise [spread]

theorem bot_at : broadcastInDim S2x8x8192 ![] bcast_S_S2x8x8192 (constant (F := Ideal) S_ .f32 0xFF800000#32) (ix3 b h i) = ⊥ := by
  pointwise []
  exact neg_inf

theorem hexp_at {s : Shape} (a : FVec Ideal s .f32) (j : s.Idx) : Host.exp a j = Ideal.exp (a j) := rfl
theorem hdiv_at {s : Shape} (a c : FVec Ideal s .f32) (j : s.Idx) : Host.divf a c j = Ideal.div (a j) (c j) := rfl

theorem E_at (T : FVec Ideal S2x8x8192x8192 .f32) :
    E T (ix4 b h i k) = Ideal.exp (T (ix4 b h i k) - Finset.univ.fold max ⊥ fun k : Fin 8192 => T (ix4 b h i k)) := by
  unfold E
  rw [hexp_at, subi_at, spread_at, maxi_at, bot_at, M_at, max_bot_left]

theorem L_at (E : FVec Ideal S2x8x8192x8192 .f32) : L E (ix3 b h i) = ∑ k : Fin 8192, E (ix4 b h i k) := by
  pointwise [L]

theorem W_at (E : FVec Ideal S2x8x8192x8192 .f32) : W E (ix4 b h i k) = Ideal.div (E (ix4 b h i k)) (∑ k : Fin 8192, E (ix4 b h i k)) := by
  unfold W
  rw [hdiv_at, spread_at, L_at]

theorem O_at (W : FVec Ideal S2x8x8192x8192 .f32) : O W Z (ix4 b h d i) = ∑ k : Fin 8192, Z (ix4 b h k d) * W (ix4 b h i k) := by
  pointwise [O]

theorem REF_at (c : Fin 1024) : REF X Y Z (ix3 b i c)
    = O (W (E (T X Y))) Z (ix4 b ⟨c.val / 128, by omega⟩ ⟨c.val % 128, by omega⟩ i) := by
  unfold REF
  rw [trunci_at]
  generalize O (W (E (T X Y))) Z = A
  pointwise []

/-- A softmax weight of the reference is the formula's. -/
theorem weight_at (hX : Finite X) (hY : Finite Y) :
    W (E (T X Y)) (ix4 b h i k) = ((soft (score X Y b h i) 8192 k : ℝ) : EReal) := by
  rw [W_at]
  simp only [E_at, T_at]
  exact natural (N := 8192) (by norm_num) (T := fun k : Fin 8192 => inner X Y b h i k * ((Real.log 2 : ℝ) : EReal))
    (fun k => by rw [inner_real hX hY b h i k.isLt]) rfl k

/-- The reference at an index. -/
theorem ref_at (hX : Finite X) (hY : Finite Y) (c : Fin 1024) : REF X Y Z (ix3 b i c)
    = attn X Y Z b ⟨c.val / 128, by omega⟩ i ⟨c.val % 128, by omega⟩ := by
  rw [REF_at, O_at]
  unfold attn
  rw [← Fin.sum_univ_eq_sum_range (fun k => ((soft (score X Y b ⟨c.val / 128, by omega⟩ i) 8192 k : ℝ) : EReal)
    * val Z b ⟨c.val / 128, by omega⟩ ⟨c.val % 128, by omega⟩ k) 8192]
  refine Finset.sum_congr rfl fun k _ => ?_
  rw [weight_at X Y b _ i k hX hY, mul_comm, ← val_at Z b _ _ k.isLt]

end Cert.MlaRefIdeal.Pure

end
-- ==== Proof.Math.Finite.lean ====
/- What the precondition's comparison says of an entry: its magnitude is below `+∞`, so it is a real. -/
module

public import Idealize.ShloMosaic.PureOps.Ideal
public import Idealize.ShloMosaic.Lib.ReduceAll
public import Idealize.ShloMosaic.Lib.Pointwise

@[expose] public section

noncomputable section

namespace Attn

open Idealize.ShloMosaic

/-- The pattern of `+∞`. -/
theorem pos_inf : Ideal.ofBits .f32 0x7F800000#32 = ⊤ := by simp [Ideal.ofBits, Ideal.ieee]

/-- A magnitude below `+∞` is a finite entry. -/
theorem finite_of_lt (x : EReal) (h : Ideal.cmp .olt (max x (-x)) ⊤ = 1#1) : x ≠ ⊤ ∧ x ≠ ⊥ := by
  constructor
  · rintro rfl
    simp [Ideal.cmp] at h
  · rintro rfl
    simp [Ideal.cmp] at h

/-- Every entry of an array whose magnitudes compare below `+∞` is finite. -/
theorem finite_of_all {s t u : Shape} {axes : List (Fin s.rank)} (x : FVec Ideal s .f32) (y : FVec Ideal s .f32) (c : IVec u 1)
    (h : s.ReducesTo axes t) (hu : 0 < u.numel) (hy : ∀ i, y i = ⊤) (j : t.Idx) (hj : Subsingleton t.Idx)
    (e : Host.reduce IntOp.andi (cmpf .olt (Host.absf x) y) c h hu j = 1#1) (i : s.Idx) : x i ≠ ⊤ ∧ x i ≠ ⊥ := by
  have h1 := Host.reduce_andi_all (cmpf .olt (Host.absf x) y) c h hu j e i
  have h2 : Ideal.cmp .olt (max (x i) (-(x i))) (y i) = 1#1 := h1
  rw [hy i] at h2
  exact finite_of_lt _ h2

end Attn

end
-- ==== Proof.Mla.Claims.lean ====
/- The claims about the latent attention: its value claim from the two runs. -/
module

public import proofs.«01_k».proof.Defs
public import proofs.«01_k».proof.Proof.Gen.Pre_finite_qk
public import proofs.«01_k».proof.Proof.Mla.Value
public import proofs.«01_k».proof.Proof.Mla.Ref
public import proofs.«01_k».proof.Proof.Math.Finite
public import Idealize.ShloMosaic.Lib.Claim

@[expose] public section

set_option maxRecDepth 16384

noncomputable section

namespace Cert.MlaClaims

open Idealize.ShloMosaic Idealize.SL.Sem Attn Attn.Mla

/-- The precondition says that the queries and the keys are finite. -/
theorem finite_args (X Y : Keys) (Z : Vals) (h : Cert.Pre_finite_qk.fn (F := Ideal) X Y Z = fun _ => 1#1) : Finite X ∧ Finite Y := by
  have h0 : _ = (1#1 : BitVec 1) := congrFun h ix0
  unfold Cert.Pre_finite_qk.fn at h0
  obtain ⟨h1, h2⟩ := IntOp.andi_eq_one.1 h0
  have hs : Subsingleton (Cert.Pre_finite_qk.S_).Idx := ⟨fun a b => funext fun x => x.elim0⟩
  exact ⟨fun i => finite_of_all _ _ _ _ _ (fun _ => pos_inf) _ hs h1 i, fun i => finite_of_all _ _ _ _ _ (fun _ => pos_inf) _ hs h2 i⟩

/-- The kernel's array is the reference's, at finite queries and keys. -/
theorem agree (X Y : Keys) (Z : Vals) (hX : Finite X) (hY : Finite Y) :
    Cert.MlaRefIdeal.Pure.REF X Y Z = Cert.MlaIdeal.Value.G X Y Z := by
  funext j
  obtain ⟨b, i, c, rfl⟩ : ∃ (b : Fin 2) (i : Fin 8192) (c : Fin 1024), j = ix3 b i c := ⟨j 0, j 1, j 2, eq_ix3 j⟩
  exact Cert.MlaRefIdeal.Pure.ref_at X Y Z b i hX hY c

/-- The reference runs and leaves its arguments alone. -/
theorem frame_ref : Cert.quiescent_MlaRefIdeal := by
  intro m g _
  refine (θ_run _ _ _).mono (fun r h => ⟨fun c => (h c).2, ?_⟩) (Cert.MlaRefIdeal.Value.run m g)
  funext s
  rcases s with ⟨_, s | s⟩ <;> exact s.elim0

/-- THE VALUE CLAIM. -/
theorem algebraic : Cert.algebraic_MlaIdeal_MlaRefIdeal_pre_finite_qk := by
  pair_intro
  · run_from Cert.MlaIdeal.Gen.run_main m g
  · run_from Cert.MlaRefIdeal.Value.run m' g'
    obtain ⟨hX, hY⟩ := finite_args _ _ _ (hpre c)
    rw [Cert.MlaIdeal.Value.final m c hX hY]
    exact agree _ _ _ hX hY

end Cert.MlaClaims

end
-- ==== Proof.Diff.Spec.lean ====
/- The differential attention as one formula over the arrays of queries and keys, of values, and of parameters. -/
module

public import proofs.«01_k».proof.Proof.Math.Online
public import Idealize.ShloMosaic.Lib.Pointwise

@[expose] public section

noncomputable section

namespace Attn.Diff

open Idealize.ShloMosaic Finset

/-- A projection of every token of both batches; of the first one the columns are the two groups of queries and the
    two of keys, 512 each, of the second one the first 1024 are the values. -/
abbrev Rows : Type := FVec Ideal ⟨2, ![16384, 2048]⟩ .bf16
/-- The four vectors that make up lambda. -/
abbrev Lams : Type := FVec Ideal ⟨2, ![4, 64]⟩ .f32
/-- The gains of the normalisation. -/
abbrev Gains : Type := FVec Ideal ⟨2, ![1, 128]⟩ .f32

/-- The inner product of query `i` and key `k` of a head, in one of the two groups. -/
def inner (X : Rows) (g b : Fin 2) (h : Fin 8) (i k : Fin 8192) : EReal :=
  ∑ e : Fin 64, X (ix2 ⟨b.val * 8192 + i.val, by omega⟩ ⟨g.val * 512 + h.val * 64 + e.val, by omega⟩)
    * X (ix2 ⟨b.val * 8192 + k.val, by omega⟩ ⟨1024 + g.val * 512 + h.val * 64 + e.val, by omega⟩)

/-- The score of query `i` against key `k`, a real. -/
def score (X : Rows) (g b : Fin 2) (h : Fin 8) (i : Fin 8192) (k : ℕ) : ℝ :=
  if hk : k < 8192 then (inner X g b h i ⟨k, hk⟩).toReal else 0

/-- The value of key `k` in column `d`. -/
def val (Z : Rows) (b : Fin 2) (h : Fin 8) (d : Fin 128) (k : ℕ) : EReal :=
  if hk : k < 8192 then Z (ix2 ⟨b.val * 8192 + k, by omega⟩ ⟨h.val * 128 + d.val, by omega⟩) else 0

/-- The weight of the second softmax. -/
def lam (L : Lams) : EReal :=
  Ideal.exp (∑ e : Fin 64, L (ix2 0 e) * L (ix2 1 e)) - Ideal.exp (∑ e : Fin 64, L (ix2 2 e) * L (ix2 3 e))
    + Ideal.ofBits .f32 0x3E4CCCCD#32

/-- The difference of the two attentions. -/
def mix (X Z : Rows) (L : Lams) (b : Fin 2) (h : Fin 8) (i : Fin 8192) (d : Fin 128) : EReal :=
  (∑ k ∈ range 8192, ((soft (score X 0 b h i) 8192 k : ℝ) : EReal) * val Z b h d k)
    - lam L * ∑ k ∈ range 8192, ((soft (score X 1 b h i) 8192 k : ℝ) : EReal) * val Z b h d k

/-- A row divided by its root mean square, with the gains and the last factor. -/
def norm (o : Fin 128 → EReal) (Γ : Gains) (d : Fin 128) : EReal :=
  o d * Ideal.rsqrt (Ideal.div (∑ e : Fin 128, o e * o e) (Ideal.ofBits .f32 0x43000000#32) + Ideal.ofBits .f32 0x358637BD#32)
    * Γ (ix2 0 d) * Ideal.ofBits .f32 0x3F4CCCCD#32

/-- The queries and the keys are reals. -/
def Finite (X : Rows) : Prop := ∀ i, X i ≠ ⊤ ∧ X i ≠ ⊥

/-- The vectors of lambda are reals. -/
def FiniteLams (L : Lams) : Prop := ∀ i, L i ≠ ⊤ ∧ L i ≠ ⊥

/-- The values are reals. -/
def FiniteVals (Z : Rows) : Prop := ∀ (i : Fin 16384) (j : Fin 1024), Z (ix2 i ⟨j.val, by omega⟩) ≠ ⊤ ∧ Z (ix2 i ⟨j.val, by omega⟩) ≠ ⊥

theorem inner_real {X : Rows} (hX : Finite X) (g b : Fin 2) (h : Fin 8) (i : Fin 8192) {k : ℕ} (hk : k < 8192) :
    inner X g b h i ⟨k, hk⟩ = (score X g b h i k : EReal) := by
  unfold score
  rw [dif_pos hk]
  exact (dot_real _ _ (fun d => hX _) (fun d => hX _)).symm

theorem val_at (Z : Rows) (b : Fin 2) (h : Fin 8) (d : Fin 128) {k : ℕ} (hk : k < 8192) :
    Z (ix2 ⟨b.val * 8192 + k, by omega⟩ ⟨h.val * 128 + d.val, by omega⟩) = val Z b h d k := by
  unfold val
  rw [dif_pos hk]

theorem val_real {Z : Rows} (hZ : FiniteVals Z) (b : Fin 2) (h : Fin 8) (d : Fin 128) (k : ℕ) :
    ((val Z b h d k).toReal : EReal) = val Z b h d k := by
  unfold val
  split
  · exact coe_toReal_of (hZ _ ⟨h.val * 128 + d.val, by omega⟩)
  · simp

/-- Lambda is a real. -/
theorem lam_real {L : Lams} (hL : FiniteLams L) : ((lam L).toReal : EReal) = lam L := by
  unfold lam
  rw [← dot_real _ _ (fun e => hL (ix2 0 e)) (fun e => hL (ix2 1 e)), ← dot_real _ _ (fun e => hL (ix2 2 e)) (fun e => hL (ix2 3 e)),
    exp_coe, exp_coe, ← EReal.coe_sub]
  have hc : ∃ r : ℝ, Ideal.ofBits .f32 0x3E4CCCCD#32 = (r : EReal) := ⟨_, by simp [Ideal.ofBits, Ideal.ieee]; rfl⟩
  obtain ⟨r, hr⟩ := hc
  rw [hr, ← EReal.coe_add, EReal.toReal_coe]

/-- The difference of two softmaxes, applied to real values, is the difference of the two attentions. -/
theorem sum_sub (N : ℕ) (w w' : ℕ → ℝ) (v : ℕ → EReal) (l : EReal) (hv : ∀ k, ((v k).toReal : EReal) = v k)
    (hl : (l.toReal : EReal) = l) :
    ∑ k ∈ range N, (((w k : ℝ) : EReal) - l * ((w' k : ℝ) : EReal)) * v k
      = (∑ k ∈ range N, ((w k : ℝ) : EReal) * v k) - l * ∑ k ∈ range N, ((w' k : ℝ) : EReal) * v k := by
  have e1 : ∀ k, (((w k : ℝ) : EReal) - l * ((w' k : ℝ) : EReal)) * v k = ((((w k) - l.toReal * w' k) * (v k).toReal : ℝ) : EReal) := fun k => by
    rw [EReal.coe_mul, EReal.coe_sub, EReal.coe_mul, hv, hl]
  have e2 : ∀ (u : ℕ → ℝ) k, ((u k : ℝ) : EReal) * v k = ((u k * (v k).toReal : ℝ) : EReal) := fun u k => by
    rw [EReal.coe_mul, hv]
  simp only [e1, e2 w, e2 w', ← coe_sum]
  rw [← hl, ← EReal.coe_mul, ← EReal.coe_sub, EReal.toReal_coe]
  congr 1
  rw [mul_sum, ← sum_sub_distrib]
  exact sum_congr rfl fun k _ => by ring

end Attn.Diff

end
-- ==== Proof.Diff.Block.lean ====
/- One block of the differential attention's kernel: 512 queries of a head against its 8192 keys in four chunks of
   2048, for each of the two softmaxes, each intermediate read at one query row and one value column. -/
module

public import proofs.«01_k».proof.Proof.Gen.DiffIdeal.Skeleton
public import proofs.«01_k».proof.Proof.Diff.Spec
public import proofs.«01_k».proof.Proof.Math.Ops

@[expose] public section

set_option maxRecDepth 16384

noncomputable section

open Idealize.ShloMosaic Idealize.ShloMosaic.TcCoe

namespace Cert.DiffIdeal.Block

open Cert.DiffIdeal Cert.DiffIdeal.Gen Attn

variable (Q : FVec Ideal S512x128 .bf16) (K V : FVec Ideal S2048x128 .bf16)
  (M L : FVec Ideal S512x1 .f32) (A : FVec Ideal S512x128 .f32)
  (r : Fin 512) (k : Fin 2048) (d : Fin 128)

/-- The score of query row `r` and key `k` of a chunk. -/
def sc (Q : FVec Ideal S512x128 .bf16) (K : FVec Ideal S2048x128 .bf16) (r : Fin 512) (k : Fin 2048) : EReal :=
  ∑ e : Fin 128, Q (ix2 r e) * K (ix2 k e)

/-! The operations between shapes. -/

/-- A column read at a row. -/
theorem col_at (X : FVec Ideal S512 .f32) : shapeCast S512x1 X shapeCasts_S512_S512x1 (ix2 r 0) = X (ix1 r) := by pointwise []

/-- A column spread over the keys, -/
theorem spread_at (X : FVec Ideal S512x1 .f32) :
    broadcastTo S512x2048 X broadcasts_S512x1_S512x2048 (ix2 r k) = X (ix2 r 0) := by pointwise []

/-- … and over the value columns. -/
theorem spread_at' (X : FVec Ideal S512x1 .f32) :
    broadcastTo S512x128 X broadcasts_S512x1_S512x128 (ix2 r d) = X (ix2 r 0) := by pointwise []

/-- The maxima of the rows, -/
def rowMax (X : FVec Ideal S512x2048 .f32) : FVec Ideal S512 .f32 :=
  multiReduction .maximumf [1] S512 X 0xFF800000#32 reduces_S512x2048_S512 (.inl rfl) rfl

/-- … at a row. -/
theorem max_at (X : FVec Ideal S512x2048 .f32) : rowMax X (ix1 r) = Finset.univ.fold max ⊥ fun k : Fin 2048 => X (ix2 r k) := by
  pointwise [rowMax]
  rw [neg_inf]

/-- The sums of the rows, -/
def rowSum (X : FVec Ideal S512x2048 .f32) : FVec Ideal S512 .f32 :=
  multiReduction .add [1] S512 X 0x00000000#32 reduces_S512x2048_S512 (.inl rfl) rfl

/-- … at a row. -/
theorem sum_at (X : FVec Ideal S512x2048 .f32) : rowSum X (ix1 r) = ∑ k : Fin 2048, X (ix2 r k) := by
  pointwise [rowSum]

/-- The weights' product with a chunk of values, -/
def dotv (X : FVec Ideal S512x2048 .f32) (V : FVec Ideal S2048x128 .bf16) : FVec Ideal S512x128 .f32 :=
  matmul dot_S512x2048_S2048x128_S512x128_1_0_0_1_n_n none (truncf .bf16 X bitsLt_bf16_f32) V (constant S512x128 .f32 0x00000000#32)

/-- … at a row and a column. -/
theorem dotv_at (X : FVec Ideal S512x2048 .f32) : dotv X V (ix2 r d) = ∑ k : Fin 2048, X (ix2 r k) * V (ix2 k d) := by
  pointwise [dotv]

/-! A chunk, over the level, the sum and the weighted sum before it. -/

/-- The scores, -/
def scores (Q : FVec Ideal S512x128 .bf16) (K : FVec Ideal S2048x128 .bf16) : FVec Ideal S512x2048 .f32 :=
  matmul dot_S512x128_S2048x128_S512x2048_1_1_0_0_n_n none Q K (constant S512x2048 .f32 0x00000000#32)

/-- … at a row and a key. -/
theorem scores_at : scores Q K (ix2 r k) = sc Q K r k := by
  pointwise [scores]
  rfl

/-- The level after the chunk, -/
def lev (M : FVec Ideal S512x1 .f32) (Q : FVec Ideal S512x128 .bf16) (K : FVec Ideal S2048x128 .bf16) : FVec Ideal S512x1 .f32 :=
  maximumf M (shapeCast S512x1 (rowMax (scores Q K)) shapeCasts_S512_S512x1)

/-- … at a row. -/
theorem lev_at : lev M Q K (ix2 r 0) = max (M (ix2 r 0)) (Finset.univ.fold max ⊥ (sc Q K r)) := by
  unfold lev
  rw [maxi_at, col_at, max_at]
  simp only [scores_at]

/-- What rescales the sums before the chunk. -/
def fac (M : FVec Ideal S512x1 .f32) (Q : FVec Ideal S512x128 .bf16) (K : FVec Ideal S2048x128 .bf16) : FVec Ideal S512x1 .f32 :=
  exp2 (subf M (lev M Q K))

/-- The weights of the chunk. -/
def wts (M : FVec Ideal S512x1 .f32) (Q : FVec Ideal S512x128 .bf16) (K : FVec Ideal S2048x128 .bf16) : FVec Ideal S512x2048 .f32 :=
  exp2 (subf (scores Q K) (broadcastTo S512x2048 (lev M Q K) broadcasts_S512x1_S512x2048))

/-- The sum of the weights after the chunk. -/
def tot (M L : FVec Ideal S512x1 .f32) (Q : FVec Ideal S512x128 .bf16) (K : FVec Ideal S2048x128 .bf16) : FVec Ideal S512x1 .f32 :=
  addf (mulf (fac M Q K) L) (shapeCast S512x1 (rowSum (wts M Q K)) shapeCasts_S512_S512x1)

/-- The weighted sum of the values after the chunk. -/
def acc (M : FVec Ideal S512x1 .f32) (A : FVec Ideal S512x128 .f32) (Q : FVec Ideal S512x128 .bf16)
    (K V : FVec Ideal S2048x128 .bf16) : FVec Ideal S512x128 .f32 :=
  addf (mulf (broadcastTo S512x128 (fac M Q K) broadcasts_S512x1_S512x128) A) (dotv (wts M Q K) V)

theorem fac_at : fac M Q K (ix2 r 0) = Ideal.exp2 (M (ix2 r 0) - lev M Q K (ix2 r 0)) := by
  unfold fac
  rw [exp2i_at, subi_at]

theorem wts_at : wts M Q K (ix2 r k) = Ideal.exp2 (sc Q K r k - lev M Q K (ix2 r 0)) := by
  unfold wts
  rw [exp2i_at, subi_at, spread_at, scores_at]

theorem tot_at : tot M L Q K (ix2 r 0) = Ideal.exp2 (M (ix2 r 0) - lev M Q K (ix2 r 0)) * L (ix2 r 0)
    + ∑ k, Ideal.exp2 (sc Q K r k - lev M Q K (ix2 r 0)) := by
  unfold tot
  rw [addi_at, muli_at, col_at, sum_at, fac_at]
  simp only [wts_at]

theorem acc_at : acc M A Q K V (ix2 r d) = Ideal.exp2 (M (ix2 r 0) - lev M Q K (ix2 r 0)) * A (ix2 r d)
    + ∑ k, Ideal.exp2 (sc Q K r k - lev M Q K (ix2 r 0)) * V (ix2 k d) := by
  unfold acc
  rw [addi_at, muli_at, spread_at', dotv_at, fac_at]
  simp only [wts_at]

/-! The body's computations are these. -/

variable (m : IVec S512x128 1) (q : FVec Ideal S512x128 .bf16)

theorem p9 : k0_pay9 (F := Ideal) Q K = lev k0_pay5 Q K := rfl
theorem p12 : k0_pay12 (F := Ideal) Q K = tot k0_pay5 k0_pay6 Q K := rfl
theorem p13 : k0_pay13 (F := Ideal) Q V K = acc k0_pay5 k0_pay7 Q K V := rfl
theorem p14 : k0_pay14 (F := Ideal) m q K = scores (k0_pay4 (F := Ideal) m q) K := rfl
theorem p15 : k0_pay15 (F := Ideal) m q K = lev k0_pay5 (k0_pay4 (F := Ideal) m q) K := rfl
theorem p16 : k0_pay16 (F := Ideal) m q K = fac k0_pay5 (k0_pay4 (F := Ideal) m q) K := rfl
theorem p18 : k0_pay18 (F := Ideal) L (scores Q K) (lev M Q K) (fac M Q K) = tot M L Q K := rfl
theorem p19 : k0_pay19 (F := Ideal) A V (scores Q K) (lev M Q K) (fac M Q K) = acc M A Q K V := rfl
theorem p21 : k0_pay21 (F := Ideal) Q M K = lev M Q K := rfl
theorem p24 : k0_pay24 (F := Ideal) Q M L K = tot M L Q K := rfl
theorem p25 : k0_pay25 (F := Ideal) Q M A V K = acc M A Q K V := rfl
theorem p26 : k0_pay26 (F := Ideal) Q K = scores Q K := rfl
theorem p27 : k0_pay27 (F := Ideal) Q K = shapeCast S512x1 (rowMax (scores Q K)) shapeCasts_S512_S512x1 := rfl
theorem p28 : k0_pay28 (F := Ideal) M (shapeCast S512x1 (rowMax (scores Q K)) shapeCasts_S512_S512x1) = lev M Q K := rfl
theorem p31 : k0_pay31 (F := Ideal) M L (scores Q K) (shapeCast S512x1 (rowMax (scores Q K)) shapeCasts_S512_S512x1) = tot M L Q K := rfl
theorem p32 : k0_pay32 (F := Ideal) M A V (scores Q K) (shapeCast S512x1 (rowMax (scores Q K)) shapeCasts_S512_S512x1)
    = acc M A Q K V := rfl
theorem p34 : k0_pay34 (F := Ideal) Q M K = lev M Q K := rfl
theorem p37 : k0_pay37 (F := Ideal) Q M L K = tot M L Q K := rfl
theorem p38 : k0_pay38 (F := Ideal) Q M A V K = acc M A Q K V := rfl
theorem p39 : k0_pay39 (F := Ideal) Q K = scores Q K := rfl
theorem p40 : k0_pay40 (F := Ideal) M (scores Q K) = lev M Q K := rfl
theorem p43 : k0_pay43 (F := Ideal) M L (scores Q K) = tot M L Q K := rfl
theorem p44 : k0_pay44 (F := Ideal) M A V (scores Q K) = acc M A Q K V := rfl
theorem p49 : k0_pay49 (F := Ideal) Q M L K = tot M L Q K := rfl
theorem p50 : k0_pay50 (F := Ideal) Q M A V K = acc M A Q K V := rfl

/-- The weight of the second softmax, -/
def lamv (B : FVec Ideal S4x64 .f32) : FVec Ideal S1x1 .f32 :=
  addf (subf
    (exp (shapeCast S1x1 (multiReduction .add [1] S1 (mulf (extractStridedSlice S1x64 ![0, 0] B slices_S4x64_o0_0_S1x64)
      (extractStridedSlice S1x64 ![1, 0] B slices_S4x64_o1_0_S1x64)) 0x00000000#32 reduces_S1x64_S1 (.inl rfl) rfl) shapeCasts_S1_S1x1))
    (exp (shapeCast S1x1 (multiReduction .add [1] S1 (mulf (extractStridedSlice S1x64 ![2, 0] B slices_S4x64_o2_0_S1x64)
      (extractStridedSlice S1x64 ![3, 0] B slices_S4x64_o3_0_S1x64)) 0x00000000#32 reduces_S1x64_S1 (.inl rfl) rfl) shapeCasts_S1_S1x1)))
    (broadcast S1x1 (Ideal.ofBits .f32 0x3E4CCCCD#32))

/-- … is lambda. -/
theorem lamv_at (B : FVec Ideal S4x64 .f32) : lamv B (ix2 0 0) = Diff.lam B := by
  pointwise [lamv]
  rfl

/-- The difference of the two quotients. -/
def mixv (L₁ : FVec Ideal S512x1 .f32) (A₁ : FVec Ideal S512x128 .f32) (L₂ : FVec Ideal S512x1 .f32) (A₂ : FVec Ideal S512x128 .f32)
    (B : FVec Ideal S4x64 .f32) : FVec Ideal S512x128 .f32 :=
  subf (divf A₁ (broadcastTo S512x128 L₁ broadcasts_S512x1_S512x128))
    (mulf (broadcastTo S512x128 (lamv B) broadcasts_S1x1_S512x128) (divf A₂ (broadcastTo S512x128 L₂ broadcasts_S512x1_S512x128)))

theorem lam_spread_at (X : FVec Ideal S1x1 .f32) : broadcastTo S512x128 X broadcasts_S1x1_S512x128 (ix2 r d) = X (ix2 0 0) := by
  pointwise []

theorem mixv_at (L₁ : FVec Ideal S512x1 .f32) (A₁ : FVec Ideal S512x128 .f32) (L₂ : FVec Ideal S512x1 .f32) (A₂ : FVec Ideal S512x128 .f32)
    (B : FVec Ideal S4x64 .f32) : mixv L₁ A₁ L₂ A₂ B (ix2 r d)
      = Ideal.div (A₁ (ix2 r d)) (L₁ (ix2 r 0)) - Diff.lam B * Ideal.div (A₂ (ix2 r d)) (L₂ (ix2 r 0)) := by
  unfold mixv
  rw [subi_at, muli_at, divi_at, divi_at, spread_at', spread_at', lam_spread_at, lamv_at]

variable (L₁ : FVec Ideal S512x1 .f32) (A₁ : FVec Ideal S512x128 .f32) (B : FVec Ideal S4x64 .f32)

theorem p51 : k0_pay51 (F := Ideal) Q M L A V L₁ A₁ K B = mixv L₁ A₁ (tot M L Q K) (acc M A Q K V) B := rfl

/-- The sums of the squares of the rows. -/
def squares (O : FVec Ideal S512x128 .f32) : FVec Ideal S512x1 .f32 :=
  shapeCast S512x1 (multiReduction .add [1] S512 (mulf O O) 0x00000000#32 reduces_S512x128_S512 (.inl rfl) rfl) shapeCasts_S512_S512x1

theorem squares_at (O : FVec Ideal S512x128 .f32) : squares O (ix2 r 0) = ∑ e : Fin 128, O (ix2 r e) * O (ix2 r e) := by
  pointwise [squares]

theorem p52 : k0_pay52 (F := Ideal) Q M L A V L₁ A₁ K B = squares (k0_pay51 (F := Ideal) Q M L A V L₁ A₁ K B) := rfl

/-- What the body stores: the rows normalised. -/
theorem store_at (O : FVec Ideal S512x128 .f32) (Γ : FVec Ideal S1x128 .f32) (u : Fin 1) :
    k0_pay1 (F := Ideal) O Γ (squares O) (Ideal.ofBits .f32 0x43000000#32) (ix3 u r d) = Diff.norm (fun e => O (ix2 r e)) Γ d := by
  unfold Diff.norm
  rw [← squares_at]
  pointwise [k0_pay1]

/-! The mask on the queries: of the two heads in a block of 128 columns it keeps the one the step is at. -/

theorem mask_at (i : grid0.Coords) : k0_pay2 i (ix2 r d) = if d.val / 64 = (i 1).val % 2 then 1#1 else 0#1 := by
  pointwise [k0_pay2]
  obtain ⟨j, hj⟩ : ∃ j : Fin 8, j.val = (i 1).val := ⟨i 1, rfl⟩
  rw [← hj]
  clear hj
  revert d j
  decide +kernel

/-- The masked queries' product with the keys is the product over the 64 columns of one head. -/
theorem masked_sum (p : ℕ) (hp : p < 2) (a b : Fin 128 → EReal) :
    ∑ e : Fin 128, (if e.val / 64 = p then a e else 0) * b e
      = ∑ e : Fin 64, a ⟨p * 64 + e.val, by omega⟩ * b ⟨p * 64 + e.val, by omega⟩ := by
  symm
  refine Finset.sum_of_injOn (fun e : Fin 64 => (⟨p * 64 + e.val, by omega⟩ : Fin 128)) ?_ (fun _ _ => Finset.mem_univ _) ?_ ?_
  · intro x _ y _ h
    have := congrArg Fin.val h
    exact Fin.ext (by simpa using this)
  · intro e _ he
    rw [if_neg, zero_mul]
    intro h
    exact he ⟨⟨e.val - p * 64, by omega⟩, Finset.mem_coe.2 (Finset.mem_univ _), Fin.ext (by show p * 64 + (e.val - p * 64) = e.val; omega)⟩
  · intro e _
    rw [if_pos (by show (p * 64 + e.val) / 64 = p; omega)]

theorem masked_at (i : grid0.Coords) : k0_pay4 (F := Ideal) (k0_pay2 i) q (ix2 r d)
    = if d.val / 64 = (i 1).val % 2 then q (ix2 r d) else 0 := by
  have h : k0_pay4 (F := Ideal) (k0_pay2 i) q (ix2 r d) = if k0_pay2 i (ix2 r d) = 1#1 then q (ix2 r d) else 0 := by
    pointwise [k0_pay4]
    rfl
  rw [h, mask_at]
  split <;> simp

/-- The score against the masked queries. -/
theorem sc_masked (i : grid0.Coords) : sc (k0_pay4 (F := Ideal) (k0_pay2 i) q) K r k
    = ∑ e : Fin 64, q (ix2 r ⟨(i 1).val % 2 * 64 + e.val, by omega⟩) * K (ix2 k ⟨(i 1).val % 2 * 64 + e.val, by omega⟩) := by
  unfold sc
  simp only [masked_at]
  exact masked_sum _ (by omega) _ _

theorem p3 (i : grid0.Coords) : k0_pay3 (F := Ideal) i q = k0_pay4 (k0_pay2 i) q := rfl

/-! The invariant of the online softmax. -/

theorem p5_at : k0_pay5 (F := Ideal) (ix2 r 0) = ⊥ := by
  pointwise [k0_pay5]
  exact neg_inf

theorem p6_at : k0_pay6 (F := Ideal) (ix2 r 0) = 0 := by
  pointwise [k0_pay6]

theorem p7_at : k0_pay7 (F := Ideal) (ix2 r d) = 0 := by
  pointwise [k0_pay7]

section
variable {Q K V M L A r d}

/-- After the first chunk. -/
theorem inv_first {s : ℕ → ℝ} {v : ℕ → EReal} (hs : ∀ k : Fin 2048, sc Q K r k = (s k : EReal))
    (hv : ∀ k : Fin 2048, V (ix2 k d) = v k) :
    Inv 2048 s v (lev k0_pay5 Q K (ix2 r 0)) (tot k0_pay5 k0_pay6 Q K (ix2 r 0)) (acc k0_pay5 k0_pay7 Q K V (ix2 r d)) := by
  rw [tot_at, acc_at, lev_at, p5_at, p6_at, p7_at]
  exact first (by norm_num) hs hv rfl

/-- After a later chunk. -/
theorem inv_step {N : ℕ} {s : ℕ → ℝ} {v : ℕ → EReal} (hi : Inv N s v (M (ix2 r 0)) (L (ix2 r 0)) (A (ix2 r d)))
    (hs : ∀ k : Fin 2048, sc Q K r k = (s (N + k) : EReal))
    (hv : ∀ k : Fin 2048, V (ix2 k d) = v (N + k)) :
    Inv (N + 2048) s v (lev M Q K (ix2 r 0)) (tot M L Q K (ix2 r 0)) (acc M A Q K V (ix2 r d)) := by
  rw [tot_at, acc_at, lev_at]
  exact step hi hs hv rfl

end

/-- The level after the first three chunks, -/
def lev3 (Q : FVec Ideal S512x128 .bf16) (K₀ K₁ K₂ : FVec Ideal S2048x128 .bf16) : FVec Ideal S512x1 .f32 :=
  lev (lev (lev k0_pay5 Q K₀) Q K₁) Q K₂

/-- … the sum of the weights after them -/
def tot3 (Q : FVec Ideal S512x128 .bf16) (K₀ K₁ K₂ : FVec Ideal S2048x128 .bf16) : FVec Ideal S512x1 .f32 :=
  tot (lev (lev k0_pay5 Q K₀) Q K₁) (tot (lev k0_pay5 Q K₀) (tot k0_pay5 k0_pay6 Q K₀) Q K₁) Q K₂

/-- … and the weighted sum of the values. -/
def acc3 (Q : FVec Ideal S512x128 .bf16) (K₀ K₁ K₂ V₀ V₁ V₂ : FVec Ideal S2048x128 .bf16) : FVec Ideal S512x128 .f32 :=
  acc (lev (lev k0_pay5 Q K₀) Q K₁) (acc (lev k0_pay5 Q K₀) (acc k0_pay5 k0_pay7 Q K₀ V₀) Q K₁ V₁) Q K₂ V₂

/-- The quotient after all four chunks is the softmax-weighted sum of the values. -/
theorem quotient {Q : FVec Ideal S512x128 .bf16} {K₀ K₁ K₂ K₃ V₀ V₁ V₂ V₃ : FVec Ideal S2048x128 .bf16} {r : Fin 512} {d : Fin 128}
    {s : ℕ → ℝ} {v : ℕ → EReal}
    (hs₀ : ∀ k : Fin 2048, sc Q K₀ r k = (s k : EReal)) (hs₁ : ∀ k : Fin 2048, sc Q K₁ r k = (s (2048 + k) : EReal))
    (hs₂ : ∀ k : Fin 2048, sc Q K₂ r k = (s (4096 + k) : EReal)) (hs₃ : ∀ k : Fin 2048, sc Q K₃ r k = (s (6144 + k) : EReal))
    (hv₀ : ∀ k : Fin 2048, V₀ (ix2 k d) = v k) (hv₁ : ∀ k : Fin 2048, V₁ (ix2 k d) = v (2048 + k))
    (hv₂ : ∀ k : Fin 2048, V₂ (ix2 k d) = v (4096 + k)) (hv₃ : ∀ k : Fin 2048, V₃ (ix2 k d) = v (6144 + k)) :
    Ideal.div (acc (lev3 Q K₀ K₁ K₂) (acc3 Q K₀ K₁ K₂ V₀ V₁ V₂) Q K₃ V₃ (ix2 r d))
      (tot (lev3 Q K₀ K₁ K₂) (tot3 Q K₀ K₁ K₂) Q K₃ (ix2 r 0))
      = ∑ k ∈ Finset.range 8192, ((soft s 8192 k : ℝ) : EReal) * v k :=
  finish (by norm_num) (inv_step (inv_step (inv_step (inv_first hs₀ hv₀) hs₁ hv₁) hs₂ hv₂) hs₃ hv₃)

end Cert.DiffIdeal.Block

end
-- ==== Proof.Diff.Value.lean ====
/- The array the differential attention's kernel leaves: every block is the formula of `Spec` at the places the block
   covers, and the blocks cover the array. -/
module

public import proofs.«01_k».proof.Proof.Gen.DiffIdeal.Value
public import proofs.«01_k».proof.Proof.Diff.Block
public import proofs.«01_k».proof.Proof.Diff.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DiffIdeal.Value

open Cert.DiffIdeal Cert.DiffIdeal.Gen Cert.DiffIdeal.Block Attn Attn.Diff

variable (m : (ℓ : Loc nD τ sig) → Buf (Elt Ideal) ℓ)

/-- Where the blocks of a grid point sit: batch, head and query tile from the point's number. -/
theorem idx : ∀ t : Fin cfg0.N, win0_0.index t = ![t.val / 128 * 16 + t.val % 16, t.val / 16 % 8 / 2]
    ∧ win0_1.index t = ![t.val / 128 * 16 + t.val % 16, 4 + t.val / 16 % 8 / 2]
    ∧ win0_2.index t = ![t.val / 128, 8 + t.val / 16 % 8 / 2]
    ∧ win0_3.index t = ![t.val / 128, 12 + t.val / 16 % 8 / 2]
    ∧ win0_4.index t = ![t.val / 128, t.val / 16 % 8]
    ∧ win0_5.index t = ![0, 0] ∧ win0_6.index t = ![0, 0]
    ∧ win0_7.index t = ![t.val / 128, t.val % 16, t.val / 16 % 8] ∧ (grid0.coords t 1).val = t.val / 16 % 8 ∧ t.val < 256 :=
  (by decide +kernel : ∀ t : Fin grid0.N, _)

/-- The formula at a place of the result. -/
def out (X Z : Rows) (L : Lams) (Γ : Gains) (b : Fin 2) (h : Fin 8) (i : Fin 8192) (d : Fin 128) : EReal :=
  norm (fun e => mix X Z L b h i e) Γ d

/-- The result as one function of the argument arrays. -/
def G (X Z : Rows) (L : Lams) (Γ : Gains) : FVec Ideal S2x8192x1024 .bf16 := fun j =>
  out X Z L Γ (j 0) ⟨(j 2 : ℕ) / 128, by have := (j 2).isLt; simp at this; omega⟩ (j 1) ⟨(j 2 : ℕ) % 128, by omega⟩

theorem out_congr (X Z : Rows) (L : Lams) (Γ : Gains) {b b' : Fin 2} {h h' : Fin 8} {i i' : Fin 8192} {d d' : Fin 128}
    (hb : b.val = b'.val) (hh : h.val = h'.val) (hi : i.val = i'.val) (hd : d.val = d'.val) :
    out X Z L Γ b h i d = out X Z L Γ b' h' i' d' := by
  rw [Fin.ext hb, Fin.ext hh, Fin.ext hi, Fin.ext hd]

/-- The result at an index whose coordinates are known. -/
theorem G_of (X Z : Rows) (L : Lams) (Γ : Gains) (j : S2x8192x1024.Idx) (b : Fin 2) (h : Fin 8) (i : Fin 8192) (d : Fin 128)
    (hb : (j 0 : ℕ) = b.val) (hi : (j 1 : ℕ) = i.val) (hd : (j 2 : ℕ) = h.val * 128 + d.val) :
    out X Z L Γ b h i d = G X Z L Γ j :=
  out_congr X Z L Γ hb.symm (show h.val = (j 2 : ℕ) / 128 by rw [hd]; omega) hi.symm
    (show d.val = (j 2 : ℕ) % 128 by rw [hd]; omega)

/-- A chunk's score, from a block of queries and a block of keys of a group. -/
theorem sc_block {X : Rows} (hX : Finite X) (g : Fin 2) (t : Fin cfg0.N) (r : Fin 512) (b : Fin 2) (h : Fin 8) (i : Fin 8192)
    (hh : h.val = t.val / 16 % 8) (q : FVec Ideal S512x128 .bf16) (κ : FVec Ideal S8192x128 .bf16) (o : ℕ) (ho : o + 2048 ≤ 8192)
    (hq : ∀ e : Fin 64, q (ix2 r ⟨(grid0.coords t 1).val % 2 * 64 + e.val, by omega⟩)
      = X (ix2 ⟨b.val * 8192 + i.val, by omega⟩ ⟨g.val * 512 + h.val * 64 + e.val, by omega⟩))
    (hκ : ∀ (k : Fin 8192) (e : Fin 64), κ (ix2 k ⟨(grid0.coords t 1).val % 2 * 64 + e.val, by omega⟩)
      = X (ix2 ⟨b.val * 8192 + k.val, by omega⟩ ⟨1024 + g.val * 512 + h.val * 64 + e.val, by omega⟩))
    (K : FVec Ideal S2048x128 .bf16) (hK : ∀ (k : Fin 2048) (e : Fin 128), K (ix2 k e) = κ (ix2 ⟨o + k.val, by omega⟩ e)) (k : Fin 2048) :
    sc (k0_pay4 (F := Ideal) (k0_pay2 (grid0.coords t)) q) K r k = (score X g b h i (o + k.val) : EReal) := by
  rw [← inner_real hX g b h i (show o + k.val < 8192 by omega), sc_masked]
  unfold Diff.inner
  refine Finset.sum_congr rfl fun e _ => ?_
  rw [hq, hK, hκ]

/-- A chunk's value, from the blocks. -/
theorem val_block (c : Dev nD) (t : Fin cfg0.N) (b : Fin 2) (h : Fin 8) (d : Fin 128)
    (hb : b.val = t.val / 128) (hh : h.val = t.val / 16 % 8)
    (W : FVec Ideal S2048x128 .bf16) (o : ℕ) (ho : o + 2048 ≤ 8192)
    (hW : ∀ (k : Fin 2048), W (ix2 k d) = (iblk m c 4 t : FVec Ideal S8192x128 .bf16) (ix2 ⟨o + k.val, by omega⟩ d)) (k : Fin 2048) :
    W (ix2 k d) = val (m ((c : Thread nD τ).loc main_arg1)) b h d (o + k.val) := by
  rw [← val_at _ b h d (show o + k.val < 8192 by omega), hW]
  blk_ext [iblk, V, idx t]

/-- The difference of the two attentions, from the blocks. -/
theorem mix_block (c : Dev nD) (t : Fin cfg0.N) (r : Fin 512) (d : Fin 128)
    (hX : Finite (m ((c : Thread nD τ).loc main_arg0))) (b : Fin 2) (h : Fin 8) (i : Fin 8192)
    (hb : b.val = t.val / 128) (hh : h.val = t.val / 16 % 8) (hi : i.val = t.val % 16 * 512 + r.val)
    (J₀ J₁ J₂ J₃ K₀ K₁ K₂ K₃ V₀ V₁ V₂ V₃ : FVec Ideal S2048x128 .bf16)
    (hJ₀ : ∀ (k : Fin 2048) (e : Fin 128), J₀ (ix2 k e) = (iblk m c 2 t : FVec Ideal S8192x128 .bf16) (ix2 ⟨0 + k.val, by omega⟩ e))
    (hJ₁ : ∀ (k : Fin 2048) (e : Fin 128), J₁ (ix2 k e) = (iblk m c 2 t : FVec Ideal S8192x128 .bf16) (ix2 ⟨2048 + k.val, by omega⟩ e))
    (hJ₂ : ∀ (k : Fin 2048) (e : Fin 128), J₂ (ix2 k e) = (iblk m c 2 t : FVec Ideal S8192x128 .bf16) (ix2 ⟨4096 + k.val, by omega⟩ e))
    (hJ₃ : ∀ (k : Fin 2048) (e : Fin 128), J₃ (ix2 k e) = (iblk m c 2 t : FVec Ideal S8192x128 .bf16) (ix2 ⟨6144 + k.val, by omega⟩ e))
    (hK₀ : ∀ (k : Fin 2048) (e : Fin 128), K₀ (ix2 k e) = (iblk m c 3 t : FVec Ideal S8192x128 .bf16) (ix2 ⟨0 + k.val, by omega⟩ e))
    (hK₁ : ∀ (k : Fin 2048) (e : Fin 128), K₁ (ix2 k e) = (iblk m c 3 t : FVec Ideal S8192x128 .bf16) (ix2 ⟨2048 + k.val, by omega⟩ e))
    (hK₂ : ∀ (k : Fin 2048) (e : Fin 128), K₂ (ix2 k e) = (iblk m c 3 t : FVec Ideal S8192x128 .bf16) (ix2 ⟨4096 + k.val, by omega⟩ e))
    (hK₃ : ∀ (k : Fin 2048) (e : Fin 128), K₃ (ix2 k e) = (iblk m c 3 t : FVec Ideal S8192x128 .bf16) (ix2 ⟨6144 + k.val, by omega⟩ e))
    (hV₀ : ∀ (k : Fin 2048) (e : Fin 128), V₀ (ix2 k e) = (iblk m c 4 t : FVec Ideal S8192x128 .bf16) (ix2 ⟨0 + k.val, by omega⟩ e))
    (hV₁ : ∀ (k : Fin 2048) (e : Fin 128), V₁ (ix2 k e) = (iblk m c 4 t : FVec Ideal S8192x128 .bf16) (ix2 ⟨2048 + k.val, by omega⟩ e))
    (hV₂ : ∀ (k : Fin 2048) (e : Fin 128), V₂ (ix2 k e) = (iblk m c 4 t : FVec Ideal S8192x128 .bf16) (ix2 ⟨4096 + k.val, by omega⟩ e))
    (hV₃ : ∀ (k : Fin 2048) (e : Fin 128), V₃ (ix2 k e) = (iblk m c 4 t : FVec Ideal S8192x128 .bf16) (ix2 ⟨6144 + k.val, by omega⟩ e))
    (P Q : FVec Ideal S512x128 .bf16) (hP : P = k0_pay4 (k0_pay2 (grid0.coords t)) (iblk m c 0 t))
    (hQ : Q = k0_pay4 (k0_pay2 (grid0.coords t)) (iblk m c 1 t)) (B : FVec Ideal S4x64 .f32)
    (hB : B = m ((c : Thread nD τ).loc main_arg2)) :
    mixv (tot (lev3 P J₀ J₁ J₂) (tot3 P J₀ J₁ J₂) P J₃) (acc (lev3 P J₀ J₁ J₂) (acc3 P J₀ J₁ J₂ V₀ V₁ V₂) P J₃ V₃)
        (tot (lev3 Q K₀ K₁ K₂) (tot3 Q K₀ K₁ K₂) Q K₃) (acc (lev3 Q K₀ K₁ K₂) (acc3 Q K₀ K₁ K₂ V₀ V₁ V₂) Q K₃ V₃)
        B (ix2 r d)
      = mix (m ((c : Thread nD τ).loc main_arg0)) (m ((c : Thread nD τ).loc main_arg1)) (m ((c : Thread nD τ).loc main_arg2)) b h i d := by
  have ht := (idx t).2.2.2.2.2.2.2.2
  have vkey := val_block m c t b h d hb hh
  have key₁ := fun o ho => sc_block hX 0 t r b h i hh (iblk m c 0 t) (iblk m c 2 t) o ho
    (fun e => by blk_ext [iblk, V, idx t]) (fun k e => by blk_ext [iblk, V, idx t])
  have key₂ := fun o ho => sc_block hX 1 t r b h i hh (iblk m c 1 t) (iblk m c 3 t) o ho
    (fun e => by blk_ext [iblk, V, idx t]) (fun k e => by blk_ext [iblk, V, idx t])
  have hv₀ : ∀ k : Fin 2048, V₀ (ix2 k d) = val (m ((c : Thread nD τ).loc main_arg1)) b h d k := fun k => by
    rw [← Nat.zero_add k.val]; exact vkey V₀ 0 (by omega) (fun k => hV₀ k d) k
  have hv₁ := vkey V₁ 2048 (by omega) fun k => hV₁ k d
  have hv₂ := vkey V₂ 4096 (by omega) fun k => hV₂ k d
  have hv₃ := vkey V₃ 6144 (by omega) fun k => hV₃ k d
  subst hP hQ hB
  rw [mixv_at, quotient (fun k => by rw [← Nat.zero_add k.val]; exact key₁ 0 (by omega) J₀ hJ₀ k) (key₁ 2048 (by omega) J₁ hJ₁)
      (key₁ 4096 (by omega) J₂ hJ₂) (key₁ 6144 (by omega) J₃ hJ₃) hv₀ hv₁ hv₂ hv₃,
    quotient (fun k => by rw [← Nat.zero_add k.val]; exact key₂ 0 (by omega) K₀ hK₀ k) (key₂ 2048 (by omega) K₁ hK₁)
      (key₂ 4096 (by omega) K₂ hK₂) (key₂ 6144 (by omega) K₃ hK₃) hv₀ hv₁ hv₂ hv₃]
  rfl

/-- THE ARRAY after the run. -/
theorem final (c : Dev nD) (hX : Finite (m ((c : Thread nD τ).loc main_arg0))) :
    (dats m 0 c).arrAt 7 (cfgs 0).N = G (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t _ y => ?_
  blk_simp
  rw [after0_7]; unfold outsAt0; frame_out
  obtain ⟨u, r, d, rfl⟩ : ∃ (u : Fin 1) (r : Fin 512) (d : Fin 128), y = ix3 u r d := ⟨y 0, y 1, y 2, eq_ix3 y⟩
  have ht := (idx t).2.2.2.2.2.2.2.2.2
  have hG := G_of (m ((c : Thread nD τ).loc main_arg0)) (m ((c : Thread nD τ).loc main_arg1))
    (m ((c : Thread nD τ).loc main_arg2)) (m ((c : Thread nD τ).loc main_arg3)) (((View.whole main_v0).slice (win0_7.rect t)).emb (ix3 u r d))
    ⟨t.val / 128, by omega⟩ ⟨t.val / 16 % 8, by omega⟩ ⟨t.val % 16 * 512 + r.val, by omega⟩ d
    (by blk_simp [idx t] <;> omega) (by blk_simp [idx t] <;> omega) (by blk_simp [idx t] <;> omega)
  refine Eq.trans ?_ hG
  have hB : (iblk m c 5 t : FVec Ideal S4x64 .f32) = m ((c : Thread nD τ).loc main_arg2) := by
    funext z
    obtain ⟨a, e, rfl⟩ : ∃ (a : Fin 4) (e : Fin 64), z = ix2 a e := ⟨z 0, z 1, eq_ix2 z⟩
    blk_ext [iblk, V, idx t]
  have hΓ : (iblk m c 6 t : FVec Ideal S1x128 .f32) = m ((c : Thread nD τ).loc main_arg3) := by
    funext z
    obtain ⟨a, e, rfl⟩ : ∃ (a : Fin 1) (e : Fin 128), z = ix2 a e := ⟨z 0, z 1, eq_ix2 z⟩
    blk_ext [iblk, V, idx t]
  simp only [p3, p9, p12, p13, p14, p15, p16, p18, p19, p21, p24, p25, p26, p27, p28, p31, p32, p34, p37, p38, p39, p40, p43, p44, p49,
    p50, p52, p51]
  refine (store_at r d _ _ u).trans ?_
  rw [hΓ]
  unfold out
  refine congrArg (fun f => norm f _ d) (funext fun e => ?_)
  exact mix_block m c t r e hX _ _ _ rfl rfl rfl _ _ _ _ _ _ _ _ _ _ _ _
    (fun k e => by pointwise []) (fun k e => by pointwise []) (fun k e => by pointwise []) (fun k e => by pointwise [])
    (fun k e => by pointwise []) (fun k e => by pointwise []) (fun k e => by pointwise []) (fun k e => by pointwise [])
    (fun k e => by pointwise []) (fun k e => by pointwise []) (fun k e => by pointwise []) (fun k e => by pointwise [])
    _ _ rfl rfl _ hB

end Cert.DiffIdeal.Value

end
-- ==== Proof.Diff.Ref.lean ====
/- The reference's differential attention, each intermediate array read at an index, and in the end the formula of
   `Spec`. Its softmaxes are the ones of the latent attention's reference, over other scores. -/
module

public import proofs.«01_k».proof.Proof.Gen.DiffRefIdeal.Run
public import proofs.«01_k».proof.Proof.Mla.Ref
public import proofs.«01_k».proof.Proof.Diff.Spec
public import proofs.«01_k».proof.Proof.Math.Ops

@[expose] public section

set_option maxRecDepth 16384

noncomputable section

open Idealize.ShloMosaic Idealize.ShloMosaic.TcCoe

namespace Cert.DiffRefIdeal.Pure

open Cert.DiffRefIdeal Cert.DiffRefIdeal.Gen Attn Attn.Diff
open Cert.MlaRefIdeal.Pure (E W E_at W_at scale_at hexp_at hdiv_at)

variable (X Z : Rows) (B : Lams) (Γ : Gains)
  (b : Fin 2) (h : Fin 8) (i k : Fin 8192) (d : Fin 128) (e : Fin 64)

/-- The queries of the first group, by batch, token and head, -/
def Q1 : FVec Ideal S2x8192x8x64 .f32 := shapeCast S2x8192x8x64 (extf .f32 (extractStridedSlice S16384x512 ![0, 0] X
  slices_S16384x2048_S16384x512_0_0) bitsLt_bf16_f32) shapeCasts_S16384x512_S2x8192x8x64
/-- … of the second, -/
def Q2 : FVec Ideal S2x8192x8x64 .f32 := shapeCast S2x8192x8x64 (extf .f32 (extractStridedSlice S16384x512 ![0, 512] X
  slices_S16384x2048_S16384x512_0_512) bitsLt_bf16_f32) shapeCasts_S16384x512_S2x8192x8x64
/-- … the keys of the first -/
def K1 : FVec Ideal S2x8192x8x64 .f32 := shapeCast S2x8192x8x64 (extf .f32 (extractStridedSlice S16384x512 ![0, 1024] X
  slices_S16384x2048_S16384x512_0_1024) bitsLt_bf16_f32) shapeCasts_S16384x512_S2x8192x8x64
/-- … and of the second. -/
def K2 : FVec Ideal S2x8192x8x64 .f32 := shapeCast S2x8192x8x64 (extf .f32 (extractStridedSlice S16384x512 ![0, 1536] X
  slices_S16384x2048_S16384x512_0_1536) bitsLt_bf16_f32) shapeCasts_S16384x512_S2x8192x8x64
/-- The values. -/
def Vs : FVec Ideal S2x8192x8x128 .f32 := shapeCast S2x8192x8x128 (extf .f32 (extractStridedSlice S16384x1024 ![0, 0] Z
  slices_S16384x2048_S16384x1024_0_0) bitsLt_bf16_f32) shapeCasts_S16384x1024_S2x8192x8x128

theorem Q1_at : Q1 X (ix4 b i h e) = X (ix2 ⟨b.val * 8192 + i.val, by omega⟩ ⟨0 * 512 + h.val * 64 + e.val, by omega⟩) := by
  pointwise [Q1]
theorem Q2_at : Q2 X (ix4 b i h e) = X (ix2 ⟨b.val * 8192 + i.val, by omega⟩ ⟨1 * 512 + h.val * 64 + e.val, by omega⟩) := by
  pointwise [Q2]
  exact congrArg X (congrArg (ix2 _) (Fin.ext (Nat.add_assoc _ _ _).symm))
theorem K1_at : K1 X (ix4 b i h e) = X (ix2 ⟨b.val * 8192 + i.val, by omega⟩ ⟨1024 + 0 * 512 + h.val * 64 + e.val, by omega⟩) := by
  pointwise [K1]
  exact congrArg X (congrArg (ix2 _) (Fin.ext (Nat.add_assoc _ _ _).symm))
theorem K2_at : K2 X (ix4 b i h e) = X (ix2 ⟨b.val * 8192 + i.val, by omega⟩ ⟨1024 + 1 * 512 + h.val * 64 + e.val, by omega⟩) := by
  pointwise [K2]
  exact congrArg X (congrArg (ix2 _) (Fin.ext (Nat.add_assoc _ _ _).symm))
theorem Vs_at : Vs Z (ix4 b i h d) = Z (ix2 ⟨b.val * 8192 + i.val, by omega⟩ ⟨h.val * 128 + d.val, by omega⟩) := by
  pointwise [Vs]

/-- The scores of queries against keys, times the logarithm of two. -/
def T (Q K : FVec Ideal S2x8192x8x64 .f32) : FVec Ideal S2x8x8192x8192 .f32 :=
  mulf (Host.dotGeneral dot_S2x8192x8x64_S2x8192x8x64_S2x8x8192x8192_3_3_1_1_02_02 none Q K)
    (broadcastInDim S2x8x8192x8192 ![] bcast_S_S2x8x8192x8192 (Host.log (constant S_ .f32 0x40000000#32)))

theorem dot_at (Q K : FVec Ideal S2x8192x8x64 .f32) : Host.dotGeneral dot_S2x8192x8x64_S2x8192x8x64_S2x8x8192x8192_3_3_1_1_02_02 none Q K
    (ix4 b h i k) = ∑ e : Fin 64, Q (ix4 b i h e) * K (ix4 b k h e) := by
  pointwise []

theorem T_at (Q K : FVec Ideal S2x8192x8x64 .f32) : T Q K (ix4 b h i k)
    = (∑ e : Fin 64, Q (ix4 b i h e) * K (ix4 b k h e)) * ((Real.log 2 : ℝ) : EReal) := by
  unfold T
  rw [muli_at, dot_at]
  exact congrArg _ (scale_at b h i k)

/-- A softmax weight, when the inner products are those of a group. -/
theorem weight_at (Q K : FVec Ideal S2x8192x8x64 .f32) (g : Fin 2) (hX : Finite X)
    (hT : ∀ k, ∑ e : Fin 64, Q (ix4 b i h e) * K (ix4 b k h e) = Diff.inner X g b h i k) :
    W (E (T Q K)) (ix4 b h i k) = ((soft (score X g b h i) 8192 k : ℝ) : EReal) := by
  rw [W_at]
  simp only [E_at, T_at, hT]
  exact natural (N := 8192) (by norm_num) (T := fun k : Fin 8192 => Diff.inner X g b h i k * ((Real.log 2 : ℝ) : EReal))
    (fun k => by rw [inner_real hX g b h i k.isLt]) rfl k

theorem weight1_at (hX : Finite X) : W (E (T (Q1 X) (K1 X))) (ix4 b h i k) = ((soft (score X 0 b h i) 8192 k : ℝ) : EReal) :=
  weight_at X b h i k _ _ 0 hX fun k => by simp only [Q1_at, K1_at]; rfl
theorem weight2_at (hX : Finite X) : W (E (T (Q2 X) (K2 X))) (ix4 b h i k) = ((soft (score X 1 b h i) 8192 k : ℝ) : EReal) :=
  weight_at X b h i k _ _ 1 hX fun k => by simp only [Q2_at, K2_at]; rfl

/-- Lambda. -/
def lamr : FVec Ideal S_ .f32 :=
  addf (subf
    (Host.exp (Host.reduceAdd (mulf (shapeCast S64 (extractStridedSlice S1x64 ![0, 0] B slices_S4x64_S1x64_0_0) shapeCasts_S1x64_S64)
      (shapeCast S64 (extractStridedSlice S1x64 ![1, 0] B slices_S4x64_S1x64_1_0) shapeCasts_S1x64_S64)) (constant S_ .f32 0x00000000#32) reducesTo_S64_S_d0 h_S_))
    (Host.exp (Host.reduceAdd (mulf (shapeCast S64 (extractStridedSlice S1x64 ![2, 0] B slices_S4x64_S1x64_2_0) shapeCasts_S1x64_S64)
      (shapeCast S64 (extractStridedSlice S1x64 ![3, 0] B slices_S4x64_S1x64_3_0) shapeCasts_S1x64_S64)) (constant S_ .f32 0x00000000#32) reducesTo_S64_S_d0 h_S_)))
    (constant S_ .f32 0x3E4CCCCD#32)

theorem lamr_at : lamr B ix0 = lam B := by
  pointwise [lamr]
  rfl

/-- The difference of the softmaxes. -/
def D : FVec Ideal S2x8x8192x8192 .f32 :=
  subf (W (E (T (Q1 X) (K1 X)))) (mulf (broadcastInDim S2x8x8192x8192 ![] bcast_S_S2x8x8192x8192 (lamr B)) (W (E (T (Q2 X) (K2 X)))))

theorem over_at (l : FVec Ideal S_ .f32) : broadcastInDim S2x8x8192x8192 ![] bcast_S_S2x8x8192x8192 l (ix4 b h i k) = l ix0 := by
  pointwise []

theorem D_at (hX : Finite X) : D X B (ix4 b h i k)
    = ((soft (score X 0 b h i) 8192 k : ℝ) : EReal) - lam B * ((soft (score X 1 b h i) 8192 k : ℝ) : EReal) := by
  unfold D
  rw [subi_at, muli_at, over_at, lamr_at, weight1_at X b h i k hX, weight2_at X b h i k hX]

/-- The values weighted, by batch, token and head. -/
def O (D : FVec Ideal S2x8x8192x8192 .f32) (V : FVec Ideal S2x8192x8x128 .f32) : FVec Ideal S2x8192x8x128 .f32 :=
  transpose S2x8192x8x128 [0, 3, 1, 2] (Host.dotGeneral dot_S2x8192x8x128_S2x8x8192x8192_S2x8x128x8192_1_3_3_2_02_01 none V D)
    transposes_S2x8x128x8192_S2x8192x8x128_0_3_1_2

theorem O_at (D : FVec Ideal S2x8x8192x8192 .f32) (V : FVec Ideal S2x8192x8x128 .f32) :
    O D V (ix4 b i h d) = ∑ k : Fin 8192, V (ix4 b k h d) * D (ix4 b h i k) := by
  pointwise [O]

theorem mix_at (hX : Finite X) (hZ : FiniteVals Z) (hB : FiniteLams B) : O (D X B) (Vs Z) (ix4 b i h d) = mix X Z B b h i d := by
  rw [O_at]
  unfold mix
  rw [← sum_sub 8192 _ _ (val Z b h d) _ (val_real hZ b h d) (lam_real hB),
    ← Fin.sum_univ_eq_sum_range (fun k => (((soft (score X 0 b h i) 8192 k : ℝ) : EReal)
      - lam B * ((soft (score X 1 b h i) 8192 k : ℝ) : EReal)) * val Z b h d k) 8192]
  refine Finset.sum_congr rfl fun k _ => ?_
  rw [D_at X B b h i k hX, mul_comm, Vs_at, ← val_at Z b h d k.isLt]

/-- The rows normalised. -/
def N (O : FVec Ideal S2x8192x8x128 .f32) : FVec Ideal S2x8192x8x128 .f32 :=
  mulf (mulf (mulf O (broadcastInDim S2x8192x8x128 ![0, 1, 2, 3] bcast_S2x8192x8x1_S2x8192x8x128_0_1_2_3
    (Host.rsqrt (addf (Host.divf (broadcastInDim S2x8192x8x1 ![0, 1, 2] bcast_S2x8192x8_S2x8192x8x1_0_1_2
      (Host.reduceAdd (mulf O O) (constant S_ .f32 0x00000000#32) reducesTo_S2x8192x8x128_S2x8192x8_d3 h_S_))
      (broadcastInDim S2x8192x8x1 ![] bcast_S_S2x8192x8x1 (constant S_ .f32 0x43000000#32)))
      (broadcastInDim S2x8192x8x1 ![] bcast_S_S2x8192x8x1 (constant S_ .f32 0x358637BD#32))))))
    (broadcastInDim S2x8192x8x128 ![0, 1, 2, 3] bcast_S1x1x1x128_S2x8192x8x128_0_1_2_3
      (broadcastInDim S1x1x1x128 ![3] bcast_S128_S1x1x1x128_3 (shapeCast S128 Γ shapeCasts_S1x128_S128))))
    (broadcastInDim S2x8192x8x128 ![] bcast_S_S2x8192x8x128 (constant S_ .f32 0x3F4CCCCD#32))

theorem N_at (O : FVec Ideal S2x8192x8x128 .f32) : N Γ O (ix4 b i h d) = norm (fun e => O (ix4 b i h e)) Γ d := by
  pointwise [N]
  rfl

/-- The heads side by side. -/
def REF : FVec Ideal S2x8192x1024 .bf16 :=
  truncf .bf16 (shapeCast S2x8192x1024 (N Γ (O (D X B) (Vs Z))) shapeCasts_S2x8192x8x128_S2x8192x1024) bitsLt_bf16_f32

/-- The reference's result is this array. -/
theorem res_eq (m : (ℓ : Loc nD τ sig) → Buf (Elt Ideal) ℓ) (c : Dev nD) : Cert.DiffRefIdeal.Value.res_main_v83 m c
    = REF (m ((c.tc : Thread nD τ).loc main_arg0)) (m ((c.tc : Thread nD τ).loc main_arg1)) (m ((c.tc : Thread nD τ).loc main_arg2))
      (m ((c.tc : Thread nD τ).loc main_arg3)) := rfl

/-- The reference at an index. -/
theorem ref_at (hX : Finite X) (hZ : FiniteVals Z) (hB : FiniteLams B) (c : Fin 1024) : REF X Z B Γ (ix3 b i c)
    = norm (fun e => mix X Z B b ⟨c.val / 128, by omega⟩ i e) Γ ⟨c.val % 128, by omega⟩ := by
  have h1 : ∀ A : FVec Ideal S2x8192x8x128 .f32, shapeCast S2x8192x1024 A shapeCasts_S2x8192x8x128_S2x8192x1024 (ix3 b i c)
      = A (ix4 b i ⟨c.val / 128, by omega⟩ ⟨c.val % 128, by omega⟩) := fun A => by pointwise []
  unfold REF
  rw [trunci_at, h1, N_at]
  simp only [mix_at X Z B b _ i _ hX hZ hB]

end Cert.DiffRefIdeal.Pure

end
-- ==== Proof.Diff.Claims.lean ====
/- The claims on the differential attention: its reference's frame, and the equation. -/
module

public import proofs.«01_k».proof.Defs
public import proofs.«01_k».proof.Proof.Gen.Pre_finite_qkv_lam
public import proofs.«01_k».proof.Proof.Gen.DiffIdeal.Value
public import proofs.«01_k».proof.Proof.Diff.Value
public import proofs.«01_k».proof.Proof.Diff.Ref
public import proofs.«01_k».proof.Proof.Math.Finite
public import Idealize.ShloMosaic.Lib.Claim

@[expose] public section

set_option maxRecDepth 16384

noncomputable section

namespace Cert.DiffClaims

open Idealize.ShloMosaic Idealize.SL.Sem Attn Attn.Diff

/-- The precondition says that the queries, the keys, the values and the vectors of lambda are finite. -/
theorem finite_args (X Z : Rows) (B : Lams) (Γ : Gains) (h : Cert.Pre_finite_qkv_lam.fn (F := Ideal) X Z B Γ = fun _ => 1#1) :
    Finite X ∧ FiniteVals Z ∧ FiniteLams B := by
  have h0 : _ = (1#1 : BitVec 1) := congrFun h ix0
  unfold Cert.Pre_finite_qkv_lam.fn at h0
  obtain ⟨h12, h3⟩ := IntOp.andi_eq_one.1 h0
  obtain ⟨h1, h2⟩ := IntOp.andi_eq_one.1 h12
  have hs : Subsingleton (Cert.Pre_finite_qkv_lam.S_).Idx := ⟨fun a b => funext fun x => x.elim0⟩
  refine ⟨fun i => finite_of_all _ _ _ _ _ (fun _ => pos_inf) _ hs h1 i, fun i j => ?_,
    fun i => finite_of_all _ _ _ _ _ (fun _ => pos_inf) _ hs h3 i⟩
  have := finite_of_all _ _ _ _ _ (fun _ => pos_inf) _ hs h2 (ix2 i j)
  have e : extf .f32 (extractStridedSlice Cert.Pre_finite_qkv_lam.S16384x1024 ![0, 0] Z
      Cert.Pre_finite_qkv_lam.Facts.slices_S16384x2048_S16384x1024_0_0) Cert.Pre_finite_qkv_lam.Facts.bitsLt_bf16_f32 (ix2 i j)
      = Z (ix2 i ⟨j.val, by omega⟩) := by pointwise []
  beta_reduce at this
  rwa [e] at this

/-- The kernel's array is the reference's, at finite arguments. -/
theorem agree (X Z : Rows) (B : Lams) (Γ : Gains) (hX : Finite X) (hZ : FiniteVals Z) (hB : FiniteLams B) :
    Cert.DiffRefIdeal.Pure.REF X Z B Γ = Cert.DiffIdeal.Value.G X Z B Γ := by
  funext j
  obtain ⟨b, i, c, rfl⟩ : ∃ (b : Fin 2) (i : Fin 8192) (c : Fin 1024), j = ix3 b i c := ⟨j 0, j 1, j 2, eq_ix3 j⟩
  exact Cert.DiffRefIdeal.Pure.ref_at X Z B Γ b i hX hZ hB c

/-- The reference runs and leaves its arguments alone. -/
theorem frame_ref : Cert.quiescent_DiffRefIdeal := by
  intro m g _
  refine (θ_run _ _ _).mono (fun r h => ⟨fun c => (h c).2, ?_⟩) (Cert.DiffRefIdeal.Value.run m g)
  funext s
  rcases s with ⟨_, s | s⟩ <;> exact s.elim0

/-- THE VALUE CLAIM. -/
theorem algebraic : Cert.algebraic_DiffIdeal_DiffRefIdeal_pre_finite_qkv_lam := by
  pair_intro
  · run_from Cert.DiffIdeal.Gen.run_main m g
  · run_from Cert.DiffRefIdeal.Value.run m' g'
    obtain ⟨hX, hZ, hB⟩ := finite_args _ _ _ _ (hpre c)
    rw [Cert.DiffIdeal.Value.final m c hX]
    obtain ⟨e0, e1, e2, e3⟩ := hagree c
    rw [Cert.DiffRefIdeal.Pure.res_eq, e0, e1, e2, e3]
    exact agree _ _ _ _ hX hZ hB

end Cert.DiffClaims

end
-- ==== Proof.EvenQk.Run.lean ====
/- The run of the even layers' rotated projection: two kernels in a row, the tables of angles and then the product. -/
module

public import proofs.«01_k».proof.Proof.Gen.EvenQkIdeal.Frame
public import Idealize.ShloMosaic.Lib.Claim

@[expose] public section

set_option maxRecDepth 16384

noncomputable section

namespace Cert.EvenQkIdeal.Value

open Cert.EvenQkIdeal Cert.EvenQkIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

-- the launch's implicit arguments are found by unfolding plain definitions in a metavariable's type
set_option backward.isDefEq.respectTransparency.types false in
/-- THE RUN: it terminates, the result is what the second kernel's blocks leave, and the arguments are kept. -/
theorem run : θ_run defs (onTc (τ := τ) (main (F := F))) ⟨m, fun _ => 0, ρ⟩ (fun r => ∀ c : Dev nD,
      r.2.mem ((c.tc : Thread nD τ).loc main_v66) = (dat1 (V7 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨(h c _ (mem_uc main_v66 (by decide))).trans (W8_arr m ρ c 4),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c)⟩)

end Cert.EvenQkIdeal.Value

end
-- ==== Proof.EvenQk.Arrays.lean ====
/- The arrays the two kernels of the even layers' rotated projection leave, of the arrays they are given. -/
module

public import proofs.«01_k».proof.Proof.EvenQk.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.EvenQkIdeal.Value

open Cert.EvenQkIdeal Cert.EvenQkIdeal.Gen

section Block

variable (x0 : FVec Ideal S512x2048 .bf16) (x1 : FVec Ideal S2048x1024 .bf16) (x2 : FVec Ideal S3x512x128 .f32) (x3 : FVec Ideal S1x1024 .f32)

/-- A place of the product of a block. -/
def prod (r : Fin 512) (n : Fin 1024) : EReal := ∑ k : Fin 2048, x0 (ix2 r k) * x1 (ix2 k n)

/-- What the second kernel writes at row `r`, column `n` of its block. -/
def blk (r : Fin 512) (n : Fin 1024) : EReal :=
  (prod x0 x1 r n * x2 (ix3 0 r ⟨n.val % 128, by omega⟩)
    + prod x0 x1 r ⟨n.val / 128 * 128 + (n.val % 128 + 128 - 120) % 128, by omega⟩ * x2 (ix3 1 r ⟨n.val % 128, by omega⟩)
    + prod x0 x1 r ⟨n.val / 128 * 128 + (n.val % 128 + 128 - 8) % 128, by omega⟩ * x2 (ix3 2 r ⟨n.val % 128, by omega⟩)) * x3 (ix2 0 n)

/-- The same with the columns and the lane given apart. -/
theorem blk_of (r s : Fin 512) (n a b c : Fin 1024) (l : Fin 128) (hr : r.val = s.val) (ha : n.val = a.val) (hl : n.val % 128 = l.val)
    (hb : n.val / 128 * 128 + (n.val % 128 + 128 - 120) % 128 = b.val) (hc : n.val / 128 * 128 + (n.val % 128 + 128 - 8) % 128 = c.val) :
    (prod x0 x1 s a * x2 (ix3 0 s l) + prod x0 x1 s b * x2 (ix3 1 s l) + prod x0 x1 s c * x2 (ix3 2 s l)) * x3 (ix2 0 a) = blk x0 x1 x2 x3 r n := by
  obtain rfl : r = s := Fin.ext hr
  obtain rfl : n = a := Fin.ext ha
  have el : l = ⟨n.val % 128, by omega⟩ := Fin.ext hl.symm
  have eb : b = ⟨n.val / 128 * 128 + (n.val % 128 + 128 - 120) % 128, by omega⟩ := Fin.ext hb.symm
  have ec : c = ⟨n.val / 128 * 128 + (n.val % 128 + 128 - 8) % 128, by omega⟩ := Fin.ext hc.symm
  rw [el, eb, ec]
  rfl

/-- The pieces of the block, 128 columns each, are that formula. -/
theorem block_at (r : Fin 512) (n : Fin 1024) : out1_4 (F := Ideal) x0 x1 x2 x3 (ix2 r n) = blk x0 x1 x2 x3 r n := by
  unfold_out out1_4
  canon_tiles x h
  all_goals
    open_payloads
    pointwise []
    have h1' : n.val = _ := h1
    exact blk_of x0 x1 x2 x3 r _ n _ _ _ _ h0 h1 (by omega) (by dsimp only; omega) (by dsimp only; omega)

end Block

section Arrays

variable (V : (c : Dev nD) → (b : Ref sig .tc) → Buf (Elt Ideal) ((c : Thread nD τ).loc b))

/-- What the second kernel leaves at row `z`, column `n`, of its arguments: rows, weights, tables, scale. -/
def full (X : FVec Ideal S16384x2048 .bf16) (W : FVec Ideal S2048x2048 .bf16) (T : FVec Ideal S6x16384x128 .f32) (S : FVec Ideal S1x2048 .f32)
    (z : Fin 16384) (n : Fin 2048) : EReal :=
  ((∑ k : Fin 2048, X (ix2 z k) * W (ix2 k n)) * T (ix3 3 z ⟨n.val % 128, by omega⟩)
    + (∑ k : Fin 2048, X (ix2 z k) * W (ix2 k ⟨n.val / 128 * 128 + (n.val % 128 + 128 - 120) % 128, by omega⟩)) * T (ix3 4 z ⟨n.val % 128, by omega⟩)
    + (∑ k : Fin 2048, X (ix2 z k) * W (ix2 k ⟨n.val / 128 * 128 + (n.val % 128 + 128 - 8) % 128, by omega⟩)) * T (ix3 5 z ⟨n.val % 128, by omega⟩))
    * S (ix2 0 n)

/-- The whole array. -/
def FULL (X : FVec Ideal S16384x2048 .bf16) (W : FVec Ideal S2048x2048 .bf16) (T : FVec Ideal S6x16384x128 .f32) (S : FVec Ideal S1x2048 .f32) :
    FVec Ideal S16384x2048 .bf16 := fun j => full X W T S (j 0) (j 1)

theorem FULL_of (X : FVec Ideal S16384x2048 .bf16) (W : FVec Ideal S2048x2048 .bf16) (T : FVec Ideal S6x16384x128 .f32) (S : FVec Ideal S1x2048 .f32)
    (j : S16384x2048.Idx) (z : Fin 16384) (n : Fin 2048) (hz : (j 0 : ℕ) = z.val) (hn : (j 1 : ℕ) = n.val) : full X W T S z n = FULL X W T S j := by
  unfold FULL
  congr 1
  · exact Fin.ext hz.symm
  · exact Fin.ext hn.symm

/-- A block of it: rows from the rows' block, columns of one of the two halves. -/
theorem blk_full (x0 : FVec Ideal S512x2048 .bf16) (x1 : FVec Ideal S2048x1024 .bf16) (x2 : FVec Ideal S3x512x128 .f32) (x3 : FVec Ideal S1x1024 .f32)
    (X : FVec Ideal S16384x2048 .bf16) (W : FVec Ideal S2048x2048 .bf16) (T : FVec Ideal S6x16384x128 .f32) (S : FVec Ideal S1x2048 .f32)
    (r : Fin 512) (z : Fin 16384) (J : Fin 2) (n : Fin 1024) (hX : ∀ k, x0 (ix2 r k) = X (ix2 z k))
    (hW : ∀ k (n : Fin 1024), x1 (ix2 k n) = W (ix2 k ⟨J.val * 1024 + n.val, by omega⟩))
    (h0 : ∀ l, x2 (ix3 0 r l) = T (ix3 3 z l)) (h1 : ∀ l, x2 (ix3 1 r l) = T (ix3 4 z l)) (h2 : ∀ l, x2 (ix3 2 r l) = T (ix3 5 z l))
    (hS : ∀ n : Fin 1024, x3 (ix2 0 n) = S (ix2 0 ⟨J.val * 1024 + n.val, by omega⟩)) :
    blk x0 x1 x2 x3 r n = full X W T S z ⟨J.val * 1024 + n.val, by omega⟩ := by
  unfold blk full prod
  simp only [hX, hW, h0, h1, h2, hS]
  have e0 : (⟨(J.val * 1024 + n.val) % 128, by omega⟩ : Fin 128) = ⟨n.val % 128, by omega⟩ := Fin.ext (by dsimp only; omega)
  have e1 : (⟨(J.val * 1024 + n.val) / 128 * 128 + ((J.val * 1024 + n.val) % 128 + 128 - 120) % 128, by omega⟩ : Fin 2048)
      = ⟨J.val * 1024 + (n.val / 128 * 128 + (n.val % 128 + 128 - 120) % 128), by omega⟩ := Fin.ext (by dsimp only; omega)
  have e2 : (⟨(J.val * 1024 + n.val) / 128 * 128 + ((J.val * 1024 + n.val) % 128 + 128 - 8) % 128, by omega⟩ : Fin 2048)
      = ⟨J.val * 1024 + (n.val / 128 * 128 + (n.val % 128 + 128 - 8) % 128), by omega⟩ := Fin.ext (by dsimp only; omega)
  rw [e0, e1, e2]

/-- Where the second kernel's blocks sit. -/
theorem idx1 : ∀ t : Fin cfg1.N, win1_0.index t = ![t.val % 32, 0] ∧ win1_1.index t = ![0, t.val / 32]
    ∧ win1_2.index t = ![1, t.val % 32, 0] ∧ win1_3.index t = ![0, t.val / 32] ∧ win1_4.index t = ![t.val % 32, t.val / 32] ∧ t.val < 64 :=
  (by decide +kernel : ∀ t : Fin grid1.N, _)

/-- What a grid point reads: its rows, its half of the columns, its positions' tables, its half of the scale. -/
theorem read_rows (c : Dev nD) (t : Fin cfg1.N) (ht : t.val < 64) (r : Fin 512) (k : Fin 2048) :
    iblk1 V c 0 t (ix2 r k) = V c main_v47 (ix2 ⟨t.val % 32 * 512 + r.val, by omega⟩ k) := by blk_ext [iblk1, idx1 t]
theorem read_weights (c : Dev nD) (t : Fin cfg1.N) (ht : t.val < 64) (k : Fin 2048) (n : Fin 1024) :
    iblk1 V c 1 t (ix2 k n) = V c main_v59 (ix2 k ⟨t.val / 32 * 1024 + n.val, by omega⟩) := by blk_ext [iblk1, idx1 t]
theorem read_cos (c : Dev nD) (t : Fin cfg1.N) (ht : t.val < 64) (r : Fin 512) (l : Fin 128) :
    iblk1 V c 2 t (ix3 0 r l) = V c main_v45 (ix3 3 ⟨t.val % 32 * 512 + r.val, by omega⟩ l) := by blk_ext [iblk1, idx1 t]
theorem read_lo (c : Dev nD) (t : Fin cfg1.N) (ht : t.val < 64) (r : Fin 512) (l : Fin 128) :
    iblk1 V c 2 t (ix3 1 r l) = V c main_v45 (ix3 4 ⟨t.val % 32 * 512 + r.val, by omega⟩ l) := by blk_ext [iblk1, idx1 t]
theorem read_hi (c : Dev nD) (t : Fin cfg1.N) (ht : t.val < 64) (r : Fin 512) (l : Fin 128) :
    iblk1 V c 2 t (ix3 2 r l) = V c main_v45 (ix3 5 ⟨t.val % 32 * 512 + r.val, by omega⟩ l) := by blk_ext [iblk1, idx1 t]
theorem read_scale (c : Dev nD) (t : Fin cfg1.N) (ht : t.val < 64) (n : Fin 1024) :
    iblk1 V c 3 t (ix2 0 n) = V c main_v65 (ix2 0 ⟨t.val / 32 * 1024 + n.val, by omega⟩) := by blk_ext [iblk1, idx1 t]

/-- The block of a grid point, as the arrays have it. -/
theorem point (c : Dev nD) (t : Fin cfg1.N) (ht : t.val < 64) (r : Fin 512) (n : Fin 1024) :
    out1_4 (F := Ideal) (iblk1 V c 0 t) (iblk1 V c 1 t) (iblk1 V c 2 t) (iblk1 V c 3 t) (ix2 r n)
      = full (V c main_v47) (V c main_v59) (V c main_v45) (V c main_v65) ⟨t.val % 32 * 512 + r.val, by omega⟩ ⟨t.val / 32 * 1024 + n.val, by omega⟩ :=
  (block_at _ _ _ _ r n).trans
    (blk_full _ _ _ _ (V c main_v47) (V c main_v59) (V c main_v45) (V c main_v65) r ⟨t.val % 32 * 512 + r.val, by omega⟩ ⟨t.val / 32, by omega⟩ n
      (read_rows V c t ht r) (read_weights V c t ht) (read_cos V c t ht r) (read_lo V c t ht r) (read_hi V c t ht r) (read_scale V c t ht))

/-- THE SECOND KERNEL's array. -/
theorem second (c : Dev nD) : (dat1 V c).arrAt 4 cfg1.N = FULL (V c main_v47) (V c main_v59) (V c main_v45) (V c main_v65) := by
  refine (dat1 V c).arrAt_eq_of_covers 4 _ (by decide +kernel) fun t _ y => ?_
  blk_simp
  rw [after1_4]
  obtain ⟨r, n, rfl⟩ : ∃ (r : Fin 512) (n : Fin 1024), y = ix2 r n := ⟨y 0, y 1, eq_ix2 y⟩
  have ht := (idx1 t).2.2.2.2.2
  exact (point V c t ht r n).trans (FULL_of _ _ _ _ _ _ _ (by blk_simp [idx1 t]; try dsimp only; omega) (by blk_simp [idx1 t]; try dsimp only; omega))

/-- A place of the first kernel's tables, from the position and the lane's column of constants. -/
def angle (p : EReal) (k : Fin 8 → EReal) (q : Fin 6) : EReal :=
  if q.val = 0 then Ideal.cos (p * k 0) else if q.val = 1 then Ideal.sin (p * k 0) * k 1 else if q.val = 2 then Ideal.sin (p * k 0) * k 2
  else if q.val = 3 then Ideal.cos (p * k 3) else if q.val = 4 then Ideal.sin (p * k 3) * k 4 else Ideal.sin (p * k 3) * k 5

/-- The first kernel's block. -/
theorem tables_at (x0 : FVec Ideal S512x128 .f32) (x1 : FVec Ideal S8x128 .f32) (q : Fin 6) (r : Fin 512) (l : Fin 128) :
    out0_2 (F := Ideal) x0 x1 (ix3 q r l) = angle (x0 (ix2 r l)) (fun a => x1 (ix2 a l)) q := by
  unfold_out out0_2
  canon_tiles x h
  all_goals
    open_payloads
    pointwise []
    obtain rfl : r = x 1 := Fin.ext h1
    obtain rfl : l = x 2 := Fin.ext h2
    have hq : q.val = _ := h0
    unfold angle
  · rw [if_neg (by omega), if_neg (by omega), if_neg (by omega), if_neg (by omega), if_neg (by omega)]
  · rw [if_neg (by omega), if_neg (by omega), if_neg (by omega), if_neg (by omega), if_pos (by omega)]
  · rw [if_neg (by omega), if_neg (by omega), if_neg (by omega), if_pos (by omega)]
  · rw [if_neg (by omega), if_neg (by omega), if_pos (by omega)]
  · rw [if_neg (by omega), if_pos (by omega)]
  · rw [if_pos (by omega)]

/-- The tables. -/
def TAB (P : FVec Ideal S16384x128 .f32) (C : FVec Ideal S8x128 .f32) : FVec Ideal S6x16384x128 .f32 := fun j =>
  angle (P (ix2 (j 1) (j 2))) (fun a => C (ix2 a (j 2))) (j 0)

theorem TAB_of (P : FVec Ideal S16384x128 .f32) (C : FVec Ideal S8x128 .f32) (j : S6x16384x128.Idx) (q : Fin 6) (z : Fin 16384) (l : Fin 128)
    (hq : (j 0 : ℕ) = q.val) (hz : (j 1 : ℕ) = z.val) (hl : (j 2 : ℕ) = l.val) : angle (P (ix2 z l)) (fun a => C (ix2 a l)) q = TAB P C j := by
  unfold TAB
  rw [show j 0 = q from Fin.ext hq, show j 1 = z from Fin.ext hz, show j 2 = l from Fin.ext hl]

/-- Where the first kernel's blocks sit. -/
theorem idx0 : ∀ t : Fin cfg0.N, win0_0.index t = ![t.val, 0] ∧ win0_1.index t = ![0, 0] ∧ win0_2.index t = ![0, t.val, 0] ∧ t.val < 32 :=
  (by decide +kernel : ∀ t : Fin grid0.N, _)

/-- THE FIRST KERNEL's array. -/
theorem first (c : Dev nD) : (dat0 V c).arrAt 2 cfg0.N = TAB (V c main_v2) (V c main_v44) := by
  refine (dat0 V c).arrAt_eq_of_covers 2 _ (by decide +kernel) fun t _ y => ?_
  blk_simp
  rw [after0_2]
  obtain ⟨q, r, l, rfl⟩ : ∃ (q : Fin 6) (r : Fin 512) (l : Fin 128), y = ix3 q r l := ⟨y 0, y 1, y 2, eq_ix3 y⟩
  have ht := (idx0 t).2.2.2
  refine (tables_at _ _ q r l).trans (Eq.trans ?_ (TAB_of _ _ _ q ⟨t.val * 512 + r.val, by omega⟩ l
    (by blk_simp [idx0 t]; try dsimp only; omega) (by blk_simp [idx0 t]; try dsimp only; omega) (by blk_simp [idx0 t]; try dsimp only; omega)))
  congr 1
  · blk_ext [iblk0, idx0 t]
  · funext a
    blk_ext [iblk0, idx0 t]

end Arrays

end Cert.EvenQkIdeal.Value

end
-- ==== Proof.Rope.Spec.lean ====
/- The rotation of the first sixteen of a head's sixty-four features by a position's angles, as a formula, and the same rotation
   as the kernels do it on 128 lanes: a product with a table of cosines, and two shifted copies times tables of signed sines
   that are zero where the shift does not belong. -/
module

public import Idealize.ShloMosaic.PureOps.Ideal
public import Idealize.ShloMosaic.Lib.Pointwise

@[expose] public section

noncomputable section

namespace Rope

open Idealize.ShloMosaic

/-- The eight frequencies: 500000 to the power `-2 l / 16`. -/
def freq (l : Fin 8) : EReal := Ideal.pow (Ideal.ofBits .f32 0x48F42400#32)
  (Ideal.div (-(Ideal.ofBits .f32 0x40000000#32 * FloatOps.sitofp (F := Ideal) .f32 (BitVec.ofNat 32 l.val))) (Ideal.ofBits .f32 0x41800000#32))

/-- Features `0 … 7` and `8 … 15` are turned against each other at position `p`; the other features stay. -/
def rot (x : Fin 64 → EReal) (p : EReal) (e : Fin 64) : EReal :=
  if h : e.val < 8 then x e * Ideal.cos (p * freq ⟨e.val, h⟩) - x ⟨e.val + 8, by omega⟩ * Ideal.sin (p * freq ⟨e.val, h⟩)
  else if h : e.val < 16 then
    x e * Ideal.cos (p * freq ⟨e.val - 8, by omega⟩) + x ⟨e.val - 8, by omega⟩ * Ideal.sin (p * freq ⟨e.val - 8, by omega⟩)
  else x e

/-- The frequency of a lane: none past the sixteenth feature. -/
def lane (l : Fin 128) : EReal := if l.val % 64 < 16 then freq ⟨l.val % 8, by omega⟩ else 0

/-- Where the copy shifted down counts, negated; where the copy shifted up counts. -/
def lo (l : Fin 128) : EReal := if l.val % 64 < 8 then -1 else 0
def hi (l : Fin 128) : EReal := if 8 ≤ l.val % 64 ∧ l.val % 64 < 16 then 1 else 0

/-- The kernels' rotation of 128 lanes. -/
def tile (x : Fin 128 → EReal) (p : EReal) (l : Fin 128) : EReal :=
  x l * Ideal.cos (p * lane l) + x ⟨(l.val + 128 - 120) % 128, by omega⟩ * (Ideal.sin (p * lane l) * lo l)
    + x ⟨(l.val + 128 - 8) % 128, by omega⟩ * (Ideal.sin (p * lane l) * hi l)

theorem cos_zero : Ideal.cos 0 = 1 := by
  show ((Real.cos 0 : ℝ) : EReal) = 1
  rw [Real.cos_zero]; rfl

/-- The two rotations are one: what the masks take out is a product with zero. -/
theorem tile_eq (x : Fin 128 → EReal) (p : EReal) (l : Fin 128) :
    tile x p l = rot (fun e => x ⟨l.val / 64 * 64 + e.val, by omega⟩) p ⟨l.val % 64, by omega⟩ := by
  have hx : x ⟨l.val / 64 * 64 + l.val % 64, by omega⟩ = x l := congrArg x (Fin.ext (by show l.val / 64 * 64 + l.val % 64 = l.val; omega))
  unfold tile rot lane lo hi
  dsimp only
  rw [hx]
  by_cases h1 : l.val % 64 < 8
  · rw [if_pos (by omega), if_pos h1, if_neg (by omega), dif_pos h1, mul_zero, mul_zero, add_zero, mul_neg, mul_one, mul_neg, sub_eq_add_neg]
    have e1 : (⟨(l.val + 128 - 120) % 128, by omega⟩ : Fin 128) = ⟨l.val / 64 * 64 + (l.val % 64 + 8), by omega⟩ := Fin.ext (by dsimp only; omega)
    have e2 : (⟨l.val % 8, by omega⟩ : Fin 8) = ⟨l.val % 64, h1⟩ := Fin.ext (by dsimp only; omega)
    rw [e1, e2]
  by_cases h2 : l.val % 64 < 16
  · rw [if_pos h2, if_neg h1, if_pos ⟨by omega, h2⟩, dif_neg h1, dif_pos h2, mul_zero, mul_zero, add_zero, mul_one]
    have e1 : (⟨(l.val + 128 - 8) % 128, by omega⟩ : Fin 128) = ⟨l.val / 64 * 64 + (l.val % 64 - 8), by omega⟩ := Fin.ext (by dsimp only; omega)
    have e2 : (⟨l.val % 8, by omega⟩ : Fin 8) = ⟨l.val % 64 - 8, by omega⟩ := Fin.ext (by dsimp only; omega)
    rw [e1, e2]
  · rw [if_neg h2, if_neg h1, if_neg (by omega), dif_neg h1, dif_neg h2]
    simp only [mul_zero, add_zero, cos_zero, mul_one]

/-- The kernels' rotation over all the columns, 128 at a time: the rotation of each group of 64. -/
theorem columns {N M : ℕ} (hN : N = 128 * M) (f : Fin N → EReal) (p : EReal) (n : Fin N) :
    f n * Ideal.cos (p * lane ⟨n.val % 128, by omega⟩)
      + f ⟨n.val / 128 * 128 + (n.val % 128 + 128 - 120) % 128, by omega⟩ * (Ideal.sin (p * lane ⟨n.val % 128, by omega⟩) * lo ⟨n.val % 128, by omega⟩)
      + f ⟨n.val / 128 * 128 + (n.val % 128 + 128 - 8) % 128, by omega⟩ * (Ideal.sin (p * lane ⟨n.val % 128, by omega⟩) * hi ⟨n.val % 128, by omega⟩)
      = rot (fun e => f ⟨n.val / 64 * 64 + e.val, by omega⟩) p ⟨n.val % 64, by omega⟩ := by
  have h := tile_eq (fun l => f ⟨n.val / 128 * 128 + l.val, by omega⟩) p ⟨n.val % 128, by omega⟩
  have e0 : (⟨n.val / 128 * 128 + n.val % 128, by omega⟩ : Fin N) = n := Fin.ext (by dsimp only; omega)
  have e1 : (⟨n.val % 128 % 64, by omega⟩ : Fin 64) = ⟨n.val % 64, by omega⟩ := Fin.ext (by dsimp only; omega)
  have e2 : ∀ e : Fin 64, (⟨n.val / 128 * 128 + (n.val % 128 / 64 * 64 + e.val), by omega⟩ : Fin N) = ⟨n.val / 64 * 64 + e.val, by omega⟩ :=
    fun e => Fin.ext (by dsimp only; omega)
  unfold tile at h
  simp only [e0, e1, e2] at h
  exact h

end Rope

end
-- ==== Proof.EvenQk.Spec.lean ====
/- The rotated half of the even layers' input projection, as a formula: queries and keys of the difference attention, the
   columns in the order the attention reads them, each head's first features turned by the position's angles, the queries
   scaled. -/
module

public import proofs.«01_k».proof.Proof.Rope.Spec

@[expose] public section

noncomputable section

namespace EvenQk

open Idealize.ShloMosaic

/-- The layer's input, its positions, and the weights of its input projection. -/
abbrev In := FVec Ideal ⟨3, ![2, 8192, 2048]⟩ .f32
abbrev Ps := IVec ⟨2, ![2, 8192]⟩ 32
abbrev Wt := FVec Ideal ⟨2, ![2048, 3904]⟩ .f32

/-- The weights' column of a column of the result: group by group, then head by head, where the weights have a head's four groups
    together. -/
def wcol (n : Fin 2048) : Fin 3904 := ⟨832 + (n.val % 512 / 64 * 256 + n.val / 512 * 64 + n.val % 64), by omega⟩

/-- The projection before the rotation. -/
def proj (X : In) (W : Wt) (b : Fin 2) (i : Fin 8192) (n : Fin 2048) : EReal := ∑ k : Fin 2048, X (ix3 b i k) * W (ix2 k (wcol n))

/-- Queries are scaled. -/
def scale (n : Fin 2048) : EReal := if n.val < 1024 then Ideal.ofBits .f32 0x3E38AA3B#32 else 1

/-- The result at batch `b`, position `i`, column `n`. -/
def out (X : In) (P : Ps) (W : Wt) (b : Fin 2) (i : Fin 8192) (n : Fin 2048) : EReal :=
  Rope.rot (fun e => proj X W b i ⟨n.val / 64 * 64 + e.val, by omega⟩) (FloatOps.sitofp (F := Ideal) .f32 (P (ix2 b i))) ⟨n.val % 64, by omega⟩ * scale n

/-- The whole result. -/
def G (X : In) (P : Ps) (W : Wt) : FVec Ideal ⟨2, ![16384, 2048]⟩ .bf16 := fun j =>
  out X P W ⟨(j 0 : ℕ) / 8192, by have := (j 0).isLt; simp at this; omega⟩ ⟨(j 0 : ℕ) % 8192, by omega⟩ (j 1)

end EvenQk

end
-- ==== Proof.EvenQk.Host.lean ====
/- What the two kernels of the even layers' rotated projection are given, from the layer's arguments. -/
module

public import proofs.«01_k».proof.Proof.EvenQk.Run
public import proofs.«01_k».proof.Proof.EvenQk.Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.EvenQkIdeal.Value

open Cert.EvenQkIdeal Cert.EvenQkIdeal.Gen

/-- A look-up in a table of eight. -/
theorem take_at (x : FVec Ideal S8 .f32) (i : IVec S128x1 32) (l : Fin 128) :
    Host.gather gather_S8_S128x1_S128_n_0_n_n_0_1_1 x i (ix1 l) = x (ix1 ⟨min (i (ix2 l 0)).toInt.toNat 7, by omega⟩) := by
  unfold Host.gather
  congr 1
  funext a
  obtain rfl : a = 0 := Subsingleton.elim _ _
  refine Fin.ext ?_
  set d := gather_S8_S128x1_S128_n_0_n_n_0_1_1
  show d.start (ix1 l) i 0 + d.batchCoord (ix1 l) 0 + d.offCoord (ix1 l) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ d.startIndexMap from List.mem_singleton.mpr rfl)]
  have hsi : d.siIdx (ix1 l) ⟨List.idxOf (0 : Fin 1) d.startIndexMap,
      List.idxOf_lt_length_iff.2 (List.mem_singleton.mpr rfl)⟩ = ix2 l 0 := by
    funext b; refine Fin.ext ?_
    match b with
    | ⟨0, _⟩ => rfl
    | ⟨1, _⟩ => rfl
  rw [hsi]
  rfl

/-- The literal tables, by a rule. -/
theorem lit1_at : ∀ l : Fin 128, lit1 l = BitVec.ofNat 32 (l.val % 8) := by decide +kernel
theorem lit2_at : ∀ l : Fin 128, lit2 l = if l.val % 64 < 16 then 1#1 else 0#1 := by decide +kernel
theorem lit5_at : ∀ l : Fin 128, lit5 l = if l.val % 64 < 8 then 0xBF800000#32 else 0x00000000#32 := by decide +kernel
theorem lit6_at : ∀ l : Fin 128, lit6 l = if 8 ≤ l.val % 64 ∧ l.val % 64 < 16 then 0x3F800000#32 else 0x00000000#32 := by decide +kernel

theorem minus_one : Ideal.ofBits .f32 0xBF800000#32 = -1 := by
  simp [Ideal.ofBits, Ideal.ieee, -EReal.coe_mul]; norm_num

theorem place (l : Fin 128) : S128.rowMajor (ix1 l) = l := by
  refine Fin.ext ?_
  rw [Shape.rowMajor_val_one]; rfl

open EvenQk

variable (m : (ℓ : Loc nD τ sig) → Buf (Elt Ideal) ℓ) (ρ : Dev nD → PrngReg)

/-- The frequencies as the program computes them. -/
def FR : FVec Ideal S8 .f32 := Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- The lanes' frequencies as the program computes them. -/
def LN : FVec Ideal S128 .f32 :=  (select (fun i => lit2 (S128.rowMajor i))
          (Host.gather gather_S8_S128x1_S128_n_0_n_n_0_1_1 FR
            (broadcastInDim S128x1 ![0] bcast_S128_S128x1_0
              (select (constantI S128 1 0#1)
                (addi (fun i => lit1 (S128.rowMajor i)) (broadcastInDim S128 ![] bcast_S_S128 (constantI S_ 32 8#32)))
                fun i => lit1 (S128.rowMajor i))))
          (broadcastInDim S128 ![] bcast_S_S128 (constant S_ .f32 0#32)))

theorem lanes_in (c : Dev nD) : W2 m ρ c main_v33 = LN := by
  unfold W2
  after_results
  rfl

/-- They are the frequencies. -/
theorem FR_at (l : Fin 8) : FR (ix1 l) = Rope.freq l := by
  pointwise [FR, Rope.freq]

/-- They are the lanes' frequencies. -/
theorem LN_at (l : Fin 128) : LN (ix1 l) = Rope.lane l := by
  unfold LN Rope.lane
  have hk : ∀ k : Fin 8, min (BitVec.ofNat 32 k.val).toInt.toNat 7 = k.val := by decide
  pointwise [take_at, lit1_at, lit2_at, place, FR_at, hk ⟨l.val % 8, by omega⟩]
  split <;> rfl

/-- The first kernel's table of constants, from the rows it is stacked of. -/
theorem consts (U : Valuation τ sig (Elt Ideal)) : StableHlo.after hostOps0_2 U main_v44 =
   concatenate S8x128 0 [⟨S1x128, broadcastInDim S1x128 ![1] bcast_S128_S1x128_1 (U main_v27 : FVec Ideal S128 .f32)⟩,
     ⟨S1x128, broadcastInDim S1x128 ![1] bcast_S128_S1x128_1 (U main_cst : FVec Ideal S128 .f32)⟩,
     ⟨S1x128, broadcastInDim S1x128 ![1] bcast_S128_S1x128_1 (U main_cst_4 : FVec Ideal S128 .f32)⟩,
     ⟨S1x128, broadcastInDim S1x128 ![1] bcast_S128_S1x128_1 (U main_v33 : FVec Ideal S128 .f32)⟩,
     ⟨S1x128, broadcastInDim S1x128 ![1] bcast_S128_S1x128_1 (U main_cst_5 : FVec Ideal S128 .f32)⟩,
     ⟨S1x128, broadcastInDim S1x128 ![1] bcast_S128_S1x128_1 (U main_cst_6 : FVec Ideal S128 .f32)⟩,
     ⟨S1x128, broadcastInDim S1x128 ![1] bcast_S128_S1x128_1 (broadcastInDim S128 ![] bcast_S_S128 (constant (F := Ideal) S_ .f32 0x00000000#32))⟩,
     ⟨S1x128, broadcastInDim S1x128 ![1] bcast_S128_S1x128_1 (broadcastInDim S128 ![] bcast_S_S128 (constant (F := Ideal) S_ .f32 0x00000000#32))⟩]
     concatenates_S1x128_S1x128_S1x128_S1x128_S1x128_S1x128_S1x128_S1x128_S8x128_d0 := by
  after_results <;> rfl

/-- The first kernel's positions. -/
theorem pos_in (c : Dev nD) : V3 m ρ c main_v2 = broadcastInDim S16384x128 ![0, 1] bcast_S16384x1_S16384x128_0_1
    (sitofp (F := Ideal) .f32 (shapeCast S16384x1 (m ((c : Thread nD τ).loc main_arg1) : IVec S2x8192 32) shapeCasts_S2x8192_S16384x1)) := by
  unfold V3 W3
  after_results <;> rfl

/-- The second kernel's rows, scale and tables. -/
theorem rows_in (c : Dev nD) : V7 m ρ c main_v47
    = truncf (F := Ideal) .bf16 (shapeCast S16384x2048 (m ((c : Thread nD τ).loc main_arg0) : FVec Ideal S2x8192x2048 .f32) shapeCasts_S2x8192x2048_S16384x2048) bitsLt_bf16_f32 := by
  unfold V7 W7
  after_results
  rw [W4_args m ρ c main_arg0 (by decide)]
  rfl

theorem scale_in (c : Dev nD) : V7 m ρ c main_v65 = shapeCast S1x2048 (select (cmpi .slt (iotaInDim S2048 32 0) (broadcastInDim S2048 ![] bcast_S_S2048 (constantI S_ 32 1024#32)))
    (broadcastInDim S2048 ![] bcast_S_S2048 (constant (F := Ideal) S_ .f32 0x3E38AA3B#32)) (broadcastInDim S2048 ![] bcast_S_S2048 (constant (F := Ideal) S_ .f32 0x3F800000#32))) shapeCasts_S2048_S1x2048 := by
  unfold V7 W7
  after_results
  rfl

theorem tab_in (c : Dev nD) : V7 m ρ c main_v45 = (dat0 (V3 m ρ) c).arrAt 2 cfg0.N :=
  (W7_of m ρ c main_v45 (by decide)).trans ((W6_of m ρ c main_v45 (by decide)).trans ((W5_of m ρ c main_v45 (by decide)).trans (W4_arr m ρ c 2)))

/-- Row `q` of the stack. -/
theorem stack_at (r0 r1 r2 r3 r4 r5 r6 r7 : FVec Ideal S1x128 .f32) (l : Fin 128) :
    let C : FVec Ideal S8x128 .f32 := concatenate S8x128 0 [⟨S1x128, r0⟩, ⟨S1x128, r1⟩, ⟨S1x128, r2⟩, ⟨S1x128, r3⟩, ⟨S1x128, r4⟩, ⟨S1x128, r5⟩, ⟨S1x128, r6⟩, ⟨S1x128, r7⟩]
      concatenates_S1x128_S1x128_S1x128_S1x128_S1x128_S1x128_S1x128_S1x128_S8x128_d0
    C (ix2 3 l) = r3 (ix2 0 l) ∧ C (ix2 4 l) = r4 (ix2 0 l) ∧ C (ix2 5 l) = r5 (ix2 0 l) := by
  refine ⟨?_, ?_, ?_⟩
  · refine concatenate_apply_piece (t := S8x128) 0 _ _ _ 3 (by simp) S1x128 _ rfl rfl 3 rfl (ix2 0 l) (fun b hb => ?_) rfl
    fin_cases b
    · exact absurd rfl hb
    · rfl
  · refine concatenate_apply_piece (t := S8x128) 0 _ _ _ 4 (by simp) S1x128 _ rfl rfl 4 rfl (ix2 0 l) (fun b hb => ?_) rfl
    fin_cases b
    · exact absurd rfl hb
    · rfl
  · refine concatenate_apply_piece (t := S8x128) 0 _ _ _ 5 (by simp) S1x128 _ rfl rfl 5 rfl (ix2 0 l) (fun b hb => ?_) rfl
    fin_cases b
    · exact absurd rfl hb
    · rfl

/-- The signs, where a shifted copy counts. -/
theorem lo_in (c : Dev nD) : W2 m ρ c main_cst_5 = fun i => FloatOps.ofBits (F := Ideal) .f32 (lit5 (S128.rowMajor i)) := by
  unfold W2
  after_results <;> rfl
theorem hi_in (c : Dev nD) : W2 m ρ c main_cst_6 = fun i => FloatOps.ofBits (F := Ideal) .f32 (lit6 (S128.rowMajor i)) := by
  unfold W2
  after_results <;> rfl

/-- The constants of a lane. -/
theorem consts_at (c : Dev nD) (l : Fin 128) :
    (V3 m ρ c main_v44 : FVec Ideal S8x128 .f32) (ix2 3 l) = Rope.lane l
    ∧ (V3 m ρ c main_v44 : FVec Ideal S8x128 .f32) (ix2 4 l) = Rope.lo l
    ∧ (V3 m ρ c main_v44 : FVec Ideal S8x128 .f32) (ix2 5 l) = Rope.hi l := by
  have e : V3 m ρ c main_v44 = _ := consts (W2 m ρ c)
  rw [e, lanes_in, lo_in, hi_in]
  have h := stack_at (broadcastInDim S1x128 ![1] bcast_S128_S1x128_1 (W2 m ρ c main_v27 : FVec Ideal S128 .f32))
    (broadcastInDim S1x128 ![1] bcast_S128_S1x128_1 (W2 m ρ c main_cst : FVec Ideal S128 .f32))
    (broadcastInDim S1x128 ![1] bcast_S128_S1x128_1 (W2 m ρ c main_cst_4 : FVec Ideal S128 .f32))
    (broadcastInDim S1x128 ![1] bcast_S128_S1x128_1 LN)
    (broadcastInDim S1x128 ![1] bcast_S128_S1x128_1 (fun i => FloatOps.ofBits (F := Ideal) .f32 (lit5 (S128.rowMajor i))))
    (broadcastInDim S1x128 ![1] bcast_S128_S1x128_1 (fun i => FloatOps.ofBits (F := Ideal) .f32 (lit6 (S128.rowMajor i))))
    (broadcastInDim S1x128 ![1] bcast_S128_S1x128_1 (broadcastInDim S128 ![] bcast_S_S128 (constant (F := Ideal) S_ .f32 0x00000000#32)))
    (broadcastInDim S1x128 ![1] bcast_S128_S1x128_1 (broadcastInDim S128 ![] bcast_S_S128 (constant (F := Ideal) S_ .f32 0x00000000#32))) l
  refine ⟨h.1.trans ?_, h.2.1.trans ?_, h.2.2.trans ?_⟩
  · pointwise [LN_at]
  · pointwise [place, lit5_at, Rope.lo]
    split <;> pointwise [minus_one]
  · pointwise [place, lit6_at, Rope.hi]
    split <;> pointwise []

/-- A row of the positions. -/
theorem pos_of (P : Ps) (z : Fin 16384) (b : Fin 2) (i : Fin 8192) (l : Fin 128) (hz : z.val = b.val * 8192 + i.val) :
    broadcastInDim S16384x128 ![0, 1] bcast_S16384x1_S16384x128_0_1
      (sitofp (F := Ideal) .f32 (shapeCast S16384x1 P shapeCasts_S2x8192_S16384x1)) (ix2 z l) = FloatOps.sitofp (F := Ideal) .f32 (P (ix2 b i)) := by
  pointwise []
  rw [show (⟨z.val / 8192, by omega⟩ : Fin 2) = b from Fin.ext (by show z.val / 8192 = b.val; omega),
    show (⟨z.val % 8192, by omega⟩ : Fin 8192) = i from Fin.ext (by show z.val % 8192 = i.val; omega)]

/-- Row `b * 8192 + i` is position `i` of batch `b`. -/
theorem row_of (X : In) (z : Fin 16384) (b : Fin 2) (i : Fin 8192) (k : Fin 2048) (hz : z.val = b.val * 8192 + i.val) :
    truncf (F := Ideal) .bf16 (shapeCast S16384x2048 X shapeCasts_S2x8192x2048_S16384x2048) bitsLt_bf16_f32 (ix2 z k) = X (ix3 b i k) := by
  pointwise []
  rw [show (⟨z.val / 8192, by omega⟩ : Fin 2) = b from Fin.ext (by show z.val / 8192 = b.val; omega),
    show (⟨z.val % 8192, by omega⟩ : Fin 8192) = i from Fin.ext (by show z.val % 8192 = i.val; omega)]

/-- The scale of a column. -/
theorem scale_at (c : Dev nD) (n : Fin 2048) : (V7 m ρ c main_v65 : FVec Ideal S1x2048 .f32) (ix2 0 n) = scale n := by
  rw [scale_in]
  have hk : ∀ n : Fin 2048, IntOp.cmpi .slt (BitVec.ofNat 32 n.val) 1024#32 = if n.val < 1024 then 1#1 else 0#1 := by decide +kernel
  pointwise [hk, scale]
  split <;> rfl

/-- The weights' columns in the kernel's order. -/
def cat (W : Wt) : FVec Ideal S2048x4096 .f32 :=
  concatenate S2048x4096 1 [⟨S2048x2048, shapeCast S2048x2048 (transpose S2048x4x8x64 [0, 2, 1, 3] (shapeCast S2048x8x4x64
      (extractStridedSlice S2048x2048 ![0, 832] W slices_S2048x3904_S2048x2048_0_832) shapeCasts_S2048x2048_S2048x8x4x64)
      transposes_S2048x8x4x64_S2048x4x8x64_0_2_1_3) shapeCasts_S2048x4x8x64_S2048x2048⟩,
    ⟨S2048x1024, extractStridedSlice S2048x1024 ![0, 2880] W slices_S2048x3904_S2048x1024_0_2880⟩,
    ⟨S2048x512, extractStridedSlice S2048x512 ![0, 0] W slices_S2048x3904_S2048x512_0_0⟩,
    ⟨S2048x256, extractStridedSlice S2048x256 ![0, 512] W slices_S2048x3904_S2048x256_0_512⟩,
    ⟨S2048x64, extractStridedSlice S2048x64 ![0, 768] W slices_S2048x3904_S2048x64_0_768⟩,
    ⟨S2048x192, broadcastInDim S2048x192 ![] bcast_S_S2048x192 (constant S_ .f32 0x00000000#32)⟩]
    concatenates_S2048x2048_S2048x1024_S2048x512_S2048x256_S2048x64_S2048x192_S2048x4096_d1

theorem cat_at (W : Wt) (k n : Fin 2048) : cat W (ix2 k ⟨n.val, by omega⟩) = W (ix2 k (wcol n)) := by
  unfold cat wcol
  refine (concatenate_apply_piece (t := S2048x4096) 1 _ _ _ 0 (by simp) S2048x2048 _ rfl rfl 0 rfl (ix2 k n)
    (fun b hb => ?_) (by show 0 + n.val = n.val; omega)).trans ?_
  · fin_cases b
    · rfl
    · exact absurd rfl hb
  pointwise []
  exact congrArg W (congrArg (ix2 k) (Fin.ext (by dsimp only; omega)))

/-- The weights the second kernel is given. -/
theorem cut_of (U : Valuation τ sig (Elt Ideal)) : StableHlo.after hostOps1 U main_v59 = extractStridedSlice S2048x2048 ![0, 0]
    (truncf (F := Ideal) .bf16 (cat (U main_arg2)) bitsLt_bf16_f32) slices_S2048x4096_S2048x2048_0_0 := by
  after_results <;> rfl

theorem weights (c : Dev nD) : V7 m ρ c main_v59 = extractStridedSlice S2048x2048 ![0, 0]
    (truncf (F := Ideal) .bf16 (cat (m ((c : Thread nD τ).loc main_arg2))) bitsLt_bf16_f32) slices_S2048x4096_S2048x2048_0_0 := by
  rw [← W4_args m ρ c main_arg2 (by decide)]
  exact (W7_of m ρ c main_v59 (by decide)).trans ((W6_of m ρ c main_v59 (by decide)).trans (cut_of (W4 m ρ c)))

theorem weights_at (c : Dev nD) (k n : Fin 2048) :
    (V7 m ρ c main_v59 : FVec Ideal S2048x2048 .bf16) (ix2 k n) = (m ((c : Thread nD τ).loc main_arg2) : Wt) (ix2 k (wcol n)) := by
  rw [weights]
  refine Eq.trans ?_ (cat_at (m ((c : Thread nD τ).loc main_arg2)) k n)
  generalize cat (m ((c : Thread nD τ).loc main_arg2)) = A
  pointwise []

end Cert.EvenQkIdeal.Value

end
-- ==== Proof.EvenQk.Value.lean ====
/- What the even layers' rotated projection leaves, from the layer's arguments: the formula of `Spec`. -/
module

public import proofs.«01_k».proof.Proof.EvenQk.Arrays
public import proofs.«01_k».proof.Proof.EvenQk.Host

@[expose] public section

set_option maxRecDepth 16384

noncomputable section

open Idealize.ShloMosaic Idealize.ShloMosaic.TcCoe

namespace Cert.EvenQkIdeal.Value

open Cert.EvenQkIdeal Cert.EvenQkIdeal.Gen EvenQk

variable (m : (ℓ : Loc nD τ sig) → Buf (Elt Ideal) ℓ) (ρ : Dev nD → PrngReg)

/-- The second kernel's formula over the first kernel's tables is the specified one. -/
theorem full_eq (Y : FVec Ideal S16384x2048 .bf16) (B : FVec Ideal S2048x2048 .bf16) (Q : FVec Ideal S16384x128 .f32) (C : FVec Ideal S8x128 .f32)
    (S : FVec Ideal S1x2048 .f32) (X : In) (P : Ps) (W : Wt) (z : Fin 16384) (b : Fin 2) (i : Fin 8192) (n : Fin 2048)
    (hY : ∀ k, Y (ix2 z k) = X (ix3 b i k)) (hB : ∀ k n, B (ix2 k n) = W (ix2 k (wcol n)))
    (hQ : ∀ l, Q (ix2 z l) = FloatOps.sitofp (F := Ideal) .f32 (P (ix2 b i)))
    (hC : ∀ l, C (ix2 3 l) = Rope.lane l ∧ C (ix2 4 l) = Rope.lo l ∧ C (ix2 5 l) = Rope.hi l) (hS : S (ix2 0 n) = scale n) :
    full Y B (TAB Q C) S z n = out X P W b i n := by
  have h := Rope.columns (N := 2048) (M := 16) rfl (proj X W b i) (FloatOps.sitofp (F := Ideal) .f32 (P (ix2 b i))) n
  unfold out
  rw [← h]
  unfold full proj
  simp only [hY, hB, hS]
  have t3 : ∀ l, TAB Q C (ix3 3 z l) = Ideal.cos (FloatOps.sitofp (F := Ideal) .f32 (P (ix2 b i)) * Rope.lane l) := fun l => by
    rw [← hQ l, ← (hC l).1]; rfl
  have t4 : ∀ l, TAB Q C (ix3 4 z l) = Ideal.sin (FloatOps.sitofp (F := Ideal) .f32 (P (ix2 b i)) * Rope.lane l) * Rope.lo l := fun l => by
    rw [← hQ l, ← (hC l).1, ← (hC l).2.1]; rfl
  have t5 : ∀ l, TAB Q C (ix3 5 z l) = Ideal.sin (FloatOps.sitofp (F := Ideal) .f32 (P (ix2 b i)) * Rope.lane l) * Rope.hi l := fun l => by
    rw [← hQ l, ← (hC l).1, ← (hC l).2.2]; rfl
  simp only [t3, t4, t5]

/-- THE ARRAY after the run. -/
theorem final (c : Dev nD) : (dat1 (V7 m ρ) c).arrAt 4 cfg1.N
    = G (m ((c : Thread nD τ).loc main_arg0)) (m ((c : Thread nD τ).loc main_arg1)) (m ((c : Thread nD τ).loc main_arg2)) := by
  rw [second, tab_in, first]
  funext j
  have hz : (j 0 : ℕ) < 16384 := (j 0).isLt
  refine full_eq _ _ _ _ _ _ _ _ (j 0) ⟨(j 0 : ℕ) / 8192, by omega⟩ ⟨(j 0 : ℕ) % 8192, by omega⟩ (j 1) (fun k => ?_)
    (weights_at m ρ c) (fun l => ?_) (consts_at m ρ c) (scale_at m ρ c (j 1))
  · rw [rows_in]
    exact row_of _ (j 0) _ _ k (by show (j 0 : ℕ) = (j 0 : ℕ) / 8192 * 8192 + (j 0 : ℕ) % 8192; omega)
  · rw [pos_in]
    exact pos_of _ (j 0) _ _ l (by show (j 0 : ℕ) = (j 0 : ℕ) / 8192 * 8192 + (j 0 : ℕ) % 8192; omega)

end Cert.EvenQkIdeal.Value

end
-- ==== Proof.EvenQk.Ref.lean ====
/- The reference of the even layers' rotated projection, read at an index: the formula of `Spec`. -/
module

public import proofs.«01_k».proof.Proof.Gen.EvenQkRefIdeal.Run
public import proofs.«01_k».proof.Proof.EvenQk.Spec
public import Idealize.ShloMosaic.Lib.Pointwise

@[expose] public section

set_option maxRecDepth 16384

noncomputable section

open Idealize.ShloMosaic Idealize.ShloMosaic.TcCoe

namespace Cert.EvenQkRefIdeal.Value

open Cert.EvenQkRefIdeal Cert.EvenQkRefIdeal.Gen EvenQk

/-- The angles: a position times a frequency. -/
def ANG (P : Ps) : FVec Ideal S2x8192x8 .f32 :=
  mulf (broadcastInDim S2x8192x8 ![0, 1, 2] bcast_S2x8192x1_S2x8192x8_0_1_2 (broadcastInDim S2x8192x1 ![0, 1] bcast_S2x8192_S2x8192x1_0_1 (sitofp .f32 P)))
    (broadcastInDim S2x8192x8 ![0, 1, 2] bcast_S1x1x8_S2x8192x8_0_1_2 (broadcastInDim S1x1x8 ![2] bcast_S8_S1x1x8_2
      (Host.powf (broadcastInDim S8 ![] bcast_S_S8 (constant S_ .f32 0x48F42400#32))
        (Host.divf (Host.negf (addf (broadcastInDim S8 ![] bcast_S_S8 (constant S_ .f32 0x00000000#32))
          (mulf (broadcastInDim S8 ![] bcast_S_S8 (constant S_ .f32 0x40000000#32)) (sitofp .f32 (iotaInDim S8 32 0)))))
          (broadcastInDim S8 ![] bcast_S_S8 (constant S_ .f32 0x41800000#32))))))

/-- Their cosines and sines, for every head. -/
def COS (P : Ps) : FVec Ideal S2x8192x8x8 .f32 :=
  broadcastInDim S2x8192x8x8 ![0, 1, 2, 3] bcast_S2x8192x1x8_S2x8192x8x8_0_1_2_3 (broadcastInDim S2x8192x1x8 ![0, 1, 3] bcast_S2x8192x8_S2x8192x1x8_0_1_3 (Host.cos (ANG P)))
def SIN (P : Ps) : FVec Ideal S2x8192x8x8 .f32 :=
  broadcastInDim S2x8192x8x8 ![0, 1, 2, 3] bcast_S2x8192x1x8_S2x8192x8x8_0_1_2_3 (broadcastInDim S2x8192x1x8 ![0, 1, 3] bcast_S2x8192x8_S2x8192x1x8_0_1_3 (Host.sin (ANG P)))

/-- The two halves of the features that turn. -/
def LEFT (x : FVec Ideal S2x8192x8x64 .f32) : FVec Ideal S2x8192x8x8 .f32 :=
  extractStridedSlice S2x8192x8x8 ![0, 0, 0, 0] (extractStridedSlice S2x8192x8x16 ![0, 0, 0, 0] x slices_S2x8192x8x64_S2x8192x8x16_0_0_0_0) slices_S2x8192x8x16_S2x8192x8x8_0_0_0_0
def RIGHT (x : FVec Ideal S2x8192x8x64 .f32) : FVec Ideal S2x8192x8x8 .f32 :=
  extractStridedSlice S2x8192x8x8 ![0, 0, 0, 8] (extractStridedSlice S2x8192x8x16 ![0, 0, 0, 0] x slices_S2x8192x8x64_S2x8192x8x16_0_0_0_0) slices_S2x8192x8x16_S2x8192x8x8_0_0_0_8

/-- The turned features. -/
def TURN (x : FVec Ideal S2x8192x8x64 .f32) (P : Ps) : FVec Ideal S2x8192x8x16 .f32 :=
  concatenate S2x8192x8x16 3 [⟨S2x8192x8x8, subf (mulf (LEFT x) (COS P)) (mulf (RIGHT x) (SIN P))⟩,
    ⟨S2x8192x8x8, addf (mulf (RIGHT x) (COS P)) (mulf (LEFT x) (SIN P))⟩] concatenates_S2x8192x8x8_S2x8192x8x8_S2x8192x8x16_d3

/-- All the features of a head. -/
def ROT (x : FVec Ideal S2x8192x8x64 .f32) (P : Ps) : FVec Ideal S2x8192x8x64 .f32 :=
  concatenate S2x8192x8x64 3 [⟨S2x8192x8x16, TURN x P⟩, ⟨S2x8192x8x48, extractStridedSlice S2x8192x8x48 ![0, 0, 0, 16] x slices_S2x8192x8x64_S2x8192x8x48_0_0_0_16⟩]
    concatenates_S2x8192x8x16_S2x8192x8x48_S2x8192x8x64_d3

/-- The projection's columns of the difference attention, and its four groups. -/
def DQ (X : In) (W : Wt) : FVec Ideal S2x8192x8x4x64 .f32 :=
  shapeCast _ (extractStridedSlice S2x8192x2048 ![0, 0, 832] (Host.dotGeneral dot_S2x8192x2048_S2048x3904_S2x8192x3904_2_0_01_1_n_n none X W)
    slices_S2x8192x3904_S2x8192x2048_0_0_832) shapeCasts_S2x8192x2048_S2x8192x8x4x64
def Q1 (X : In) (W : Wt) : FVec Ideal S2x8192x8x64 .f32 :=
  shapeCast _ (extractStridedSlice S2x8192x8x1x64 ![0, 0, 0, 0, 0] (DQ X W) slices_S2x8192x8x4x64_S2x8192x8x1x64_0_0_0_0_0) shapeCasts_S2x8192x8x1x64_S2x8192x8x64
def Q2 (X : In) (W : Wt) : FVec Ideal S2x8192x8x64 .f32 :=
  shapeCast _ (extractStridedSlice S2x8192x8x1x64 ![0, 0, 0, 1, 0] (DQ X W) slices_S2x8192x8x4x64_S2x8192x8x1x64_0_0_0_1_0) shapeCasts_S2x8192x8x1x64_S2x8192x8x64
def K1 (X : In) (W : Wt) : FVec Ideal S2x8192x8x64 .f32 :=
  shapeCast _ (extractStridedSlice S2x8192x8x1x64 ![0, 0, 0, 2, 0] (DQ X W) slices_S2x8192x8x4x64_S2x8192x8x1x64_0_0_0_2_0) shapeCasts_S2x8192x8x1x64_S2x8192x8x64
def K2 (X : In) (W : Wt) : FVec Ideal S2x8192x8x64 .f32 :=
  shapeCast _ (extractStridedSlice S2x8192x8x1x64 ![0, 0, 0, 3, 0] (DQ X W) slices_S2x8192x8x4x64_S2x8192x8x1x64_0_0_0_3_0) shapeCasts_S2x8192x8x1x64_S2x8192x8x64

/-- A group, a row per position. -/
def FLAT (x : FVec Ideal S2x8192x8x64 .f32) (P : Ps) : FVec Ideal S16384x512 .f32 := shapeCast _ (ROT x P) shapeCasts_S2x8192x8x64_S16384x512
def SC : FVec Ideal S16384x512 .f32 := broadcastInDim S16384x512 ![] bcast_S_S16384x512 (constant S_ .f32 0x3E38AA3B#32)

/-- The four groups side by side. -/
def CAT (X : In) (P : Ps) (W : Wt) : FVec Ideal S16384x2048 .f32 :=
  concatenate S16384x2048 1 [⟨S16384x512, mulf (FLAT (Q1 X W) P) SC⟩, ⟨S16384x512, mulf (FLAT (Q2 X W) P) SC⟩,
    ⟨S16384x512, FLAT (K1 X W) P⟩, ⟨S16384x512, FLAT (K2 X W) P⟩] concatenates_S16384x512_S16384x512_S16384x512_S16384x512_S16384x2048_d1

/-- The reference's result. -/
def REF (X : In) (P : Ps) (W : Wt) : FVec Ideal S16384x2048 .bf16 := truncf .bf16 (CAT X P W) bitsLt_bf16_f32

/-- It is what the run leaves. -/
theorem res0 (m : (ℓ : Loc nD τ sig) → Buf (Elt Ideal) ℓ) (c : Dev nD) : res_main_v104 m c
    = REF (m ((c.tc : Thread nD τ).loc main_arg0)) (m ((c.tc : Thread nD τ).loc main_arg1)) (m ((c.tc : Thread nD τ).loc main_arg2)) := rfl

/-- The tables at an index. -/
theorem COS_at (P : Ps) (b : Fin 2) (i : Fin 8192) (h l : Fin 8) :
    COS P (ix4 b i h l) = Ideal.cos (FloatOps.sitofp (F := Ideal) .f32 (P (ix2 b i)) * Rope.freq l) := by pointwise [COS, ANG, Rope.freq]
theorem SIN_at (P : Ps) (b : Fin 2) (i : Fin 8192) (h l : Fin 8) :
    SIN P (ix4 b i h l) = Ideal.sin (FloatOps.sitofp (F := Ideal) .f32 (P (ix2 b i)) * Rope.freq l) := by pointwise [SIN, ANG, Rope.freq]

/-- The halves at an index. -/
theorem LEFT_at (x : FVec Ideal S2x8192x8x64 .f32) (b : Fin 2) (i : Fin 8192) (h l : Fin 8) :
    LEFT x (ix4 b i h l) = x (ix4 b i h ⟨l.val, by omega⟩) := by pointwise [LEFT]
theorem RIGHT_at (x : FVec Ideal S2x8192x8x64 .f32) (b : Fin 2) (i : Fin 8192) (h l : Fin 8) :
    RIGHT x (ix4 b i h l) = x (ix4 b i h ⟨l.val + 8, by omega⟩) := by
  pointwise [RIGHT]
  exact congrArg x (congrArg (ix4 b i h) (Fin.ext (by dsimp only; omega)))

/-- The turned features at an index. -/
theorem TURN_lo (x : FVec Ideal S2x8192x8x64 .f32) (P : Ps) (b : Fin 2) (i : Fin 8192) (h l : Fin 8) :
    TURN x P (ix4 b i h ⟨l.val, by omega⟩) = x (ix4 b i h ⟨l.val, by omega⟩) * COS P (ix4 b i h l) - x (ix4 b i h ⟨l.val + 8, by omega⟩) * SIN P (ix4 b i h l) := by
  unfold TURN
  refine (concatenate_apply_piece (t := S2x8192x8x16) 3 _ _ _ 0 (by simp) S2x8192x8x8 _ rfl rfl 0 rfl (ix4 b i h l)
    (fun a ha => ?_) (by show 0 + l.val = l.val; omega)).trans (by pointwise [LEFT_at, RIGHT_at])
  fin_cases a
  · rfl
  · rfl
  · rfl
  · exact absurd rfl ha
theorem TURN_hi (x : FVec Ideal S2x8192x8x64 .f32) (P : Ps) (b : Fin 2) (i : Fin 8192) (h l : Fin 8) :
    TURN x P (ix4 b i h ⟨8 + l.val, by omega⟩) = x (ix4 b i h ⟨l.val + 8, by omega⟩) * COS P (ix4 b i h l) + x (ix4 b i h ⟨l.val, by omega⟩) * SIN P (ix4 b i h l) := by
  unfold TURN
  refine (concatenate_apply_piece (t := S2x8192x8x16) 3 _ _ _ 1 (by simp) S2x8192x8x8 _ rfl rfl 8 rfl (ix4 b i h l)
    (fun a ha => ?_) rfl).trans (by pointwise [LEFT_at, RIGHT_at])
  fin_cases a
  · rfl
  · rfl
  · rfl
  · exact absurd rfl ha

/-- A head at an index. -/
theorem ROT_turn (x : FVec Ideal S2x8192x8x64 .f32) (P : Ps) (b : Fin 2) (i : Fin 8192) (h : Fin 8) (e : Fin 16) :
    ROT x P (ix4 b i h ⟨e.val, by omega⟩) = TURN x P (ix4 b i h e) := by
  unfold ROT
  refine (concatenate_apply_piece (t := S2x8192x8x64) 3 _ _ _ 0 (by simp) S2x8192x8x16 _ rfl rfl 0 rfl (ix4 b i h e)
    (fun a ha => ?_) (by show 0 + e.val = e.val; omega))
  fin_cases a
  · rfl
  · rfl
  · rfl
  · exact absurd rfl ha
theorem ROT_rest (x : FVec Ideal S2x8192x8x64 .f32) (P : Ps) (b : Fin 2) (i : Fin 8192) (h : Fin 8) (e : Fin 48) :
    ROT x P (ix4 b i h ⟨16 + e.val, by omega⟩) = x (ix4 b i h ⟨16 + e.val, by omega⟩) := by
  unfold ROT
  refine (concatenate_apply_piece (t := S2x8192x8x64) 3 _ _ _ 1 (by simp) S2x8192x8x48 _ rfl rfl 16 rfl (ix4 b i h e)
    (fun a ha => ?_) rfl).trans (by pointwise [])
  fin_cases a
  · rfl
  · rfl
  · rfl
  · exact absurd rfl ha

/-- Which is the rotation. -/
theorem ROT_at (x : FVec Ideal S2x8192x8x64 .f32) (P : Ps) (b : Fin 2) (i : Fin 8192) (h : Fin 8) (e : Fin 64) :
    ROT x P (ix4 b i h e) = Rope.rot (fun e => x (ix4 b i h e)) (FloatOps.sitofp (F := Ideal) .f32 (P (ix2 b i))) e := by
  unfold Rope.rot
  by_cases h0 : e.val < 8
  · rw [dif_pos h0]
    refine (ROT_turn x P b i h ⟨e.val, by omega⟩).trans ((TURN_lo x P b i h ⟨e.val, h0⟩).trans ?_)
    rw [COS_at, SIN_at]
  · rw [dif_neg h0]
    by_cases h1 : e.val < 16
    · rw [dif_pos h1]
      have e0 : e = ⟨8 + (e.val - 8), by omega⟩ := Fin.ext (by dsimp only; omega)
      have e1 : (⟨e.val - 8 + 8, by omega⟩ : Fin 64) = e := Fin.ext (by dsimp only; omega)
      have t := (ROT_turn x P b i h ⟨8 + (e.val - 8), by omega⟩).trans (TURN_hi x P b i h ⟨e.val - 8, by omega⟩)
      rw [COS_at, SIN_at] at t
      dsimp only at t
      rw [e1, ← e0] at t
      exact t
    · rw [dif_neg h1]
      have e0 : e = ⟨16 + (e.val - 16), by omega⟩ := Fin.ext (by dsimp only; omega)
      have t := ROT_rest x P b i h ⟨e.val - 16, by omega⟩
      dsimp only at t
      rw [← e0] at t
      exact t

/-- The groups at an index. -/
theorem DQ_at (X : In) (W : Wt) (b : Fin 2) (i : Fin 8192) (h : Fin 8) (g : Fin 4) (e : Fin 64) :
    DQ X W (ix5 b i h g e) = proj X W b i ⟨g.val * 512 + h.val * 64 + e.val, by omega⟩ := by
  unfold proj
  pointwise [DQ]
  refine Finset.sum_congr rfl fun k _ => congrArg (fun j => X (ix3 b i k) * W (ix2 k j)) (Fin.ext ?_)
  show _ = 832 + ((g.val * 512 + h.val * 64 + e.val) % 512 / 64 * 256 + (g.val * 512 + h.val * 64 + e.val) / 512 * 64 + (g.val * 512 + h.val * 64 + e.val) % 64)
  dsimp only
  omega
theorem Q1_at (X : In) (W : Wt) (b : Fin 2) (i : Fin 8192) (h : Fin 8) (e : Fin 64) : Q1 X W (ix4 b i h e) = DQ X W (ix5 b i h 0 e) := by pointwise [Q1]
theorem Q2_at (X : In) (W : Wt) (b : Fin 2) (i : Fin 8192) (h : Fin 8) (e : Fin 64) : Q2 X W (ix4 b i h e) = DQ X W (ix5 b i h 1 e) := by pointwise [Q2]
theorem K1_at (X : In) (W : Wt) (b : Fin 2) (i : Fin 8192) (h : Fin 8) (e : Fin 64) : K1 X W (ix4 b i h e) = DQ X W (ix5 b i h 2 e) := by pointwise [K1]
theorem K2_at (X : In) (W : Wt) (b : Fin 2) (i : Fin 8192) (h : Fin 8) (e : Fin 64) : K2 X W (ix4 b i h e) = DQ X W (ix5 b i h 3 e) := by pointwise [K2]

/-- A group's row. -/
theorem FLAT_at (x : FVec Ideal S2x8192x8x64 .f32) (P : Ps) (z : Fin 16384) (n : Fin 512) :
    FLAT x P (ix2 z n) = ROT x P (ix4 ⟨z.val / 8192, by omega⟩ ⟨z.val % 8192, by omega⟩ ⟨n.val / 64, by omega⟩ ⟨n.val % 64, by omega⟩) := by pointwise [FLAT]

/-- A group of the kernel's columns, unscaled. -/
theorem group_at (X : In) (P : Ps) (W : Wt) (x : FVec Ideal S2x8192x8x64 .f32) (g : Fin 4)
    (hx : ∀ b i h e, x (ix4 b i h e) = DQ X W (ix5 b i h g e)) (z : Fin 16384) (n : Fin 512) :
    FLAT x P (ix2 z n) = Rope.rot (fun e => proj X W ⟨z.val / 8192, by omega⟩ ⟨z.val % 8192, by omega⟩ ⟨(g.val * 512 + n.val) / 64 * 64 + e.val, by omega⟩)
      (FloatOps.sitofp (F := Ideal) .f32 (P (ix2 ⟨z.val / 8192, by omega⟩ ⟨z.val % 8192, by omega⟩))) ⟨(g.val * 512 + n.val) % 64, by omega⟩ := by
  rw [FLAT_at, ROT_at]
  have e1 : (⟨n.val % 64, by omega⟩ : Fin 64) = ⟨(g.val * 512 + n.val) % 64, by omega⟩ := Fin.ext (by dsimp only; omega)
  rw [e1]
  refine congrArg (fun f => Rope.rot f _ _) (funext fun e => ?_)
  rw [hx, DQ_at]
  exact congrArg (proj X W _ _) (Fin.ext (by dsimp only; omega))

/-- The reference at an index. -/
theorem CAT_at (X : In) (P : Ps) (W : Wt) (z : Fin 16384) (n : Fin 2048) :
    CAT X P W (ix2 z n) = out X P W ⟨z.val / 8192, by omega⟩ ⟨z.val % 8192, by omega⟩ n := by
  have side : ∀ (r : ℕ) (hr : r < 512) (o : ℕ) (_ : n.val = o + r) (a : Fin 2) (_ : a ≠ 1),
      ((ix2 z ⟨r, hr⟩ : S16384x512.Idx) a).val = ((ix2 z n : S16384x2048.Idx) a).val := fun r hr o _ a ha => by
    fin_cases a
    · rfl
    · exact absurd rfl ha
  unfold CAT
  by_cases h0 : n.val < 512
  · refine (concatenate_apply_piece (t := S16384x2048) 1 _ _ _ 0 (by simp) S16384x512 _ rfl rfl 0 rfl (ix2 z ⟨n.val, h0⟩)
      (fun a ha => side _ h0 0 (by omega) a ha) (by show 0 + n.val = n.val; omega)).trans ?_
    have e : n = ⟨(0 : Fin 4).val * 512 + n.val, by show 0 * 512 + n.val < 2048; omega⟩ := Fin.ext (by show n.val = 0 * 512 + n.val; omega)
    pointwise [SC]
    rw [group_at X P W _ 0 (Q1_at X W)]
    unfold out scale
    rw [if_pos (by omega)]
    simp only [Fin.val_zero, Nat.zero_mul, Nat.zero_add]
  by_cases h1 : n.val < 1024
  · refine (concatenate_apply_piece (t := S16384x2048) 1 _ _ _ 1 (by simp) S16384x512 _ rfl rfl 512 rfl (ix2 z ⟨n.val - 512, by omega⟩)
      (fun a ha => side _ (by omega) 512 (by omega) a ha) (by show 512 + (n.val - 512) = n.val; omega)).trans ?_
    pointwise [SC]
    rw [group_at X P W _ 1 (Q2_at X W)]
    unfold out scale
    rw [if_pos (by omega)]
    have e : (1 : Fin 4).val * 512 + (n.val - 512) = n.val := by show 1 * 512 + (n.val - 512) = n.val; omega
    simp only [e]
  by_cases h2 : n.val < 1536
  · refine (concatenate_apply_piece (t := S16384x2048) 1 _ _ _ 2 (by simp) S16384x512 _ rfl rfl 1024 rfl (ix2 z ⟨n.val - 1024, by omega⟩)
      (fun a ha => side _ (by omega) 1024 (by omega) a ha) (by show 1024 + (n.val - 1024) = n.val; omega)).trans ?_
    rw [group_at X P W _ 2 (K1_at X W)]
    unfold out scale
    rw [if_neg (by omega), mul_one]
    have e : (2 : Fin 4).val * 512 + (n.val - 1024) = n.val := by show 2 * 512 + (n.val - 1024) = n.val; omega
    simp only [e]
  · refine (concatenate_apply_piece (t := S16384x2048) 1 _ _ _ 3 (by simp) S16384x512 _ rfl rfl 1536 rfl (ix2 z ⟨n.val - 1536, by omega⟩)
      (fun a ha => side _ (by omega) 1536 (by omega) a ha) (by show 1536 + (n.val - 1536) = n.val; omega)).trans ?_
    rw [group_at X P W _ 3 (K2_at X W)]
    unfold out scale
    rw [if_neg (by omega), mul_one]
    have e : (3 : Fin 4).val * 512 + (n.val - 1536) = n.val := by show 3 * 512 + (n.val - 1536) = n.val; omega
    simp only [e]

/-- The reference's result is the specified one. -/
theorem REF_eq (X : In) (P : Ps) (W : Wt) : REF X P W = G X P W := by
  funext j
  refine Eq.trans ?_ ((CAT_at X P W (j 0) (j 1)).trans rfl)
  rw [← eq_ix2 j]
  unfold REF
  pointwise []

end Cert.EvenQkRefIdeal.Value

end
-- ==== Proof.EvenQk.Claims.lean ====
/- The claims about the even layers' rotated projection. -/
module

public import proofs.«01_k».proof.Defs
public import proofs.«01_k».proof.Proof.Gen.EvenQk.Frame
public import proofs.«01_k».proof.Proof.EvenQk.Value
public import proofs.«01_k».proof.Proof.EvenQk.Run
public import proofs.«01_k».proof.Proof.EvenQk.Ref
public import Idealize.ShloMosaic.Lib.Claim

@[expose] public section

noncomputable section

open Idealize.ShloMosaic Idealize.ShloMosaic.TcCoe Idealize.SL.Sem

namespace EvenQk

/-- The reference terminates and keeps its arguments, and holds no semaphore. -/
theorem frame_ref : Cert.quiescent_EvenQkRefIdeal := by
  intro m g _
  refine (θ_run _ _ _).mono (fun r h => ⟨fun c => (h c).2, ?_⟩) (Cert.EvenQkRefIdeal.Value.run m g)
  funext s
  rcases s with ⟨_, s | s⟩ <;> exact s.elim0

/-- From equal arguments the kernel and the reference leave one array. -/
theorem algebraic : Cert.algebraic_EvenQkIdeal_EvenQkRefIdeal := by
  pair_intro
  · run_from Cert.EvenQkIdeal.Value.run m g
  · run_from Cert.EvenQkRefIdeal.Value.run m' g'
    rw [Cert.EvenQkIdeal.Value.final m g c]
    obtain ⟨e0, e1, e2⟩ := hagree c
    refine (Cert.EvenQkRefIdeal.Value.res0 m' c).trans ?_
    rw [e0, e1, e2]
    exact Cert.EvenQkRefIdeal.Value.REF_eq _ _ _

end EvenQk

end
-- ==== Proof.EvenProj.Spec.lean ====
/- The plain half of the even layers' input projection, as a formula: rows of the input times columns of the weights,
   the columns taken in the order the attention reads them. -/
module

public import Idealize.ShloMosaic.PureOps.Ideal
public import Idealize.ShloMosaic.Lib.Pointwise

@[expose] public section

noncomputable section

namespace EvenProj

open Idealize.ShloMosaic

/-- The layer's input, and the weights of its input projection. -/
abbrev In := FVec Ideal ⟨3, ![2, 8192, 2048]⟩ .f32
abbrev Wt := FVec Ideal ⟨2, ![2048, 3904]⟩ .f32

/-- The column multiplied for a place of the result: the values, then the latents with the shared key, then zeros. -/
def wcol (W : Wt) (k n : Fin 2048) : EReal :=
  if h : n.val < 1024 then W (ix2 k ⟨2880 + n.val, by omega⟩)
  else if h : n.val < 1856 then W (ix2 k ⟨n.val - 1024, by omega⟩) else 0

/-- The projection at batch `b`, position `i`, column `n`. -/
def out (X : In) (W : Wt) (b : Fin 2) (i : Fin 8192) (n : Fin 2048) : EReal := ∑ k : Fin 2048, X (ix3 b i k) * wcol W k n

/-- The whole projection. -/
def G (X : In) (W : Wt) : FVec Ideal ⟨2, ![16384, 2048]⟩ .bf16 := fun j =>
  out X W ⟨(j 0 : ℕ) / 8192, by have := (j 0).isLt; simp at this; omega⟩ ⟨(j 0 : ℕ) % 8192, by omega⟩ (j 1)

/-- The projection at an index whose coordinates are known. -/
theorem G_of (X : In) (W : Wt) (j : Shape.Idx ⟨2, ![16384, 2048]⟩) (b : Fin 2) (i : Fin 8192) (n : Fin 2048)
    (hi : (j 0 : ℕ) = b.val * 8192 + i.val) (hn : (j 1 : ℕ) = n.val) : out X W b i n = G X W j := by
  unfold G
  congr 1
  · exact Fin.ext (by show _ = (j 0 : ℕ) / 8192; omega)
  · exact Fin.ext (by show _ = (j 0 : ℕ) % 8192; omega)
  · exact Fin.ext hn.symm

end EvenProj

end
-- ==== Proof.EvenProj.Value.lean ====
/- The array the kernel of the even layers' plain input projection leaves: the formula of `Spec`. -/
module

public import proofs.«01_k».proof.Proof.Gen.EvenProjIdeal.Value
public import proofs.«01_k».proof.Proof.EvenProj.Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.EvenProjIdeal.Value

open Cert.EvenProjIdeal Cert.EvenProjIdeal.Gen EvenProj

variable (m : (ℓ : Loc nD τ sig) → Buf (Elt Ideal) ℓ)

/-- The weights' columns in the kernel's order. -/
def cat (W : Wt) : FVec Ideal S2048x4096 .f32 :=
  concatenate S2048x4096 1 [⟨S2048x2048, shapeCast S2048x2048 (transpose S2048x4x8x64 [0, 2, 1, 3] (shapeCast S2048x8x4x64
      (extractStridedSlice S2048x2048 ![0, 832] W slices_S2048x3904_S2048x2048_0_832) shapeCasts_S2048x2048_S2048x8x4x64)
      transposes_S2048x8x4x64_S2048x4x8x64_0_2_1_3) shapeCasts_S2048x4x8x64_S2048x2048⟩,
    ⟨S2048x1024, extractStridedSlice S2048x1024 ![0, 2880] W slices_S2048x3904_S2048x1024_0_2880⟩,
    ⟨S2048x512, extractStridedSlice S2048x512 ![0, 0] W slices_S2048x3904_S2048x512_0_0⟩,
    ⟨S2048x256, extractStridedSlice S2048x256 ![0, 512] W slices_S2048x3904_S2048x256_0_512⟩,
    ⟨S2048x64, extractStridedSlice S2048x64 ![0, 768] W slices_S2048x3904_S2048x64_0_768⟩,
    ⟨S2048x192, broadcastInDim S2048x192 ![] bcast_S_S2048x192 (constant S_ .f32 0x00000000#32)⟩]
    concatenates_S2048x2048_S2048x1024_S2048x512_S2048x256_S2048x64_S2048x192_S2048x4096_d1

/-- The columns the plain half reads, piece by piece. -/
theorem cat_at (W : Wt) (k n : Fin 2048) : cat W (ix2 k ⟨2048 + n.val, by omega⟩) = wcol W k n := by
  unfold cat wcol
  by_cases h1 : n.val < 1024
  · rw [dif_pos h1]
    refine (concatenate_apply_piece (t := S2048x4096) 1 _ _ _ 1 (by simp) S2048x1024 _ rfl rfl 2048 rfl (ix2 k ⟨n.val, h1⟩)
      (fun b hb => ?_) rfl).trans (by pointwise [])
    fin_cases b
    · rfl
    · exact absurd rfl hb
  rw [dif_neg h1]
  by_cases h2 : n.val < 1856
  · rw [dif_pos h2]
    by_cases h3 : n.val < 1536
    · refine (concatenate_apply_piece (t := S2048x4096) 1 _ _ _ 2 (by simp) S2048x512 _ rfl rfl 3072 rfl (ix2 k ⟨n.val - 1024, by omega⟩)
        (fun b hb => ?_) (by show 3072 + (n.val - 1024) = 2048 + n.val; omega)).trans (by pointwise [])
      fin_cases b
      · rfl
      · exact absurd rfl hb
    by_cases h4 : n.val < 1792
    · refine (concatenate_apply_piece (t := S2048x4096) 1 _ _ _ 3 (by simp) S2048x256 _ rfl rfl 3584 rfl (ix2 k ⟨n.val - 1536, by omega⟩)
        (fun b hb => ?_) (by show 3584 + (n.val - 1536) = 2048 + n.val; omega)).trans ?_
      · fin_cases b
        · rfl
        · exact absurd rfl hb
      · pointwise []
        exact congrArg W (congrArg (ix2 k) (Fin.ext (by show 512 + (n.val - 1536) = n.val - 1024; omega)))
    · refine (concatenate_apply_piece (t := S2048x4096) 1 _ _ _ 4 (by simp) S2048x64 _ rfl rfl 3840 rfl (ix2 k ⟨n.val - 1792, by omega⟩)
        (fun b hb => ?_) (by show 3840 + (n.val - 1792) = 2048 + n.val; omega)).trans ?_
      · fin_cases b
        · rfl
        · exact absurd rfl hb
      · pointwise []
        exact congrArg W (congrArg (ix2 k) (Fin.ext (by show 768 + (n.val - 1792) = n.val - 1024; omega)))
  · rw [dif_neg h2]
    refine (concatenate_apply_piece (t := S2048x4096) 1 _ _ _ 5 (by simp) S2048x192 _ rfl rfl 3904 rfl (ix2 k ⟨n.val - 1856, by omega⟩)
      (fun b hb => ?_) (by show 3904 + (n.val - 1856) = 2048 + n.val; omega)).trans (by pointwise [])
    fin_cases b
    · rfl
    · exact absurd rfl hb

/-- The rows the region finds. -/
theorem rows (c : Dev nD) : V m c main_v1
    = truncf (F := Ideal) .bf16 (shapeCast S16384x2048 (m ((c : Thread nD τ).loc main_arg0) : In) shapeCasts_S2x8192x2048_S16384x2048) bitsLt_bf16_f32 := by
  unfold V
  after_results <;> rfl

/-- Row `b * 8192 + i` is position `i` of batch `b`. -/
theorem row_of (X : In) (z : Fin 16384) (b : Fin 2) (i : Fin 8192) (k : Fin 2048) (hz : z.val = b.val * 8192 + i.val) :
    truncf (F := Ideal) .bf16 (shapeCast S16384x2048 X shapeCasts_S2x8192x2048_S16384x2048) bitsLt_bf16_f32 (ix2 z k) = X (ix3 b i k) := by
  pointwise []
  rw [show (⟨z.val / 8192, by omega⟩ : Fin 2) = b from Fin.ext (by show z.val / 8192 = b.val; omega),
    show (⟨z.val % 8192, by omega⟩ : Fin 8192) = i from Fin.ext (by show z.val % 8192 = i.val; omega)]

theorem rows_at (c : Dev nD) (z : Fin 16384) (b : Fin 2) (i : Fin 8192) (k : Fin 2048) (hz : z.val = b.val * 8192 + i.val) :
    (V m c main_v1 : FVec Ideal S16384x2048 .bf16) (ix2 z k) = (m ((c : Thread nD τ).loc main_arg0) : In) (ix3 b i k) := by
  rw [rows]
  exact row_of _ z b i k hz

/-- The weights the region finds. -/
theorem weights (c : Dev nD) : V m c main_v13 = extractStridedSlice S2048x2048 ![0, 2048]
    (truncf (F := Ideal) .bf16 (cat (m ((c : Thread nD τ).loc main_arg1))) bitsLt_bf16_f32) slices_S2048x4096_S2048x2048_0_2048 := by
  unfold V
  after_results <;> rfl

theorem weights_at (c : Dev nD) (k n : Fin 2048) :
    (V m c main_v13 : FVec Ideal S2048x2048 .bf16) (ix2 k n) = wcol (m ((c : Thread nD τ).loc main_arg1)) k n := by
  rw [weights, ← cat_at]
  pointwise []

/-- Where the blocks of a grid point sit. -/
theorem idx : ∀ t : Fin cfg0.N, win0_0.index t = ![t.val % 32, 0] ∧ win0_1.index t = ![0, t.val / 32]
    ∧ win0_2.index t = ![t.val % 32, t.val / 32] ∧ t.val < 64 :=
  (by decide +kernel : ∀ t : Fin grid0.N, _)

/-- A block of the product. -/
theorem pay_at (x : FVec Ideal S512x2048 .bf16) (w : FVec Ideal S2048x1024 .bf16) (r : Fin 512) (n : Fin 1024) :
    k0_pay1 x w (ix2 r n) = ∑ k : Fin 2048, x (ix2 r k) * w (ix2 k n) := by pointwise [k0_pay1]

/-- THE ARRAY after the run. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]; unfold out0_2; frame_out
  obtain ⟨r, n, rfl⟩ : ∃ (r : Fin 512) (n : Fin 1024), y = ix2 r n := ⟨y 0, y 1, eq_ix2 y⟩
  have ht := (idx t).2.2.2
  refine Eq.trans ?_ (G_of (m ((c : Thread nD τ).loc main_arg0)) (m ((c : Thread nD τ).loc main_arg1)) _
    ⟨t.val % 32 / 16, by omega⟩ ⟨t.val % 16 * 512 + r.val, by omega⟩ ⟨t.val / 32 * 1024 + n.val, by omega⟩
    (by blk_simp [idx t]; try dsimp only; omega) (by blk_simp [idx t]; try dsimp only; omega))
  refine (pay_at _ _ r n).trans ?_
  unfold out
  refine Finset.sum_congr rfl fun k _ => congrArg₂ _ ?_ ?_
  · rw [← rows_at m c ⟨t.val % 32 * 512 + r.val, by omega⟩ ⟨t.val % 32 / 16, by omega⟩ ⟨t.val % 16 * 512 + r.val, by omega⟩ k
      (by show t.val % 32 * 512 + r.val = t.val % 32 / 16 * 8192 + (t.val % 16 * 512 + r.val); omega)]
    blk_ext [iblk, idx t]
  · rw [← weights_at]
    blk_ext [iblk, idx t]

end Cert.EvenProjIdeal.Value

end
-- ==== Proof.EvenProj.Ref.lean ====
/- The reference of the even layers' plain input projection, read at an index: the formula of `Spec`. -/
module

public import proofs.«01_k».proof.Proof.Gen.EvenProjRefIdeal.Run
public import proofs.«01_k».proof.Proof.EvenProj.Spec
public import Idealize.ShloMosaic.Lib.Pointwise

@[expose] public section

set_option maxRecDepth 16384

noncomputable section

open Idealize.ShloMosaic

namespace Cert.EvenProjRefIdeal.Value

open Cert.EvenProjRefIdeal Cert.EvenProjRefIdeal.Gen EvenProj

/-- The input times all the weights, a row per position. -/
def prod (X : In) (W : Wt) : FVec Ideal S16384x3904 .f32 :=
  shapeCast _ (Host.dotGeneral dot_S2x8192x2048_S2048x3904_S2x8192x3904_2_0_01_1_n_n none X W) shapeCasts_S2x8192x3904_S16384x3904

/-- The columns of the result. -/
def CAT (X : In) (W : Wt) : FVec Ideal S16384x2048 .f32 :=
  concatenate S16384x2048 1 [⟨S16384x1024, extractStridedSlice S16384x1024 ![0, 2880] (prod X W) slices_S16384x3904_S16384x1024_0_2880⟩,
    ⟨S16384x832, extractStridedSlice S16384x832 ![0, 0] (prod X W) slices_S16384x3904_S16384x832_0_0⟩,
    ⟨S16384x192, broadcastInDim S16384x192 ![] bcast_S_S16384x192 (constant S_ .f32 0x00000000#32)⟩]
    concatenates_S16384x1024_S16384x832_S16384x192_S16384x2048_d1

/-- The reference's result. -/
def REF (X : In) (W : Wt) : FVec Ideal S16384x2048 .bf16 := truncf .bf16 (CAT X W) bitsLt_bf16_f32

/-- A place of the product. -/
theorem prod_at (X : In) (W : Wt) (z : Fin 16384) (n : Fin 3904) :
    prod X W (ix2 z n) = ∑ k : Fin 2048, X (ix3 ⟨z.val / 8192, by omega⟩ ⟨z.val % 8192, by omega⟩ k) * W (ix2 k n) := by pointwise [prod]

/-- Where the values are. -/
theorem left_at (X : In) (W : Wt) (z : Fin 16384) (n : Fin 1024) :
    CAT X W (ix2 z ⟨n.val, by omega⟩) = prod X W (ix2 z ⟨2880 + n.val, by omega⟩) := by
  unfold CAT
  refine (concatenate_apply_piece (t := S16384x2048) 1 _ _ _ 0 (by simp) S16384x1024 _ rfl rfl 0 rfl (ix2 z n)
    (fun b hb => ?_) (by show 0 + n.val = n.val; omega)).trans (by pointwise [])
  fin_cases b
  · rfl
  · exact absurd rfl hb

/-- Where the latents are. -/
theorem mid_at (X : In) (W : Wt) (z : Fin 16384) (n : Fin 832) :
    CAT X W (ix2 z ⟨1024 + n.val, by omega⟩) = prod X W (ix2 z ⟨n.val, by omega⟩) := by
  unfold CAT
  refine (concatenate_apply_piece (t := S16384x2048) 1 _ _ _ 1 (by simp) S16384x832 _ rfl rfl 1024 rfl (ix2 z n)
    (fun b hb => ?_) rfl).trans (by pointwise [])
  fin_cases b
  · rfl
  · exact absurd rfl hb

/-- Where the zeros are. -/
theorem right_at (X : In) (W : Wt) (z : Fin 16384) (n : Fin 192) :
    CAT X W (ix2 z ⟨1856 + n.val, by omega⟩) = 0 := by
  unfold CAT
  refine (concatenate_apply_piece (t := S16384x2048) 1 _ _ _ 2 (by simp) S16384x192 _ rfl rfl 1856 rfl (ix2 z n)
    (fun b hb => ?_) rfl).trans (by pointwise [])
  fin_cases b
  · rfl
  · exact absurd rfl hb

/-- THE REFERENCE is the formula. -/
theorem REF_eq (X : In) (W : Wt) : REF X W = G X W := by
  funext j
  obtain ⟨z, n, rfl⟩ : ∃ (z : Fin 16384) (n : Fin 2048), j = ix2 z n := ⟨j 0, j 1, eq_ix2 j⟩
  show CAT X W (ix2 z n) = out X W ⟨z.val / 8192, by omega⟩ ⟨z.val % 8192, by omega⟩ n
  unfold out wcol
  by_cases h1 : n.val < 1024
  · simp only [dif_pos h1]
    exact (left_at X W z ⟨n.val, h1⟩).trans (prod_at X W z _)
  by_cases h2 : n.val < 1856
  · simp only [dif_neg h1, dif_pos h2]
    rw [← prod_at, ← mid_at X W z ⟨n.val - 1024, by omega⟩]
    exact congrArg (fun n => CAT X W (ix2 z n)) (Fin.ext (by show n.val = 1024 + (n.val - 1024); omega))
  · simp only [dif_neg h1, dif_neg h2, mul_zero, Finset.sum_const_zero]
    rw [← right_at X W z ⟨n.val - 1856, by omega⟩]
    exact congrArg (fun n => CAT X W (ix2 z n)) (Fin.ext (by show n.val = 1856 + (n.val - 1856); omega))

end Cert.EvenProjRefIdeal.Value

end
-- ==== Proof.EvenProj.Claims.lean ====
/- The claims about the even layers' plain input projection. -/
module

public import proofs.«01_k».proof.Defs
public import proofs.«01_k».proof.Proof.Gen.EvenProj.Frame
public import proofs.«01_k».proof.Proof.EvenProj.Value
public import proofs.«01_k».proof.Proof.EvenProj.Ref
public import Idealize.ShloMosaic.Lib.Claim

@[expose] public section

noncomputable section

open Idealize.ShloMosaic Idealize.ShloMosaic.TcCoe Idealize.SL.Sem

namespace EvenProj

/-- The reference terminates and keeps its arguments, and holds no semaphore. -/
theorem frame_ref : Cert.quiescent_EvenProjRefIdeal := by
  intro m g _
  refine (θ_run _ _ _).mono (fun r h => ⟨fun c => (h c).2, ?_⟩) (Cert.EvenProjRefIdeal.Value.run m g)
  funext s
  rcases s with ⟨_, s | s⟩ <;> exact s.elim0

/-- From equal arguments the kernel and the reference leave one array. -/
theorem algebraic : Cert.algebraic_EvenProjIdeal_EvenProjRefIdeal := by
  pair_intro
  · run_from Cert.EvenProjIdeal.Gen.run_main m g
  · run_from Cert.EvenProjRefIdeal.Value.run m' g'
    rw [Cert.EvenProjIdeal.Value.final m c]
    exact Cert.EvenProjRefIdeal.Value.REF_eq _ _

end EvenProj

end
-- ==== Proof.OddQk.Run.lean ====
/- The run of the odd layers' rotated projection: two kernels in a row, the tables of angles and then the product. -/
module

public import proofs.«01_k».proof.Proof.Gen.OddQkIdeal.Frame
public import Idealize.ShloMosaic.Lib.Claim

@[expose] public section

set_option maxRecDepth 16384

noncomputable section

namespace Cert.OddQkIdeal.Value

open Cert.OddQkIdeal Cert.OddQkIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

-- the launch's implicit arguments are found by unfolding plain definitions in a metavariable's type
set_option backward.isDefEq.respectTransparency.types false in
/-- THE RUN: it terminates, the result is what the second kernel's blocks leave, and the arguments are kept. -/
theorem run : θ_run defs (onTc (τ := τ) (main (F := F))) ⟨m, fun _ => 0, ρ⟩ (fun r => ∀ c : Dev nD,
      r.2.mem ((c.tc : Thread nD τ).loc main_v66) = (dat1 (V7 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨(h c _ (mem_uc main_v66 (by decide))).trans (W8_arr m ρ c 4),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c)⟩)

end Cert.OddQkIdeal.Value

end
-- ==== Proof.OddQk.Arrays.lean ====
/- The arrays the two kernels of the odd layers' rotated projection leave, of the arrays they are given. -/
module

public import proofs.«01_k».proof.Proof.OddQk.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OddQkIdeal.Value

open Cert.OddQkIdeal Cert.OddQkIdeal.Gen

section Block

variable (x0 : FVec Ideal S512x2048 .bf16) (x1 : FVec Ideal S2048x1280 .bf16) (x2 : FVec Ideal S3x512x128 .f32) (x3 : FVec Ideal S1x1280 .f32)

/-- A place of the product of a block. -/
def prod (r : Fin 512) (n : Fin 1280) : EReal := ∑ k : Fin 2048, x0 (ix2 r k) * x1 (ix2 k n)

/-- What the second kernel writes at row `r`, column `n` of its block. -/
def blk (r : Fin 512) (n : Fin 1280) : EReal :=
  (prod x0 x1 r n * x2 (ix3 0 r ⟨n.val % 128, by omega⟩)
    + prod x0 x1 r ⟨n.val / 128 * 128 + (n.val % 128 + 128 - 120) % 128, by omega⟩ * x2 (ix3 1 r ⟨n.val % 128, by omega⟩)
    + prod x0 x1 r ⟨n.val / 128 * 128 + (n.val % 128 + 128 - 8) % 128, by omega⟩ * x2 (ix3 2 r ⟨n.val % 128, by omega⟩)) * x3 (ix2 0 n)

/-- The same with the columns and the lane given apart. -/
theorem blk_of (r s : Fin 512) (n a b c : Fin 1280) (l : Fin 128) (hr : r.val = s.val) (ha : n.val = a.val) (hl : n.val % 128 = l.val)
    (hb : n.val / 128 * 128 + (n.val % 128 + 128 - 120) % 128 = b.val) (hc : n.val / 128 * 128 + (n.val % 128 + 128 - 8) % 128 = c.val) :
    (prod x0 x1 s a * x2 (ix3 0 s l) + prod x0 x1 s b * x2 (ix3 1 s l) + prod x0 x1 s c * x2 (ix3 2 s l)) * x3 (ix2 0 a) = blk x0 x1 x2 x3 r n := by
  obtain rfl : r = s := Fin.ext hr
  obtain rfl : n = a := Fin.ext ha
  have el : l = ⟨n.val % 128, by omega⟩ := Fin.ext hl.symm
  have eb : b = ⟨n.val / 128 * 128 + (n.val % 128 + 128 - 120) % 128, by omega⟩ := Fin.ext hb.symm
  have ec : c = ⟨n.val / 128 * 128 + (n.val % 128 + 128 - 8) % 128, by omega⟩ := Fin.ext hc.symm
  rw [el, eb, ec]
  rfl

/-- The pieces of the block, 128 columns each, are that formula. -/
theorem block_at (r : Fin 512) (n : Fin 1280) : out1_4 (F := Ideal) x0 x1 x2 x3 (ix2 r n) = blk x0 x1 x2 x3 r n := by
  unfold_out out1_4
  canon_tiles x h
  all_goals
    open_payloads
    pointwise []
    have h1' : n.val = _ := h1
    exact blk_of x0 x1 x2 x3 r _ n _ _ _ _ h0 h1 (by omega) (by dsimp only; omega) (by dsimp only; omega)

end Block

section Arrays

variable (V : (c : Dev nD) → (b : Ref sig .tc) → Buf (Elt Ideal) ((c : Thread nD τ).loc b))

/-- What the second kernel leaves at row `z`, column `n`, of its arguments: rows, weights, tables, scale. -/
def full (X : FVec Ideal S16384x2048 .bf16) (W : FVec Ideal S2048x2560 .bf16) (T : FVec Ideal S6x16384x128 .f32) (S : FVec Ideal S1x2560 .f32)
    (z : Fin 16384) (n : Fin 2560) : EReal :=
  ((∑ k : Fin 2048, X (ix2 z k) * W (ix2 k n)) * T (ix3 3 z ⟨n.val % 128, by omega⟩)
    + (∑ k : Fin 2048, X (ix2 z k) * W (ix2 k ⟨n.val / 128 * 128 + (n.val % 128 + 128 - 120) % 128, by omega⟩)) * T (ix3 4 z ⟨n.val % 128, by omega⟩)
    + (∑ k : Fin 2048, X (ix2 z k) * W (ix2 k ⟨n.val / 128 * 128 + (n.val % 128 + 128 - 8) % 128, by omega⟩)) * T (ix3 5 z ⟨n.val % 128, by omega⟩))
    * S (ix2 0 n)

/-- The whole array. -/
def FULL (X : FVec Ideal S16384x2048 .bf16) (W : FVec Ideal S2048x2560 .bf16) (T : FVec Ideal S6x16384x128 .f32) (S : FVec Ideal S1x2560 .f32) :
    FVec Ideal S16384x2560 .bf16 := fun j => full X W T S (j 0) (j 1)

theorem FULL_of (X : FVec Ideal S16384x2048 .bf16) (W : FVec Ideal S2048x2560 .bf16) (T : FVec Ideal S6x16384x128 .f32) (S : FVec Ideal S1x2560 .f32)
    (j : S16384x2560.Idx) (z : Fin 16384) (n : Fin 2560) (hz : (j 0 : ℕ) = z.val) (hn : (j 1 : ℕ) = n.val) : full X W T S z n = FULL X W T S j := by
  unfold FULL
  congr 1
  · exact Fin.ext hz.symm
  · exact Fin.ext hn.symm

/-- A block of it: rows from the rows' block, columns of one of the two halves. -/
theorem blk_full (x0 : FVec Ideal S512x2048 .bf16) (x1 : FVec Ideal S2048x1280 .bf16) (x2 : FVec Ideal S3x512x128 .f32) (x3 : FVec Ideal S1x1280 .f32)
    (X : FVec Ideal S16384x2048 .bf16) (W : FVec Ideal S2048x2560 .bf16) (T : FVec Ideal S6x16384x128 .f32) (S : FVec Ideal S1x2560 .f32)
    (r : Fin 512) (z : Fin 16384) (J : Fin 2) (n : Fin 1280) (hX : ∀ k, x0 (ix2 r k) = X (ix2 z k))
    (hW : ∀ k (n : Fin 1280), x1 (ix2 k n) = W (ix2 k ⟨J.val * 1280 + n.val, by omega⟩))
    (h0 : ∀ l, x2 (ix3 0 r l) = T (ix3 3 z l)) (h1 : ∀ l, x2 (ix3 1 r l) = T (ix3 4 z l)) (h2 : ∀ l, x2 (ix3 2 r l) = T (ix3 5 z l))
    (hS : ∀ n : Fin 1280, x3 (ix2 0 n) = S (ix2 0 ⟨J.val * 1280 + n.val, by omega⟩)) :
    blk x0 x1 x2 x3 r n = full X W T S z ⟨J.val * 1280 + n.val, by omega⟩ := by
  unfold blk full prod
  simp only [hX, hW, h0, h1, h2, hS]
  have e0 : (⟨(J.val * 1280 + n.val) % 128, by omega⟩ : Fin 128) = ⟨n.val % 128, by omega⟩ := Fin.ext (by dsimp only; omega)
  have e1 : (⟨(J.val * 1280 + n.val) / 128 * 128 + ((J.val * 1280 + n.val) % 128 + 128 - 120) % 128, by omega⟩ : Fin 2560)
      = ⟨J.val * 1280 + (n.val / 128 * 128 + (n.val % 128 + 128 - 120) % 128), by omega⟩ := Fin.ext (by dsimp only; omega)
  have e2 : (⟨(J.val * 1280 + n.val) / 128 * 128 + ((J.val * 1280 + n.val) % 128 + 128 - 8) % 128, by omega⟩ : Fin 2560)
      = ⟨J.val * 1280 + (n.val / 128 * 128 + (n.val % 128 + 128 - 8) % 128), by omega⟩ := Fin.ext (by dsimp only; omega)
  rw [e0, e1, e2]

/-- Where the second kernel's blocks sit. -/
theorem idx1 : ∀ t : Fin cfg1.N, win1_0.index t = ![t.val % 32, 0] ∧ win1_1.index t = ![0, t.val / 32]
    ∧ win1_2.index t = ![1, t.val % 32, 0] ∧ win1_3.index t = ![0, t.val / 32] ∧ win1_4.index t = ![t.val % 32, t.val / 32] ∧ t.val < 64 :=
  (by decide +kernel : ∀ t : Fin grid1.N, _)

/-- What a grid point reads: its rows, its half of the columns, its positions' tables, its half of the scale. -/
theorem read_rows (c : Dev nD) (t : Fin cfg1.N) (ht : t.val < 64) (r : Fin 512) (k : Fin 2048) :
    iblk1 V c 0 t (ix2 r k) = V c main_v47 (ix2 ⟨t.val % 32 * 512 + r.val, by omega⟩ k) := by blk_ext [iblk1, idx1 t]
theorem read_weights (c : Dev nD) (t : Fin cfg1.N) (ht : t.val < 64) (k : Fin 2048) (n : Fin 1280) :
    iblk1 V c 1 t (ix2 k n) = V c main_v59 (ix2 k ⟨t.val / 32 * 1280 + n.val, by omega⟩) := by blk_ext [iblk1, idx1 t]
theorem read_cos (c : Dev nD) (t : Fin cfg1.N) (ht : t.val < 64) (r : Fin 512) (l : Fin 128) :
    iblk1 V c 2 t (ix3 0 r l) = V c main_v45 (ix3 3 ⟨t.val % 32 * 512 + r.val, by omega⟩ l) := by blk_ext [iblk1, idx1 t]
theorem read_lo (c : Dev nD) (t : Fin cfg1.N) (ht : t.val < 64) (r : Fin 512) (l : Fin 128) :
    iblk1 V c 2 t (ix3 1 r l) = V c main_v45 (ix3 4 ⟨t.val % 32 * 512 + r.val, by omega⟩ l) := by blk_ext [iblk1, idx1 t]
theorem read_hi (c : Dev nD) (t : Fin cfg1.N) (ht : t.val < 64) (r : Fin 512) (l : Fin 128) :
    iblk1 V c 2 t (ix3 2 r l) = V c main_v45 (ix3 5 ⟨t.val % 32 * 512 + r.val, by omega⟩ l) := by blk_ext [iblk1, idx1 t]
theorem read_scale (c : Dev nD) (t : Fin cfg1.N) (ht : t.val < 64) (n : Fin 1280) :
    iblk1 V c 3 t (ix2 0 n) = V c main_v65 (ix2 0 ⟨t.val / 32 * 1280 + n.val, by omega⟩) := by blk_ext [iblk1, idx1 t]

/-- The block of a grid point, as the arrays have it. -/
theorem point (c : Dev nD) (t : Fin cfg1.N) (ht : t.val < 64) (r : Fin 512) (n : Fin 1280) :
    out1_4 (F := Ideal) (iblk1 V c 0 t) (iblk1 V c 1 t) (iblk1 V c 2 t) (iblk1 V c 3 t) (ix2 r n)
      = full (V c main_v47) (V c main_v59) (V c main_v45) (V c main_v65) ⟨t.val % 32 * 512 + r.val, by omega⟩ ⟨t.val / 32 * 1280 + n.val, by omega⟩ :=
  (block_at _ _ _ _ r n).trans
    (blk_full _ _ _ _ (V c main_v47) (V c main_v59) (V c main_v45) (V c main_v65) r ⟨t.val % 32 * 512 + r.val, by omega⟩ ⟨t.val / 32, by omega⟩ n
      (read_rows V c t ht r) (read_weights V c t ht) (read_cos V c t ht r) (read_lo V c t ht r) (read_hi V c t ht r) (read_scale V c t ht))

/-- THE SECOND KERNEL's array. -/
theorem second (c : Dev nD) : (dat1 V c).arrAt 4 cfg1.N = FULL (V c main_v47) (V c main_v59) (V c main_v45) (V c main_v65) := by
  refine (dat1 V c).arrAt_eq_of_covers 4 _ (by decide +kernel) fun t _ y => ?_
  blk_simp
  rw [after1_4]
  obtain ⟨r, n, rfl⟩ : ∃ (r : Fin 512) (n : Fin 1280), y = ix2 r n := ⟨y 0, y 1, eq_ix2 y⟩
  have ht := (idx1 t).2.2.2.2.2
  exact (point V c t ht r n).trans (FULL_of _ _ _ _ _ _ _ (by blk_simp [idx1 t]; try dsimp only; omega) (by blk_simp [idx1 t]; try dsimp only; omega))

/-- A place of the first kernel's tables, from the position and the lane's column of constants. -/
def angle (p : EReal) (k : Fin 8 → EReal) (q : Fin 6) : EReal :=
  if q.val = 0 then Ideal.cos (p * k 0) else if q.val = 1 then Ideal.sin (p * k 0) * k 1 else if q.val = 2 then Ideal.sin (p * k 0) * k 2
  else if q.val = 3 then Ideal.cos (p * k 3) else if q.val = 4 then Ideal.sin (p * k 3) * k 4 else Ideal.sin (p * k 3) * k 5

/-- The first kernel's block. -/
theorem tables_at (x0 : FVec Ideal S512x128 .f32) (x1 : FVec Ideal S8x128 .f32) (q : Fin 6) (r : Fin 512) (l : Fin 128) :
    out0_2 (F := Ideal) x0 x1 (ix3 q r l) = angle (x0 (ix2 r l)) (fun a => x1 (ix2 a l)) q := by
  unfold_out out0_2
  canon_tiles x h
  all_goals
    open_payloads
    pointwise []
    obtain rfl : r = x 1 := Fin.ext h1
    obtain rfl : l = x 2 := Fin.ext h2
    have hq : q.val = _ := h0
    unfold angle
  · rw [if_neg (by omega), if_neg (by omega), if_neg (by omega), if_neg (by omega), if_neg (by omega)]
  · rw [if_neg (by omega), if_neg (by omega), if_neg (by omega), if_neg (by omega), if_pos (by omega)]
  · rw [if_neg (by omega), if_neg (by omega), if_neg (by omega), if_pos (by omega)]
  · rw [if_neg (by omega), if_neg (by omega), if_pos (by omega)]
  · rw [if_neg (by omega), if_pos (by omega)]
  · rw [if_pos (by omega)]

/-- The tables. -/
def TAB (P : FVec Ideal S16384x128 .f32) (C : FVec Ideal S8x128 .f32) : FVec Ideal S6x16384x128 .f32 := fun j =>
  angle (P (ix2 (j 1) (j 2))) (fun a => C (ix2 a (j 2))) (j 0)

theorem TAB_of (P : FVec Ideal S16384x128 .f32) (C : FVec Ideal S8x128 .f32) (j : S6x16384x128.Idx) (q : Fin 6) (z : Fin 16384) (l : Fin 128)
    (hq : (j 0 : ℕ) = q.val) (hz : (j 1 : ℕ) = z.val) (hl : (j 2 : ℕ) = l.val) : angle (P (ix2 z l)) (fun a => C (ix2 a l)) q = TAB P C j := by
  unfold TAB
  rw [show j 0 = q from Fin.ext hq, show j 1 = z from Fin.ext hz, show j 2 = l from Fin.ext hl]

/-- Where the first kernel's blocks sit. -/
theorem idx0 : ∀ t : Fin cfg0.N, win0_0.index t = ![t.val, 0] ∧ win0_1.index t = ![0, 0] ∧ win0_2.index t = ![0, t.val, 0] ∧ t.val < 32 :=
  (by decide +kernel : ∀ t : Fin grid0.N, _)

/-- THE FIRST KERNEL's array. -/
theorem first (c : Dev nD) : (dat0 V c).arrAt 2 cfg0.N = TAB (V c main_v2) (V c main_v44) := by
  refine (dat0 V c).arrAt_eq_of_covers 2 _ (by decide +kernel) fun t _ y => ?_
  blk_simp
  rw [after0_2]
  obtain ⟨q, r, l, rfl⟩ : ∃ (q : Fin 6) (r : Fin 512) (l : Fin 128), y = ix3 q r l := ⟨y 0, y 1, y 2, eq_ix3 y⟩
  have ht := (idx0 t).2.2.2
  refine (tables_at _ _ q r l).trans (Eq.trans ?_ (TAB_of _ _ _ q ⟨t.val * 512 + r.val, by omega⟩ l
    (by blk_simp [idx0 t]; try dsimp only; omega) (by blk_simp [idx0 t]; try dsimp only; omega) (by blk_simp [idx0 t]; try dsimp only; omega)))
  congr 1
  · blk_ext [iblk0, idx0 t]
  · funext a
    blk_ext [iblk0, idx0 t]

end Arrays

end Cert.OddQkIdeal.Value

end
-- ==== Proof.OddQk.Spec.lean ====
/- The rotated part of the odd layers' input projection, as a formula: queries, and keys twice over, of the window attention,
   each head's first features turned by the position's angles, the queries scaled. -/
module

public import proofs.«01_k».proof.Proof.Rope.Spec

@[expose] public section

noncomputable section

namespace OddQk

open Idealize.ShloMosaic

/-- The layer's input, its positions, and the weights of its input projection. -/
abbrev In := FVec Ideal ⟨3, ![2, 8192, 2048]⟩ .f32
abbrev Ps := IVec ⟨2, ![2, 8192]⟩ 32
abbrev Wt := FVec Ideal ⟨2, ![2048, 2560]⟩ .f32

/-- The weights' column of a column of the result: the queries as they stand, then each key head's 64 columns twice. -/
def wcol (n : Fin 2560) : Fin 2560 :=
  if n.val < 2048 then n else ⟨2048 + ((n.val - 2048) / 128 * 64 + n.val % 64), by omega⟩

/-- The projection before the rotation. -/
def proj (X : In) (W : Wt) (b : Fin 2) (i : Fin 8192) (n : Fin 2560) : EReal := ∑ k : Fin 2048, X (ix3 b i k) * W (ix2 k (wcol n))

/-- Queries are scaled. -/
def scale (n : Fin 2560) : EReal := if n.val < 2048 then Ideal.ofBits .f32 0x3E38AA3B#32 else 1

/-- The result at batch `b`, position `i`, column `n`. -/
def out (X : In) (P : Ps) (W : Wt) (b : Fin 2) (i : Fin 8192) (n : Fin 2560) : EReal :=
  Rope.rot (fun e => proj X W b i ⟨n.val / 64 * 64 + e.val, by omega⟩) (FloatOps.sitofp (F := Ideal) .f32 (P (ix2 b i))) ⟨n.val % 64, by omega⟩ * scale n

/-- The whole result. -/
def G (X : In) (P : Ps) (W : Wt) : FVec Ideal ⟨2, ![16384, 2560]⟩ .bf16 := fun j =>
  out X P W ⟨(j 0 : ℕ) / 8192, by have := (j 0).isLt; simp at this; omega⟩ ⟨(j 0 : ℕ) % 8192, by omega⟩ (j 1)

end OddQk

end
-- ==== Proof.OddQk.Host.lean ====
/- What the two kernels of the odd layers' rotated projection are given, from the layer's arguments. -/
module

public import proofs.«01_k».proof.Proof.OddQk.Run
public import proofs.«01_k».proof.Proof.OddQk.Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OddQkIdeal.Value

open Cert.OddQkIdeal Cert.OddQkIdeal.Gen

/-- A look-up in a table of eight. -/
theorem take_at (x : FVec Ideal S8 .f32) (i : IVec S128x1 32) (l : Fin 128) :
    Host.gather gather_S8_S128x1_S128_n_0_n_n_0_1_1 x i (ix1 l) = x (ix1 ⟨min (i (ix2 l 0)).toInt.toNat 7, by omega⟩) := by
  unfold Host.gather
  congr 1
  funext a
  obtain rfl : a = 0 := Subsingleton.elim _ _
  refine Fin.ext ?_
  set d := gather_S8_S128x1_S128_n_0_n_n_0_1_1
  show d.start (ix1 l) i 0 + d.batchCoord (ix1 l) 0 + d.offCoord (ix1 l) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ d.startIndexMap from List.mem_singleton.mpr rfl)]
  have hsi : d.siIdx (ix1 l) ⟨List.idxOf (0 : Fin 1) d.startIndexMap,
      List.idxOf_lt_length_iff.2 (List.mem_singleton.mpr rfl)⟩ = ix2 l 0 := by
    funext b; refine Fin.ext ?_
    match b with
    | ⟨0, _⟩ => rfl
    | ⟨1, _⟩ => rfl
  rw [hsi]
  rfl

/-- The literal tables, by a rule. -/
theorem lit1_at : ∀ l : Fin 128, lit1 l = BitVec.ofNat 32 (l.val % 8) := by decide +kernel
theorem lit2_at : ∀ l : Fin 128, lit2 l = if l.val % 64 < 16 then 1#1 else 0#1 := by decide +kernel
theorem lit5_at : ∀ l : Fin 128, lit5 l = if l.val % 64 < 8 then 0xBF800000#32 else 0x00000000#32 := by decide +kernel
theorem lit6_at : ∀ l : Fin 128, lit6 l = if 8 ≤ l.val % 64 ∧ l.val % 64 < 16 then 0x3F800000#32 else 0x00000000#32 := by decide +kernel

theorem minus_one : Ideal.ofBits .f32 0xBF800000#32 = -1 := by
  simp [Ideal.ofBits, Ideal.ieee, -EReal.coe_mul]; norm_num

theorem place (l : Fin 128) : S128.rowMajor (ix1 l) = l := by
  refine Fin.ext ?_
  rw [Shape.rowMajor_val_one]; rfl

open OddQk

variable (m : (ℓ : Loc nD τ sig) → Buf (Elt Ideal) ℓ) (ρ : Dev nD → PrngReg)

/-- The frequencies as the program computes them. -/
def FR : FVec Ideal S8 .f32 := Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- The lanes' frequencies as the program computes them. -/
def LN : FVec Ideal S128 .f32 :=  (select (fun i => lit2 (S128.rowMajor i))
          (Host.gather gather_S8_S128x1_S128_n_0_n_n_0_1_1 FR
            (broadcastInDim S128x1 ![0] bcast_S128_S128x1_0
              (select (constantI S128 1 0#1)
                (addi (fun i => lit1 (S128.rowMajor i)) (broadcastInDim S128 ![] bcast_S_S128 (constantI S_ 32 8#32)))
                fun i => lit1 (S128.rowMajor i))))
          (broadcastInDim S128 ![] bcast_S_S128 (constant S_ .f32 0#32)))

theorem lanes_in (c : Dev nD) : W2 m ρ c main_v33 = LN := by
  unfold W2
  after_results
  rfl

/-- They are the frequencies. -/
theorem FR_at (l : Fin 8) : FR (ix1 l) = Rope.freq l := by
  pointwise [FR, Rope.freq]

/-- They are the lanes' frequencies. -/
theorem LN_at (l : Fin 128) : LN (ix1 l) = Rope.lane l := by
  unfold LN Rope.lane
  have hk : ∀ k : Fin 8, min (BitVec.ofNat 32 k.val).toInt.toNat 7 = k.val := by decide
  pointwise [take_at, lit1_at, lit2_at, place, FR_at, hk ⟨l.val % 8, by omega⟩]
  split <;> rfl

/-- The first kernel's table of constants, from the rows it is stacked of. -/
theorem consts (U : Valuation τ sig (Elt Ideal)) : StableHlo.after hostOps0_2 U main_v44 =
   concatenate S8x128 0 [⟨S1x128, broadcastInDim S1x128 ![1] bcast_S128_S1x128_1 (U main_v27 : FVec Ideal S128 .f32)⟩,
     ⟨S1x128, broadcastInDim S1x128 ![1] bcast_S128_S1x128_1 (U main_cst : FVec Ideal S128 .f32)⟩,
     ⟨S1x128, broadcastInDim S1x128 ![1] bcast_S128_S1x128_1 (U main_cst_4 : FVec Ideal S128 .f32)⟩,
     ⟨S1x128, broadcastInDim S1x128 ![1] bcast_S128_S1x128_1 (U main_v33 : FVec Ideal S128 .f32)⟩,
     ⟨S1x128, broadcastInDim S1x128 ![1] bcast_S128_S1x128_1 (U main_cst_5 : FVec Ideal S128 .f32)⟩,
     ⟨S1x128, broadcastInDim S1x128 ![1] bcast_S128_S1x128_1 (U main_cst_6 : FVec Ideal S128 .f32)⟩,
     ⟨S1x128, broadcastInDim S1x128 ![1] bcast_S128_S1x128_1 (broadcastInDim S128 ![] bcast_S_S128 (constant (F := Ideal) S_ .f32 0x00000000#32))⟩,
     ⟨S1x128, broadcastInDim S1x128 ![1] bcast_S128_S1x128_1 (broadcastInDim S128 ![] bcast_S_S128 (constant (F := Ideal) S_ .f32 0x00000000#32))⟩]
     concatenates_S1x128_S1x128_S1x128_S1x128_S1x128_S1x128_S1x128_S1x128_S8x128_d0 := by
  after_results <;> rfl

/-- The first kernel's positions. -/
theorem pos_in (c : Dev nD) : V3 m ρ c main_v2 = broadcastInDim S16384x128 ![0, 1] bcast_S16384x1_S16384x128_0_1
    (sitofp (F := Ideal) .f32 (shapeCast S16384x1 (m ((c : Thread nD τ).loc main_arg1) : IVec S2x8192 32) shapeCasts_S2x8192_S16384x1)) := by
  unfold V3 W3
  after_results <;> rfl

/-- The second kernel's rows, scale and tables. -/
theorem rows_in (c : Dev nD) : V7 m ρ c main_v47
    = truncf (F := Ideal) .bf16 (shapeCast S16384x2048 (m ((c : Thread nD τ).loc main_arg0) : FVec Ideal S2x8192x2048 .f32) shapeCasts_S2x8192x2048_S16384x2048) bitsLt_bf16_f32 := by
  unfold V7 W7
  after_results
  rw [W4_args m ρ c main_arg0 (by decide)]
  rfl

theorem scale_in (c : Dev nD) : V7 m ρ c main_v65 = shapeCast S1x2560 (select (cmpi .slt (iotaInDim S2560 32 0) (broadcastInDim S2560 ![] bcast_S_S2560 (constantI S_ 32 2048#32)))
    (broadcastInDim S2560 ![] bcast_S_S2560 (constant (F := Ideal) S_ .f32 0x3E38AA3B#32)) (broadcastInDim S2560 ![] bcast_S_S2560 (constant (F := Ideal) S_ .f32 0x3F800000#32))) shapeCasts_S2560_S1x2560 := by
  unfold V7 W7
  after_results
  rfl

theorem tab_in (c : Dev nD) : V7 m ρ c main_v45 = (dat0 (V3 m ρ) c).arrAt 2 cfg0.N :=
  (W7_of m ρ c main_v45 (by decide)).trans ((W6_of m ρ c main_v45 (by decide)).trans ((W5_of m ρ c main_v45 (by decide)).trans (W4_arr m ρ c 2)))

/-- Row `q` of the stack. -/
theorem stack_at (r0 r1 r2 r3 r4 r5 r6 r7 : FVec Ideal S1x128 .f32) (l : Fin 128) :
    let C : FVec Ideal S8x128 .f32 := concatenate S8x128 0 [⟨S1x128, r0⟩, ⟨S1x128, r1⟩, ⟨S1x128, r2⟩, ⟨S1x128, r3⟩, ⟨S1x128, r4⟩, ⟨S1x128, r5⟩, ⟨S1x128, r6⟩, ⟨S1x128, r7⟩]
      concatenates_S1x128_S1x128_S1x128_S1x128_S1x128_S1x128_S1x128_S1x128_S8x128_d0
    C (ix2 3 l) = r3 (ix2 0 l) ∧ C (ix2 4 l) = r4 (ix2 0 l) ∧ C (ix2 5 l) = r5 (ix2 0 l) := by
  refine ⟨?_, ?_, ?_⟩
  · refine concatenate_apply_piece (t := S8x128) 0 _ _ _ 3 (by simp) S1x128 _ rfl rfl 3 rfl (ix2 0 l) (fun b hb => ?_) rfl
    fin_cases b
    · exact absurd rfl hb
    · rfl
  · refine concatenate_apply_piece (t := S8x128) 0 _ _ _ 4 (by simp) S1x128 _ rfl rfl 4 rfl (ix2 0 l) (fun b hb => ?_) rfl
    fin_cases b
    · exact absurd rfl hb
    · rfl
  · refine concatenate_apply_piece (t := S8x128) 0 _ _ _ 5 (by simp) S1x128 _ rfl rfl 5 rfl (ix2 0 l) (fun b hb => ?_) rfl
    fin_cases b
    · exact absurd rfl hb
    · rfl

/-- The signs, where a shifted copy counts. -/
theorem lo_in (c : Dev nD) : W2 m ρ c main_cst_5 = fun i => FloatOps.ofBits (F := Ideal) .f32 (lit5 (S128.rowMajor i)) := by
  unfold W2
  after_results <;> rfl
theorem hi_in (c : Dev nD) : W2 m ρ c main_cst_6 = fun i => FloatOps.ofBits (F := Ideal) .f32 (lit6 (S128.rowMajor i)) := by
  unfold W2
  after_results <;> rfl

/-- The constants of a lane. -/
theorem consts_at (c : Dev nD) (l : Fin 128) :
    (V3 m ρ c main_v44 : FVec Ideal S8x128 .f32) (ix2 3 l) = Rope.lane l
    ∧ (V3 m ρ c main_v44 : FVec Ideal S8x128 .f32) (ix2 4 l) = Rope.lo l
    ∧ (V3 m ρ c main_v44 : FVec Ideal S8x128 .f32) (ix2 5 l) = Rope.hi l := by
  have e : V3 m ρ c main_v44 = _ := consts (W2 m ρ c)
  rw [e, lanes_in, lo_in, hi_in]
  have h := stack_at (broadcastInDim S1x128 ![1] bcast_S128_S1x128_1 (W2 m ρ c main_v27 : FVec Ideal S128 .f32))
    (broadcastInDim S1x128 ![1] bcast_S128_S1x128_1 (W2 m ρ c main_cst : FVec Ideal S128 .f32))
    (broadcastInDim S1x128 ![1] bcast_S128_S1x128_1 (W2 m ρ c main_cst_4 : FVec Ideal S128 .f32))
    (broadcastInDim S1x128 ![1] bcast_S128_S1x128_1 LN)
    (broadcastInDim S1x128 ![1] bcast_S128_S1x128_1 (fun i => FloatOps.ofBits (F := Ideal) .f32 (lit5 (S128.rowMajor i))))
    (broadcastInDim S1x128 ![1] bcast_S128_S1x128_1 (fun i => FloatOps.ofBits (F := Ideal) .f32 (lit6 (S128.rowMajor i))))
    (broadcastInDim S1x128 ![1] bcast_S128_S1x128_1 (broadcastInDim S128 ![] bcast_S_S128 (constant (F := Ideal) S_ .f32 0x00000000#32)))
    (broadcastInDim S1x128 ![1] bcast_S128_S1x128_1 (broadcastInDim S128 ![] bcast_S_S128 (constant (F := Ideal) S_ .f32 0x00000000#32))) l
  refine ⟨h.1.trans ?_, h.2.1.trans ?_, h.2.2.trans ?_⟩
  · pointwise [LN_at]
  · pointwise [place, lit5_at, Rope.lo]
    split <;> pointwise [minus_one]
  · pointwise [place, lit6_at, Rope.hi]
    split <;> pointwise []

/-- A row of the positions. -/
theorem pos_of (P : Ps) (z : Fin 16384) (b : Fin 2) (i : Fin 8192) (l : Fin 128) (hz : z.val = b.val * 8192 + i.val) :
    broadcastInDim S16384x128 ![0, 1] bcast_S16384x1_S16384x128_0_1
      (sitofp (F := Ideal) .f32 (shapeCast S16384x1 P shapeCasts_S2x8192_S16384x1)) (ix2 z l) = FloatOps.sitofp (F := Ideal) .f32 (P (ix2 b i)) := by
  pointwise []
  rw [show (⟨z.val / 8192, by omega⟩ : Fin 2) = b from Fin.ext (by show z.val / 8192 = b.val; omega),
    show (⟨z.val % 8192, by omega⟩ : Fin 8192) = i from Fin.ext (by show z.val % 8192 = i.val; omega)]

/-- Row `b * 8192 + i` is position `i` of batch `b`. -/
theorem row_of (X : In) (z : Fin 16384) (b : Fin 2) (i : Fin 8192) (k : Fin 2048) (hz : z.val = b.val * 8192 + i.val) :
    truncf (F := Ideal) .bf16 (shapeCast S16384x2048 X shapeCasts_S2x8192x2048_S16384x2048) bitsLt_bf16_f32 (ix2 z k) = X (ix3 b i k) := by
  pointwise []
  rw [show (⟨z.val / 8192, by omega⟩ : Fin 2) = b from Fin.ext (by show z.val / 8192 = b.val; omega),
    show (⟨z.val % 8192, by omega⟩ : Fin 8192) = i from Fin.ext (by show z.val % 8192 = i.val; omega)]

/-- The scale of a column. -/
theorem scale_at (c : Dev nD) (n : Fin 2560) : (V7 m ρ c main_v65 : FVec Ideal S1x2560 .f32) (ix2 0 n) = scale n := by
  rw [scale_in]
  have hk : ∀ n : Fin 2560, IntOp.cmpi .slt (BitVec.ofNat 32 n.val) 2048#32 = if n.val < 2048 then 1#1 else 0#1 := by decide +kernel
  pointwise [hk, scale]
  split <;> rfl

/-- A head's 64 columns, twice over. -/
def dup (W : FVec Ideal S2048x256 .f32) : FVec Ideal S2048x512 .f32 :=
  shapeCast S2048x512 (concatenate S2048x4x2x64 2 [⟨S2048x4x1x64, shapeCast S2048x4x1x64 W shapeCasts_S2048x256_S2048x4x1x64⟩,
    ⟨S2048x4x1x64, shapeCast S2048x4x1x64 W shapeCasts_S2048x256_S2048x4x1x64⟩] concatenates_S2048x4x1x64_S2048x4x1x64_S2048x4x2x64_d2)
    shapeCasts_S2048x4x2x64_S2048x512

/-- The weights' columns in the kernel's order. -/
def cat (W : Wt) : FVec Ideal S2048x3072 .f32 :=
  concatenate S2048x3072 1 [⟨S2048x2048, extractStridedSlice S2048x2048 ![0, 0] W slices_S2048x2560_S2048x2048_0_0⟩,
    ⟨S2048x512, dup (extractStridedSlice S2048x256 ![0, 2048] W slices_S2048x2560_S2048x256_0_2048)⟩,
    ⟨S2048x512, dup (extractStridedSlice S2048x256 ![0, 2304] W slices_S2048x2560_S2048x256_0_2304)⟩]
    concatenates_S2048x2048_S2048x512_S2048x512_S2048x3072_d1

theorem dup_at (W : FVec Ideal S2048x256 .f32) (k : Fin 2048) (n : Fin 512) :
    dup W (ix2 k n) = W (ix2 k ⟨n.val / 128 * 64 + n.val % 64, by omega⟩) := by
  pointwise [dup]
  exact ite_self _

theorem cat_at (W : Wt) (k : Fin 2048) (n : Fin 2560) : cat W (ix2 k ⟨n.val, by omega⟩) = W (ix2 k (wcol n)) := by
  unfold cat wcol
  by_cases h : n.val < 2048
  · rw [if_pos h]
    refine (concatenate_apply_piece (t := S2048x3072) 1 _ _ _ 0 (by simp) S2048x2048 _ rfl rfl 0 rfl (ix2 k ⟨n.val, h⟩)
      (fun b hb => ?_) (by show 0 + n.val = n.val; omega)).trans (by pointwise [])
    fin_cases b
    · rfl
    · exact absurd rfl hb
  · rw [if_neg h]
    refine (concatenate_apply_piece (t := S2048x3072) 1 _ _ _ 1 (by simp) S2048x512 _ rfl rfl 2048 rfl (ix2 k ⟨n.val - 2048, by omega⟩)
      (fun b hb => ?_) (by show 2048 + (n.val - 2048) = n.val; omega)).trans ((dup_at _ k _).trans ?_)
    · fin_cases b
      · rfl
      · exact absurd rfl hb
    · pointwise []
      exact congrArg W (congrArg (ix2 k) (Fin.ext (by dsimp only; omega)))

/-- The weights the second kernel is given. -/
theorem cut_of (U : Valuation τ sig (Elt Ideal)) : StableHlo.after hostOps1 U main_v59 = extractStridedSlice S2048x2560 ![0, 0]
    (truncf (F := Ideal) .bf16 (cat (U main_arg2)) bitsLt_bf16_f32) slices_S2048x3072_S2048x2560_0_0 := by
  after_results <;> rfl

theorem weights (c : Dev nD) : V7 m ρ c main_v59 = extractStridedSlice S2048x2560 ![0, 0]
    (truncf (F := Ideal) .bf16 (cat (m ((c : Thread nD τ).loc main_arg2))) bitsLt_bf16_f32) slices_S2048x3072_S2048x2560_0_0 := by
  rw [← W4_args m ρ c main_arg2 (by decide)]
  exact (W7_of m ρ c main_v59 (by decide)).trans ((W6_of m ρ c main_v59 (by decide)).trans (cut_of (W4 m ρ c)))

theorem weights_at (c : Dev nD) (k : Fin 2048) (n : Fin 2560) :
    (V7 m ρ c main_v59 : FVec Ideal S2048x2560 .bf16) (ix2 k n) = (m ((c : Thread nD τ).loc main_arg2) : Wt) (ix2 k (wcol n)) := by
  rw [weights]
  refine Eq.trans ?_ (cat_at (m ((c : Thread nD τ).loc main_arg2)) k n)
  generalize cat (m ((c : Thread nD τ).loc main_arg2)) = A
  pointwise []

end Cert.OddQkIdeal.Value

end
-- ==== Proof.OddQk.Value.lean ====
/- What the odd layers' rotated projection leaves, from the layer's arguments: the formula of `Spec`. -/
module

public import proofs.«01_k».proof.Proof.OddQk.Arrays
public import proofs.«01_k».proof.Proof.OddQk.Host

@[expose] public section

set_option maxRecDepth 16384

noncomputable section

open Idealize.ShloMosaic Idealize.ShloMosaic.TcCoe

namespace Cert.OddQkIdeal.Value

open Cert.OddQkIdeal Cert.OddQkIdeal.Gen OddQk

variable (m : (ℓ : Loc nD τ sig) → Buf (Elt Ideal) ℓ) (ρ : Dev nD → PrngReg)

/-- The second kernel's formula over the first kernel's tables is the specified one. -/
theorem full_eq (Y : FVec Ideal S16384x2048 .bf16) (B : FVec Ideal S2048x2560 .bf16) (Q : FVec Ideal S16384x128 .f32) (C : FVec Ideal S8x128 .f32)
    (S : FVec Ideal S1x2560 .f32) (X : In) (P : Ps) (W : Wt) (z : Fin 16384) (b : Fin 2) (i : Fin 8192) (n : Fin 2560)
    (hY : ∀ k, Y (ix2 z k) = X (ix3 b i k)) (hB : ∀ k n, B (ix2 k n) = W (ix2 k (wcol n)))
    (hQ : ∀ l, Q (ix2 z l) = FloatOps.sitofp (F := Ideal) .f32 (P (ix2 b i)))
    (hC : ∀ l, C (ix2 3 l) = Rope.lane l ∧ C (ix2 4 l) = Rope.lo l ∧ C (ix2 5 l) = Rope.hi l) (hS : S (ix2 0 n) = scale n) :
    full Y B (TAB Q C) S z n = out X P W b i n := by
  have h := Rope.columns (N := 2560) (M := 20) rfl (proj X W b i) (FloatOps.sitofp (F := Ideal) .f32 (P (ix2 b i))) n
  unfold out
  rw [← h]
  unfold full proj
  simp only [hY, hB, hS]
  have t3 : ∀ l, TAB Q C (ix3 3 z l) = Ideal.cos (FloatOps.sitofp (F := Ideal) .f32 (P (ix2 b i)) * Rope.lane l) := fun l => by
    rw [← hQ l, ← (hC l).1]; rfl
  have t4 : ∀ l, TAB Q C (ix3 4 z l) = Ideal.sin (FloatOps.sitofp (F := Ideal) .f32 (P (ix2 b i)) * Rope.lane l) * Rope.lo l := fun l => by
    rw [← hQ l, ← (hC l).1, ← (hC l).2.1]; rfl
  have t5 : ∀ l, TAB Q C (ix3 5 z l) = Ideal.sin (FloatOps.sitofp (F := Ideal) .f32 (P (ix2 b i)) * Rope.lane l) * Rope.hi l := fun l => by
    rw [← hQ l, ← (hC l).1, ← (hC l).2.2]; rfl
  simp only [t3, t4, t5]

/-- THE ARRAY after the run. -/
theorem final (c : Dev nD) : (dat1 (V7 m ρ) c).arrAt 4 cfg1.N
    = G (m ((c : Thread nD τ).loc main_arg0)) (m ((c : Thread nD τ).loc main_arg1)) (m ((c : Thread nD τ).loc main_arg2)) := by
  rw [second, tab_in, first]
  funext j
  have hz : (j 0 : ℕ) < 16384 := (j 0).isLt
  refine full_eq _ _ _ _ _ _ _ _ (j 0) ⟨(j 0 : ℕ) / 8192, by omega⟩ ⟨(j 0 : ℕ) % 8192, by omega⟩ (j 1) (fun k => ?_)
    (weights_at m ρ c) (fun l => ?_) (consts_at m ρ c) (scale_at m ρ c (j 1))
  · rw [rows_in]
    exact row_of _ (j 0) _ _ k (by show (j 0 : ℕ) = (j 0 : ℕ) / 8192 * 8192 + (j 0 : ℕ) % 8192; omega)
  · rw [pos_in]
    exact pos_of _ (j 0) _ _ l (by show (j 0 : ℕ) = (j 0 : ℕ) / 8192 * 8192 + (j 0 : ℕ) % 8192; omega)

end Cert.OddQkIdeal.Value

end
-- ==== Proof.OddQk.Ref.lean ====
/- The reference of the odd layers' rotated projection, read at an index: the formula of `Spec`. -/
module

public import proofs.«01_k».proof.Proof.Gen.OddQkRefIdeal.Run
public import proofs.«01_k».proof.Proof.OddQk.Spec
public import Idealize.ShloMosaic.Lib.Pointwise

@[expose] public section

set_option maxRecDepth 16384

noncomputable section

open Idealize.ShloMosaic Idealize.ShloMosaic.TcCoe

namespace Cert.OddQkRefIdeal.Value

open Cert.OddQkRefIdeal Cert.OddQkRefIdeal.Gen OddQk

/-- The angles: a position times a frequency. -/
def ANG (P : Ps) : FVec Ideal S2x8192x8 .f32 :=
  mulf (broadcastInDim S2x8192x8 ![0, 1, 2] bcast_S2x8192x1_S2x8192x8_0_1_2 (broadcastInDim S2x8192x1 ![0, 1] bcast_S2x8192_S2x8192x1_0_1 (sitofp .f32 P)))
    (broadcastInDim S2x8192x8 ![0, 1, 2] bcast_S1x1x8_S2x8192x8_0_1_2 (broadcastInDim S1x1x8 ![2] bcast_S8_S1x1x8_2
      (Host.powf (broadcastInDim S8 ![] bcast_S_S8 (constant S_ .f32 0x48F42400#32))
        (Host.divf (Host.negf (addf (broadcastInDim S8 ![] bcast_S_S8 (constant S_ .f32 0x00000000#32))
          (mulf (broadcastInDim S8 ![] bcast_S_S8 (constant S_ .f32 0x40000000#32)) (sitofp .f32 (iotaInDim S8 32 0)))))
          (broadcastInDim S8 ![] bcast_S_S8 (constant S_ .f32 0x41800000#32))))))

/-- Their cosines and sines, for every head. -/
def COS32 (P : Ps) : FVec Ideal S2x8192x32x8 .f32 :=
  broadcastInDim S2x8192x32x8 ![0, 1, 2, 3] bcast_S2x8192x1x8_S2x8192x32x8_0_1_2_3 (broadcastInDim S2x8192x1x8 ![0, 1, 3] bcast_S2x8192x8_S2x8192x1x8_0_1_3 (Host.cos (ANG P)))
def SIN32 (P : Ps) : FVec Ideal S2x8192x32x8 .f32 :=
  broadcastInDim S2x8192x32x8 ![0, 1, 2, 3] bcast_S2x8192x1x8_S2x8192x32x8_0_1_2_3 (broadcastInDim S2x8192x1x8 ![0, 1, 3] bcast_S2x8192x8_S2x8192x1x8_0_1_3 (Host.sin (ANG P)))

/-- The two halves of the features that turn. -/
def LEFT32 (x : FVec Ideal S2x8192x32x64 .f32) : FVec Ideal S2x8192x32x8 .f32 :=
  extractStridedSlice S2x8192x32x8 ![0, 0, 0, 0] (extractStridedSlice S2x8192x32x16 ![0, 0, 0, 0] x slices_S2x8192x32x64_S2x8192x32x16_0_0_0_0) slices_S2x8192x32x16_S2x8192x32x8_0_0_0_0
def RIGHT32 (x : FVec Ideal S2x8192x32x64 .f32) : FVec Ideal S2x8192x32x8 .f32 :=
  extractStridedSlice S2x8192x32x8 ![0, 0, 0, 8] (extractStridedSlice S2x8192x32x16 ![0, 0, 0, 0] x slices_S2x8192x32x64_S2x8192x32x16_0_0_0_0) slices_S2x8192x32x16_S2x8192x32x8_0_0_0_8

/-- The turned features. -/
def TURN32 (x : FVec Ideal S2x8192x32x64 .f32) (P : Ps) : FVec Ideal S2x8192x32x16 .f32 :=
  concatenate S2x8192x32x16 3 [⟨S2x8192x32x8, subf (mulf (LEFT32 x) (COS32 P)) (mulf (RIGHT32 x) (SIN32 P))⟩,
    ⟨S2x8192x32x8, addf (mulf (RIGHT32 x) (COS32 P)) (mulf (LEFT32 x) (SIN32 P))⟩] concatenates_S2x8192x32x8_S2x8192x32x8_S2x8192x32x16_d3

/-- All the features of a head. -/
def ROT32 (x : FVec Ideal S2x8192x32x64 .f32) (P : Ps) : FVec Ideal S2x8192x32x64 .f32 :=
  concatenate S2x8192x32x64 3 [⟨S2x8192x32x16, TURN32 x P⟩, ⟨S2x8192x32x48, extractStridedSlice S2x8192x32x48 ![0, 0, 0, 16] x slices_S2x8192x32x64_S2x8192x32x48_0_0_0_16⟩]
    concatenates_S2x8192x32x16_S2x8192x32x48_S2x8192x32x64_d3

/-- Their cosines and sines, for every head. -/
def COS4 (P : Ps) : FVec Ideal S2x8192x4x8 .f32 :=
  broadcastInDim S2x8192x4x8 ![0, 1, 2, 3] bcast_S2x8192x1x8_S2x8192x4x8_0_1_2_3 (broadcastInDim S2x8192x1x8 ![0, 1, 3] bcast_S2x8192x8_S2x8192x1x8_0_1_3 (Host.cos (ANG P)))
def SIN4 (P : Ps) : FVec Ideal S2x8192x4x8 .f32 :=
  broadcastInDim S2x8192x4x8 ![0, 1, 2, 3] bcast_S2x8192x1x8_S2x8192x4x8_0_1_2_3 (broadcastInDim S2x8192x1x8 ![0, 1, 3] bcast_S2x8192x8_S2x8192x1x8_0_1_3 (Host.sin (ANG P)))

/-- The two halves of the features that turn. -/
def LEFT4 (x : FVec Ideal S2x8192x4x64 .f32) : FVec Ideal S2x8192x4x8 .f32 :=
  extractStridedSlice S2x8192x4x8 ![0, 0, 0, 0] (extractStridedSlice S2x8192x4x16 ![0, 0, 0, 0] x slices_S2x8192x4x64_S2x8192x4x16_0_0_0_0) slices_S2x8192x4x16_S2x8192x4x8_0_0_0_0
def RIGHT4 (x : FVec Ideal S2x8192x4x64 .f32) : FVec Ideal S2x8192x4x8 .f32 :=
  extractStridedSlice S2x8192x4x8 ![0, 0, 0, 8] (extractStridedSlice S2x8192x4x16 ![0, 0, 0, 0] x slices_S2x8192x4x64_S2x8192x4x16_0_0_0_0) slices_S2x8192x4x16_S2x8192x4x8_0_0_0_8

/-- The turned features. -/
def TURN4 (x : FVec Ideal S2x8192x4x64 .f32) (P : Ps) : FVec Ideal S2x8192x4x16 .f32 :=
  concatenate S2x8192x4x16 3 [⟨S2x8192x4x8, subf (mulf (LEFT4 x) (COS4 P)) (mulf (RIGHT4 x) (SIN4 P))⟩,
    ⟨S2x8192x4x8, addf (mulf (RIGHT4 x) (COS4 P)) (mulf (LEFT4 x) (SIN4 P))⟩] concatenates_S2x8192x4x8_S2x8192x4x8_S2x8192x4x16_d3

/-- All the features of a head. -/
def ROT4 (x : FVec Ideal S2x8192x4x64 .f32) (P : Ps) : FVec Ideal S2x8192x4x64 .f32 :=
  concatenate S2x8192x4x64 3 [⟨S2x8192x4x16, TURN4 x P⟩, ⟨S2x8192x4x48, extractStridedSlice S2x8192x4x48 ![0, 0, 0, 16] x slices_S2x8192x4x64_S2x8192x4x48_0_0_0_16⟩]
    concatenates_S2x8192x4x16_S2x8192x4x48_S2x8192x4x64_d3

/-- The projection, its query heads and its key heads. -/
def PR (X : In) (W : Wt) : FVec Ideal S2x8192x2560 .f32 := Host.dotGeneral dot_S2x8192x2048_S2048x2560_S2x8192x2560_2_0_01_1_n_n none X W
def QH (X : In) (W : Wt) : FVec Ideal S2x8192x32x64 .f32 :=
  shapeCast _ (extractStridedSlice S2x8192x2048 ![0, 0, 0] (PR X W) slices_S2x8192x2560_S2x8192x2048_0_0_0) shapeCasts_S2x8192x2048_S2x8192x32x64
def KH (X : In) (W : Wt) : FVec Ideal S2x8192x4x64 .f32 :=
  shapeCast _ (extractStridedSlice S2x8192x256 ![0, 0, 2048] (PR X W) slices_S2x8192x2560_S2x8192x256_0_0_2048) shapeCasts_S2x8192x256_S2x8192x4x64

/-- The queries turned and scaled, a row per position. -/
def QF (X : In) (P : Ps) (W : Wt) : FVec Ideal S16384x2048 .f32 :=
  mulf (shapeCast _ (ROT32 (QH X W) P) shapeCasts_S2x8192x32x64_S16384x2048) (broadcastInDim S16384x2048 ![] bcast_S_S16384x2048 (constant S_ .f32 0x3E38AA3B#32))

/-- The keys turned, each head twice, a row per position. -/
def KD (x : FVec Ideal S2x8192x4x64 .f32) : FVec Ideal S2x8192x4x128 .f32 :=
  concatenate S2x8192x4x128 3 [⟨S2x8192x4x64, x⟩, ⟨S2x8192x4x64, x⟩] concatenates_S2x8192x4x64_S2x8192x4x64_S2x8192x4x128_d3
def KF (X : In) (P : Ps) (W : Wt) : FVec Ideal S16384x512 .f32 := shapeCast _ (KD (ROT4 (KH X W) P)) shapeCasts_S2x8192x4x128_S16384x512

/-- Queries and keys side by side. -/
def CAT (X : In) (P : Ps) (W : Wt) : FVec Ideal S16384x2560 .f32 :=
  concatenate S16384x2560 1 [⟨S16384x2048, QF X P W⟩, ⟨S16384x512, KF X P W⟩] concatenates_S16384x2048_S16384x512_S16384x2560_d1

/-- The reference's result. -/
def REF (X : In) (P : Ps) (W : Wt) : FVec Ideal S16384x2560 .bf16 := truncf .bf16 (CAT X P W) bitsLt_bf16_f32

/-- It is what the run leaves. -/
theorem res0 (m : (ℓ : Loc nD τ sig) → Buf (Elt Ideal) ℓ) (c : Dev nD) : res_main_v63 m c
    = REF (m ((c.tc : Thread nD τ).loc main_arg0)) (m ((c.tc : Thread nD τ).loc main_arg1)) (m ((c.tc : Thread nD τ).loc main_arg2)) := rfl

/-- The tables at an index. -/
theorem COS32_at (P : Ps) (b : Fin 2) (i : Fin 8192) (h : Fin 32) (l : Fin 8) :
    COS32 P (ix4 b i h l) = Ideal.cos (FloatOps.sitofp (F := Ideal) .f32 (P (ix2 b i)) * Rope.freq l) := by pointwise [COS32, ANG, Rope.freq]
theorem SIN32_at (P : Ps) (b : Fin 2) (i : Fin 8192) (h : Fin 32) (l : Fin 8) :
    SIN32 P (ix4 b i h l) = Ideal.sin (FloatOps.sitofp (F := Ideal) .f32 (P (ix2 b i)) * Rope.freq l) := by pointwise [SIN32, ANG, Rope.freq]

/-- The halves at an index. -/
theorem LEFT32_at (x : FVec Ideal S2x8192x32x64 .f32) (b : Fin 2) (i : Fin 8192) (h : Fin 32) (l : Fin 8) :
    LEFT32 x (ix4 b i h l) = x (ix4 b i h ⟨l.val, by omega⟩) := by pointwise [LEFT32]
theorem RIGHT32_at (x : FVec Ideal S2x8192x32x64 .f32) (b : Fin 2) (i : Fin 8192) (h : Fin 32) (l : Fin 8) :
    RIGHT32 x (ix4 b i h l) = x (ix4 b i h ⟨l.val + 8, by omega⟩) := by
  pointwise [RIGHT32]
  exact congrArg x (congrArg (ix4 b i h) (Fin.ext (by dsimp only; omega)))

/-- The turned features at an index. -/
theorem TURN32_lo (x : FVec Ideal S2x8192x32x64 .f32) (P : Ps) (b : Fin 2) (i : Fin 8192) (h : Fin 32) (l : Fin 8) :
    TURN32 x P (ix4 b i h ⟨l.val, by omega⟩) = x (ix4 b i h ⟨l.val, by omega⟩) * COS32 P (ix4 b i h l) - x (ix4 b i h ⟨l.val + 8, by omega⟩) * SIN32 P (ix4 b i h l) := by
  unfold TURN32
  refine (concatenate_apply_piece (t := S2x8192x32x16) 3 _ _ _ 0 (by simp) S2x8192x32x8 _ rfl rfl 0 rfl (ix4 b i h l)
    (fun a ha => ?_) (by show 0 + l.val = l.val; omega)).trans (by pointwise [LEFT32_at, RIGHT32_at])
  fin_cases a
  · rfl
  · rfl
  · rfl
  · exact absurd rfl ha
theorem TURN32_hi (x : FVec Ideal S2x8192x32x64 .f32) (P : Ps) (b : Fin 2) (i : Fin 8192) (h : Fin 32) (l : Fin 8) :
    TURN32 x P (ix4 b i h ⟨8 + l.val, by omega⟩) = x (ix4 b i h ⟨l.val + 8, by omega⟩) * COS32 P (ix4 b i h l) + x (ix4 b i h ⟨l.val, by omega⟩) * SIN32 P (ix4 b i h l) := by
  unfold TURN32
  refine (concatenate_apply_piece (t := S2x8192x32x16) 3 _ _ _ 1 (by simp) S2x8192x32x8 _ rfl rfl 8 rfl (ix4 b i h l)
    (fun a ha => ?_) rfl).trans (by pointwise [LEFT32_at, RIGHT32_at])
  fin_cases a
  · rfl
  · rfl
  · rfl
  · exact absurd rfl ha

/-- A head at an index. -/
theorem ROT32_turn (x : FVec Ideal S2x8192x32x64 .f32) (P : Ps) (b : Fin 2) (i : Fin 8192) (h : Fin 32) (e : Fin 16) :
    ROT32 x P (ix4 b i h ⟨e.val, by omega⟩) = TURN32 x P (ix4 b i h e) := by
  unfold ROT32
  refine (concatenate_apply_piece (t := S2x8192x32x64) 3 _ _ _ 0 (by simp) S2x8192x32x16 _ rfl rfl 0 rfl (ix4 b i h e)
    (fun a ha => ?_) (by show 0 + e.val = e.val; omega))
  fin_cases a
  · rfl
  · rfl
  · rfl
  · exact absurd rfl ha
theorem ROT32_rest (x : FVec Ideal S2x8192x32x64 .f32) (P : Ps) (b : Fin 2) (i : Fin 8192) (h : Fin 32) (e : Fin 48) :
    ROT32 x P (ix4 b i h ⟨16 + e.val, by omega⟩) = x (ix4 b i h ⟨16 + e.val, by omega⟩) := by
  unfold ROT32
  refine (concatenate_apply_piece (t := S2x8192x32x64) 3 _ _ _ 1 (by simp) S2x8192x32x48 _ rfl rfl 16 rfl (ix4 b i h e)
    (fun a ha => ?_) rfl).trans (by pointwise [])
  fin_cases a
  · rfl
  · rfl
  · rfl
  · exact absurd rfl ha

/-- Which is the rotation. -/
theorem ROT32_at (x : FVec Ideal S2x8192x32x64 .f32) (P : Ps) (b : Fin 2) (i : Fin 8192) (h : Fin 32) (e : Fin 64) :
    ROT32 x P (ix4 b i h e) = Rope.rot (fun e => x (ix4 b i h e)) (FloatOps.sitofp (F := Ideal) .f32 (P (ix2 b i))) e := by
  unfold Rope.rot
  by_cases h0 : e.val < 8
  · rw [dif_pos h0]
    refine (ROT32_turn x P b i h ⟨e.val, by omega⟩).trans ((TURN32_lo x P b i h ⟨e.val, h0⟩).trans ?_)
    rw [COS32_at, SIN32_at]
  · rw [dif_neg h0]
    by_cases h1 : e.val < 16
    · rw [dif_pos h1]
      have e0 : e = ⟨8 + (e.val - 8), by omega⟩ := Fin.ext (by dsimp only; omega)
      have e1 : (⟨e.val - 8 + 8, by omega⟩ : Fin 64) = e := Fin.ext (by dsimp only; omega)
      have t := (ROT32_turn x P b i h ⟨8 + (e.val - 8), by omega⟩).trans (TURN32_hi x P b i h ⟨e.val - 8, by omega⟩)
      rw [COS32_at, SIN32_at] at t
      dsimp only at t
      rw [e1, ← e0] at t
      exact t
    · rw [dif_neg h1]
      have e0 : e = ⟨16 + (e.val - 16), by omega⟩ := Fin.ext (by dsimp only; omega)
      have t := ROT32_rest x P b i h ⟨e.val - 16, by omega⟩
      dsimp only at t
      rw [← e0] at t
      exact t

/-- The tables at an index. -/
theorem COS4_at (P : Ps) (b : Fin 2) (i : Fin 8192) (h : Fin 4) (l : Fin 8) :
    COS4 P (ix4 b i h l) = Ideal.cos (FloatOps.sitofp (F := Ideal) .f32 (P (ix2 b i)) * Rope.freq l) := by pointwise [COS4, ANG, Rope.freq]
theorem SIN4_at (P : Ps) (b : Fin 2) (i : Fin 8192) (h : Fin 4) (l : Fin 8) :
    SIN4 P (ix4 b i h l) = Ideal.sin (FloatOps.sitofp (F := Ideal) .f32 (P (ix2 b i)) * Rope.freq l) := by pointwise [SIN4, ANG, Rope.freq]

/-- The halves at an index. -/
theorem LEFT4_at (x : FVec Ideal S2x8192x4x64 .f32) (b : Fin 2) (i : Fin 8192) (h : Fin 4) (l : Fin 8) :
    LEFT4 x (ix4 b i h l) = x (ix4 b i h ⟨l.val, by omega⟩) := by pointwise [LEFT4]
theorem RIGHT4_at (x : FVec Ideal S2x8192x4x64 .f32) (b : Fin 2) (i : Fin 8192) (h : Fin 4) (l : Fin 8) :
    RIGHT4 x (ix4 b i h l) = x (ix4 b i h ⟨l.val + 8, by omega⟩) := by
  pointwise [RIGHT4]
  exact congrArg x (congrArg (ix4 b i h) (Fin.ext (by dsimp only; omega)))

/-- The turned features at an index. -/
theorem TURN4_lo (x : FVec Ideal S2x8192x4x64 .f32) (P : Ps) (b : Fin 2) (i : Fin 8192) (h : Fin 4) (l : Fin 8) :
    TURN4 x P (ix4 b i h ⟨l.val, by omega⟩) = x (ix4 b i h ⟨l.val, by omega⟩) * COS4 P (ix4 b i h l) - x (ix4 b i h ⟨l.val + 8, by omega⟩) * SIN4 P (ix4 b i h l) := by
  unfold TURN4
  refine (concatenate_apply_piece (t := S2x8192x4x16) 3 _ _ _ 0 (by simp) S2x8192x4x8 _ rfl rfl 0 rfl (ix4 b i h l)
    (fun a ha => ?_) (by show 0 + l.val = l.val; omega)).trans (by pointwise [LEFT4_at, RIGHT4_at])
  fin_cases a
  · rfl
  · rfl
  · rfl
  · exact absurd rfl ha
theorem TURN4_hi (x : FVec Ideal S2x8192x4x64 .f32) (P : Ps) (b : Fin 2) (i : Fin 8192) (h : Fin 4) (l : Fin 8) :
    TURN4 x P (ix4 b i h ⟨8 + l.val, by omega⟩) = x (ix4 b i h ⟨l.val + 8, by omega⟩) * COS4 P (ix4 b i h l) + x (ix4 b i h ⟨l.val, by omega⟩) * SIN4 P (ix4 b i h l) := by
  unfold TURN4
  refine (concatenate_apply_piece (t := S2x8192x4x16) 3 _ _ _ 1 (by simp) S2x8192x4x8 _ rfl rfl 8 rfl (ix4 b i h l)
    (fun a ha => ?_) rfl).trans (by pointwise [LEFT4_at, RIGHT4_at])
  fin_cases a
  · rfl
  · rfl
  · rfl
  · exact absurd rfl ha

/-- A head at an index. -/
theorem ROT4_turn (x : FVec Ideal S2x8192x4x64 .f32) (P : Ps) (b : Fin 2) (i : Fin 8192) (h : Fin 4) (e : Fin 16) :
    ROT4 x P (ix4 b i h ⟨e.val, by omega⟩) = TURN4 x P (ix4 b i h e) := by
  unfold ROT4
  refine (concatenate_apply_piece (t := S2x8192x4x64) 3 _ _ _ 0 (by simp) S2x8192x4x16 _ rfl rfl 0 rfl (ix4 b i h e)
    (fun a ha => ?_) (by show 0 + e.val = e.val; omega))
  fin_cases a
  · rfl
  · rfl
  · rfl
  · exact absurd rfl ha
theorem ROT4_rest (x : FVec Ideal S2x8192x4x64 .f32) (P : Ps) (b : Fin 2) (i : Fin 8192) (h : Fin 4) (e : Fin 48) :
    ROT4 x P (ix4 b i h ⟨16 + e.val, by omega⟩) = x (ix4 b i h ⟨16 + e.val, by omega⟩) := by
  unfold ROT4
  refine (concatenate_apply_piece (t := S2x8192x4x64) 3 _ _ _ 1 (by simp) S2x8192x4x48 _ rfl rfl 16 rfl (ix4 b i h e)
    (fun a ha => ?_) rfl).trans (by pointwise [])
  fin_cases a
  · rfl
  · rfl
  · rfl
  · exact absurd rfl ha

/-- Which is the rotation. -/
theorem ROT4_at (x : FVec Ideal S2x8192x4x64 .f32) (P : Ps) (b : Fin 2) (i : Fin 8192) (h : Fin 4) (e : Fin 64) :
    ROT4 x P (ix4 b i h e) = Rope.rot (fun e => x (ix4 b i h e)) (FloatOps.sitofp (F := Ideal) .f32 (P (ix2 b i))) e := by
  unfold Rope.rot
  by_cases h0 : e.val < 8
  · rw [dif_pos h0]
    refine (ROT4_turn x P b i h ⟨e.val, by omega⟩).trans ((TURN4_lo x P b i h ⟨e.val, h0⟩).trans ?_)
    rw [COS4_at, SIN4_at]
  · rw [dif_neg h0]
    by_cases h1 : e.val < 16
    · rw [dif_pos h1]
      have e0 : e = ⟨8 + (e.val - 8), by omega⟩ := Fin.ext (by dsimp only; omega)
      have e1 : (⟨e.val - 8 + 8, by omega⟩ : Fin 64) = e := Fin.ext (by dsimp only; omega)
      have t := (ROT4_turn x P b i h ⟨8 + (e.val - 8), by omega⟩).trans (TURN4_hi x P b i h ⟨e.val - 8, by omega⟩)
      rw [COS4_at, SIN4_at] at t
      dsimp only at t
      rw [e1, ← e0] at t
      exact t
    · rw [dif_neg h1]
      have e0 : e = ⟨16 + (e.val - 16), by omega⟩ := Fin.ext (by dsimp only; omega)
      have t := ROT4_rest x P b i h ⟨e.val - 16, by omega⟩
      dsimp only at t
      rw [← e0] at t
      exact t

/-- A query head at an index. -/
theorem QH_at (X : In) (W : Wt) (b : Fin 2) (i : Fin 8192) (h : Fin 32) (e : Fin 64) :
    QH X W (ix4 b i h e) = proj X W b i ⟨h.val * 64 + e.val, by omega⟩ := by
  have hw : wcol ⟨h.val * 64 + e.val, by omega⟩ = ⟨h.val * 64 + e.val, by omega⟩ := if_pos (by dsimp only; omega)
  unfold proj
  rw [hw]
  pointwise [QH, PR]

/-- A key head at an index: it is at two places of the result. -/
theorem KH_at (X : In) (W : Wt) (b : Fin 2) (i : Fin 8192) (h : Fin 4) (e : Fin 64) (n : Fin 2560) (h0 : 2048 ≤ n.val)
    (hh : (n.val - 2048) / 128 = h.val) (he : n.val % 64 = e.val) : KH X W (ix4 b i h e) = proj X W b i n := by
  have hw : wcol n = ⟨2048 + (h.val * 64 + e.val), by omega⟩ := (if_neg (by omega)).trans (Fin.ext (by dsimp only; omega))
  unfold proj
  rw [hw]
  pointwise [KH, PR]

/-- The queries of a row. -/
theorem QF_at (X : In) (P : Ps) (W : Wt) (z : Fin 16384) (n : Fin 2048) :
    QF X P W (ix2 z n) = ROT32 (QH X W) P (ix4 ⟨z.val / 8192, by omega⟩ ⟨z.val % 8192, by omega⟩ ⟨n.val / 64, by omega⟩ ⟨n.val % 64, by omega⟩)
      * Ideal.ofBits .f32 0x3E38AA3B#32 := by pointwise [QF]

/-- Either copy of a key. -/
theorem KD_at (x : FVec Ideal S2x8192x4x64 .f32) (b : Fin 2) (i : Fin 8192) (h : Fin 4) (e : Fin 128) :
    KD x (ix4 b i h e) = x (ix4 b i h ⟨e.val % 64, by omega⟩) := by
  have side : ∀ (d : Fin 64) (a : Fin 4) (_ : a ≠ 3), ((ix4 b i h d : S2x8192x4x64.Idx) a).val = ((ix4 b i h e : S2x8192x4x128.Idx) a).val := fun d a ha => by
    fin_cases a
    · rfl
    · rfl
    · rfl
    · exact absurd rfl ha
  unfold KD
  by_cases h0 : e.val < 64
  · refine (concatenate_apply_piece (t := S2x8192x4x128) 3 _ _ _ 0 (by simp) S2x8192x4x64 _ rfl rfl 0 rfl (ix4 b i h ⟨e.val, h0⟩)
      (fun a ha => side _ a ha) (by show 0 + e.val = e.val; omega)).trans ?_
    exact congrArg x (congrArg (ix4 b i h) (Fin.ext (by dsimp only; omega)))
  · refine (concatenate_apply_piece (t := S2x8192x4x128) 3 _ _ _ 1 (by simp) S2x8192x4x64 _ rfl rfl 64 rfl (ix4 b i h ⟨e.val - 64, by omega⟩)
      (fun a ha => side _ a ha) (by show 64 + (e.val - 64) = e.val; omega)).trans ?_
    exact congrArg x (congrArg (ix4 b i h) (Fin.ext (by dsimp only; omega)))

/-- The keys of a row. -/
theorem KF_at (X : In) (P : Ps) (W : Wt) (z : Fin 16384) (n : Fin 512) :
    KF X P W (ix2 z n) = KD (ROT4 (KH X W) P) (ix4 ⟨z.val / 8192, by omega⟩ ⟨z.val % 8192, by omega⟩ ⟨n.val / 128, by omega⟩ ⟨n.val % 128, by omega⟩) := by
  pointwise [KF]

/-- The reference at an index. -/
theorem CAT_at (X : In) (P : Ps) (W : Wt) (z : Fin 16384) (n : Fin 2560) :
    CAT X P W (ix2 z n) = out X P W ⟨z.val / 8192, by omega⟩ ⟨z.val % 8192, by omega⟩ n := by
  unfold CAT
  by_cases h0 : n.val < 2048
  · refine (concatenate_apply_piece (t := S16384x2560) 1 _ _ _ 0 (by simp) S16384x2048 _ rfl rfl 0 rfl (ix2 z ⟨n.val, h0⟩)
      (fun a ha => ?_) (by show 0 + n.val = n.val; omega)).trans ?_
    · fin_cases a
      · rfl
      · exact absurd rfl ha
    rw [QF_at, ROT32_at]
    unfold out scale
    rw [if_pos h0]
    refine congrArg (fun f => Rope.rot f _ _ * _) (funext fun e => ?_)
    exact QH_at X W _ _ _ e
  · refine (concatenate_apply_piece (t := S16384x2560) 1 _ _ _ 1 (by simp) S16384x512 _ rfl rfl 2048 rfl (ix2 z ⟨n.val - 2048, by omega⟩)
      (fun a ha => ?_) (by show 2048 + (n.val - 2048) = n.val; omega)).trans ?_
    · fin_cases a
      · rfl
      · exact absurd rfl ha
    rw [KF_at, KD_at, ROT4_at]
    unfold out scale
    rw [if_neg h0, mul_one]
    have e1 : (⟨(n.val - 2048) % 128 % 64, by omega⟩ : Fin 64) = ⟨n.val % 64, by omega⟩ := Fin.ext (by dsimp only; omega)
    rw [e1]
    refine congrArg (fun f => Rope.rot f _ _) (funext fun e => ?_)
    exact KH_at X W _ _ _ e ⟨n.val / 64 * 64 + e.val, by omega⟩ (by dsimp only; omega) (by dsimp only; omega) (by dsimp only; omega)

/-- The reference's result is the specified one. -/
theorem REF_eq (X : In) (P : Ps) (W : Wt) : REF X P W = G X P W := by
  funext j
  refine Eq.trans ?_ ((CAT_at X P W (j 0) (j 1)).trans rfl)
  rw [← eq_ix2 j]
  unfold REF
  pointwise []

end Cert.OddQkRefIdeal.Value

end
-- ==== Proof.OddQk.Claims.lean ====
/- The claims about the odd layers' rotated projection. -/
module

public import proofs.«01_k».proof.Defs
public import proofs.«01_k».proof.Proof.Gen.OddQk.Frame
public import proofs.«01_k».proof.Proof.OddQk.Value
public import proofs.«01_k».proof.Proof.OddQk.Run
public import proofs.«01_k».proof.Proof.OddQk.Ref
public import Idealize.ShloMosaic.Lib.Claim

@[expose] public section

noncomputable section

open Idealize.ShloMosaic Idealize.ShloMosaic.TcCoe Idealize.SL.Sem

namespace OddQk

/-- The reference terminates and keeps its arguments, and holds no semaphore. -/
theorem frame_ref : Cert.quiescent_OddQkRefIdeal := by
  intro m g _
  refine (θ_run _ _ _).mono (fun r h => ⟨fun c => (h c).2, ?_⟩) (Cert.OddQkRefIdeal.Value.run m g)
  funext s
  rcases s with ⟨_, s | s⟩ <;> exact s.elim0

/-- From equal arguments the kernel and the reference leave one array. -/
theorem algebraic : Cert.algebraic_OddQkIdeal_OddQkRefIdeal := by
  pair_intro
  · run_from Cert.OddQkIdeal.Value.run m g
  · run_from Cert.OddQkRefIdeal.Value.run m' g'
    rw [Cert.OddQkIdeal.Value.final m g c]
    obtain ⟨e0, e1, e2⟩ := hagree c
    refine (Cert.OddQkRefIdeal.Value.res0 m' c).trans ?_
    rw [e0, e1, e2]
    exact Cert.OddQkRefIdeal.Value.REF_eq _ _ _

end OddQk

end
-- ==== Proof.OddProj.Spec.lean ====
/- The values of the odd layers' input projection, as a formula: rows of the input times columns of the weights,
   the columns of each head written twice, as the attention reads them. -/
module

public import Idealize.ShloMosaic.PureOps.Ideal
public import Idealize.ShloMosaic.Lib.Pointwise

@[expose] public section

noncomputable section

namespace OddProj

open Idealize.ShloMosaic

/-- The layer's input, and the weights of its input projection. -/
abbrev In := FVec Ideal ⟨3, ![2, 8192, 2048]⟩ .f32
abbrev Wt := FVec Ideal ⟨2, ![2048, 2560]⟩ .f32

/-- The column multiplied for a place of the result: a head's values, twice over. -/
def wcol (W : Wt) (k : Fin 2048) (n : Fin 512) : EReal := W (ix2 k ⟨2304 + n.val / 128 * 64 + n.val % 64, by omega⟩)

/-- The projection at batch `b`, position `i`, column `n`. -/
def out (X : In) (W : Wt) (b : Fin 2) (i : Fin 8192) (n : Fin 512) : EReal := ∑ k : Fin 2048, X (ix3 b i k) * wcol W k n

/-- The whole projection. -/
def G (X : In) (W : Wt) : FVec Ideal ⟨2, ![16384, 512]⟩ .bf16 := fun j =>
  out X W ⟨(j 0 : ℕ) / 8192, by have := (j 0).isLt; simp at this; omega⟩ ⟨(j 0 : ℕ) % 8192, by omega⟩ (j 1)

/-- The projection at an index whose coordinates are known. -/
theorem G_of (X : In) (W : Wt) (j : Shape.Idx ⟨2, ![16384, 512]⟩) (b : Fin 2) (i : Fin 8192) (n : Fin 512)
    (hi : (j 0 : ℕ) = b.val * 8192 + i.val) (hn : (j 1 : ℕ) = n.val) : out X W b i n = G X W j := by
  unfold G
  congr 1
  · exact Fin.ext (by show _ = (j 0 : ℕ) / 8192; omega)
  · exact Fin.ext (by show _ = (j 0 : ℕ) % 8192; omega)
  · exact Fin.ext hn.symm

end OddProj

end
-- ==== Proof.OddProj.Value.lean ====
/- The array the kernel of the odd layers' values leaves: the formula of `Spec`. -/
module

public import proofs.«01_k».proof.Proof.Gen.OddProjIdeal.Value
public import proofs.«01_k».proof.Proof.OddProj.Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OddProjIdeal.Value

open Cert.OddProjIdeal Cert.OddProjIdeal.Gen OddProj

variable (m : (ℓ : Loc nD τ sig) → Buf (Elt Ideal) ℓ)

/-- A head's 64 columns, twice over. -/
def dup (W : FVec Ideal S2048x256 .f32) : FVec Ideal S2048x512 .f32 :=
  shapeCast S2048x512 (concatenate S2048x4x2x64 2 [⟨S2048x4x1x64, shapeCast S2048x4x1x64 W shapeCasts_S2048x256_S2048x4x1x64⟩,
    ⟨S2048x4x1x64, shapeCast S2048x4x1x64 W shapeCasts_S2048x256_S2048x4x1x64⟩] concatenates_S2048x4x1x64_S2048x4x1x64_S2048x4x2x64_d2)
    shapeCasts_S2048x4x2x64_S2048x512

/-- The weights' columns in the kernel's order. -/
def cat (W : Wt) : FVec Ideal S2048x3072 .f32 :=
  concatenate S2048x3072 1 [⟨S2048x2048, extractStridedSlice S2048x2048 ![0, 0] W slices_S2048x2560_S2048x2048_0_0⟩,
    ⟨S2048x512, dup (extractStridedSlice S2048x256 ![0, 2048] W slices_S2048x2560_S2048x256_0_2048)⟩,
    ⟨S2048x512, dup (extractStridedSlice S2048x256 ![0, 2304] W slices_S2048x2560_S2048x256_0_2304)⟩]
    concatenates_S2048x2048_S2048x512_S2048x512_S2048x3072_d1

theorem dup_at (W : FVec Ideal S2048x256 .f32) (k : Fin 2048) (n : Fin 512) :
    dup W (ix2 k n) = W (ix2 k ⟨n.val / 128 * 64 + n.val % 64, by omega⟩) := by
  pointwise [dup]
  exact ite_self _

/-- The columns of the values. -/
theorem cat_at (W : Wt) (k : Fin 2048) (n : Fin 512) : cat W (ix2 k ⟨2560 + n.val, by omega⟩) = wcol W k n := by
  unfold cat wcol
  refine (concatenate_apply_piece (t := S2048x3072) 1 _ _ _ 2 (by simp) S2048x512 _ rfl rfl 2560 rfl (ix2 k n)
    (fun b hb => ?_) rfl).trans ((dup_at _ k n).trans ?_)
  · fin_cases b
    · rfl
    · exact absurd rfl hb
  · pointwise []
    exact congrArg W (congrArg (ix2 k) (Fin.ext (by show 2304 + (n.val / 128 * 64 + n.val % 64) = 2304 + n.val / 128 * 64 + n.val % 64; omega)))

/-- The rows the region finds. -/
theorem rows (c : Dev nD) : V m c main_v1
    = truncf (F := Ideal) .bf16 (shapeCast S16384x2048 (m ((c : Thread nD τ).loc main_arg0) : In) shapeCasts_S2x8192x2048_S16384x2048) bitsLt_bf16_f32 := by
  unfold V
  after_results <;> rfl

/-- Row `b * 8192 + i` is position `i` of batch `b`. -/
theorem row_of (X : In) (z : Fin 16384) (b : Fin 2) (i : Fin 8192) (k : Fin 2048) (hz : z.val = b.val * 8192 + i.val) :
    truncf (F := Ideal) .bf16 (shapeCast S16384x2048 X shapeCasts_S2x8192x2048_S16384x2048) bitsLt_bf16_f32 (ix2 z k) = X (ix3 b i k) := by
  pointwise []
  rw [show (⟨z.val / 8192, by omega⟩ : Fin 2) = b from Fin.ext (by show z.val / 8192 = b.val; omega),
    show (⟨z.val % 8192, by omega⟩ : Fin 8192) = i from Fin.ext (by show z.val % 8192 = i.val; omega)]

theorem rows_at (c : Dev nD) (z : Fin 16384) (b : Fin 2) (i : Fin 8192) (k : Fin 2048) (hz : z.val = b.val * 8192 + i.val) :
    (V m c main_v1 : FVec Ideal S16384x2048 .bf16) (ix2 z k) = (m ((c : Thread nD τ).loc main_arg0) : In) (ix3 b i k) := by
  rw [rows]
  exact row_of _ z b i k hz

/-- The weights the region finds. -/
theorem weights (c : Dev nD) : V m c main_v13 = extractStridedSlice S2048x512 ![0, 2560]
    (truncf (F := Ideal) .bf16 (cat (m ((c : Thread nD τ).loc main_arg1))) bitsLt_bf16_f32) slices_S2048x3072_S2048x512_0_2560 := by
  unfold V
  after_results <;> rfl

theorem weights_at (c : Dev nD) (k : Fin 2048) (n : Fin 512) :
    (V m c main_v13 : FVec Ideal S2048x512 .bf16) (ix2 k n) = wcol (m ((c : Thread nD τ).loc main_arg1)) k n := by
  rw [weights, ← cat_at]
  pointwise []

/-- Where the blocks of a grid point sit. -/
theorem idx : ∀ t : Fin cfg0.N, win0_0.index t = ![t.val % 32, 0] ∧ win0_1.index t = ![0, 0]
    ∧ win0_2.index t = ![t.val % 32, 0] ∧ t.val < 32 :=
  (by decide +kernel : ∀ t : Fin grid0.N, _)

/-- A block of the product. -/
theorem pay_at (x : FVec Ideal S512x2048 .bf16) (w : FVec Ideal S2048x512 .bf16) (r : Fin 512) (n : Fin 512) :
    k0_pay1 x w (ix2 r n) = ∑ k : Fin 2048, x (ix2 r k) * w (ix2 k n) := by pointwise [k0_pay1]

/-- THE ARRAY after the run. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]; unfold out0_2; frame_out
  obtain ⟨r, n, rfl⟩ : ∃ (r : Fin 512) (n : Fin 512), y = ix2 r n := ⟨y 0, y 1, eq_ix2 y⟩
  have ht := (idx t).2.2.2
  refine Eq.trans ?_ (G_of (m ((c : Thread nD τ).loc main_arg0)) (m ((c : Thread nD τ).loc main_arg1)) _
    ⟨t.val % 32 / 16, by omega⟩ ⟨t.val % 16 * 512 + r.val, by omega⟩ n
    (by blk_simp [idx t]; try dsimp only; omega) (by blk_simp [idx t]; try dsimp only; omega))
  refine (pay_at _ _ r n).trans ?_
  unfold out
  refine Finset.sum_congr rfl fun k _ => congrArg₂ _ ?_ ?_
  · rw [← rows_at m c ⟨t.val % 32 * 512 + r.val, by omega⟩ ⟨t.val % 32 / 16, by omega⟩ ⟨t.val % 16 * 512 + r.val, by omega⟩ k
      (by show t.val % 32 * 512 + r.val = t.val % 32 / 16 * 8192 + (t.val % 16 * 512 + r.val); omega)]
    blk_ext [iblk, idx t]
  · rw [← weights_at]
    blk_ext [iblk, idx t]

end Cert.OddProjIdeal.Value

end
-- ==== Proof.OddProj.Ref.lean ====
/- The reference of the odd layers' values, read at an index: the formula of `Spec`. -/
module

public import proofs.«01_k».proof.Proof.Gen.OddProjRefIdeal.Run
public import proofs.«01_k».proof.Proof.OddProj.Spec
public import Idealize.ShloMosaic.Lib.Pointwise

@[expose] public section

set_option maxRecDepth 16384

noncomputable section

open Idealize.ShloMosaic

namespace Cert.OddProjRefIdeal.Value

open Cert.OddProjRefIdeal Cert.OddProjRefIdeal.Gen OddProj

/-- The values, a row of 64 for a position and a head. -/
def vals (X : In) (W : Wt) : FVec Ideal S2x8192x4x64 .f32 :=
  shapeCast _ (extractStridedSlice S2x8192x256 ![0, 0, 2304]
    (Host.dotGeneral dot_S2x8192x2048_S2048x2560_S2x8192x2560_2_0_01_1_n_n none X W) slices_S2x8192x2560_S2x8192x256_0_0_2304)
    shapeCasts_S2x8192x256_S2x8192x4x64

/-- The reference's result. -/
def REF (X : In) (W : Wt) : FVec Ideal S16384x512 .bf16 :=
  truncf .bf16 (shapeCast _ (concatenate S2x8192x4x128 3 [⟨S2x8192x4x64, vals X W⟩, ⟨S2x8192x4x64, vals X W⟩]
    concatenates_S2x8192x4x64_S2x8192x4x64_S2x8192x4x128_d3) shapeCasts_S2x8192x4x128_S16384x512) bitsLt_bf16_f32

/-- A place of the values. -/
theorem vals_at (X : In) (W : Wt) (b : Fin 2) (i : Fin 8192) (h : Fin 4) (d : Fin 64) :
    vals X W (ix4 b i h d) = ∑ k : Fin 2048, X (ix3 b i k) * W (ix2 k ⟨2304 + (h.val * 64 + d.val), by omega⟩) := by pointwise [vals]

/-- THE REFERENCE is the formula. -/
theorem REF_eq (X : In) (W : Wt) : REF X W = G X W := by
  funext j
  obtain ⟨z, n, rfl⟩ : ∃ (z : Fin 16384) (n : Fin 512), j = ix2 z n := ⟨j 0, j 1, eq_ix2 j⟩
  show REF X W (ix2 z n) = out X W ⟨z.val / 8192, by omega⟩ ⟨z.val % 8192, by omega⟩ n
  unfold out wcol
  have e : REF X W (ix2 z n) = vals X W (ix4 ⟨z.val / 8192, by omega⟩ ⟨z.val % 8192, by omega⟩ ⟨n.val / 128, by omega⟩ ⟨n.val % 64, by omega⟩) := by
    pointwise [REF]
    split
    · exact congrArg (fun d => vals X W (ix4 _ _ _ d)) (Fin.ext (by show n.val % 128 = n.val % 64; omega))
    · exact congrArg (fun d => vals X W (ix4 _ _ _ d)) (Fin.ext (by show n.val % 128 - 64 = n.val % 64; omega))
  rw [e, vals_at]
  refine Finset.sum_congr rfl fun k _ => congrArg (fun n => _ * W (ix2 k n)) (Fin.ext ?_)
  show 2304 + (n.val / 128 * 64 + n.val % 64) = 2304 + n.val / 128 * 64 + n.val % 64
  omega

end Cert.OddProjRefIdeal.Value

end
-- ==== Proof.OddProj.Claims.lean ====
/- The claims about the odd layers' values. -/
module

public import proofs.«01_k».proof.Defs
public import proofs.«01_k».proof.Proof.Gen.OddProj.Frame
public import proofs.«01_k».proof.Proof.OddProj.Value
public import proofs.«01_k».proof.Proof.OddProj.Ref
public import Idealize.ShloMosaic.Lib.Claim

@[expose] public section

noncomputable section

open Idealize.ShloMosaic Idealize.ShloMosaic.TcCoe Idealize.SL.Sem

namespace OddProj

/-- The reference terminates and keeps its arguments, and holds no semaphore. -/
theorem frame_ref : Cert.quiescent_OddProjRefIdeal := by
  intro m g _
  refine (θ_run _ _ _).mono (fun r h => ⟨fun c => (h c).2, ?_⟩) (Cert.OddProjRefIdeal.Value.run m g)
  funext s
  rcases s with ⟨_, s | s⟩ <;> exact s.elim0

/-- From equal arguments the kernel and the reference leave one array. -/
theorem algebraic : Cert.algebraic_OddProjIdeal_OddProjRefIdeal := by
  pair_intro
  · run_from Cert.OddProjIdeal.Gen.run_main m g
  · run_from Cert.OddProjRefIdeal.Value.run m' g'
    rw [Cert.OddProjIdeal.Value.final m c]
    exact Cert.OddProjRefIdeal.Value.REF_eq _ _

end OddProj

end
-- ==== Proof.OutNorm.Spec.lean ====
/- The end of a layer's mixer, as a formula: a row of the residual stream, scaled, plus the row projected, normalised. -/
module

public import Idealize.ShloMosaic.PureOps.Ideal
public import Idealize.ShloMosaic.Lib.Pointwise

@[expose] public section

noncomputable section

namespace OutNorm

open Idealize.ShloMosaic

/-- Rows of the stream, the projection's weights, and a gain or a bias. -/
abbrev Stream := FVec Ideal ⟨2, ![16384, 2048]⟩ .f32
abbrev Wts := FVec Ideal ⟨2, ![2048, 2048]⟩ .f32
abbrev Gain := FVec Ideal ⟨1, ![2048]⟩ .f32

/-- The mean of a row. -/
def mean (y : Fin 2048 → EReal) : EReal := Ideal.div (∑ n : Fin 2048, y n) (Ideal.ofBits .f32 0x45000000#32)

/-- A row less its mean. -/
def dev (y : Fin 2048 → EReal) (n : Fin 2048) : EReal := y n - mean y

/-- A row normalised, with a gain and a bias. -/
def norm (y g b : Fin 2048 → EReal) (n : Fin 2048) : EReal :=
  dev y n * Ideal.rsqrt (mean (fun n => dev y n * dev y n) + Ideal.ofBits .f32 0x3727C5AC#32) * g n + b n

/-- A row of the stream, scaled, plus the projection of a row `o` of the mixer's result. -/
def row (o : Fin 2048 → EReal) (W : Wts) (H : Stream) (z : Fin 16384) (n : Fin 2048) : EReal :=
  Ideal.ofBits .f32 0x3FD744FD#32 * H (ix2 z n) + ∑ k : Fin 2048, o k * W (ix2 k n)

/-- A place of the result, the mixer's result given by its rows. -/
def out (O : Fin 16384 → Fin 2048 → EReal) (W : Wts) (H : Stream) (g b : Gain) (z : Fin 16384) (n : Fin 2048) : EReal :=
  norm (row (O z) W H z) (fun n => g (ix1 n)) (fun n => b (ix1 n)) n

end OutNorm

end
-- ==== Proof.EvenOut.Spec.lean ====
/- The row an even layer's out-projection multiplies: the latent attention's half, then the differential attention's. -/
module

public import proofs.«01_k».proof.Proof.OutNorm.Spec

@[expose] public section

noncomputable section

namespace EvenOut

open Idealize.ShloMosaic OutNorm

/-- Half of the mixer's result. -/
abbrev Half := FVec Ideal ⟨2, ![16384, 1024]⟩ .bf16

/-- The two halves side by side. -/
def both (A B : Half) (z : Fin 16384) (k : Fin 2048) : EReal :=
  if h : k.val < 1024 then A (ix2 z ⟨k.val, h⟩) else B (ix2 z ⟨k.val - 1024, by omega⟩)

/-- The product of the row is the sum of the products of its halves. -/
theorem both_sum (A B : Half) (W : Wts) (z : Fin 16384) (n : Fin 2048) :
    ∑ k : Fin 2048, both A B z k * W (ix2 k n) = (∑ k : Fin 1024, A (ix2 z k) * W (ix2 ⟨k.val, by omega⟩ n))
      + ∑ k : Fin 1024, B (ix2 z k) * W (ix2 ⟨1024 + k.val, by omega⟩ n) := by
  refine (Fin.sum_univ_add (a := 1024) (b := 1024) (fun k : Fin (1024 + 1024) => both A B z k * W (ix2 k n))).trans ?_
  refine congrArg₂ _ (Finset.sum_congr rfl fun k _ => ?_) (Finset.sum_congr rfl fun k _ => ?_)
  · unfold both
    rw [dif_pos (show (Fin.castAdd 1024 k).val < 1024 from k.isLt)]
    rfl
  · unfold both
    rw [dif_neg (show ¬ (Fin.natAdd 1024 k).val < 1024 by simp)]
    have e : (⟨(Fin.natAdd 1024 k).val - 1024, by simp⟩ : Fin 1024) = k := Fin.ext (by simp)
    rw [e]
    rfl

end EvenOut

end
-- ==== Proof.EvenOut.Value.lean ====
/- The arrays the kernel of the even layers' out-projection leaves: the formula of `Spec`, twice. -/
module

public import proofs.«01_k».proof.Proof.Gen.EvenOutIdeal.Value
public import proofs.«01_k».proof.Proof.EvenOut.Spec
public import proofs.«01_k».proof.Proof.Math.Ops
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.EvenOutIdeal.Value

open Cert.EvenOutIdeal Cert.EvenOutIdeal.Gen OutNorm EvenOut Attn

/-! The body's values by name. -/

section

variable (y : FVec Ideal S256x2048 .f32) (g b : FVec Ideal S1x2048 .f32) (r : Fin 256) (n : Fin 2048) (u : Fin 1)

/-- The means of the rows. -/
def means : FVec Ideal S256x1 .f32 :=
  divf (shapeCast S256x1 (multiReduction .add [1] S256 y 0x00000000#32 reduces_S256x2048_S256 (.inl rfl) rfl) shapeCasts_S256_S256x1)
    (broadcast S256x1 (Ideal.ofBits .f32 0x45000000#32))

/-- The rows less their means. -/
def devs : FVec Ideal S256x2048 .f32 := subf y (broadcastTo S256x2048 (means y) broadcasts_S256x1_S256x2048)

/-- The factors of the rows. -/
def facs : FVec Ideal S256x1 .f32 :=
  rsqrt (addf (means (mulf (devs y) (devs y))) (broadcast S256x1 (Ideal.ofBits .f32 0x3727C5AC#32)))

/-- The rows normalised. -/
def normed : FVec Ideal S256x2048 .f32 :=
  addf (mulf (mulf (devs y) (broadcastTo S256x2048 (facs y) broadcasts_S256x1_S256x2048)) (broadcastTo S256x2048 g broadcasts_S1x2048_S256x2048))
    (broadcastTo S256x2048 b broadcasts_S1x2048_S256x2048)

theorem means_at : means y (ix2 r u) = mean (fun n => y (ix2 r n)) := by
  pointwise [means]
  rfl

theorem over_at (v : FVec Ideal S256x1 .f32) : broadcastTo S256x2048 v broadcasts_S256x1_S256x2048 (ix2 r n) = v (ix2 r 0) := by
  pointwise []

theorem down_at (v : FVec Ideal S1x2048 .f32) : broadcastTo S256x2048 v broadcasts_S1x2048_S256x2048 (ix2 r n) = v (ix2 0 n) := by
  pointwise []

theorem devs_at : devs y (ix2 r n) = dev (fun n => y (ix2 r n)) n := by
  unfold devs
  rw [subi_at, over_at, means_at]
  rfl

theorem facs_at : facs y (ix2 r u) = Ideal.rsqrt (mean (fun n => dev (fun n => y (ix2 r n)) n * dev (fun n => y (ix2 r n)) n)
    + Ideal.ofBits .f32 0x3727C5AC#32) := by
  show Ideal.rsqrt (means (mulf (devs y) (devs y)) (ix2 r u) + _) = _
  rw [means_at]
  simp only [muli_at, devs_at]
  rfl

theorem normed_at : normed y g b (ix2 r n) = norm (fun n => y (ix2 r n)) (fun n => g (ix2 0 n)) (fun n => b (ix2 0 n)) n := by
  unfold normed
  rw [addi_at, muli_at, muli_at, devs_at, over_at, facs_at, down_at, down_at]
  rfl

end

section

variable (x₀ x₁ : FVec Ideal S256x1024 .bf16) (w₀ w₁ : FVec Ideal S1024x2048 .bf16) (h : FVec Ideal S256x2048 .f32)
  (g b : FVec Ideal S1x2048 .f32) (r : Fin 256) (n : Fin 2048)

/-- The projected rows. -/
def prods : FVec Ideal S256x2048 .f32 :=
  addf (matmul dot_S256x1024_S1024x2048_S256x2048_1_0_0_1_n_n none x₀ (shapeCast S1024x2048 w₀ shapeCasts_S1024x2048_S1024x2048) (constant S256x2048 .f32 0x00000000#32))
    (matmul dot_S256x1024_S1024x2048_S256x2048_1_0_0_1_n_n none x₁ (shapeCast S1024x2048 w₁ shapeCasts_S1024x2048_S1024x2048) (constant S256x2048 .f32 0x00000000#32))

/-- The rows before the normalisation. -/
def sums : FVec Ideal S256x2048 .f32 := addf (mulf (broadcast S256x2048 (Ideal.ofBits .f32 0x3FD744FD#32)) h) (prods x₀ x₁ w₀ w₁)

theorem prods_at : prods x₀ x₁ w₀ w₁ (ix2 r n)
    = (∑ k : Fin 1024, x₀ (ix2 r k) * w₀ (ix2 k n)) + ∑ k : Fin 1024, x₁ (ix2 r k) * w₁ (ix2 k n) := by pointwise [prods]

theorem same (v : FVec Ideal S1x2048 .f32) : shapeCast S1x2048 v shapeCasts_S1x2048_S1x2048 = v := by
  funext j
  obtain ⟨u, n, rfl⟩ : ∃ (u : Fin 1) (n : Fin 2048), j = ix2 u n := ⟨j 0, j 1, eq_ix2 j⟩
  pointwise []

theorem p2 : k0_pay2 (F := Ideal) x₀ w₀ x₁ w₁ h g b = normed (sums x₀ x₁ w₀ w₁ h) (shapeCast S1x2048 g shapeCasts_S1x2048_S1x2048)
    (shapeCast S1x2048 b shapeCasts_S1x2048_S1x2048) := rfl

/-- What the body stores. -/
theorem pay_at : k0_pay2 (F := Ideal) x₀ w₀ x₁ w₁ h g b (ix2 r n) = norm (fun n => Ideal.ofBits .f32 0x3FD744FD#32 * h (ix2 r n)
    + ((∑ k : Fin 1024, x₀ (ix2 r k) * w₀ (ix2 k n)) + ∑ k : Fin 1024, x₁ (ix2 r k) * w₁ (ix2 k n)))
    (fun n => g (ix2 0 n)) (fun n => b (ix2 0 n)) n := by
  rw [p2, normed_at, same, same]
  simp only [← prods_at]
  rfl

end

variable (m : (ℓ : Loc nD τ sig) → Buf (Elt Ideal) ℓ)

/-- The weights of the two halves, the gain and the bias as the region finds them. -/
theorem top (c : Dev nD) : V m c main_v1 = truncf (F := Ideal) .bf16
    (extractStridedSlice S1024x2048 ![0, 0] (m ((c : Thread nD τ).loc main_arg2) : Wts) slices_S2048x2048_S1024x2048_0_0) bitsLt_bf16_f32 := by
  unfold V
  after_results <;> rfl
theorem bottom (c : Dev nD) : V m c main_v3 = truncf (F := Ideal) .bf16
    (extractStridedSlice S1024x2048 ![1024, 0] (m ((c : Thread nD τ).loc main_arg2) : Wts) slices_S2048x2048_S1024x2048_1024_0) bitsLt_bf16_f32 := by
  unfold V
  after_results <;> rfl
theorem gain (c : Dev nD) : V m c main_v4
    = shapeCast S1x2048 (m ((c : Thread nD τ).loc main_arg4) : Gain) shapeCasts_S2048_S1x2048 := by
  unfold V
  after_results <;> rfl
theorem bias (c : Dev nD) : V m c main_v5
    = shapeCast S1x2048 (m ((c : Thread nD τ).loc main_arg5) : Gain) shapeCasts_S2048_S1x2048 := by
  unfold V
  after_results <;> rfl

theorem top_of (W : Wts) (k : Fin 1024) (n : Fin 2048) : truncf (F := Ideal) .bf16
    (extractStridedSlice S1024x2048 ![0, 0] W slices_S2048x2048_S1024x2048_0_0) bitsLt_bf16_f32 (ix2 k n) = W (ix2 ⟨k.val, by omega⟩ n) := by
  pointwise []
theorem bottom_of (W : Wts) (k : Fin 1024) (n : Fin 2048) : truncf (F := Ideal) .bf16
    (extractStridedSlice S1024x2048 ![1024, 0] W slices_S2048x2048_S1024x2048_1024_0) bitsLt_bf16_f32 (ix2 k n) = W (ix2 ⟨1024 + k.val, by omega⟩ n) := by
  pointwise []
theorem line_of (g : Gain) (n : Fin 2048) : shapeCast S1x2048 g shapeCasts_S2048_S1x2048 (ix2 0 n) = g (ix1 n) := by
  pointwise []

/-- Where the blocks of a grid point sit. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0]
    ∧ win0_7.index t = ![t.val, 0] ∧ win0_8.index t = ![t.val, 0] ∧ t.val < 64 :=
  (by decide +kernel : ∀ t : Fin grid0.N, _)

/-- The blocks at a grid point, read. -/
theorem rd0 (c : Dev nD) (t : Fin cfg0.N) (r : Fin 256) (k : Fin 1024) (z : Fin 16384) (hz : z.val = t.val * 256 + r.val) :
    (iblk m c 0 t : FVec Ideal S256x1024 .bf16) (ix2 r k) = (m ((c : Thread nD τ).loc main_arg0) : Half) (ix2 z k) := by
  blk_ext [iblk, V, idx t]
theorem rd1 (c : Dev nD) (t : Fin cfg0.N) (r : Fin 256) (k : Fin 1024) (z : Fin 16384) (hz : z.val = t.val * 256 + r.val) :
    (iblk m c 1 t : FVec Ideal S256x1024 .bf16) (ix2 r k) = (m ((c : Thread nD τ).loc main_arg1) : Half) (ix2 z k) := by
  blk_ext [iblk, V, idx t]
theorem rd2 (c : Dev nD) (t : Fin cfg0.N) (k : Fin 1024) (n : Fin 2048) :
    (iblk m c 2 t : FVec Ideal S1024x2048 .bf16) (ix2 k n) = (m ((c : Thread nD τ).loc main_arg2) : Wts) (ix2 ⟨k.val, by omega⟩ n) := by
  rw [← top_of (m ((c : Thread nD τ).loc main_arg2)) k n, ← top]
  blk_ext [iblk, idx t]
theorem rd3 (c : Dev nD) (t : Fin cfg0.N) (k : Fin 1024) (n : Fin 2048) :
    (iblk m c 3 t : FVec Ideal S1024x2048 .bf16) (ix2 k n) = (m ((c : Thread nD τ).loc main_arg2) : Wts) (ix2 ⟨1024 + k.val, by omega⟩ n) := by
  rw [← bottom_of (m ((c : Thread nD τ).loc main_arg2)) k n, ← bottom]
  blk_ext [iblk, idx t]
theorem rd4 (c : Dev nD) (t : Fin cfg0.N) (r : Fin 256) (n : Fin 2048) (z : Fin 16384) (hz : z.val = t.val * 256 + r.val) :
    (iblk m c 4 t : FVec Ideal S256x2048 .f32) (ix2 r n) = (m ((c : Thread nD τ).loc main_arg3) : Stream) (ix2 z n) := by
  blk_ext [iblk, V, idx t]
theorem rd5 (c : Dev nD) (t : Fin cfg0.N) (n : Fin 2048) :
    (iblk m c 5 t : FVec Ideal S1x2048 .f32) (ix2 0 n) = (m ((c : Thread nD τ).loc main_arg4) : Gain) (ix1 n) := by
  rw [← line_of (m ((c : Thread nD τ).loc main_arg4)) n, ← gain]
  blk_ext [iblk, idx t]
theorem rd6 (c : Dev nD) (t : Fin cfg0.N) (n : Fin 2048) :
    (iblk m c 6 t : FVec Ideal S1x2048 .f32) (ix2 0 n) = (m ((c : Thread nD τ).loc main_arg5) : Gain) (ix1 n) := by
  rw [← line_of (m ((c : Thread nD τ).loc main_arg5)) n, ← bias]
  blk_ext [iblk, idx t]

/-- The formula at a place, from the arguments in memory. -/
def res (c : Dev nD) (z : Fin 16384) (n : Fin 2048) : EReal :=
  out (both (m ((c : Thread nD τ).loc main_arg0)) (m ((c : Thread nD τ).loc main_arg1))) (m ((c : Thread nD τ).loc main_arg2))
    (m ((c : Thread nD τ).loc main_arg3)) (m ((c : Thread nD τ).loc main_arg4)) (m ((c : Thread nD τ).loc main_arg5)) z n

def G (c : Dev nD) (j : S16384x2048.Idx) : EReal := res m c (j 0) (j 1)

/-- What a grid point stores is the formula. -/
theorem block_at (c : Dev nD) (t : Fin cfg0.N) (r : Fin 256) (n : Fin 2048) (z : Fin 16384) (hz : z.val = t.val * 256 + r.val) :
    k0_pay2 (F := Ideal) (iblk m c 0 t) (iblk m c 2 t) (iblk m c 1 t) (iblk m c 3 t) (iblk m c 4 t) (iblk m c 5 t) (iblk m c 6 t) (ix2 r n)
      = res m c z n := by
  refine (pay_at _ _ _ _ _ _ _ r n).trans ?_
  unfold res out
  congr 1
  · funext n
    unfold row
    rw [both_sum, rd4 m c t r n z hz]
    refine congrArg _ (congrArg₂ _ (Finset.sum_congr rfl fun k _ => ?_) (Finset.sum_congr rfl fun k _ => ?_))
    · rw [rd0 m c t r k z hz, rd2]
    · rw [rd1 m c t r k z hz, rd3]
  · funext n
    exact rd5 m c t n
  · funext n
    exact rd6 m c t n

/-- The formula at an index whose coordinates are known. -/
theorem G_of (c : Dev nD) (j : S16384x2048.Idx) (z : Fin 16384) (n : Fin 2048) (hz : (j 0 : ℕ) = z.val) (hn : (j 1 : ℕ) = n.val) :
    res m c z n = G m c j := by
  unfold G
  congr 1
  · exact Fin.ext hz.symm
  · exact Fin.ext hn.symm

/-- THE ARRAYS after the run. -/
theorem final7 (c : Dev nD) : (dats m 0 c).arrAt 7 (cfgs 0).N = (fun j => G m c j : FVec Ideal S16384x2048 .f32) := by
  refine (dats m 0 c).arrAt_eq_of_covers 7 _ (by decide +kernel) fun t _ y => ?_
  blk_simp
  rw [after0_7]; unfold out0_7 k0_pay3; frame_out
  obtain ⟨r, n, rfl⟩ : ∃ (r : Fin 256) (n : Fin 2048), y = ix2 r n := ⟨y 0, y 1, eq_ix2 y⟩
  have ht : t.val < 64 := (idx t).2.2.2.2.2.2.2.2.2
  exact (block_at m c t r n ⟨t.val * 256 + r.val, by omega⟩ rfl).trans (G_of m c _ _ n (by blk_simp [idx t]) (by blk_simp [idx t]))

theorem final8 (c : Dev nD) : (dats m 0 c).arrAt 8 (cfgs 0).N = (fun j => G m c j : FVec Ideal S16384x2048 .bf16) := by
  refine (dats m 0 c).arrAt_eq_of_covers 8 _ (by decide +kernel) fun t _ y => ?_
  blk_simp
  rw [after0_8]; unfold out0_8 k0_pay3; frame_out
  obtain ⟨r, n, rfl⟩ : ∃ (r : Fin 256) (n : Fin 2048), y = ix2 r n := ⟨y 0, y 1, eq_ix2 y⟩
  have ht : t.val < 64 := (idx t).2.2.2.2.2.2.2.2.2
  exact (block_at m c t r n ⟨t.val * 256 + r.val, by omega⟩ rfl).trans (G_of m c _ _ n (by blk_simp [idx t]) (by blk_simp [idx t]))

end Cert.EvenOutIdeal.Value

end
-- ==== Proof.EvenOut.Ref.lean ====
/- The reference of the even layers' out-projection, read at an index: the formula of `Spec`. -/
module

public import proofs.«01_k».proof.Proof.Gen.EvenOutRefIdeal.Run
public import proofs.«01_k».proof.Proof.EvenOut.Spec
public import proofs.«01_k».proof.Proof.Math.Ops
public import Idealize.ShloMosaic.Lib.Pointwise

@[expose] public section

set_option maxRecDepth 16384

noncomputable section

open Idealize.ShloMosaic Idealize.ShloMosaic.TcCoe

namespace Cert.EvenOutRefIdeal.Pure

open Cert.EvenOutRefIdeal Cert.EvenOutRefIdeal.Gen OutNorm EvenOut Attn

section

variable (Y : Stream) (g b : Gain) (z : Fin 16384) (n : Fin 2048) (u : Fin 1)

/-- The means of the rows. -/
def means : FVec Ideal S16384x1 .f32 :=
  Host.divf (broadcastInDim S16384x1 ![0] bcast_S16384_S16384x1_0 (Host.reduceAdd Y (constant S_ .f32 0x00000000#32) reducesTo_S16384x2048_S16384_d1 h_S_))
    (broadcastInDim S16384x1 ![] bcast_S_S16384x1 (constant S_ .f32 0x45000000#32))

/-- The rows less their means. -/
def devs : Stream := subf Y (broadcastInDim S16384x2048 ![0, 1] bcast_S16384x1_S16384x2048_0_1 (means Y))

/-- The factors of the rows. -/
def facs : FVec Ideal S16384x1 .f32 :=
  Host.rsqrt (addf (means (mulf (devs Y) (devs Y))) (broadcastInDim S16384x1 ![] bcast_S_S16384x1 (constant S_ .f32 0x3727C5AC#32)))

/-- The rows normalised. -/
def normed : Stream :=
  addf (mulf (mulf (devs Y) (broadcastInDim S16384x2048 ![0, 1] bcast_S16384x1_S16384x2048_0_1 (facs Y)))
      (broadcastInDim S16384x2048 ![0, 1] bcast_S1x2048_S16384x2048_0_1 (broadcastInDim S1x2048 ![1] bcast_S2048_S1x2048_1 g)))
    (broadcastInDim S16384x2048 ![0, 1] bcast_S1x2048_S16384x2048_0_1 (broadcastInDim S1x2048 ![1] bcast_S2048_S1x2048_1 b))

theorem means_at : means Y (ix2 z u) = mean (fun n => Y (ix2 z n)) := by
  pointwise [means]
  rfl

theorem over_at (v : FVec Ideal S16384x1 .f32) : broadcastInDim S16384x2048 ![0, 1] bcast_S16384x1_S16384x2048_0_1 v (ix2 z n) = v (ix2 z 0) := by
  pointwise []

theorem down_at : broadcastInDim S16384x2048 ![0, 1] bcast_S1x2048_S16384x2048_0_1 (broadcastInDim S1x2048 ![1] bcast_S2048_S1x2048_1 g) (ix2 z n)
    = g (ix1 n) := by
  pointwise []

theorem devs_at : devs Y (ix2 z n) = dev (fun n => Y (ix2 z n)) n := by
  unfold devs
  rw [subi_at, over_at, means_at]
  rfl

theorem eps_at : broadcastInDim S16384x1 ![] bcast_S_S16384x1 (constant (F := Ideal) S_ .f32 0x3727C5AC#32) (ix2 z u) = Ideal.ofBits .f32 0x3727C5AC#32 := by
  pointwise []

theorem facs_at : facs Y (ix2 z u) = Ideal.rsqrt (mean (fun n => dev (fun n => Y (ix2 z n)) n * dev (fun n => Y (ix2 z n)) n)
    + Ideal.ofBits .f32 0x3727C5AC#32) := by
  show Ideal.rsqrt (means (mulf (devs Y) (devs Y)) (ix2 z u) + _) = _
  rw [means_at, eps_at]
  simp only [muli_at, devs_at]

theorem normed_at : normed Y g b (ix2 z n) = norm (fun n => Y (ix2 z n)) (fun n => g (ix1 n)) (fun n => b (ix1 n)) n := by
  unfold normed
  rw [addi_at, muli_at, muli_at, devs_at, over_at, facs_at, down_at, down_at]
  rfl

end

variable (A B : Half) (W : Wts) (H : Stream) (g b : Gain) (z : Fin 16384) (n : Fin 2048)

/-- The mixer's result, whole. -/
def mixed : Stream := extf .f32 (concatenate S16384x2048 1 [⟨S16384x1024, A⟩, ⟨S16384x1024, B⟩]
  concatenates_S16384x1024_S16384x1024_S16384x2048_d1) bitsLt_bf16_f32

/-- The rows before the normalisation. -/
def rows : Stream := addf (mulf (broadcastInDim S16384x2048 ![] bcast_S_S16384x2048 (constant S_ .f32 0x3FD744FD#32)) H)
  (Host.dotGeneral dot_S16384x2048_S2048x2048_S16384x2048_1_0_0_1_n_n none (mixed A B) W)

/-- The reference's result. -/
def REF : Stream := normed (rows A B W H) g b

theorem mixed_at (k : Fin 2048) : mixed A B (ix2 z k) = both A B z k := by
  pointwise [mixed]
  rfl

theorem dot_at (X : Stream) : Host.dotGeneral dot_S16384x2048_S2048x2048_S16384x2048_1_0_0_1_n_n none X W (ix2 z n)
    = ∑ k : Fin 2048, X (ix2 z k) * W (ix2 k n) := by
  pointwise []

theorem rows_at : rows A B W H (ix2 z n) = row (both A B z) W H z n := by
  unfold rows
  rw [addi_at, muli_at, dot_at]
  simp only [mixed_at]
  unfold row
  refine congrArg (fun x => x * _ + _) ?_
  pointwise []

/-- THE REFERENCE is the formula. -/
theorem REF_at : REF A B W H g b (ix2 z n) = out (both A B) W H g b z n := by
  unfold REF
  rw [normed_at]
  simp only [rows_at]
  rfl

theorem res0 (m : (ℓ : Loc nD τ sig) → Buf (Elt Ideal) ℓ) (c : Dev nD) : Cert.EvenOutRefIdeal.Value.res_out0 m c
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := rfl

theorem res1 (m : (ℓ : Loc nD τ sig) → Buf (Elt Ideal) ℓ) (c : Dev nD) : Cert.EvenOutRefIdeal.Value.res_out1 m c
    = truncf .bf16 (REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) bitsLt_bf16_f32 := rfl

end Cert.EvenOutRefIdeal.Pure

end
-- ==== Proof.EvenOut.Claims.lean ====
/- The claims about the even layers' out-projection. -/
module

public import proofs.«01_k».proof.Defs
public import proofs.«01_k».proof.Proof.Gen.EvenOut.Frame
public import proofs.«01_k».proof.Proof.EvenOut.Value
public import proofs.«01_k».proof.Proof.EvenOut.Ref
public import Idealize.ShloMosaic.Lib.Claim

@[expose] public section

noncomputable section

open Idealize.ShloMosaic Idealize.ShloMosaic.TcCoe Idealize.SL.Sem

namespace EvenOut

open OutNorm

/-- The reference terminates and keeps its arguments, and holds no semaphore. -/
theorem frame_ref : Cert.quiescent_EvenOutRefIdeal := by
  intro m g _
  refine (θ_run _ _ _).mono (fun r h => ⟨fun c => (h c).2.2, ?_⟩) (Cert.EvenOutRefIdeal.Value.run m g)
  funext s
  rcases s with ⟨_, s | s⟩ <;> exact s.elim0

/-- The reference is the formula, at every index, -/
theorem agree (A B : Half) (W : Wts) (H : Stream) (g b : Gain) :
    Cert.EvenOutRefIdeal.Pure.REF A B W H g b = fun j => out (both A B) W H g b (j 0) (j 1) := by
  funext j
  obtain ⟨z, n, rfl⟩ : ∃ (z : Fin 16384) (n : Fin 2048), j = ix2 z n := ⟨j 0, j 1, eq_ix2 j⟩
  exact Cert.EvenOutRefIdeal.Pure.REF_at A B W H g b z n

/-- … also rounded. -/
theorem agree' (A B : Half) (W : Wts) (H : Stream) (g b : Gain) (h) :
    truncf .bf16 (Cert.EvenOutRefIdeal.Pure.REF A B W H g b) h = fun j => out (both A B) W H g b (j 0) (j 1) := by
  rw [agree]
  rfl

/-- From equal arguments the kernel and the reference leave the same two arrays. -/
theorem algebraic : Cert.algebraic_EvenOutIdeal_EvenOutRefIdeal := by
  pair_intro
  · run_from Cert.EvenOutIdeal.Gen.run_main m g
  · run_from Cert.EvenOutRefIdeal.Value.run m' g'
    · rw [Cert.EvenOutIdeal.Value.final7 m c]
      obtain ⟨e0, e1, e2, e3, e4, e5⟩ := hagree c
      refine (Cert.EvenOutRefIdeal.Pure.res0 m' c).trans ?_
      rw [e0, e1, e2, e3, e4, e5]
      exact agree _ _ _ _ _ _
    · rw [Cert.EvenOutIdeal.Value.final8 m c]
      obtain ⟨e0, e1, e2, e3, e4, e5⟩ := hagree c
      refine (Cert.EvenOutRefIdeal.Pure.res1 m' c).trans ?_
      rw [e0, e1, e2, e3, e4, e5]
      exact agree' _ _ _ _ _ _ _

end EvenOut

end
-- ==== Proof.OddOut.Value.lean ====
/- The arrays the kernel of the odd layers' out-projection leaves: the formula of `Spec`, twice. -/
module

public import proofs.«01_k».proof.Proof.Gen.OddOutIdeal.Value
public import proofs.«01_k».proof.Proof.OutNorm.Spec
public import proofs.«01_k».proof.Proof.Math.Ops
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OddOutIdeal.Value

open Cert.OddOutIdeal Cert.OddOutIdeal.Gen OutNorm Attn

/-! The body's values by name. -/

section

variable (y : FVec Ideal S256x2048 .f32) (g b : FVec Ideal S1x2048 .f32) (r : Fin 256) (n : Fin 2048) (u : Fin 1)

/-- The means of the rows. -/
def means : FVec Ideal S256x1 .f32 :=
  divf (shapeCast S256x1 (multiReduction .add [1] S256 y 0x00000000#32 reduces_S256x2048_S256 (.inl rfl) rfl) shapeCasts_S256_S256x1)
    (broadcast S256x1 (Ideal.ofBits .f32 0x45000000#32))

/-- The rows less their means. -/
def devs : FVec Ideal S256x2048 .f32 := subf y (broadcastTo S256x2048 (means y) broadcasts_S256x1_S256x2048)

/-- The factors of the rows. -/
def facs : FVec Ideal S256x1 .f32 :=
  rsqrt (addf (means (mulf (devs y) (devs y))) (broadcast S256x1 (Ideal.ofBits .f32 0x3727C5AC#32)))

/-- The rows normalised. -/
def normed : FVec Ideal S256x2048 .f32 :=
  addf (mulf (mulf (devs y) (broadcastTo S256x2048 (facs y) broadcasts_S256x1_S256x2048)) (broadcastTo S256x2048 g broadcasts_S1x2048_S256x2048))
    (broadcastTo S256x2048 b broadcasts_S1x2048_S256x2048)

theorem means_at : means y (ix2 r u) = mean (fun n => y (ix2 r n)) := by
  pointwise [means]
  rfl

theorem over_at (v : FVec Ideal S256x1 .f32) : broadcastTo S256x2048 v broadcasts_S256x1_S256x2048 (ix2 r n) = v (ix2 r 0) := by
  pointwise []

theorem down_at (v : FVec Ideal S1x2048 .f32) : broadcastTo S256x2048 v broadcasts_S1x2048_S256x2048 (ix2 r n) = v (ix2 0 n) := by
  pointwise []

theorem devs_at : devs y (ix2 r n) = dev (fun n => y (ix2 r n)) n := by
  unfold devs
  rw [subi_at, over_at, means_at]
  rfl

theorem facs_at : facs y (ix2 r u) = Ideal.rsqrt (mean (fun n => dev (fun n => y (ix2 r n)) n * dev (fun n => y (ix2 r n)) n)
    + Ideal.ofBits .f32 0x3727C5AC#32) := by
  show Ideal.rsqrt (means (mulf (devs y) (devs y)) (ix2 r u) + _) = _
  rw [means_at]
  simp only [muli_at, devs_at]
  rfl

theorem normed_at : normed y g b (ix2 r n) = norm (fun n => y (ix2 r n)) (fun n => g (ix2 0 n)) (fun n => b (ix2 0 n)) n := by
  unfold normed
  rw [addi_at, muli_at, muli_at, devs_at, over_at, facs_at, down_at, down_at]
  rfl

end

section

variable (x : FVec Ideal S256x2048 .bf16) (w : FVec Ideal S2048x2048 .bf16) (h : FVec Ideal S256x2048 .f32)
  (g b : FVec Ideal S1x2048 .f32) (r : Fin 256) (n : Fin 2048)

/-- The projected rows. -/
def prods : FVec Ideal S256x2048 .f32 :=
  matmul dot_S256x2048_S2048x2048_S256x2048_1_0_0_1_n_n none x (shapeCast S2048x2048 w shapeCasts_S2048x2048_S2048x2048) (constant S256x2048 .f32 0x00000000#32)

/-- The rows before the normalisation. -/
def sums : FVec Ideal S256x2048 .f32 := addf (mulf (broadcast S256x2048 (Ideal.ofBits .f32 0x3FD744FD#32)) h) (prods x w)

theorem prods_at : prods x w (ix2 r n) = ∑ k : Fin 2048, x (ix2 r k) * w (ix2 k n) := by pointwise [prods]

theorem same (v : FVec Ideal S1x2048 .f32) : shapeCast S1x2048 v shapeCasts_S1x2048_S1x2048 = v := by
  funext j
  obtain ⟨u, n, rfl⟩ : ∃ (u : Fin 1) (n : Fin 2048), j = ix2 u n := ⟨j 0, j 1, eq_ix2 j⟩
  pointwise []

theorem p1 : k0_pay1 (F := Ideal) x w h g b = normed (sums x w h) (shapeCast S1x2048 g shapeCasts_S1x2048_S1x2048)
    (shapeCast S1x2048 b shapeCasts_S1x2048_S1x2048) := rfl

theorem p2 : k0_pay2 (F := Ideal) x w h g b = truncf .bf16 (k0_pay1 (F := Ideal) x w h g b) bitsLt_bf16_f32 := rfl

/-- What the body stores. -/
theorem pay_at : k0_pay1 (F := Ideal) x w h g b (ix2 r n) = norm (fun n => Ideal.ofBits .f32 0x3FD744FD#32 * h (ix2 r n)
    + ∑ k : Fin 2048, x (ix2 r k) * w (ix2 k n)) (fun n => g (ix2 0 n)) (fun n => b (ix2 0 n)) n := by
  rw [p1, normed_at, same, same]
  simp only [← prods_at]
  rfl

end

variable (m : (ℓ : Loc nD τ sig) → Buf (Elt Ideal) ℓ)

/-- The weights, the gain and the bias as the region finds them. -/
theorem weights (c : Dev nD) : V m c main_v0 = truncf (F := Ideal) .bf16 (m ((c : Thread nD τ).loc main_arg1) : Wts) bitsLt_bf16_f32 := by
  unfold V
  after_results <;> rfl
theorem gain (c : Dev nD) : V m c main_v1
    = shapeCast S1x2048 (m ((c : Thread nD τ).loc main_arg3) : Gain) shapeCasts_S2048_S1x2048 := by
  unfold V
  after_results <;> rfl
theorem bias (c : Dev nD) : V m c main_v2
    = shapeCast S1x2048 (m ((c : Thread nD τ).loc main_arg4) : Gain) shapeCasts_S2048_S1x2048 := by
  unfold V
  after_results <;> rfl

theorem line_of (g : Gain) (n : Fin 2048) : shapeCast S1x2048 g shapeCasts_S2048_S1x2048 (ix2 0 n) = g (ix1 n) := by
  pointwise []

/-- Where the blocks of a grid point sit. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] ∧ t.val < 64 :=
  (by decide +kernel : ∀ t : Fin grid0.N, _)

/-- The blocks at a grid point, read. -/
theorem rd0 (c : Dev nD) (t : Fin cfg0.N) (r : Fin 256) (k : Fin 2048) (z : Fin 16384) (hz : z.val = t.val * 256 + r.val) :
    (iblk m c 0 t : FVec Ideal S256x2048 .bf16) (ix2 r k) = (m ((c : Thread nD τ).loc main_arg0) : FVec Ideal S16384x2048 .bf16) (ix2 z k) := by
  blk_ext [iblk, V, idx t]
theorem rd1 (c : Dev nD) (t : Fin cfg0.N) (k : Fin 2048) (n : Fin 2048) :
    (iblk m c 1 t : FVec Ideal S2048x2048 .bf16) (ix2 k n) = (m ((c : Thread nD τ).loc main_arg1) : Wts) (ix2 k n) := by
  refine Eq.trans ?_ (congrFun (weights m c) (ix2 k n))
  blk_ext [iblk, idx t]
theorem rd2 (c : Dev nD) (t : Fin cfg0.N) (r : Fin 256) (n : Fin 2048) (z : Fin 16384) (hz : z.val = t.val * 256 + r.val) :
    (iblk m c 2 t : FVec Ideal S256x2048 .f32) (ix2 r n) = (m ((c : Thread nD τ).loc main_arg2) : Stream) (ix2 z n) := by
  blk_ext [iblk, V, idx t]
theorem rd3 (c : Dev nD) (t : Fin cfg0.N) (n : Fin 2048) :
    (iblk m c 3 t : FVec Ideal S1x2048 .f32) (ix2 0 n) = (m ((c : Thread nD τ).loc main_arg3) : Gain) (ix1 n) := by
  rw [← line_of (m ((c : Thread nD τ).loc main_arg3)) n, ← gain]
  blk_ext [iblk, idx t]
theorem rd4 (c : Dev nD) (t : Fin cfg0.N) (n : Fin 2048) :
    (iblk m c 4 t : FVec Ideal S1x2048 .f32) (ix2 0 n) = (m ((c : Thread nD τ).loc main_arg4) : Gain) (ix1 n) := by
  rw [← line_of (m ((c : Thread nD τ).loc main_arg4)) n, ← bias]
  blk_ext [iblk, idx t]

/-- The formula at a place, from the arguments in memory. -/
def res (c : Dev nD) (z : Fin 16384) (n : Fin 2048) : EReal :=
  out (fun z k => (m ((c : Thread nD τ).loc main_arg0) : FVec Ideal S16384x2048 .bf16) (ix2 z k)) (m ((c : Thread nD τ).loc main_arg1))
    (m ((c : Thread nD τ).loc main_arg2)) (m ((c : Thread nD τ).loc main_arg3)) (m ((c : Thread nD τ).loc main_arg4)) z n

def G (c : Dev nD) (j : S16384x2048.Idx) : EReal := res m c (j 0) (j 1)

/-- What a grid point stores is the formula. -/
theorem block_at (c : Dev nD) (t : Fin cfg0.N) (r : Fin 256) (n : Fin 2048) (z : Fin 16384) (hz : z.val = t.val * 256 + r.val) :
    k0_pay1 (F := Ideal) (iblk m c 0 t) (iblk m c 1 t) (iblk m c 2 t) (iblk m c 3 t) (iblk m c 4 t) (ix2 r n) = res m c z n := by
  refine (pay_at _ _ _ _ _ r n).trans ?_
  unfold res out
  congr 1
  · funext n
    unfold row
    rw [rd2 m c t r n z hz]
    refine congrArg _ (Finset.sum_congr rfl fun k _ => ?_)
    rw [rd0 m c t r k z hz, rd1]
  · funext n
    exact rd3 m c t n
  · funext n
    exact rd4 m c t n

/-- The formula at an index whose coordinates are known. -/
theorem G_of (c : Dev nD) (j : S16384x2048.Idx) (z : Fin 16384) (n : Fin 2048) (hz : (j 0 : ℕ) = z.val) (hn : (j 1 : ℕ) = n.val) :
    res m c z n = G m c j := by
  unfold G
  congr 1
  · exact Fin.ext hz.symm
  · exact Fin.ext hn.symm

/-- THE ARRAYS after the run. -/
theorem final5 (c : Dev nD) : (dats m 0 c).arrAt 5 (cfgs 0).N = (fun j => G m c j : FVec Ideal S16384x2048 .f32) := by
  refine (dats m 0 c).arrAt_eq_of_covers 5 _ (by decide +kernel) fun t _ y => ?_
  blk_simp
  rw [after0_5]; unfold out0_5; frame_out
  obtain ⟨r, n, rfl⟩ : ∃ (r : Fin 256) (n : Fin 2048), y = ix2 r n := ⟨y 0, y 1, eq_ix2 y⟩
  have ht : t.val < 64 := (idx t).2.2.2.2.2.2.2
  exact (block_at m c t r n ⟨t.val * 256 + r.val, by omega⟩ rfl).trans (G_of m c _ _ n (by blk_simp [idx t]) (by blk_simp [idx t]))

theorem final6 (c : Dev nD) : (dats m 0 c).arrAt 6 (cfgs 0).N = (fun j => G m c j : FVec Ideal S16384x2048 .bf16) := by
  refine (dats m 0 c).arrAt_eq_of_covers 6 _ (by decide +kernel) fun t _ y => ?_
  blk_simp
  rw [after0_6]; unfold out0_6; frame_out
  obtain ⟨r, n, rfl⟩ : ∃ (r : Fin 256) (n : Fin 2048), y = ix2 r n := ⟨y 0, y 1, eq_ix2 y⟩
  have ht : t.val < 64 := (idx t).2.2.2.2.2.2.2
  exact (block_at m c t r n ⟨t.val * 256 + r.val, by omega⟩ rfl).trans (G_of m c _ _ n (by blk_simp [idx t]) (by blk_simp [idx t]))

end Cert.OddOutIdeal.Value

end
-- ==== Proof.OddOut.Ref.lean ====
/- The reference of the odd layers' out-projection, read at an index: the formula of `Spec`. -/
module

public import proofs.«01_k».proof.Proof.Gen.OddOutRefIdeal.Run
public import proofs.«01_k».proof.Proof.OutNorm.Spec
public import proofs.«01_k».proof.Proof.Math.Ops
public import Idealize.ShloMosaic.Lib.Pointwise

@[expose] public section

set_option maxRecDepth 16384

noncomputable section

open Idealize.ShloMosaic Idealize.ShloMosaic.TcCoe

namespace Cert.OddOutRefIdeal.Pure

open Cert.OddOutRefIdeal Cert.OddOutRefIdeal.Gen OutNorm Attn

section

variable (Y : Stream) (g b : Gain) (z : Fin 16384) (n : Fin 2048) (u : Fin 1)

/-- The means of the rows. -/
def means : FVec Ideal S16384x1 .f32 :=
  Host.divf (broadcastInDim S16384x1 ![0] bcast_S16384_S16384x1_0 (Host.reduceAdd Y (constant S_ .f32 0x00000000#32) reducesTo_S16384x2048_S16384_d1 h_S_))
    (broadcastInDim S16384x1 ![] bcast_S_S16384x1 (constant S_ .f32 0x45000000#32))

/-- The rows less their means. -/
def devs : Stream := subf Y (broadcastInDim S16384x2048 ![0, 1] bcast_S16384x1_S16384x2048_0_1 (means Y))

/-- The factors of the rows. -/
def facs : FVec Ideal S16384x1 .f32 :=
  Host.rsqrt (addf (means (mulf (devs Y) (devs Y))) (broadcastInDim S16384x1 ![] bcast_S_S16384x1 (constant S_ .f32 0x3727C5AC#32)))

/-- The rows normalised. -/
def normed : Stream :=
  addf (mulf (mulf (devs Y) (broadcastInDim S16384x2048 ![0, 1] bcast_S16384x1_S16384x2048_0_1 (facs Y)))
      (broadcastInDim S16384x2048 ![0, 1] bcast_S1x2048_S16384x2048_0_1 (broadcastInDim S1x2048 ![1] bcast_S2048_S1x2048_1 g)))
    (broadcastInDim S16384x2048 ![0, 1] bcast_S1x2048_S16384x2048_0_1 (broadcastInDim S1x2048 ![1] bcast_S2048_S1x2048_1 b))

theorem means_at : means Y (ix2 z u) = mean (fun n => Y (ix2 z n)) := by
  pointwise [means]
  rfl

theorem over_at (v : FVec Ideal S16384x1 .f32) : broadcastInDim S16384x2048 ![0, 1] bcast_S16384x1_S16384x2048_0_1 v (ix2 z n) = v (ix2 z 0) := by
  pointwise []

theorem down_at : broadcastInDim S16384x2048 ![0, 1] bcast_S1x2048_S16384x2048_0_1 (broadcastInDim S1x2048 ![1] bcast_S2048_S1x2048_1 g) (ix2 z n)
    = g (ix1 n) := by
  pointwise []

theorem devs_at : devs Y (ix2 z n) = dev (fun n => Y (ix2 z n)) n := by
  unfold devs
  rw [subi_at, over_at, means_at]
  rfl

theorem eps_at : broadcastInDim S16384x1 ![] bcast_S_S16384x1 (constant (F := Ideal) S_ .f32 0x3727C5AC#32) (ix2 z u) = Ideal.ofBits .f32 0x3727C5AC#32 := by
  pointwise []

theorem facs_at : facs Y (ix2 z u) = Ideal.rsqrt (mean (fun n => dev (fun n => Y (ix2 z n)) n * dev (fun n => Y (ix2 z n)) n)
    + Ideal.ofBits .f32 0x3727C5AC#32) := by
  show Ideal.rsqrt (means (mulf (devs Y) (devs Y)) (ix2 z u) + _) = _
  rw [means_at, eps_at]
  simp only [muli_at, devs_at]

theorem normed_at : normed Y g b (ix2 z n) = norm (fun n => Y (ix2 z n)) (fun n => g (ix1 n)) (fun n => b (ix1 n)) n := by
  unfold normed
  rw [addi_at, muli_at, muli_at, devs_at, over_at, facs_at, down_at, down_at]
  rfl

end

variable (A : FVec Ideal S16384x2048 .bf16) (W : Wts) (H : Stream) (g b : Gain) (z : Fin 16384) (n : Fin 2048)

/-- The rows before the normalisation. -/
def rows : Stream := addf (mulf (broadcastInDim S16384x2048 ![] bcast_S_S16384x2048 (constant S_ .f32 0x3FD744FD#32)) H)
  (Host.dotGeneral dot_S16384x2048_S2048x2048_S16384x2048_1_0_0_1_n_n none (extf .f32 A bitsLt_bf16_f32) W)

/-- The reference's result. -/
def REF : Stream := normed (rows A W H) g b

theorem dot_at : Host.dotGeneral dot_S16384x2048_S2048x2048_S16384x2048_1_0_0_1_n_n none (extf .f32 A bitsLt_bf16_f32) W (ix2 z n)
    = ∑ k : Fin 2048, A (ix2 z k) * W (ix2 k n) := by
  pointwise []

theorem rows_at : rows A W H (ix2 z n) = row (fun k => A (ix2 z k)) W H z n := by
  unfold rows
  rw [addi_at, muli_at, dot_at]
  unfold row
  refine congrArg (fun x => x * _ + _) ?_
  pointwise []

/-- THE REFERENCE is the formula. -/
theorem REF_at : REF A W H g b (ix2 z n) = out (fun z k => A (ix2 z k)) W H g b z n := by
  unfold REF
  rw [normed_at]
  simp only [rows_at]
  rfl

end Cert.OddOutRefIdeal.Pure

end
-- ==== Proof.OddOut.Claims.lean ====
/- The claims about the odd layers' out-projection. -/
module

public import proofs.«01_k».proof.Defs
public import proofs.«01_k».proof.Proof.Gen.OddOut.Frame
public import proofs.«01_k».proof.Proof.OddOut.Value
public import proofs.«01_k».proof.Proof.OddOut.Ref
public import Idealize.ShloMosaic.Lib.Claim

@[expose] public section

noncomputable section

open Idealize.ShloMosaic Idealize.ShloMosaic.TcCoe Idealize.SL.Sem

namespace OddOut

open OutNorm

/-- The reference terminates and keeps its arguments, and holds no semaphore. -/
theorem frame_ref : Cert.quiescent_OddOutRefIdeal := by
  intro m g _
  refine (θ_run _ _ _).mono (fun r h => ⟨fun c => (h c).2.2, ?_⟩) (Cert.OddOutRefIdeal.Value.run m g)
  funext s
  rcases s with ⟨_, s | s⟩ <;> exact s.elim0

/-- The reference is the formula, at every index, -/
theorem agree (A : FVec Ideal ⟨2, ![16384, 2048]⟩ .bf16) (W : Wts) (H : Stream) (g b : Gain) :
    Cert.OddOutRefIdeal.Pure.REF A W H g b = fun j => out (fun z k => A (ix2 z k)) W H g b (j 0) (j 1) := by
  funext j
  obtain ⟨z, n, rfl⟩ : ∃ (z : Fin 16384) (n : Fin 2048), j = ix2 z n := ⟨j 0, j 1, eq_ix2 j⟩
  exact Cert.OddOutRefIdeal.Pure.REF_at A W H g b z n

/-- … also rounded. -/
theorem agree' (A : FVec Ideal ⟨2, ![16384, 2048]⟩ .bf16) (W : Wts) (H : Stream) (g b : Gain) (h) :
    truncf .bf16 (Cert.OddOutRefIdeal.Pure.REF A W H g b) h = fun j => out (fun z k => A (ix2 z k)) W H g b (j 0) (j 1) := by
  rw [agree]
  rfl

/-- From equal arguments the kernel and the reference leave the same two arrays. -/
theorem algebraic : Cert.algebraic_OddOutIdeal_OddOutRefIdeal := by
  pair_intro
  · run_from Cert.OddOutIdeal.Gen.run_main m g
  · run_from Cert.OddOutRefIdeal.Value.run m' g'
    · rw [Cert.OddOutIdeal.Value.final5 m c]
      exact agree _ _ _ _ _
    · rw [Cert.OddOutIdeal.Value.final6 m c]
      exact agree' _ _ _ _ _ _

end OddOut

end
-- ==== Proof.MlaPrep.Run.lean ====
/- The run of the preparation of the latent attention: two kernels in a row, the tables of angles and then the queries, keys and values. -/
module

public import proofs.«01_k».proof.Proof.Gen.MlaPrepIdeal.Frame
public import Idealize.ShloMosaic.Lib.Claim

@[expose] public section

set_option maxRecDepth 16384

noncomputable section

namespace Cert.MlaPrepIdeal.Value

open Cert.MlaPrepIdeal Cert.MlaPrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

-- the launch's implicit arguments are found by unfolding plain definitions in a metavariable's type
set_option backward.isDefEq.respectTransparency.types false in
/-- THE RUN: it terminates, the results are what the second kernel's blocks leave, and the arguments are kept. -/
theorem run : θ_run defs (onTc (τ := τ) (main (F := F))) ⟨m, fun _ => 0, ρ⟩ (fun r => ∀ c : Dev nD,
      r.2.mem ((c.tc : Thread nD τ).loc main_v62_0) = (dat1 (V5 m ρ) c).arrAt 9 cfg1.N
      ∧ r.2.mem ((c.tc : Thread nD τ).loc main_v62_1) = (dat1 (V5 m ρ) c).arrAt 10 cfg1.N
      ∧ r.2.mem ((c.tc : Thread nD τ).loc main_v62_2) = (dat1 (V5 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v62_0 (by decide))).trans (W6_arr m ρ c 9),
       (h c _ (mem_uc main_v62_1 (by decide))).trans (W6_arr m ρ c 10),
       (h c _ (mem_uc main_v62_2 (by decide))).trans (W6_arr m ρ c 11),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.MlaPrepIdeal.Value

end
-- ==== Proof.Rope.Half.lean ====
/- The rotation of all of a head's sixty-four features by a position's angles, as a formula, and the same rotation as the kernels do
   it on 128 lanes: a product with a table of cosines, and two shifted copies times tables of signed sines that are zero where the
   shift does not belong. -/
module

public import Idealize.ShloMosaic.PureOps.Ideal
public import Idealize.ShloMosaic.Lib.Pointwise

@[expose] public section

noncomputable section

namespace RopeHalf

open Idealize.ShloMosaic

/-- The thirty-two frequencies: 500000 to the power `-2 l / 64`. -/
def freq (l : Fin 32) : EReal := Ideal.pow (Ideal.ofBits .f32 0x48F42400#32)
  (Ideal.div (-(Ideal.ofBits .f32 0x40000000#32 * FloatOps.sitofp (F := Ideal) .f32 (BitVec.ofNat 32 l.val))) (Ideal.ofBits .f32 0x42800000#32))

/-- Features `0 … 31` and `32 … 63` are turned against each other at position `p`. -/
def rot (x : Fin 64 → EReal) (p : EReal) (e : Fin 64) : EReal :=
  if h : e.val < 32 then x e * Ideal.cos (p * freq ⟨e.val, h⟩) - x ⟨e.val + 32, by omega⟩ * Ideal.sin (p * freq ⟨e.val, h⟩)
  else x e * Ideal.cos (p * freq ⟨e.val - 32, by omega⟩) + x ⟨e.val - 32, by omega⟩ * Ideal.sin (p * freq ⟨e.val - 32, by omega⟩)

/-- The frequency of a lane. -/
def lane (l : Fin 128) : EReal := freq ⟨l.val % 32, by omega⟩

/-- Where the copy shifted down counts, negated; where the copy shifted up counts. -/
def lo (l : Fin 128) : EReal := if l.val % 64 < 32 then -1 else 0
def hi (l : Fin 128) : EReal := if l.val % 64 < 32 then 0 else 1

/-- The kernels' rotation of 128 lanes. -/
def tile (x : Fin 128 → EReal) (c s t : Fin 128 → EReal) (l : Fin 128) : EReal :=
  x l * c l + x ⟨(l.val + 128 - 96) % 128, by omega⟩ * s l + x ⟨(l.val + 128 - 32) % 128, by omega⟩ * t l

/-- The two rotations are one: what the masks take out is a product with zero. -/
theorem tile_eq (x : Fin 128 → EReal) (c s t : Fin 128 → EReal) (p : EReal) (l : Fin 128) (hc : ∀ l, c l = Ideal.cos (p * lane l))
    (hs : ∀ l, s l = Ideal.sin (p * lane l) * lo l) (ht : ∀ l, t l = Ideal.sin (p * lane l) * hi l) :
    tile x c s t l = rot (fun e => x ⟨l.val / 64 * 64 + e.val, by omega⟩) p ⟨l.val % 64, by omega⟩ := by
  have hx : x ⟨l.val / 64 * 64 + l.val % 64, by omega⟩ = x l := congrArg x (Fin.ext (by show l.val / 64 * 64 + l.val % 64 = l.val; omega))
  unfold tile rot
  rw [hc, hs, ht]
  unfold lane lo hi
  dsimp only
  rw [hx]
  by_cases h1 : l.val % 64 < 32
  · rw [if_pos h1, if_pos h1, dif_pos h1, mul_zero, mul_zero, add_zero, mul_neg, mul_one, mul_neg, sub_eq_add_neg]
    have e1 : (⟨(l.val + 128 - 96) % 128, by omega⟩ : Fin 128) = ⟨l.val / 64 * 64 + (l.val % 64 + 32), by omega⟩ := Fin.ext (by dsimp only; omega)
    have e2 : (⟨l.val % 32, by omega⟩ : Fin 32) = ⟨l.val % 64, h1⟩ := Fin.ext (by dsimp only; omega)
    rw [e1, e2]
  · rw [if_neg h1, if_neg h1, dif_neg h1, mul_zero, mul_zero, add_zero, mul_one]
    have e1 : (⟨(l.val + 128 - 32) % 128, by omega⟩ : Fin 128) = ⟨l.val / 64 * 64 + (l.val % 64 - 32), by omega⟩ := Fin.ext (by dsimp only; omega)
    have e2 : (⟨l.val % 32, by omega⟩ : Fin 32) = ⟨l.val % 64 - 32, by omega⟩ := Fin.ext (by dsimp only; omega)
    rw [e1, e2]

end RopeHalf

end
-- ==== Proof.MlaPrep.Spec.lean ====
/- The queries, keys and values of the latent attention, as formulas of the projected columns, the positions, the gains and the weights. -/
module

public import proofs.«01_k».proof.Proof.Rope.Half

@[expose] public section

noncomputable section

namespace MlaPrep

open Idealize.ShloMosaic

/-- The projected columns, the positions, the two gains and the two weights. -/
abbrev In := FVec Ideal ⟨2, ![16384, 2048]⟩ .bf16
abbrev Ps := IVec ⟨2, ![2, 8192]⟩ 32
abbrev Gq := FVec Ideal ⟨1, ![512]⟩ .f32
abbrev Gk := FVec Ideal ⟨1, ![256]⟩ .f32
abbrev Wq := FVec Ideal ⟨2, ![512, 1536]⟩ .f32
abbrev Wk := FVec Ideal ⟨2, ![256, 2048]⟩ .f32

/-- A row over the root of the mean of its squares, times a gain; `d` is the row's length. -/
def rms {N : ℕ} (d : EReal) (x g : Fin N → EReal) (k : Fin N) : EReal :=
  x k * Ideal.rsqrt (Ideal.div (∑ j : Fin N, x j * x j) d + Ideal.ofBits .f32 0x358637BD#32) * g k

/-- The scale of the queries. -/
def scale : EReal := Ideal.ofBits .f32 0x3DD53B95#32

/-- The row of a position. -/
def row (b : Fin 2) (i : Fin 8192) : Fin 16384 := ⟨b.val * 8192 + i.val, by omega⟩

/-- A column of the queries before the rotation, scaled. -/
def qcol (X : In) (g : Gq) (W : Wq) (z : Fin 16384) (n : Fin 1536) : EReal :=
  (∑ k : Fin 512, rms (Ideal.ofBits .f32 0x44000000#32) (fun k : Fin 512 => X (ix2 z ⟨1024 + k.val, by omega⟩)) (fun k => g (ix1 k)) k * W (ix2 k n)) * scale

/-- A column of the keys and values. -/
def kcol (X : In) (g : Gk) (W : Wk) (z : Fin 16384) (n : Fin 2048) : EReal :=
  ∑ k : Fin 256, rms (Ideal.ofBits .f32 0x43800000#32) (fun k : Fin 256 => X (ix2 z ⟨1536 + k.val, by omega⟩)) (fun k => g (ix1 k)) k * W (ix2 k n)

/-- A query: 128 plain features, 64 rotated ones, zeros. -/
def outq (X : In) (P : Ps) (g : Gq) (W : Wq) (b : Fin 2) (h : Fin 8) (i : Fin 8192) (d : Fin 256) : EReal :=
  if d.val < 128 then qcol X g W (row b i) ⟨(h.val * 192 + d.val) % 1536, by omega⟩
  else if d.val < 192 then RopeHalf.rot (fun e => qcol X g W (row b i) ⟨h.val * 192 + 128 + e.val, by omega⟩)
    (FloatOps.sitofp (F := Ideal) .f32 (P (ix2 b i))) ⟨(d.val - 128) % 64, by omega⟩
  else 0

/-- A key: 128 plain features, 64 rotated ones that all heads share, zeros. -/
def outk (X : In) (P : Ps) (g : Gk) (W : Wk) (b : Fin 2) (h : Fin 8) (i : Fin 8192) (d : Fin 256) : EReal :=
  if d.val < 128 then kcol X g W (row b i) ⟨h.val * 256 + d.val, by omega⟩
  else if d.val < 192 then RopeHalf.rot (fun e => X (ix2 (row b i) ⟨1792 + e.val, by omega⟩))
    (FloatOps.sitofp (F := Ideal) .f32 (P (ix2 b i))) ⟨(d.val - 128) % 64, by omega⟩
  else 0

/-- A value. -/
def outv (X : In) (g : Gk) (W : Wk) (b : Fin 2) (h : Fin 8) (i : Fin 8192) (d : Fin 128) : EReal :=
  kcol X g W (row b i) ⟨h.val * 256 + 128 + d.val, by omega⟩

/-- The three arrays. -/
def GQ (X : In) (P : Ps) (g : Gq) (W : Wq) : FVec Ideal ⟨4, ![2, 8, 8192, 256]⟩ .bf16 := fun j => outq X P g W (j 0) (j 1) (j 2) (j 3)
def GK (X : In) (P : Ps) (g : Gk) (W : Wk) : FVec Ideal ⟨4, ![2, 8, 8192, 256]⟩ .bf16 := fun j => outk X P g W (j 0) (j 1) (j 2) (j 3)
def GV (X : In) (g : Gk) (W : Wk) : FVec Ideal ⟨4, ![2, 8, 8192, 128]⟩ .bf16 := fun j => outv X g W (j 0) (j 1) (j 2) (j 3)

end MlaPrep

end
-- ==== Proof.MlaPrep.Block.lean ====
/- The blocks the second kernel of the latent attention's preparation writes, read at an index. -/
module

public import proofs.«01_k».proof.Proof.Gen.MlaPrepIdeal.Frame
public import proofs.«01_k».proof.Proof.MlaPrep.Spec
public import proofs.«01_k».proof.Proof.Math.Ops
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.MlaPrepIdeal.Value

open Cert.MlaPrepIdeal Cert.MlaPrepIdeal.Gen MlaPrep

/-- The lanes that are kept. -/
theorem mask_at (r : Fin 256) (l : Fin 128) : k1_pay17 (ix2 r l) = if l.val < 64 then 1#1 else 0#1 := by
  have hk : ∀ l : Fin 128, IntOp.cmpi .slt (BitVec.ofNat 32 l.val) 64#32 = if l.val < 64 then 1#1 else 0#1 := by decide +kernel
  pointwise [k1_pay17, hk]

/-- The normed query columns and the normed key columns. -/
theorem nq_at (x0 : FVec Ideal S256x512 .bf16) (x3 : FVec Ideal S1x512 .f32) (r : Fin 256) (k : Fin 512) :
    k1_pay6 (F := Ideal) x0 x3 (ix2 r k) = rms (Ideal.ofBits .f32 0x44000000#32) (fun k : Fin 512 => x0 (ix2 r k)) (fun k => x3 (ix2 0 k)) k := by
  pointwise [k1_pay6, rms]
theorem nk_at (x1 : FVec Ideal S256x512 .bf16) (x4 : FVec Ideal S1x256 .f32) (r : Fin 256) (k : Fin 256) :
    k1_pay7 (F := Ideal) x1 x4 (ix2 r k) = rms (Ideal.ofBits .f32 0x43800000#32) (fun k : Fin 256 => x1 (ix2 r ⟨k.val, by omega⟩)) (fun k => x4 (ix2 0 k)) k := by
  pointwise [k1_pay7, k1_pay4, rms]

/-- What the queries' block holds, of the plain columns, the columns to rotate and the tables. -/
def blkq (A : FVec Ideal S256x1024 .f32) (B : FVec Ideal S256x512 .f32) (T0 T1 T2 : FVec Ideal S256x128 .f32) (h : Fin 8) (r : Fin 256) (d : Fin 256) : EReal :=
  if d.val < 128 then A (ix2 r ⟨h.val * 128 + d.val % 128, by omega⟩)
  else if d.val < 192 then RopeHalf.tile (fun l => B (ix2 r ⟨h.val / 2 * 128 + l.val, by omega⟩)) (fun l => T0 (ix2 r l)) (fun l => T1 (ix2 r l))
    (fun l => T2 (ix2 r l)) ⟨h.val % 2 * 64 + (d.val - 128) % 64, by omega⟩
  else 0

theorem blkq_plain (A : FVec Ideal S256x1024 .f32) (B : FVec Ideal S256x512 .f32) (T0 T1 T2 : FVec Ideal S256x128 .f32) (h : Fin 8) (r s : Fin 256) (d : Fin 256)
    (a : Fin 1024) (hr : r.val = s.val) (hd : d.val < 128) (ha : a.val = h.val * 128 + d.val) : A (ix2 s a) = blkq A B T0 T1 T2 h r d := by
  obtain rfl : r = s := Fin.ext hr
  unfold blkq
  rw [if_pos hd]
  exact congrArg (fun a => A (ix2 r a)) (Fin.ext (by dsimp only; omega))

theorem blkq_turned (A : FVec Ideal S256x1024 .f32) (B : FVec Ideal S256x512 .f32) (T0 T1 T2 : FVec Ideal S256x128 .f32) (h : Fin 8) (r s : Fin 256) (d : Fin 256)
    (v l : Fin 128) (a b c : Fin 512) (hr : r.val = s.val) (hd : d.val = 128 + v.val) (hl : v.val < 64 → l.val = h.val % 2 * 64 + v.val)
    (ha : v.val < 64 → a.val = h.val / 2 * 128 + l.val) (hb : v.val < 64 → b.val = h.val / 2 * 128 + (l.val + 128 - 96) % 128)
    (hc : v.val < 64 → c.val = h.val / 2 * 128 + (l.val + 128 - 32) % 128) :
    Scalar.select (if v.val < 64 then 1#1 else 0#1) (B (ix2 s a) * T0 (ix2 s l) + B (ix2 s b) * T1 (ix2 s l) + B (ix2 s c) * T2 (ix2 s l)) (0 : EReal)
      = blkq A B T0 T1 T2 h r d := by
  obtain rfl : r = s := Fin.ext hr
  unfold blkq
  rw [if_neg (show ¬ d.val < 128 by omega)]
  by_cases hv : v.val < 64
  · have e1 := hl hv
    have e2 : (d.val - 128) % 64 = v.val := by omega
    have el : l = ⟨h.val % 2 * 64 + (d.val - 128) % 64, by omega⟩ := Fin.ext (by dsimp only; rw [e2]; exact e1)
    have ea : a = ⟨h.val / 2 * 128 + l.val, by omega⟩ := Fin.ext (ha hv)
    have eb : b = ⟨h.val / 2 * 128 + (l.val + 128 - 96) % 128, by omega⟩ := Fin.ext (hb hv)
    have ec : c = ⟨h.val / 2 * 128 + (l.val + 128 - 32) % 128, by omega⟩ := Fin.ext (hc hv)
    rw [if_pos hv, if_pos (show d.val < 192 by omega), ea, eb, ec, ← el]
    rfl
  · rw [if_neg hv, if_neg (show ¬ d.val < 192 by omega)]
    rfl

/-- The queries' block in its pieces. -/
def pieces (A : FVec Ideal S256x1024 .f32) (B : FVec Ideal S256x512 .f32) (T0 T1 T2 : FVec Ideal S256x128 .f32) (M : IVec S256x128 1)
    (X Y : FVec Ideal S256x128 .f32) : Vec Ideal S1x8x256x256 .bf16 :=
  View.canon (Val := Elt Ideal) (s := S1x8x256x256) (e := .bf16) [⟨r1_31, k1_pay65 A⟩, ⟨r1_29, k1_pay61 A⟩, ⟨r1_27, k1_pay56 A⟩, ⟨r1_25, k1_pay52 A⟩, ⟨r1_23, k1_pay48 A⟩, ⟨r1_21, k1_pay44 A⟩,
      ⟨r1_19, k1_pay40 (k1_pay39 A)⟩, ⟨r1_17, k1_pay35 A⟩, ⟨r1_16, k1_pay34 M (k1_pay31 B T0 T1 T2)⟩, ⟨r1_15, k1_pay33 (k1_pay32 B T0 T1 T2 M)⟩,
      ⟨r1_14, k1_pay30 B T0 T1 T2 M⟩, ⟨r1_13, k1_pay29 B T0 T1 T2 M⟩, ⟨r1_12, k1_pay27 (k1_pay26 B T0 T1 T2 M)⟩, ⟨r1_11, k1_pay25 B T0 T1 T2 M⟩,
      ⟨r1_10, k1_pay23 T2 M X Y⟩, ⟨r1_9, k1_pay22 T2 M X Y⟩]

theorem q_block (A : FVec Ideal S256x1024 .f32) (B : FVec Ideal S256x512 .f32) (T0 T1 T2 : FVec Ideal S256x128 .f32) (M : IVec S256x128 1)
    (hM : ∀ r l, M (ix2 r l) = if l.val < 64 then 1#1 else 0#1) (X Y : FVec Ideal S256x128 .f32)
    (hX : X = extractStridedSlice S256x128 ![0, 0] B slices_S256x512_o0_0_S256x128)
    (hY : Y = addf (mulf X T0) (mulf (dynamicRotate 1 96#32 none X rotates_S256x128_d1) T1)) (h : Fin 8) (r : Fin 256) (d : Fin 256) :
    pieces A B T0 T1 T2 M X Y (ix4 0 h r d) = blkq A B T0 T1 T2 h r d := by
  unfold pieces
  canon_tiles x h
  all_goals
    open_payloads
    pointwise [hY, hX, hM]
    have h1' : h.val = _ := h1
    have h3' : d.val = _ := h3
    first
      | exact blkq_plain A B T0 T1 T2 h r _ d _ h2 (by omega) (by dsimp only; omega)
      | (refine blkq_turned A B T0 T1 T2 h r _ d (x 3) _ _ _ _ h2 h3 ?_ ?_ ?_ ?_ <;> (try dsimp only) <;> omega)

/-- The keys' block: plain columns by head, then the columns all heads share. -/
def blkk (A : FVec Ideal S256x1024 .f32) (K : FVec Ideal S256x128 .bf16) (h : Fin 8) (r : Fin 256) (d : Fin 256) : EReal :=
  if d.val < 128 then A (ix2 r ⟨h.val * 128 + d.val % 128, by omega⟩) else K (ix2 r ⟨d.val - 128, by omega⟩)

theorem blkk_plain (A : FVec Ideal S256x1024 .f32) (K : FVec Ideal S256x128 .bf16) (h : Fin 8) (r s : Fin 256) (d : Fin 256)
    (a : Fin 1024) (hr : r.val = s.val) (hd : d.val < 128) (ha : a.val = h.val * 128 + d.val) : A (ix2 s a) = blkk A K h r d := by
  obtain rfl : r = s := Fin.ext hr
  unfold blkk
  rw [if_pos hd]
  exact congrArg (fun a => A (ix2 r a)) (Fin.ext (by dsimp only; omega))
theorem blkk_shared (A : FVec Ideal S256x1024 .f32) (K : FVec Ideal S256x128 .bf16) (h : Fin 8) (r s : Fin 256) (d : Fin 256)
    (v : Fin 128) (hr : r.val = s.val) (hd : d.val = 128 + v.val) : K (ix2 s v) = blkk A K h r d := by
  obtain rfl : r = s := Fin.ext hr
  unfold blkk
  rw [if_neg (by omega)]
  exact congrArg (fun a => K (ix2 r a)) (Fin.ext (by dsimp only; omega))

/-- The keys' block in its pieces. -/
def kpieces (A : FVec Ideal S256x1024 .f32) (K : FVec Ideal S256x128 .bf16) : Vec Ideal S1x8x256x256 .bf16 :=
  View.canon (Val := Elt Ideal) (s := S1x8x256x256) (e := .bf16) [⟨r1_16, k1_pay2 K⟩,
    ⟨r1_31, k1_pay1 (k1_pay66 A)⟩,
    ⟨r1_15, k1_pay63 K⟩,
    ⟨r1_29, k1_pay62 A⟩,
    ⟨r1_14, k1_pay58 K⟩,
    ⟨r1_27, k1_pay57 A⟩,
    ⟨r1_13, k1_pay54 K⟩,
    ⟨r1_25, k1_pay53 A⟩,
    ⟨r1_12, k1_pay50 K⟩,
    ⟨r1_23, k1_pay49 A⟩,
    ⟨r1_11, k1_pay46 K⟩,
    ⟨r1_21, k1_pay45 A⟩,
    ⟨r1_10, k1_pay42 K⟩,
    ⟨r1_19, k1_pay41 A⟩,
    ⟨r1_9, k1_pay37 K⟩,
    ⟨r1_17, k1_pay36 A⟩]

theorem k_block (A : FVec Ideal S256x1024 .f32) (K : FVec Ideal S256x128 .bf16) (h : Fin 8) (r : Fin 256) (d : Fin 256) :
    kpieces A K (ix4 0 h r d) = blkk A K h r d := by
  unfold kpieces
  canon_tiles x h
  all_goals
    open_payloads
    pointwise []
    have h1' : h.val = _ := h1
    have h3' : d.val = _ := h3
    first
      | exact blkk_plain A K h r _ d _ h2 (by omega) (by dsimp only; omega)
      | exact blkk_shared A K h r _ d _ h2 h3

/-- The values' block: columns by head. -/
def blkv (A : FVec Ideal S256x1024 .f32) (h : Fin 8) (r : Fin 256) (d : Fin 128) : EReal := A (ix2 r ⟨h.val * 128 + d.val, by omega⟩)

theorem blkv_of (A : FVec Ideal S256x1024 .f32) (h : Fin 8) (r s : Fin 256) (d : Fin 128)
    (a : Fin 1024) (hr : r.val = s.val) (ha : a.val = h.val * 128 + d.val) : A (ix2 s a) = blkv A h r d := by
  obtain rfl : r = s := Fin.ext hr
  exact congrArg (fun a => A (ix2 r a)) (Fin.ext ha)

/-- The values' block in its pieces. -/
def vpieces (A : FVec Ideal S256x1024 .f32) : Vec Ideal S1x8x256x128 .bf16 :=
  View.canon (Val := Elt Ideal) (s := S1x8x256x128) (e := .bf16) [⟨r1_32, k1_pay3 A⟩,
    ⟨r1_30, k1_pay64 A⟩,
    ⟨r1_28, k1_pay60 (k1_pay59 A)⟩,
    ⟨r1_26, k1_pay55 A⟩,
    ⟨r1_24, k1_pay51 A⟩,
    ⟨r1_22, k1_pay47 A⟩,
    ⟨r1_20, k1_pay43 A⟩,
    ⟨r1_18, k1_pay38 A⟩]

theorem v_block (A : FVec Ideal S256x1024 .f32) (h : Fin 8) (r : Fin 256) (d : Fin 128) :
    vpieces A (ix4 0 h r d) = blkv A h r d := by
  unfold vpieces
  canon_tiles x h
  all_goals
    open_payloads
    pointwise []
    have h1' : h.val = _ := h1
    have h3' : d.val = _ := h3
    exact blkv_of A h r _ d _ h2 (by dsimp only; omega)

section Blocks

variable (x0 x1 : FVec Ideal S256x512 .bf16) (x2 : FVec Ideal S3x256x128 .f32) (x3 : FVec Ideal S1x512 .f32) (x4 : FVec Ideal S1x256 .f32)
  (x5 : FVec Ideal S512x1024 .bf16) (x6 : FVec Ideal S512x512 .bf16) (x7 x8 : FVec Ideal S256x1024 .bf16)

/-- The blocks are those pieces. -/
theorem out9_eq : out1_9 (F := Ideal) x0 x1 x2 x3 x4 x5 x6 x7 x8 = pieces (k1_pay69 x0 x1 x2 x3 x4 x5 x6 x7 x8) (k1_pay70 x0 x1 x2 x3 x4 x5 x6 x7 x8)
    (k1_pay73 x0 x1 x2 x3 x4 x5 x6 x7 x8) (k1_pay74 x0 x1 x2 x3 x4 x5 x6 x7 x8) (k1_pay75 x0 x1 x2 x3 x4 x5 x6 x7 x8) (k1_pay76 (F := Ideal) x0 x1 x2 x3 x4 x5 x6 x7 x8)
    (k1_pay78 x0 x1 x2 x3 x4 x5 x6 x7 x8) (k1_pay79 x0 x1 x2 x3 x4 x5 x6 x7 x8) := rfl
theorem out10_eq : out1_10 (F := Ideal) x0 x1 x2 x3 x4 x5 x6 x7 x8 = kpieces (k1_pay71 x0 x1 x2 x3 x4 x5 x6 x7 x8) (k1_pay77 x0 x1 x2 x3 x4 x5 x6 x7 x8) := rfl
theorem out11_eq : out1_11 (F := Ideal) x0 x1 x2 x3 x4 x5 x6 x7 x8 = vpieces (k1_pay72 x0 x1 x2 x3 x4 x5 x6 x7 x8) := rfl

/-- The products at an index. -/
theorem A_at (r : Fin 256) (n : Fin 1024) : k1_pay69 (F := Ideal) x0 x1 x2 x3 x4 x5 x6 x7 x8 (ix2 r n)
    = (∑ k : Fin 512, rms (Ideal.ofBits .f32 0x44000000#32) (fun k : Fin 512 => x0 (ix2 r k)) (fun k => x3 (ix2 0 k)) k * x5 (ix2 k n)) * scale := by
  unfold k1_pay69
  open_payloads
  pointwise [rms, scale]
theorem B_at (r : Fin 256) (n : Fin 512) : k1_pay70 (F := Ideal) x0 x1 x2 x3 x4 x5 x6 x7 x8 (ix2 r n)
    = (∑ k : Fin 512, rms (Ideal.ofBits .f32 0x44000000#32) (fun k : Fin 512 => x0 (ix2 r k)) (fun k => x3 (ix2 0 k)) k * x6 (ix2 k n)) * scale := by
  unfold k1_pay70 k1_pay67
  open_payloads
  pointwise [rms, scale]
theorem KN_at (r : Fin 256) (n : Fin 1024) : k1_pay71 (F := Ideal) x0 x1 x2 x3 x4 x5 x6 x7 x8 (ix2 r n)
    = ∑ k : Fin 256, rms (Ideal.ofBits .f32 0x43800000#32) (fun k : Fin 256 => x1 (ix2 r ⟨k.val, by omega⟩)) (fun k => x4 (ix2 0 k)) k * x7 (ix2 k n) := by
  unfold k1_pay71 k1_pay68
  open_payloads
  pointwise [rms]
theorem V_at (r : Fin 256) (n : Fin 1024) : k1_pay72 (F := Ideal) x0 x1 x2 x3 x4 x5 x6 x7 x8 (ix2 r n)
    = ∑ k : Fin 256, rms (Ideal.ofBits .f32 0x43800000#32) (fun k : Fin 256 => x1 (ix2 r ⟨k.val, by omega⟩)) (fun k => x4 (ix2 0 k)) k * x8 (ix2 k n) := by
  unfold k1_pay72 k1_pay68
  open_payloads
  pointwise [rms]

/-- The tables at an index. -/
theorem T0_at (r : Fin 256) (l : Fin 128) : k1_pay73 (F := Ideal) x0 x1 x2 x3 x4 x5 x6 x7 x8 (ix2 r l) = x2 (ix3 0 r l) := by
  unfold k1_pay73
  open_payloads
  pointwise []
theorem T1_at (r : Fin 256) (l : Fin 128) : k1_pay74 (F := Ideal) x0 x1 x2 x3 x4 x5 x6 x7 x8 (ix2 r l) = x2 (ix3 1 r l) := by
  unfold k1_pay74
  open_payloads
  pointwise []
theorem T2_at (r : Fin 256) (l : Fin 128) : k1_pay75 (F := Ideal) x0 x1 x2 x3 x4 x5 x6 x7 x8 (ix2 r l) = x2 (ix3 2 r l) := by
  unfold k1_pay75
  open_payloads
  pointwise []

/-- The shared key at an index. -/
theorem K_at (r : Fin 256) (l : Fin 128) : k1_pay77 (F := Ideal) x0 x1 x2 x3 x4 x5 x6 x7 x8 (ix2 r l)
    = if l.val < 64 then RopeHalf.tile (fun l => x1 (ix2 r ⟨256 + l.val, by omega⟩)) (fun l => x2 (ix3 0 r l)) (fun l => x2 (ix3 1 r l)) (fun l => x2 (ix3 2 r l)) l
      else 0 := by
  have hM := mask_at r l
  unfold k1_pay77 RopeHalf.tile k1_pay18
  generalize k1_pay17 = M at hM ⊢
  open_payloads
  pointwise [hM]
  split <;> rfl

end Blocks

end Cert.MlaPrepIdeal.Value

end
-- ==== Proof.MlaPrep.Arrays.lean ====
/- The arrays the two kernels of the latent attention's preparation leave, of the arrays they are given. -/
module

public import proofs.«01_k».proof.Proof.MlaPrep.Run
public import proofs.«01_k».proof.Proof.MlaPrep.Block
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlaPrepIdeal.Value

open Cert.MlaPrepIdeal Cert.MlaPrepIdeal.Gen MlaPrep

section Blocks

variable (x0 x1 : FVec Ideal S256x512 .bf16) (x2 : FVec Ideal S3x256x128 .f32) (x3 : FVec Ideal S1x512 .f32) (x4 : FVec Ideal S1x256 .f32)
  (x5 : FVec Ideal S512x1024 .bf16) (x6 : FVec Ideal S512x512 .bf16) (x7 x8 : FVec Ideal S256x1024 .bf16)

/-- The queries' block is the specified one, where the blocks read are the arguments' parts. -/
theorem block_q (X : In) (P : Ps) (g : Gq) (W : Wq) (r : Fin 256) (b : Fin 2) (i : Fin 8192) (h : Fin 8) (d : Fin 256)
    (h0 : ∀ k : Fin 512, x0 (ix2 r k) = X (ix2 (row b i) ⟨1024 + k.val, by omega⟩))
    (t0 : ∀ l, x2 (ix3 0 r l) = Ideal.cos (FloatOps.sitofp (F := Ideal) .f32 (P (ix2 b i)) * RopeHalf.lane l))
    (t1 : ∀ l, x2 (ix3 1 r l) = Ideal.sin (FloatOps.sitofp (F := Ideal) .f32 (P (ix2 b i)) * RopeHalf.lane l) * RopeHalf.lo l)
    (t2 : ∀ l, x2 (ix3 2 r l) = Ideal.sin (FloatOps.sitofp (F := Ideal) .f32 (P (ix2 b i)) * RopeHalf.lane l) * RopeHalf.hi l)
    (h3 : ∀ k, x3 (ix2 0 k) = g (ix1 k))
    (h5 : ∀ k (n : Fin 1024), x5 (ix2 k n) = W (ix2 k ⟨n.val / 128 * 192 + n.val % 128, by omega⟩))
    (h6 : ∀ k (n : Fin 512), x6 (ix2 k n) = W (ix2 k ⟨n.val / 64 * 192 + 128 + n.val % 64, by omega⟩)) :
    out1_9 (F := Ideal) x0 x1 x2 x3 x4 x5 x6 x7 x8 (ix4 0 h r d) = outq X P g W b h i d := by
  have hA : ∀ n : Fin 1024, k1_pay69 (F := Ideal) x0 x1 x2 x3 x4 x5 x6 x7 x8 (ix2 r n) = qcol X g W (row b i) ⟨n.val / 128 * 192 + n.val % 128, by omega⟩ := fun n => by
    rw [A_at]
    unfold qcol
    simp only [h0, h3, h5]
  have hB : ∀ n : Fin 512, k1_pay70 (F := Ideal) x0 x1 x2 x3 x4 x5 x6 x7 x8 (ix2 r n) = qcol X g W (row b i) ⟨n.val / 64 * 192 + 128 + n.val % 64, by omega⟩ := fun n => by
    rw [B_at]
    unfold qcol
    simp only [h0, h3, h6]
  refine (congrFun (out9_eq x0 x1 x2 x3 x4 x5 x6 x7 x8) _).trans ((q_block _ _ _ _ _ (k1_pay76 (F := Ideal) x0 x1 x2 x3 x4 x5 x6 x7 x8)
    (fun r l => mask_at r l) _ _ rfl rfl h r d).trans ?_)
  unfold blkq outq
  refine if_ctx_congr Iff.rfl (fun hd => ?_) (fun hd => if_ctx_congr Iff.rfl (fun hd' => ?_) fun _ => rfl)
  · rw [hA]
    exact congrArg (qcol X g W (row b i)) (Fin.ext (by dsimp only; omega))
  · rw [RopeHalf.tile_eq _ _ _ _ _ _ (fun l => (T0_at x0 x1 x2 x3 x4 x5 x6 x7 x8 r l).trans (t0 l)) (fun l => (T1_at x0 x1 x2 x3 x4 x5 x6 x7 x8 r l).trans (t1 l))
      (fun l => (T2_at x0 x1 x2 x3 x4 x5 x6 x7 x8 r l).trans (t2 l))]
    have e : (⟨(h.val % 2 * 64 + (d.val - 128) % 64) % 64, by omega⟩ : Fin 64) = ⟨(d.val - 128) % 64, by omega⟩ := Fin.ext (by dsimp only; omega)
    rw [e]
    refine congrArg (fun f => RopeHalf.rot f _ _) (funext fun e => ?_)
    rw [hB]
    exact congrArg (qcol X g W (row b i)) (Fin.ext (by dsimp only; omega))

/-- The keys' block. -/
theorem block_k (X : In) (P : Ps) (g : Gk) (W : Wk) (r : Fin 256) (b : Fin 2) (i : Fin 8192) (h : Fin 8) (d : Fin 256)
    (h1 : ∀ k : Fin 512, x1 (ix2 r k) = X (ix2 (row b i) ⟨1536 + k.val, by omega⟩))
    (t0 : ∀ l, x2 (ix3 0 r l) = Ideal.cos (FloatOps.sitofp (F := Ideal) .f32 (P (ix2 b i)) * RopeHalf.lane l))
    (t1 : ∀ l, x2 (ix3 1 r l) = Ideal.sin (FloatOps.sitofp (F := Ideal) .f32 (P (ix2 b i)) * RopeHalf.lane l) * RopeHalf.lo l)
    (t2 : ∀ l, x2 (ix3 2 r l) = Ideal.sin (FloatOps.sitofp (F := Ideal) .f32 (P (ix2 b i)) * RopeHalf.lane l) * RopeHalf.hi l)
    (h4 : ∀ k, x4 (ix2 0 k) = g (ix1 k))
    (h7 : ∀ k (n : Fin 1024), x7 (ix2 k n) = W (ix2 k ⟨n.val / 128 * 256 + n.val % 128, by omega⟩)) :
    out1_10 (F := Ideal) x0 x1 x2 x3 x4 x5 x6 x7 x8 (ix4 0 h r d) = outk X P g W b h i d := by
  have hA : ∀ n : Fin 1024, k1_pay71 (F := Ideal) x0 x1 x2 x3 x4 x5 x6 x7 x8 (ix2 r n) = kcol X g W (row b i) ⟨n.val / 128 * 256 + n.val % 128, by omega⟩ := fun n => by
    rw [KN_at]
    unfold kcol
    simp only [h1, h4, h7]
  rw [out10_eq, k_block]
  unfold blkk outk
  refine if_ctx_congr Iff.rfl (fun hd => ?_) (fun hd => ?_)
  · rw [hA]
    exact congrArg (kcol X g W (row b i)) (Fin.ext (by dsimp only; omega))
  · rw [K_at]
    refine if_ctx_congr ⟨fun h => by dsimp only at h; omega, fun h => by dsimp only; omega⟩ (fun hd' => ?_) fun _ => rfl
    rw [RopeHalf.tile_eq _ _ _ _ _ _ t0 t1 t2]
    have e : (⟨(d.val - 128) % 64, by omega⟩ : Fin 64) = ⟨(d.val - 128) % 64, by omega⟩ := rfl
    refine congrArg (fun f => RopeHalf.rot f _ _) (funext fun e => ?_)
    rw [h1]
    exact congrArg X (congrArg (ix2 (row b i)) (Fin.ext (by dsimp only; omega)))

/-- The values' block. -/
theorem block_v (X : In) (g : Gk) (W : Wk) (r : Fin 256) (b : Fin 2) (i : Fin 8192) (h : Fin 8) (d : Fin 128)
    (h1 : ∀ k : Fin 512, x1 (ix2 r k) = X (ix2 (row b i) ⟨1536 + k.val, by omega⟩))
    (h4 : ∀ k, x4 (ix2 0 k) = g (ix1 k))
    (h8 : ∀ k (n : Fin 1024), x8 (ix2 k n) = W (ix2 k ⟨n.val / 128 * 256 + 128 + n.val % 128, by omega⟩)) :
    out1_11 (F := Ideal) x0 x1 x2 x3 x4 x5 x6 x7 x8 (ix4 0 h r d) = outv X g W b h i d := by
  rw [out11_eq, v_block]
  unfold blkv outv
  rw [V_at]
  unfold kcol
  simp only [h1, h4, h8]
  have e : (⟨(h.val * 128 + d.val) / 128 * 256 + 128 + (h.val * 128 + d.val) % 128, by omega⟩ : Fin 2048) = ⟨h.val * 256 + 128 + d.val, by omega⟩ :=
    Fin.ext (by dsimp only; omega)
  rw [e]

end Blocks

section Arrays

variable (V : (c : Dev nD) → (b : Ref sig .tc) → Buf (Elt Ideal) ((c : Thread nD τ).loc b))

/-- Where the second kernel's blocks sit. -/
theorem idx1 : ∀ t : Fin cfg1.N, win1_0.index t = ![t.val, 2] ∧ win1_1.index t = ![t.val, 3] ∧ win1_2.index t = ![0, t.val, 0]
    ∧ win1_3.index t = ![0, 0] ∧ win1_4.index t = ![0, 0] ∧ win1_5.index t = ![0, 0] ∧ win1_6.index t = ![0, 0] ∧ win1_7.index t = ![0, 0]
    ∧ win1_8.index t = ![0, 0] ∧ win1_9.index t = ![t.val / 32, 0, t.val % 32, 0] ∧ win1_10.index t = ![t.val / 32, 0, t.val % 32, 0]
    ∧ win1_11.index t = ![t.val / 32, 0, t.val % 32, 0] ∧ t.val < 64 :=
  (by decide +kernel : ∀ t : Fin grid1.N, _)

/-- What a grid point reads: its rows of the latents, its positions' tables, the gains and the weights. -/
theorem read_q (c : Dev nD) (t : Fin cfg1.N) (ht : t.val < 64) (r : Fin 256) (k : Fin 512) :
    iblk1 V c 0 t (ix2 r k) = V c main_arg0 (ix2 ⟨t.val * 256 + r.val, by omega⟩ ⟨1024 + k.val, by omega⟩) := by blk_ext [iblk1, idx1 t]
theorem read_k (c : Dev nD) (t : Fin cfg1.N) (ht : t.val < 64) (r : Fin 256) (k : Fin 512) :
    iblk1 V c 1 t (ix2 r k) = V c main_arg0 (ix2 ⟨t.val * 256 + r.val, by omega⟩ ⟨1536 + k.val, by omega⟩) := by blk_ext [iblk1, idx1 t]
theorem read_0 (c : Dev nD) (t : Fin cfg1.N) (ht : t.val < 64) (r : Fin 256) (l : Fin 128) :
    iblk1 V c 2 t (ix3 0 r l) = V c main_v45 (ix3 0 ⟨t.val * 256 + r.val, by omega⟩ l) := by blk_ext [iblk1, idx1 t]
theorem read_1 (c : Dev nD) (t : Fin cfg1.N) (ht : t.val < 64) (r : Fin 256) (l : Fin 128) :
    iblk1 V c 2 t (ix3 1 r l) = V c main_v45 (ix3 1 ⟨t.val * 256 + r.val, by omega⟩ l) := by blk_ext [iblk1, idx1 t]
theorem read_2 (c : Dev nD) (t : Fin cfg1.N) (ht : t.val < 64) (r : Fin 256) (l : Fin 128) :
    iblk1 V c 2 t (ix3 2 r l) = V c main_v45 (ix3 2 ⟨t.val * 256 + r.val, by omega⟩ l) := by blk_ext [iblk1, idx1 t]
theorem read_gq (c : Dev nD) (t : Fin cfg1.N) (k : Fin 512) : iblk1 V c 3 t (ix2 0 k) = V c main_v60 (ix2 0 k) := by blk_ext [iblk1, idx1 t]
theorem read_gk (c : Dev nD) (t : Fin cfg1.N) (k : Fin 256) : iblk1 V c 4 t (ix2 0 k) = V c main_v61 (ix2 0 k) := by blk_ext [iblk1, idx1 t]
theorem read_5 (c : Dev nD) (t : Fin cfg1.N) (k : Fin 512) (n : Fin 1024) : iblk1 V c 5 t (ix2 k n) = V c main_v49 (ix2 k n) := by blk_ext [iblk1, idx1 t]
theorem read_6 (c : Dev nD) (t : Fin cfg1.N) (k : Fin 512) (n : Fin 512) : iblk1 V c 6 t (ix2 k n) = V c main_v52 (ix2 k n) := by blk_ext [iblk1, idx1 t]
theorem read_7 (c : Dev nD) (t : Fin cfg1.N) (k : Fin 256) (n : Fin 1024) : iblk1 V c 7 t (ix2 k n) = V c main_v56 (ix2 k n) := by blk_ext [iblk1, idx1 t]
theorem read_8 (c : Dev nD) (t : Fin cfg1.N) (k : Fin 256) (n : Fin 1024) : iblk1 V c 8 t (ix2 k n) = V c main_v59 (ix2 k n) := by blk_ext [iblk1, idx1 t]

/-- The batch and the position of a grid point's row. -/
def bt (t : ℕ) (ht : t < 64) : Fin 2 := ⟨t / 32, by omega⟩
def ps (t : ℕ) (r : Fin 256) : Fin 8192 := ⟨t % 32 * 256 + r.val, by omega⟩
theorem row_bp (t : ℕ) (ht : t < 64) (r : Fin 256) : (⟨t * 256 + r.val, by omega⟩ : Fin 16384) = row (bt t ht) (ps t r) :=
  Fin.ext (by show t * 256 + r.val = t / 32 * 8192 + (t % 32 * 256 + r.val); omega)

/-- What the tables hold. -/
def Tables (T : FVec Ideal S6x16384x128 .f32) (P : Ps) : Prop := ∀ (b : Fin 2) (i : Fin 8192) (l : Fin 128),
  T (ix3 0 (row b i) l) = Ideal.cos (FloatOps.sitofp (F := Ideal) .f32 (P (ix2 b i)) * RopeHalf.lane l)
  ∧ T (ix3 1 (row b i) l) = Ideal.sin (FloatOps.sitofp (F := Ideal) .f32 (P (ix2 b i)) * RopeHalf.lane l) * RopeHalf.lo l
  ∧ T (ix3 2 (row b i) l) = Ideal.sin (FloatOps.sitofp (F := Ideal) .f32 (P (ix2 b i)) * RopeHalf.lane l) * RopeHalf.hi l

theorem GQ_of (X : In) (P : Ps) (g : Gq) (W : Wq) (j : S2x8x8192x256.Idx) (b : Fin 2) (h : Fin 8) (i : Fin 8192) (d : Fin 256)
    (hb : (j 0 : ℕ) = b.val) (hh : (j 1 : ℕ) = h.val) (hi : (j 2 : ℕ) = i.val) (hd : (j 3 : ℕ) = d.val) : outq X P g W b h i d = GQ X P g W j := by
  unfold GQ
  rw [show j 0 = b from Fin.ext hb, show j 1 = h from Fin.ext hh, show j 2 = i from Fin.ext hi, show j 3 = d from Fin.ext hd]
theorem GK_of (X : In) (P : Ps) (g : Gk) (W : Wk) (j : S2x8x8192x256.Idx) (b : Fin 2) (h : Fin 8) (i : Fin 8192) (d : Fin 256)
    (hb : (j 0 : ℕ) = b.val) (hh : (j 1 : ℕ) = h.val) (hi : (j 2 : ℕ) = i.val) (hd : (j 3 : ℕ) = d.val) : outk X P g W b h i d = GK X P g W j := by
  unfold GK
  rw [show j 0 = b from Fin.ext hb, show j 1 = h from Fin.ext hh, show j 2 = i from Fin.ext hi, show j 3 = d from Fin.ext hd]
theorem GV_of (X : In) (g : Gk) (W : Wk) (j : S2x8x8192x128.Idx) (b : Fin 2) (h : Fin 8) (i : Fin 8192) (d : Fin 128)
    (hb : (j 0 : ℕ) = b.val) (hh : (j 1 : ℕ) = h.val) (hi : (j 2 : ℕ) = i.val) (hd : (j 3 : ℕ) = d.val) : outv X g W b h i d = GV X g W j := by
  unfold GV
  rw [show j 0 = b from Fin.ext hb, show j 1 = h from Fin.ext hh, show j 2 = i from Fin.ext hi, show j 3 = d from Fin.ext hd]

/-- THE SECOND KERNEL's arrays. -/
theorem second_q (c : Dev nD) (X : In) (P : Ps) (g : Gq) (W : Wq) (hX : V c main_arg0 = X) (hT : Tables (V c main_v45) P)
    (hg : ∀ k, V c main_v60 (ix2 0 k) = g (ix1 k))
    (h5 : ∀ k (n : Fin 1024), V c main_v49 (ix2 k n) = W (ix2 k ⟨n.val / 128 * 192 + n.val % 128, by omega⟩))
    (h6 : ∀ k (n : Fin 512), V c main_v52 (ix2 k n) = W (ix2 k ⟨n.val / 64 * 192 + 128 + n.val % 64, by omega⟩)) :
    (dat1 V c).arrAt 9 cfg1.N = GQ X P g W := by
  refine (dat1 V c).arrAt_eq_of_covers 9 _ (by decide +kernel) fun t _ y => ?_
  blk_simp
  rw [after1_9]
  obtain ⟨a, h, r, d, rfl⟩ : ∃ (a : Fin 1) (h : Fin 8) (r : Fin 256) (d : Fin 256), y = ix4 a h r d := ⟨y 0, y 1, y 2, y 3, eq_ix4 y⟩
  obtain rfl : a = 0 := Subsingleton.elim _ _
  have ht := (idx1 t).2.2.2.2.2.2.2.2.2.2.2.2
  have e := row_bp t.val ht r
  refine (block_q _ _ _ _ _ _ _ _ _ X P g W r (bt t.val ht) (ps t.val r) h d (fun k => ?_) (fun l => ?_) (fun l => ?_) (fun l => ?_)
    (fun k => (read_gq V c t k).trans (hg k)) (fun k n => (read_5 V c t k n).trans (h5 k n)) (fun k n => (read_6 V c t k n).trans (h6 k n))).trans
    (GQ_of X P g W _ _ _ _ _ ?_ ?_ ?_ ?_)
  · rw [← hX, ← e]; exact read_q V c t ht r k
  · refine Eq.trans ?_ (hT (bt t.val ht) (ps t.val r) l).1
    rw [← e]; exact read_0 V c t ht r l
  · refine Eq.trans ?_ (hT (bt t.val ht) (ps t.val r) l).2.1
    rw [← e]; exact read_1 V c t ht r l
  · refine Eq.trans ?_ (hT (bt t.val ht) (ps t.val r) l).2.2
    rw [← e]; exact read_2 V c t ht r l
  · blk_simp [idx1 t, bt]; try dsimp only; omega
  · blk_simp [idx1 t]; try dsimp only; omega
  · blk_simp [idx1 t, ps]; try dsimp only; omega
  · blk_simp [idx1 t]; try dsimp only; omega

theorem second_k (c : Dev nD) (X : In) (P : Ps) (g : Gk) (W : Wk) (hX : V c main_arg0 = X) (hT : Tables (V c main_v45) P)
    (hg : ∀ k, V c main_v61 (ix2 0 k) = g (ix1 k))
    (h7 : ∀ k (n : Fin 1024), V c main_v56 (ix2 k n) = W (ix2 k ⟨n.val / 128 * 256 + n.val % 128, by omega⟩)) :
    (dat1 V c).arrAt 10 cfg1.N = GK X P g W := by
  refine (dat1 V c).arrAt_eq_of_covers 10 _ (by decide +kernel) fun t _ y => ?_
  blk_simp
  rw [after1_10]
  obtain ⟨a, h, r, d, rfl⟩ : ∃ (a : Fin 1) (h : Fin 8) (r : Fin 256) (d : Fin 256), y = ix4 a h r d := ⟨y 0, y 1, y 2, y 3, eq_ix4 y⟩
  obtain rfl : a = 0 := Subsingleton.elim _ _
  have ht := (idx1 t).2.2.2.2.2.2.2.2.2.2.2.2
  have e := row_bp t.val ht r
  refine (block_k _ _ _ _ _ _ _ _ _ X P g W r (bt t.val ht) (ps t.val r) h d (fun k => ?_) (fun l => ?_) (fun l => ?_) (fun l => ?_)
    (fun k => (read_gk V c t k).trans (hg k)) (fun k n => (read_7 V c t k n).trans (h7 k n))).trans
    (GK_of X P g W _ _ _ _ _ ?_ ?_ ?_ ?_)
  · rw [← hX, ← e]; exact read_k V c t ht r k
  · refine Eq.trans ?_ (hT (bt t.val ht) (ps t.val r) l).1
    rw [← e]; exact read_0 V c t ht r l
  · refine Eq.trans ?_ (hT (bt t.val ht) (ps t.val r) l).2.1
    rw [← e]; exact read_1 V c t ht r l
  · refine Eq.trans ?_ (hT (bt t.val ht) (ps t.val r) l).2.2
    rw [← e]; exact read_2 V c t ht r l
  · blk_simp [idx1 t, bt]; try dsimp only; omega
  · blk_simp [idx1 t]; try dsimp only; omega
  · blk_simp [idx1 t, ps]; try dsimp only; omega
  · blk_simp [idx1 t]; try dsimp only; omega

theorem second_v (c : Dev nD) (X : In) (g : Gk) (W : Wk) (hX : V c main_arg0 = X)
    (hg : ∀ k, V c main_v61 (ix2 0 k) = g (ix1 k))
    (h8 : ∀ k (n : Fin 1024), V c main_v59 (ix2 k n) = W (ix2 k ⟨n.val / 128 * 256 + 128 + n.val % 128, by omega⟩)) :
    (dat1 V c).arrAt 11 cfg1.N = GV X g W := by
  refine (dat1 V c).arrAt_eq_of_covers 11 _ (by decide +kernel) fun t _ y => ?_
  blk_simp
  rw [after1_11]
  obtain ⟨a, h, r, d, rfl⟩ : ∃ (a : Fin 1) (h : Fin 8) (r : Fin 256) (d : Fin 128), y = ix4 a h r d := ⟨y 0, y 1, y 2, y 3, eq_ix4 y⟩
  obtain rfl : a = 0 := Subsingleton.elim _ _
  have ht := (idx1 t).2.2.2.2.2.2.2.2.2.2.2.2
  have e := row_bp t.val ht r
  refine (block_v _ _ _ _ _ _ _ _ _ X g W r (bt t.val ht) (ps t.val r) h d (fun k => ?_)
    (fun k => (read_gk V c t k).trans (hg k)) (fun k n => (read_8 V c t k n).trans (h8 k n))).trans
    (GV_of X g W _ _ _ _ _ ?_ ?_ ?_ ?_)
  · rw [← hX, ← e]; exact read_k V c t ht r k
  · blk_simp [idx1 t, bt]; try dsimp only; omega
  · blk_simp [idx1 t]; try dsimp only; omega
  · blk_simp [idx1 t, ps]; try dsimp only; omega
  · blk_simp [idx1 t]; try dsimp only; omega

/-- A place of the first kernel's tables, from the position and the lane's column of constants. -/
def angle (p : EReal) (k : Fin 8 → EReal) (q : Fin 6) : EReal :=
  if q.val = 0 then Ideal.cos (p * k 0) else if q.val = 1 then Ideal.sin (p * k 0) * k 1 else if q.val = 2 then Ideal.sin (p * k 0) * k 2
  else if q.val = 3 then Ideal.cos (p * k 3) else if q.val = 4 then Ideal.sin (p * k 3) * k 4 else Ideal.sin (p * k 3) * k 5

/-- The first kernel's block. -/
theorem tables_at (x0 : FVec Ideal S512x128 .f32) (x1 : FVec Ideal S8x128 .f32) (q : Fin 6) (r : Fin 512) (l : Fin 128) :
    out0_2 (F := Ideal) x0 x1 (ix3 q r l) = angle (x0 (ix2 r l)) (fun a => x1 (ix2 a l)) q := by
  unfold_out out0_2
  canon_tiles x h
  all_goals
    open_payloads
    pointwise []
    obtain rfl : r = x 1 := Fin.ext h1
    obtain rfl : l = x 2 := Fin.ext h2
    have hq : q.val = _ := h0
    unfold angle
  · rw [if_neg (by omega), if_neg (by omega), if_neg (by omega), if_neg (by omega), if_neg (by omega)]
  · rw [if_neg (by omega), if_neg (by omega), if_neg (by omega), if_neg (by omega), if_pos (by omega)]
  · rw [if_neg (by omega), if_neg (by omega), if_neg (by omega), if_pos (by omega)]
  · rw [if_neg (by omega), if_neg (by omega), if_pos (by omega)]
  · rw [if_neg (by omega), if_pos (by omega)]
  · rw [if_pos (by omega)]

/-- The tables. -/
def TAB (P : FVec Ideal S16384x128 .f32) (C : FVec Ideal S8x128 .f32) : FVec Ideal S6x16384x128 .f32 := fun j =>
  angle (P (ix2 (j 1) (j 2))) (fun a => C (ix2 a (j 2))) (j 0)

theorem TAB_of (P : FVec Ideal S16384x128 .f32) (C : FVec Ideal S8x128 .f32) (j : S6x16384x128.Idx) (q : Fin 6) (z : Fin 16384) (l : Fin 128)
    (hq : (j 0 : ℕ) = q.val) (hz : (j 1 : ℕ) = z.val) (hl : (j 2 : ℕ) = l.val) : angle (P (ix2 z l)) (fun a => C (ix2 a l)) q = TAB P C j := by
  unfold TAB
  rw [show j 0 = q from Fin.ext hq, show j 1 = z from Fin.ext hz, show j 2 = l from Fin.ext hl]

/-- Where the first kernel's blocks sit. -/
theorem idx0 : ∀ t : Fin cfg0.N, win0_0.index t = ![t.val, 0] ∧ win0_1.index t = ![0, 0] ∧ win0_2.index t = ![0, t.val, 0] ∧ t.val < 32 :=
  (by decide +kernel : ∀ t : Fin grid0.N, _)

/-- THE FIRST KERNEL's array. -/
theorem first (c : Dev nD) : (dat0 V c).arrAt 2 cfg0.N = TAB (V c main_v2) (V c main_v44) := by
  refine (dat0 V c).arrAt_eq_of_covers 2 _ (by decide +kernel) fun t _ y => ?_
  blk_simp
  rw [after0_2]
  obtain ⟨q, r, l, rfl⟩ : ∃ (q : Fin 6) (r : Fin 512) (l : Fin 128), y = ix3 q r l := ⟨y 0, y 1, y 2, eq_ix3 y⟩
  have ht := (idx0 t).2.2.2
  refine (tables_at _ _ q r l).trans (Eq.trans ?_ (TAB_of _ _ _ q ⟨t.val * 512 + r.val, by omega⟩ l
    (by blk_simp [idx0 t]; try dsimp only; omega) (by blk_simp [idx0 t]; try dsimp only; omega) (by blk_simp [idx0 t]; try dsimp only; omega)))
  congr 1
  · blk_ext [iblk0, idx0 t]
  · funext a
    blk_ext [iblk0, idx0 t]

end Arrays

end Cert.MlaPrepIdeal.Value

end
-- ==== Proof.MlaPrep.Host.lean ====
/- What the two kernels of the latent attention's preparation are given, from the layer's arguments. -/
module

public import proofs.«01_k».proof.Proof.MlaPrep.Run
public import proofs.«01_k».proof.Proof.MlaPrep.Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlaPrepIdeal.Value

open Cert.MlaPrepIdeal Cert.MlaPrepIdeal.Gen

/-- A look-up in a table of thirty-two. -/
theorem take_at (x : FVec Ideal S32 .f32) (i : IVec S128x1 32) (l : Fin 128) :
    Host.gather gather_S32_S128x1_S128_n_0_n_n_0_1_1 x i (ix1 l) = x (ix1 ⟨min (i (ix2 l 0)).toInt.toNat 31, by omega⟩) := by
  unfold Host.gather
  congr 1
  funext a
  obtain rfl : a = 0 := Subsingleton.elim _ _
  refine Fin.ext ?_
  set d := gather_S32_S128x1_S128_n_0_n_n_0_1_1
  show d.start (ix1 l) i 0 + d.batchCoord (ix1 l) 0 + d.offCoord (ix1 l) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ d.startIndexMap from List.mem_singleton.mpr rfl)]
  have hsi : d.siIdx (ix1 l) ⟨List.idxOf (0 : Fin 1) d.startIndexMap,
      List.idxOf_lt_length_iff.2 (List.mem_singleton.mpr rfl)⟩ = ix2 l 0 := by
    funext b; refine Fin.ext ?_
    match b with
    | ⟨0, _⟩ => rfl
    | ⟨1, _⟩ => rfl
  rw [hsi]
  rfl

/-- The literal tables, by a rule. -/
theorem lit0_at : ∀ l : Fin 128, lit0 l = BitVec.ofNat 32 (l.val % 32) := by decide +kernel
theorem lit3_at : ∀ l : Fin 128, lit3 l = if l.val % 64 < 32 then 0xBF800000#32 else 0x00000000#32 := by decide +kernel
theorem lit4_at : ∀ l : Fin 128, lit4 l = if l.val % 64 < 32 then 0x00000000#32 else 0x3F800000#32 := by decide +kernel

theorem minus_one : Ideal.ofBits .f32 0xBF800000#32 = -1 := by
  simp [Ideal.ofBits, Ideal.ieee, -EReal.coe_mul]; norm_num

theorem place (l : Fin 128) : S128.rowMajor (ix1 l) = l := by
  refine Fin.ext ?_
  rw [Shape.rowMajor_val_one]; rfl

open MlaPrep

variable (m : (ℓ : Loc nD τ sig) → Buf (Elt Ideal) ℓ) (ρ : Dev nD → PrngReg)

/-- The frequencies as the program computes them. -/
def FR : FVec Ideal S32 .f32 := Host.powf (broadcastInDim S32 ![] bcast_S_S32 (constant S_ .f32 0x48F42400#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The lanes' frequencies as the program computes them. -/
def LN : FVec Ideal S128 .f32 := Host.gather gather_S32_S128x1_S128_n_0_n_n_0_1_1 FR
  (broadcastInDim S128x1 ![0] bcast_S128_S128x1_0 (select (constantI S128 1 0#1)
    (addi (fun i => lit0 (S128.rowMajor i)) (broadcastInDim S128 ![] bcast_S_S128 (constantI S_ 32 32#32))) fun i => lit0 (S128.rowMajor i)))

theorem lanes_in (c : Dev nD) : W2 m ρ c main_v27 = LN := by
  refine (W2_of m ρ c main_v27 (by decide)).trans ?_
  unfold W1
  after_results
  rfl

/-- They are the frequencies. -/
theorem FR_at (l : Fin 32) : FR (ix1 l) = RopeHalf.freq l := by
  pointwise [FR, RopeHalf.freq]

/-- They are the lanes' frequencies. -/
theorem LN_at (l : Fin 128) : LN (ix1 l) = RopeHalf.lane l := by
  unfold LN RopeHalf.lane
  have hk : ∀ k : Fin 32, min (BitVec.ofNat 32 k.val).toInt.toNat 31 = k.val := by decide
  pointwise [take_at, lit0_at, place, FR_at, hk ⟨l.val % 32, by omega⟩]

/-- The first kernel's table of constants, from the rows it is stacked of. -/
theorem consts (U : Valuation τ sig (Elt Ideal)) : StableHlo.after hostOps0_2 U main_v44 =
   concatenate S8x128 0 [⟨S1x128, broadcastInDim S1x128 ![1] bcast_S128_S1x128_1 (U main_v27 : FVec Ideal S128 .f32)⟩,
     ⟨S1x128, broadcastInDim S1x128 ![1] bcast_S128_S1x128_1 (U main_cst : FVec Ideal S128 .f32)⟩,
     ⟨S1x128, broadcastInDim S1x128 ![1] bcast_S128_S1x128_1 (U main_cst_4 : FVec Ideal S128 .f32)⟩,
     ⟨S1x128, broadcastInDim S1x128 ![1] bcast_S128_S1x128_1 (U main_v33 : FVec Ideal S128 .f32)⟩,
     ⟨S1x128, broadcastInDim S1x128 ![1] bcast_S128_S1x128_1 (U main_cst_5 : FVec Ideal S128 .f32)⟩,
     ⟨S1x128, broadcastInDim S1x128 ![1] bcast_S128_S1x128_1 (U main_cst_6 : FVec Ideal S128 .f32)⟩,
     ⟨S1x128, broadcastInDim S1x128 ![1] bcast_S128_S1x128_1 (broadcastInDim S128 ![] bcast_S_S128 (constant (F := Ideal) S_ .f32 0x00000000#32))⟩,
     ⟨S1x128, broadcastInDim S1x128 ![1] bcast_S128_S1x128_1 (broadcastInDim S128 ![] bcast_S_S128 (constant (F := Ideal) S_ .f32 0x00000000#32))⟩]
     concatenates_S1x128_S1x128_S1x128_S1x128_S1x128_S1x128_S1x128_S1x128_S8x128_d0 := by
  after_results <;> rfl

/-- The first kernel's positions. -/
theorem pos_in (c : Dev nD) : V3 m ρ c main_v2 = broadcastInDim S16384x128 ![0, 1] bcast_S16384x1_S16384x128_0_1
    (sitofp (F := Ideal) .f32 (shapeCast S16384x1 (m ((c : Thread nD τ).loc main_arg1) : IVec S2x8192 32) shapeCasts_S2x8192_S16384x1)) := by
  unfold V3 W3
  after_results <;> rfl

/-- The second kernel's tables. -/
theorem tab_in (c : Dev nD) : V5 m ρ c main_v45 = (dat0 (V3 m ρ) c).arrAt 2 cfg0.N :=
  (W5_of m ρ c main_v45 (by decide)).trans (W4_arr m ρ c 2)

/-- Row `q` of the stack. -/
theorem stack_at (r0 r1 r2 r3 r4 r5 r6 r7 : FVec Ideal S1x128 .f32) (l : Fin 128) :
    let C : FVec Ideal S8x128 .f32 := concatenate S8x128 0 [⟨S1x128, r0⟩, ⟨S1x128, r1⟩, ⟨S1x128, r2⟩, ⟨S1x128, r3⟩, ⟨S1x128, r4⟩, ⟨S1x128, r5⟩, ⟨S1x128, r6⟩, ⟨S1x128, r7⟩]
      concatenates_S1x128_S1x128_S1x128_S1x128_S1x128_S1x128_S1x128_S1x128_S8x128_d0
    C (ix2 0 l) = r0 (ix2 0 l) ∧ C (ix2 1 l) = r1 (ix2 0 l) ∧ C (ix2 2 l) = r2 (ix2 0 l) := by
  refine ⟨?_, ?_, ?_⟩
  · refine concatenate_apply_piece (t := S8x128) 0 _ _ _ 0 (by simp) S1x128 _ rfl rfl 0 rfl (ix2 0 l) (fun b hb => ?_) rfl
    fin_cases b
    · exact absurd rfl hb
    · rfl
  · refine concatenate_apply_piece (t := S8x128) 0 _ _ _ 1 (by simp) S1x128 _ rfl rfl 1 rfl (ix2 0 l) (fun b hb => ?_) rfl
    fin_cases b
    · exact absurd rfl hb
    · rfl
  · refine concatenate_apply_piece (t := S8x128) 0 _ _ _ 2 (by simp) S1x128 _ rfl rfl 2 rfl (ix2 0 l) (fun b hb => ?_) rfl
    fin_cases b
    · exact absurd rfl hb
    · rfl

/-- The signs, where a shifted copy counts. -/
theorem lo_in (c : Dev nD) : W2 m ρ c main_cst = fun i => FloatOps.ofBits (F := Ideal) .f32 (lit3 (S128.rowMajor i)) := by
  refine (W2_of m ρ c main_cst (by decide)).trans ?_
  unfold W1
  after_results <;> rfl
theorem hi_in (c : Dev nD) : W2 m ρ c main_cst_4 = fun i => FloatOps.ofBits (F := Ideal) .f32 (lit4 (S128.rowMajor i)) := by
  refine (W2_of m ρ c main_cst_4 (by decide)).trans ?_
  unfold W1
  after_results <;> rfl

/-- The constants of a lane. -/
theorem consts_at (c : Dev nD) (l : Fin 128) :
    (V3 m ρ c main_v44 : FVec Ideal S8x128 .f32) (ix2 0 l) = RopeHalf.lane l
    ∧ (V3 m ρ c main_v44 : FVec Ideal S8x128 .f32) (ix2 1 l) = RopeHalf.lo l
    ∧ (V3 m ρ c main_v44 : FVec Ideal S8x128 .f32) (ix2 2 l) = RopeHalf.hi l := by
  have e : V3 m ρ c main_v44 = _ := consts (W2 m ρ c)
  rw [e, lanes_in, lo_in, hi_in]
  have h := stack_at (broadcastInDim S1x128 ![1] bcast_S128_S1x128_1 LN)
    (broadcastInDim S1x128 ![1] bcast_S128_S1x128_1 (fun i => FloatOps.ofBits (F := Ideal) .f32 (lit3 (S128.rowMajor i))))
    (broadcastInDim S1x128 ![1] bcast_S128_S1x128_1 (fun i => FloatOps.ofBits (F := Ideal) .f32 (lit4 (S128.rowMajor i))))
    (broadcastInDim S1x128 ![1] bcast_S128_S1x128_1 (W2 m ρ c main_v33 : FVec Ideal S128 .f32))
    (broadcastInDim S1x128 ![1] bcast_S128_S1x128_1 (W2 m ρ c main_cst_5 : FVec Ideal S128 .f32))
    (broadcastInDim S1x128 ![1] bcast_S128_S1x128_1 (W2 m ρ c main_cst_6 : FVec Ideal S128 .f32))
    (broadcastInDim S1x128 ![1] bcast_S128_S1x128_1 (broadcastInDim S128 ![] bcast_S_S128 (constant (F := Ideal) S_ .f32 0x00000000#32)))
    (broadcastInDim S1x128 ![1] bcast_S128_S1x128_1 (broadcastInDim S128 ![] bcast_S_S128 (constant (F := Ideal) S_ .f32 0x00000000#32))) l
  refine ⟨h.1.trans ?_, h.2.1.trans ?_, h.2.2.trans ?_⟩
  · pointwise [LN_at]
  · pointwise [place, lit3_at, RopeHalf.lo]
    split <;> pointwise [minus_one]
  · pointwise [place, lit4_at, RopeHalf.hi]
    split <;> pointwise []

/-- A row of the positions. -/
theorem pos_of (P : Ps) (z : Fin 16384) (b : Fin 2) (i : Fin 8192) (l : Fin 128) (hz : z.val = b.val * 8192 + i.val) :
    broadcastInDim S16384x128 ![0, 1] bcast_S16384x1_S16384x128_0_1
      (sitofp (F := Ideal) .f32 (shapeCast S16384x1 P shapeCasts_S2x8192_S16384x1)) (ix2 z l) = FloatOps.sitofp (F := Ideal) .f32 (P (ix2 b i)) := by
  pointwise []
  rw [show (⟨z.val / 8192, by omega⟩ : Fin 2) = b from Fin.ext (by show z.val / 8192 = b.val; omega),
    show (⟨z.val % 8192, by omega⟩ : Fin 8192) = i from Fin.ext (by show z.val % 8192 = i.val; omega)]

/-- The weights of the queries' plain features. -/
def WQN (W : Wq) : FVec Ideal S512x1024 .bf16 :=
  truncf (F := Ideal) .bf16 (shapeCast S512x1024 (extractStridedSlice S512x8x128 ![0, 0, 0] (shapeCast S512x8x192 W shapeCasts_S512x1536_S512x8x192) slices_S512x8x192_S512x8x128_0_0_0) shapeCasts_S512x8x128_S512x1024) bitsLt_bf16_f32
theorem WQN_of (U : Valuation τ sig (Elt Ideal)) : StableHlo.after hostOps1 U main_v49 = WQN (U main_arg4) := by
  after_results <;> rfl
theorem WQN_in (c : Dev nD) : V5 m ρ c main_v49 = WQN (m ((c : Thread nD τ).loc main_arg4)) := by
  rw [← W4_args m ρ c main_arg4 (by decide)]
  exact WQN_of (W4 m ρ c)
theorem WQN_at (W : Wq) (k : Fin 512) (n : Fin 1024) : WQN W (ix2 k n) = W (ix2 k ⟨n.val / 128 * 192 + n.val % 128, by omega⟩) := by
  unfold WQN
  pointwise []
  first | done | exact congrArg W (congrArg (ix2 k) (Fin.ext (by dsimp only; omega)))

/-- The weights of the queries' rotated features. -/
def WQR (W : Wq) : FVec Ideal S512x512 .bf16 :=
  truncf (F := Ideal) .bf16 (shapeCast S512x512 (extractStridedSlice S512x8x64 ![0, 0, 128] (shapeCast S512x8x192 W shapeCasts_S512x1536_S512x8x192) slices_S512x8x192_S512x8x64_0_0_128) shapeCasts_S512x8x64_S512x512) bitsLt_bf16_f32
theorem WQR_of (U : Valuation τ sig (Elt Ideal)) : StableHlo.after hostOps1 U main_v52 = WQR (U main_arg4) := by
  after_results <;> rfl
theorem WQR_in (c : Dev nD) : V5 m ρ c main_v52 = WQR (m ((c : Thread nD τ).loc main_arg4)) := by
  rw [← W4_args m ρ c main_arg4 (by decide)]
  exact WQR_of (W4 m ρ c)
theorem WQR_at (W : Wq) (k : Fin 512) (n : Fin 512) : WQR W (ix2 k n) = W (ix2 k ⟨n.val / 64 * 192 + 128 + n.val % 64, by omega⟩) := by
  unfold WQR
  pointwise []
  first | done | exact congrArg W (congrArg (ix2 k) (Fin.ext (by dsimp only; omega)))

/-- The weights of the keys' plain features. -/
def WKN (W : Wk) : FVec Ideal S256x1024 .bf16 :=
  truncf (F := Ideal) .bf16 (shapeCast S256x1024 (extractStridedSlice S256x8x128 ![0, 0, 0] (shapeCast S256x8x256 W shapeCasts_S256x2048_S256x8x256) slices_S256x8x256_S256x8x128_0_0_0) shapeCasts_S256x8x128_S256x1024) bitsLt_bf16_f32
theorem WKN_of (U : Valuation τ sig (Elt Ideal)) : StableHlo.after hostOps1 U main_v56 = WKN (U main_arg5) := by
  after_results <;> rfl
theorem WKN_in (c : Dev nD) : V5 m ρ c main_v56 = WKN (m ((c : Thread nD τ).loc main_arg5)) := by
  rw [← W4_args m ρ c main_arg5 (by decide)]
  exact WKN_of (W4 m ρ c)
theorem WKN_at (W : Wk) (k : Fin 256) (n : Fin 1024) : WKN W (ix2 k n) = W (ix2 k ⟨n.val / 128 * 256 + n.val % 128, by omega⟩) := by
  unfold WKN
  pointwise []
  first | done | exact congrArg W (congrArg (ix2 k) (Fin.ext (by dsimp only; omega)))

/-- The weights of the values. -/
def WV (W : Wk) : FVec Ideal S256x1024 .bf16 :=
  truncf (F := Ideal) .bf16 (shapeCast S256x1024 (extractStridedSlice S256x8x128 ![0, 0, 128] (shapeCast S256x8x256 W shapeCasts_S256x2048_S256x8x256) slices_S256x8x256_S256x8x128_0_0_128) shapeCasts_S256x8x128_S256x1024) bitsLt_bf16_f32
theorem WV_of (U : Valuation τ sig (Elt Ideal)) : StableHlo.after hostOps1 U main_v59 = WV (U main_arg5) := by
  after_results <;> rfl
theorem WV_in (c : Dev nD) : V5 m ρ c main_v59 = WV (m ((c : Thread nD τ).loc main_arg5)) := by
  rw [← W4_args m ρ c main_arg5 (by decide)]
  exact WV_of (W4 m ρ c)
theorem WV_at (W : Wk) (k : Fin 256) (n : Fin 1024) : WV W (ix2 k n) = W (ix2 k ⟨n.val / 128 * 256 + 128 + n.val % 128, by omega⟩) := by
  unfold WV
  pointwise []
  first | done | exact congrArg W (congrArg (ix2 k) (Fin.ext (by dsimp only; omega)))

/-- The projected columns and the gains. -/
theorem rows_in (c : Dev nD) : V5 m ρ c main_arg0 = m ((c : Thread nD τ).loc main_arg0) :=
  (W5_of m ρ c main_arg0 (by decide)).trans (W4_args m ρ c main_arg0 (by decide))
theorem gq_of (U : Valuation τ sig (Elt Ideal)) : StableHlo.after hostOps1 U main_v60 = shapeCast S1x512 (U main_arg2 : Gq) shapeCasts_S512_S1x512 := by
  after_results <;> rfl
theorem gk_of (U : Valuation τ sig (Elt Ideal)) : StableHlo.after hostOps1 U main_v61 = shapeCast S1x256 (U main_arg3 : Gk) shapeCasts_S256_S1x256 := by
  after_results <;> rfl
theorem gq_in (c : Dev nD) : V5 m ρ c main_v60 = shapeCast S1x512 (m ((c : Thread nD τ).loc main_arg2) : Gq) shapeCasts_S512_S1x512 := by
  rw [← W4_args m ρ c main_arg2 (by decide)]
  exact gq_of (W4 m ρ c)
theorem gk_in (c : Dev nD) : V5 m ρ c main_v61 = shapeCast S1x256 (m ((c : Thread nD τ).loc main_arg3) : Gk) shapeCasts_S256_S1x256 := by
  rw [← W4_args m ρ c main_arg3 (by decide)]
  exact gk_of (W4 m ρ c)
theorem gq_at (g : Gq) (k : Fin 512) : shapeCast S1x512 g shapeCasts_S512_S1x512 (ix2 0 k) = g (ix1 k) := by pointwise []
theorem gk_at (g : Gk) (k : Fin 256) : shapeCast S1x256 g shapeCasts_S256_S1x256 (ix2 0 k) = g (ix1 k) := by pointwise []

end Cert.MlaPrepIdeal.Value

end
-- ==== Proof.MlaPrep.Value.lean ====
/- What the latent attention's preparation leaves, from its arguments: the formulas of `Spec`. -/
module

public import proofs.«01_k».proof.Proof.MlaPrep.Arrays
public import proofs.«01_k».proof.Proof.MlaPrep.Host

@[expose] public section

set_option maxRecDepth 16384

noncomputable section

open Idealize.ShloMosaic Idealize.ShloMosaic.TcCoe

namespace Cert.MlaPrepIdeal.Value

open Cert.MlaPrepIdeal Cert.MlaPrepIdeal.Gen MlaPrep

variable (m : (ℓ : Loc nD τ sig) → Buf (Elt Ideal) ℓ) (ρ : Dev nD → PrngReg)

/-- Tables of the positions and of the lanes' constants. -/
theorem tables_of (Q : FVec Ideal S16384x128 .f32) (C : FVec Ideal S8x128 .f32) (P : Ps)
    (hQ : ∀ b i l, Q (ix2 (row b i) l) = FloatOps.sitofp (F := Ideal) .f32 (P (ix2 b i)))
    (hC : ∀ l, C (ix2 0 l) = RopeHalf.lane l ∧ C (ix2 1 l) = RopeHalf.lo l ∧ C (ix2 2 l) = RopeHalf.hi l) : Tables (TAB Q C) P := by
  intro b i l
  rw [← hQ b i l, ← (hC l).1, ← (hC l).2.1, ← (hC l).2.2]
  exact ⟨rfl, rfl, rfl⟩

/-- The tables the second kernel reads. -/
theorem tables (c : Dev nD) : Tables (V5 m ρ c main_v45) (m ((c : Thread nD τ).loc main_arg1)) := by
  rw [tab_in, first]
  refine tables_of _ _ _ (fun b i l => ?_) (consts_at m ρ c)
  rw [pos_in]
  exact pos_of _ (row b i) b i l rfl

/-- THE ARRAYS after the run. -/
theorem final_q (c : Dev nD) : (dat1 (V5 m ρ) c).arrAt 9 cfg1.N = GQ (m ((c : Thread nD τ).loc main_arg0)) (m ((c : Thread nD τ).loc main_arg1))
    (m ((c : Thread nD τ).loc main_arg2)) (m ((c : Thread nD τ).loc main_arg4)) := by
  refine second_q (V5 m ρ) c _ _ _ _ (rows_in m ρ c) (tables m ρ c) (fun k => ?_) (fun k n => ?_) (fun k n => ?_)
  · rw [gq_in]; exact gq_at _ k
  · rw [WQN_in]; exact WQN_at _ k n
  · rw [WQR_in]; exact WQR_at _ k n
theorem final_k (c : Dev nD) : (dat1 (V5 m ρ) c).arrAt 10 cfg1.N = GK (m ((c : Thread nD τ).loc main_arg0)) (m ((c : Thread nD τ).loc main_arg1))
    (m ((c : Thread nD τ).loc main_arg3)) (m ((c : Thread nD τ).loc main_arg5)) := by
  refine second_k (V5 m ρ) c _ _ _ _ (rows_in m ρ c) (tables m ρ c) (fun k => ?_) (fun k n => ?_)
  · rw [gk_in]; exact gk_at _ k
  · rw [WKN_in]; exact WKN_at _ k n
theorem final_v (c : Dev nD) : (dat1 (V5 m ρ) c).arrAt 11 cfg1.N = GV (m ((c : Thread nD τ).loc main_arg0))
    (m ((c : Thread nD τ).loc main_arg3)) (m ((c : Thread nD τ).loc main_arg5)) := by
  refine second_v (V5 m ρ) c _ _ _ (rows_in m ρ c) (fun k => ?_) (fun k n => ?_)
  · rw [gk_in]; exact gk_at _ k
  · rw [WV_in]; exact WV_at _ k n

end Cert.MlaPrepIdeal.Value

end
-- ==== Proof.MlaPrep.Ref.lean ====
/- The reference of the latent attention's preparation, read at an index: the formulas of `Spec`. -/
module

public import proofs.«01_k».proof.Proof.Gen.MlaPrepRefIdeal.Run
public import proofs.«01_k».proof.Proof.MlaPrep.Spec
public import Idealize.ShloMosaic.Lib.Pointwise

@[expose] public section

set_option maxRecDepth 16384

noncomputable section

open Idealize.ShloMosaic Idealize.ShloMosaic.TcCoe

namespace Cert.MlaPrepRefIdeal.Value

open Cert.MlaPrepRefIdeal Cert.MlaPrepRefIdeal.Gen MlaPrep

/-- The angles: a position times a frequency; their cosines and sines. -/
def ANG (P : Ps) : FVec Ideal S2x8192x32 .f32 :=
  mulf (broadcastInDim S2x8192x32 ![0, 1, 2] bcast_S2x8192x1_S2x8192x32_0_1_2 (broadcastInDim S2x8192x1 ![0, 1] bcast_S2x8192_S2x8192x1_0_1 (sitofp .f32 P)))
    (broadcastInDim S2x8192x32 ![0, 1, 2] bcast_S1x1x32_S2x8192x32_0_1_2 (broadcastInDim S1x1x32 ![2] bcast_S32_S1x1x32_2
      (Host.powf (broadcastInDim S32 ![] bcast_S_S32 (constant S_ .f32 0x48F42400#32))
        (Host.divf (Host.negf (addf (broadcastInDim S32 ![] bcast_S_S32 (constant S_ .f32 0x00000000#32))
          (mulf (broadcastInDim S32 ![] bcast_S_S32 (constant S_ .f32 0x40000000#32)) (sitofp .f32 (iotaInDim S32 32 0)))))
          (broadcastInDim S32 ![] bcast_S_S32 (constant S_ .f32 0x42800000#32))))))
def CS (P : Ps) : FVec Ideal S2x8192x1x32 .f32 := broadcastInDim S2x8192x1x32 ![0, 1, 3] bcast_S2x8192x32_S2x8192x1x32_0_1_3 (Host.cos (ANG P))
def SN (P : Ps) : FVec Ideal S2x8192x1x32 .f32 := broadcastInDim S2x8192x1x32 ![0, 1, 3] bcast_S2x8192x32_S2x8192x1x32_0_1_3 (Host.sin (ANG P))
def COS (P : Ps) : FVec Ideal S2x8192x8x32 .f32 := broadcastInDim S2x8192x8x32 ![0, 1, 2, 3] bcast_S2x8192x1x32_S2x8192x8x32_0_1_2_3 (CS P)
def SIN (P : Ps) : FVec Ideal S2x8192x8x32 .f32 := broadcastInDim S2x8192x8x32 ![0, 1, 2, 3] bcast_S2x8192x1x32_S2x8192x8x32_0_1_2_3 (SN P)

/-- The columns of the latents, and their three groups. -/
def LAT (X : In) : FVec Ideal S2x8192x1024 .f32 :=
  shapeCast _ (extf .f32 (extractStridedSlice S16384x1024 ![0, 1024] X slices_S16384x2048_S16384x1024_0_1024) bitsLt_bf16_f32) shapeCasts_S16384x1024_S2x8192x1024
def CQ (X : In) : FVec Ideal S2x8192x512 .f32 := extractStridedSlice S2x8192x512 ![0, 0, 0] (LAT X) slices_S2x8192x1024_S2x8192x512_0_0_0
def CK (X : In) : FVec Ideal S2x8192x256 .f32 := extractStridedSlice S2x8192x256 ![0, 0, 512] (LAT X) slices_S2x8192x1024_S2x8192x256_0_0_512
def KR (X : In) : FVec Ideal S2x8192x1x64 .f32 :=
  broadcastInDim S2x8192x1x64 ![0, 1, 3] bcast_S2x8192x64_S2x8192x1x64_0_1_3 (extractStridedSlice S2x8192x64 ![0, 0, 768] (LAT X) slices_S2x8192x1024_S2x8192x64_0_0_768)

/-- The two normed groups. -/
def NQ (x : FVec Ideal S2x8192x512 .f32) (g : Gq) : FVec Ideal S2x8192x512 .f32 :=
  mulf (mulf x (broadcastInDim S2x8192x512 ![0, 1, 2] bcast_S2x8192x1_S2x8192x512_0_1_2
      (Host.rsqrt (addf (Host.divf (broadcastInDim S2x8192x1 ![0, 1] bcast_S2x8192_S2x8192x1_0_1
        (Host.reduceAdd (mulf x x) (constant S_ .f32 0x00000000#32) reducesTo_S2x8192x512_S2x8192_d2 h_S_))
        (broadcastInDim S2x8192x1 ![] bcast_S_S2x8192x1 (constant S_ .f32 0x44000000#32)))
        (broadcastInDim S2x8192x1 ![] bcast_S_S2x8192x1 (constant S_ .f32 0x358637BD#32))))))
    (broadcastInDim S2x8192x512 ![0, 1, 2] bcast_S1x1x512_S2x8192x512_0_1_2 (broadcastInDim S1x1x512 ![2] bcast_S512_S1x1x512_2 g))
def NK (x : FVec Ideal S2x8192x256 .f32) (g : Gk) : FVec Ideal S2x8192x256 .f32 :=
  mulf (mulf x (broadcastInDim S2x8192x256 ![0, 1, 2] bcast_S2x8192x1_S2x8192x256_0_1_2
      (Host.rsqrt (addf (Host.divf (broadcastInDim S2x8192x1 ![0, 1] bcast_S2x8192_S2x8192x1_0_1
        (Host.reduceAdd (mulf x x) (constant S_ .f32 0x00000000#32) reducesTo_S2x8192x256_S2x8192_d2 h_S_))
        (broadcastInDim S2x8192x1 ![] bcast_S_S2x8192x1 (constant S_ .f32 0x43800000#32)))
        (broadcastInDim S2x8192x1 ![] bcast_S_S2x8192x1 (constant S_ .f32 0x358637BD#32))))))
    (broadcastInDim S2x8192x256 ![0, 1, 2] bcast_S1x1x256_S2x8192x256_0_1_2 (broadcastInDim S1x1x256 ![2] bcast_S256_S1x1x256_2 g))

/-- The products with the weights, by head. -/
def QQ (x : FVec Ideal S2x8192x512 .f32) (W : Wq) : FVec Ideal S2x8192x8x192 .f32 :=
  mulf (shapeCast _ (Host.dotGeneral dot_S2x8192x512_S512x1536_S2x8192x1536_2_0_01_1_n_n none x W) shapeCasts_S2x8192x1536_S2x8192x8x192)
    (broadcastInDim S2x8192x8x192 ![] bcast_S_S2x8192x8x192 (constant S_ .f32 0x3DD53B95#32))
def KK (x : FVec Ideal S2x8192x256 .f32) (W : Wk) : FVec Ideal S2x8192x8x256 .f32 :=
  shapeCast _ (Host.dotGeneral dot_S2x8192x256_S256x2048_S2x8192x2048_2_0_01_1_n_n none x W) shapeCasts_S2x8192x2048_S2x8192x8x256

/-- The rotations, of eight heads and of the shared key. -/
def ROT8 (x : FVec Ideal S2x8192x8x64 .f32) (P : Ps) : FVec Ideal S2x8192x8x64 .f32 :=
  concatenate S2x8192x8x64 3 [⟨S2x8192x8x32, subf (mulf (extractStridedSlice S2x8192x8x32 ![0, 0, 0, 0] x slices_S2x8192x8x64_S2x8192x8x32_0_0_0_0) (COS P))
      (mulf (extractStridedSlice S2x8192x8x32 ![0, 0, 0, 32] x slices_S2x8192x8x64_S2x8192x8x32_0_0_0_32) (SIN P))⟩,
    ⟨S2x8192x8x32, addf (mulf (extractStridedSlice S2x8192x8x32 ![0, 0, 0, 32] x slices_S2x8192x8x64_S2x8192x8x32_0_0_0_32) (COS P))
      (mulf (extractStridedSlice S2x8192x8x32 ![0, 0, 0, 0] x slices_S2x8192x8x64_S2x8192x8x32_0_0_0_0) (SIN P))⟩] concatenates_S2x8192x8x32_S2x8192x8x32_S2x8192x8x64_d3
def ROT1 (x : FVec Ideal S2x8192x1x64 .f32) (P : Ps) : FVec Ideal S2x8192x1x64 .f32 :=
  concatenate S2x8192x1x64 3 [⟨S2x8192x1x32, subf (mulf (extractStridedSlice S2x8192x1x32 ![0, 0, 0, 0] x slices_S2x8192x1x64_S2x8192x1x32_0_0_0_0) (CS P))
      (mulf (extractStridedSlice S2x8192x1x32 ![0, 0, 0, 32] x slices_S2x8192x1x64_S2x8192x1x32_0_0_0_32) (SN P))⟩,
    ⟨S2x8192x1x32, addf (mulf (extractStridedSlice S2x8192x1x32 ![0, 0, 0, 32] x slices_S2x8192x1x64_S2x8192x1x32_0_0_0_32) (CS P))
      (mulf (extractStridedSlice S2x8192x1x32 ![0, 0, 0, 0] x slices_S2x8192x1x64_S2x8192x1x32_0_0_0_0) (SN P))⟩] concatenates_S2x8192x1x32_S2x8192x1x32_S2x8192x1x64_d3

/-- Plain features, rotated features, zeros. -/
def CAT (a : FVec Ideal S2x8192x8x128 .f32) (r : FVec Ideal S2x8192x8x64 .f32) : FVec Ideal S2x8192x8x256 .f32 :=
  concatenate S2x8192x8x256 3 [⟨S2x8192x8x128, a⟩, ⟨S2x8192x8x64, r⟩, ⟨S2x8192x8x64, broadcastInDim S2x8192x8x64 ![] bcast_S_S2x8192x8x64 (constant S_ .f32 0x00000000#32)⟩]
    concatenates_S2x8192x8x128_S2x8192x8x64_S2x8192x8x64_S2x8192x8x256_d3

/-- The three results. -/
def REFQ (X : In) (P : Ps) (g : Gq) (W : Wq) : FVec Ideal S2x8x8192x256 .bf16 :=
  truncf .bf16 (transpose S2x8x8192x256 [0, 2, 1, 3] (CAT
    (extractStridedSlice S2x8192x8x128 ![0, 0, 0, 0] (QQ (NQ (CQ X) g) W) slices_S2x8192x8x192_S2x8192x8x128_0_0_0_0)
    (ROT8 (extractStridedSlice S2x8192x8x64 ![0, 0, 0, 128] (QQ (NQ (CQ X) g) W) slices_S2x8192x8x192_S2x8192x8x64_0_0_0_128) P))
    transposes_S2x8192x8x256_S2x8x8192x256_0_2_1_3) bitsLt_bf16_f32
def REFK (X : In) (P : Ps) (g : Gk) (W : Wk) : FVec Ideal S2x8x8192x256 .bf16 :=
  truncf .bf16 (transpose S2x8x8192x256 [0, 2, 1, 3] (CAT
    (extractStridedSlice S2x8192x8x128 ![0, 0, 0, 0] (KK (NK (CK X) g) W) slices_S2x8192x8x256_S2x8192x8x128_0_0_0_0)
    (broadcastInDim S2x8192x8x64 ![0, 1, 2, 3] bcast_S2x8192x1x64_S2x8192x8x64_0_1_2_3 (ROT1 (KR X) P)))
    transposes_S2x8192x8x256_S2x8x8192x256_0_2_1_3) bitsLt_bf16_f32
def REFV (X : In) (g : Gk) (W : Wk) : FVec Ideal S2x8x8192x128 .bf16 :=
  truncf .bf16 (transpose S2x8x8192x128 [0, 2, 1, 3]
    (extractStridedSlice S2x8192x8x128 ![0, 0, 0, 128] (KK (NK (CK X) g) W) slices_S2x8192x8x256_S2x8192x8x128_0_0_0_128)
    transposes_S2x8192x8x128_S2x8x8192x128_0_2_1_3) bitsLt_bf16_f32

/-- They are what the run leaves. -/
theorem res0 (m : (ℓ : Loc nD τ sig) → Buf (Elt Ideal) ℓ) (c : Dev nD) : res_main_v89 m c
    = REFQ (m ((c.tc : Thread nD τ).loc main_arg0)) (m ((c.tc : Thread nD τ).loc main_arg1)) (m ((c.tc : Thread nD τ).loc main_arg2)) (m ((c.tc : Thread nD τ).loc main_arg4)) := rfl
theorem res1 (m : (ℓ : Loc nD τ sig) → Buf (Elt Ideal) ℓ) (c : Dev nD) : res_main_v91 m c
    = REFK (m ((c.tc : Thread nD τ).loc main_arg0)) (m ((c.tc : Thread nD τ).loc main_arg1)) (m ((c.tc : Thread nD τ).loc main_arg3)) (m ((c.tc : Thread nD τ).loc main_arg5)) := rfl

/-- The tables at an index. -/
theorem CS_at (P : Ps) (b : Fin 2) (i : Fin 8192) (h : Fin 1) (l : Fin 32) :
    CS P (ix4 b i h l) = Ideal.cos (FloatOps.sitofp (F := Ideal) .f32 (P (ix2 b i)) * RopeHalf.freq l) := by pointwise [CS, ANG, RopeHalf.freq]
theorem SN_at (P : Ps) (b : Fin 2) (i : Fin 8192) (h : Fin 1) (l : Fin 32) :
    SN P (ix4 b i h l) = Ideal.sin (FloatOps.sitofp (F := Ideal) .f32 (P (ix2 b i)) * RopeHalf.freq l) := by pointwise [SN, ANG, RopeHalf.freq]
theorem COS_at (P : Ps) (b : Fin 2) (i : Fin 8192) (h : Fin 8) (l : Fin 32) :
    COS P (ix4 b i h l) = Ideal.cos (FloatOps.sitofp (F := Ideal) .f32 (P (ix2 b i)) * RopeHalf.freq l) := by pointwise [COS, CS_at]
theorem SIN_at (P : Ps) (b : Fin 2) (i : Fin 8192) (h : Fin 8) (l : Fin 32) :
    SIN P (ix4 b i h l) = Ideal.sin (FloatOps.sitofp (F := Ideal) .f32 (P (ix2 b i)) * RopeHalf.freq l) := by pointwise [SIN, SN_at]

/-- The groups at an index. -/
theorem LAT_at (X : In) (b : Fin 2) (i : Fin 8192) (k : Fin 1024) : LAT X (ix3 b i k) = X (ix2 (row b i) ⟨1024 + k.val, by omega⟩) := by
  pointwise [LAT, row]
theorem CQ_at (X : In) (b : Fin 2) (i : Fin 8192) (k : Fin 512) : CQ X (ix3 b i k) = X (ix2 (row b i) ⟨1024 + k.val, by omega⟩) := by
  pointwise [CQ, LAT_at]
theorem CK_at (X : In) (b : Fin 2) (i : Fin 8192) (k : Fin 256) : CK X (ix3 b i k) = X (ix2 (row b i) ⟨1536 + k.val, by omega⟩) := by
  pointwise [CK, LAT_at]
  exact congrArg X (congrArg (ix2 _) (Fin.ext (by dsimp only; omega)))
theorem KR_at (X : In) (b : Fin 2) (i : Fin 8192) (h : Fin 1) (k : Fin 64) : KR X (ix4 b i h k) = X (ix2 (row b i) ⟨1792 + k.val, by omega⟩) := by
  pointwise [KR, LAT_at]
  exact congrArg X (congrArg (ix2 _) (Fin.ext (by dsimp only; omega)))

/-- The normed groups at an index. -/
theorem NQ_at (x : FVec Ideal S2x8192x512 .f32) (g : Gq) (b : Fin 2) (i : Fin 8192) (k : Fin 512) :
    NQ x g (ix3 b i k) = rms (Ideal.ofBits .f32 0x44000000#32) (fun k : Fin 512 => x (ix3 b i k)) (fun k => g (ix1 k)) k := by pointwise [NQ, rms]
theorem NK_at (x : FVec Ideal S2x8192x256 .f32) (g : Gk) (b : Fin 2) (i : Fin 8192) (k : Fin 256) :
    NK x g (ix3 b i k) = rms (Ideal.ofBits .f32 0x43800000#32) (fun k : Fin 256 => x (ix3 b i k)) (fun k => g (ix1 k)) k := by pointwise [NK, rms]

/-- The products at an index. -/
theorem QQ_at (X : In) (g : Gq) (W : Wq) (b : Fin 2) (i : Fin 8192) (h : Fin 8) (d : Fin 192) :
    QQ (NQ (CQ X) g) W (ix4 b i h d) = qcol X g W (row b i) ⟨h.val * 192 + d.val, by omega⟩ := by
  unfold qcol scale
  have e : ∀ k, NQ (CQ X) g (ix3 b i k) = _ := NQ_at (CQ X) g b i
  simp only [CQ_at] at e
  generalize NQ (CQ X) g = A at e ⊢
  pointwise [QQ, e]
theorem KK_at (X : In) (g : Gk) (W : Wk) (b : Fin 2) (i : Fin 8192) (h : Fin 8) (d : Fin 256) :
    KK (NK (CK X) g) W (ix4 b i h d) = kcol X g W (row b i) ⟨h.val * 256 + d.val, by omega⟩ := by
  unfold kcol
  have e : ∀ k, NK (CK X) g (ix3 b i k) = _ := NK_at (CK X) g b i
  simp only [CK_at] at e
  generalize NK (CK X) g = A at e ⊢
  pointwise [KK, e]

/-- The rotations at an index. -/
theorem ROT8_at (x : FVec Ideal S2x8192x8x64 .f32) (P : Ps) (b : Fin 2) (i : Fin 8192) (h : Fin 8) (e : Fin 64) :
    ROT8 x P (ix4 b i h e) = RopeHalf.rot (fun e => x (ix4 b i h e)) (FloatOps.sitofp (F := Ideal) .f32 (P (ix2 b i))) e := by
  unfold RopeHalf.rot ROT8
  by_cases h0 : e.val < 32
  · rw [dif_pos h0]
    refine (concatenate_apply_piece (t := S2x8192x8x64) 3 _ _ _ 0 (by simp) S2x8192x8x32 _ rfl rfl 0 rfl (ix4 b i h ⟨e.val, h0⟩)
      (fun a ha => ?_) (by show 0 + e.val = e.val; omega)).trans ?_
    · fin_cases a
      · rfl
      · rfl
      · rfl
      · exact absurd rfl ha
    pointwise [COS_at, SIN_at]
    have e1 : (⟨32 + e.val, by omega⟩ : Fin 64) = ⟨e.val + 32, by omega⟩ := Fin.ext (by dsimp only; omega)
    first | done | rw [e1]
  · rw [dif_neg h0]
    refine (concatenate_apply_piece (t := S2x8192x8x64) 3 _ _ _ 1 (by simp) S2x8192x8x32 _ rfl rfl 32 rfl (ix4 b i h ⟨e.val - 32, by omega⟩)
      (fun a ha => ?_) (by show 32 + (e.val - 32) = e.val; omega)).trans ?_
    · fin_cases a
      · rfl
      · rfl
      · rfl
      · exact absurd rfl ha
    pointwise [COS_at, SIN_at]
    have e1 : (⟨32 + (e.val - 32), by omega⟩ : Fin 64) = e := Fin.ext (by dsimp only; omega)
    first | done | rw [e1]
theorem ROT1_at (x : FVec Ideal S2x8192x1x64 .f32) (P : Ps) (b : Fin 2) (i : Fin 8192) (h : Fin 1) (e : Fin 64) :
    ROT1 x P (ix4 b i h e) = RopeHalf.rot (fun e => x (ix4 b i h e)) (FloatOps.sitofp (F := Ideal) .f32 (P (ix2 b i))) e := by
  obtain rfl : h = 0 := Subsingleton.elim _ _
  unfold RopeHalf.rot ROT1
  by_cases h0 : e.val < 32
  · rw [dif_pos h0]
    refine (concatenate_apply_piece (t := S2x8192x1x64) 3 _ _ _ 0 (by simp) S2x8192x1x32 _ rfl rfl 0 rfl (ix4 b i 0 ⟨e.val, h0⟩)
      (fun a ha => ?_) (by show 0 + e.val = e.val; omega)).trans ?_
    · fin_cases a
      · rfl
      · rfl
      · rfl
      · exact absurd rfl ha
    pointwise [CS_at, SN_at]
    have e1 : (⟨32 + e.val, by omega⟩ : Fin 64) = ⟨e.val + 32, by omega⟩ := Fin.ext (by dsimp only; omega)
    first | done | rw [e1]
  · rw [dif_neg h0]
    refine (concatenate_apply_piece (t := S2x8192x1x64) 3 _ _ _ 1 (by simp) S2x8192x1x32 _ rfl rfl 32 rfl (ix4 b i 0 ⟨e.val - 32, by omega⟩)
      (fun a ha => ?_) (by show 32 + (e.val - 32) = e.val; omega)).trans ?_
    · fin_cases a
      · rfl
      · rfl
      · rfl
      · exact absurd rfl ha
    pointwise [CS_at, SN_at]
    have e1 : (⟨32 + (e.val - 32), by omega⟩ : Fin 64) = e := Fin.ext (by dsimp only; omega)
    first | done | rw [e1]

/-- The three parts of a head. -/
theorem CAT_at (a : FVec Ideal S2x8192x8x128 .f32) (r : FVec Ideal S2x8192x8x64 .f32) (b : Fin 2) (i : Fin 8192) (h : Fin 8) (d : Fin 256) :
    CAT a r (ix4 b i h d) = if d.val < 128 then a (ix4 b i h ⟨d.val % 128, by omega⟩) else if d.val < 192 then r (ix4 b i h ⟨(d.val - 128) % 64, by omega⟩) else 0 := by
  unfold CAT
  by_cases h0 : d.val < 128
  · rw [if_pos h0]
    refine (concatenate_apply_piece (t := S2x8192x8x256) 3 _ _ _ 0 (by simp) S2x8192x8x128 _ rfl rfl 0 rfl (ix4 b i h ⟨d.val % 128, by omega⟩)
      (fun a ha => ?_) (by show 0 + d.val % 128 = d.val; omega))
    fin_cases a
    · rfl
    · rfl
    · rfl
    · exact absurd rfl ha
  rw [if_neg h0]
  by_cases h1 : d.val < 192
  · rw [if_pos h1]
    refine (concatenate_apply_piece (t := S2x8192x8x256) 3 _ _ _ 1 (by simp) S2x8192x8x64 _ rfl rfl 128 rfl (ix4 b i h ⟨(d.val - 128) % 64, by omega⟩)
      (fun a ha => ?_) (by show 128 + (d.val - 128) % 64 = d.val; omega))
    fin_cases a
    · rfl
    · rfl
    · rfl
    · exact absurd rfl ha
  · rw [if_neg h1]
    refine (concatenate_apply_piece (t := S2x8192x8x256) 3 _ _ _ 2 (by simp) S2x8192x8x64 _ rfl rfl 192 rfl (ix4 b i h ⟨d.val - 192, by omega⟩)
      (fun a ha => ?_) (by show 192 + (d.val - 192) = d.val; omega)).trans (by pointwise [])
    fin_cases a
    · rfl
    · rfl
    · rfl
    · exact absurd rfl ha

/-- The reference's results are the specified ones. -/
theorem REFQ_eq (X : In) (P : Ps) (g : Gq) (W : Wq) : REFQ X P g W = GQ X P g W := by
  funext j
  obtain ⟨b, h, i, d, rfl⟩ : ∃ (b : Fin 2) (h : Fin 8) (i : Fin 8192) (d : Fin 256), j = ix4 b h i d := ⟨j 0, j 1, j 2, j 3, eq_ix4 j⟩
  show REFQ X P g W (ix4 b h i d) = outq X P g W b h i d
  have e := QQ_at X g W b i h
  unfold REFQ outq
  generalize QQ (NQ (CQ X) g) W = A at e ⊢
  pointwise [CAT_at, ROT8_at, e]
  refine if_ctx_congr Iff.rfl (fun h0 => ?_) (fun h0 => if_ctx_congr Iff.rfl (fun h1 => ?_) fun _ => rfl)
  · exact congrArg (qcol X g W _) (Fin.ext (by dsimp only; omega))
  · refine congrArg (fun f => RopeHalf.rot f _ _) (funext fun e => congrArg (qcol X g W _) (Fin.ext (by dsimp only; omega)))
theorem REFK_eq (X : In) (P : Ps) (g : Gk) (W : Wk) : REFK X P g W = GK X P g W := by
  funext j
  obtain ⟨b, h, i, d, rfl⟩ : ∃ (b : Fin 2) (h : Fin 8) (i : Fin 8192) (d : Fin 256), j = ix4 b h i d := ⟨j 0, j 1, j 2, j 3, eq_ix4 j⟩
  show REFK X P g W (ix4 b h i d) = outk X P g W b h i d
  have e := KK_at X g W b i h
  unfold REFK outk
  generalize KK (NK (CK X) g) W = A at e ⊢
  pointwise [CAT_at, ROT1_at, e, KR_at]
  refine if_ctx_congr Iff.rfl (fun h0 => ?_) (fun h0 => if_ctx_congr Iff.rfl (fun h1 => rfl) fun _ => rfl)
  exact congrArg (kcol X g W _) (Fin.ext (by dsimp only; omega))
theorem REFV_eq (X : In) (g : Gk) (W : Wk) : REFV X g W = GV X g W := by
  funext j
  obtain ⟨b, h, i, d, rfl⟩ : ∃ (b : Fin 2) (h : Fin 8) (i : Fin 8192) (d : Fin 128), j = ix4 b h i d := ⟨j 0, j 1, j 2, j 3, eq_ix4 j⟩
  show REFV X g W (ix4 b h i d) = outv X g W b h i d
  have e := KK_at X g W b i h
  unfold REFV outv
  generalize KK (NK (CK X) g) W = A at e ⊢
  pointwise [e]
  exact congrArg (kcol X g W _) (Fin.ext (by dsimp only; omega))

end Cert.MlaPrepRefIdeal.Value

end
-- ==== Proof.MlaPrep.RefRun.lean ====
/- The run of the latent attention's preparation's reference, its three results read as the formulas of `Spec`. -/
module

public import proofs.«01_k».proof.Proof.MlaPrep.Ref

@[expose] public section

set_option maxRecDepth 16384

noncomputable section

open Idealize.ShloMosaic Idealize.ShloMosaic.TcCoe Idealize.SL.Sem

namespace Cert.MlaPrepRefIdeal.Value

open Cert.MlaPrepRefIdeal Cert.MlaPrepRefIdeal.Gen MlaPrep

/-- The arrays a run leaves. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v89) = GQ (m ((c.tc : Thread nD τ).loc main_arg0)) (m ((c.tc : Thread nD τ).loc main_arg1))
        (m ((c.tc : Thread nD τ).loc main_arg2)) (m ((c.tc : Thread nD τ).loc main_arg4))
      ∧ r.2.mem ((c.tc : Thread nD τ).loc main_v91) = GK (m ((c.tc : Thread nD τ).loc main_arg0)) (m ((c.tc : Thread nD τ).loc main_arg1))
        (m ((c.tc : Thread nD τ).loc main_arg3)) (m ((c.tc : Thread nD τ).loc main_arg5))
      ∧ r.2.mem ((c.tc : Thread nD τ).loc main_v94) = GV (m ((c.tc : Thread nD τ).loc main_arg0))
        (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run m ρ)
  obtain ⟨h0, h1, h2, h3⟩ := h c
  refine ⟨h0.trans ((res0 m c).trans (REFQ_eq _ _ _ _)), h1.trans ((res1 m c).trans (REFK_eq _ _ _ _)), ?_, h3⟩
  rw [← REFV_eq]
  exact h2

end Cert.MlaPrepRefIdeal.Value

end
-- ==== Proof.MlaPrep.Claims.lean ====
/- The claims about the latent attention's preparation. -/
module

public import proofs.«01_k».proof.Defs
public import proofs.«01_k».proof.Proof.Gen.MlaPrep.Frame
public import proofs.«01_k».proof.Proof.MlaPrep.Value
public import proofs.«01_k».proof.Proof.MlaPrep.Run
public import proofs.«01_k».proof.Proof.MlaPrep.RefRun
public import Idealize.ShloMosaic.Lib.Claim

@[expose] public section

noncomputable section

open Idealize.ShloMosaic Idealize.ShloMosaic.TcCoe Idealize.SL.Sem

namespace MlaPrep

/-- The reference terminates and keeps its arguments, and holds no semaphore. -/
theorem frame_ref : Cert.quiescent_MlaPrepRefIdeal := by
  intro m g _
  refine (θ_run _ _ _).mono (fun r h => ⟨fun c => (h c).2.2.2, ?_⟩) (Cert.MlaPrepRefIdeal.Value.run m g)
  funext s
  rcases s with ⟨_, s | s⟩ <;> exact s.elim0

/-- From equal arguments the kernel and the reference leave the same three arrays. -/
theorem algebraic : Cert.algebraic_MlaPrepIdeal_MlaPrepRefIdeal := by
  pair_intro
  · run_from Cert.MlaPrepIdeal.Value.run m g
  · run_from Cert.MlaPrepRefIdeal.Value.run_spec m' g'
    · rw [Cert.MlaPrepIdeal.Value.final_q m g c]
    · rw [Cert.MlaPrepIdeal.Value.final_k m g c]
    · rw [Cert.MlaPrepIdeal.Value.final_v m g c]

end MlaPrep

end
-- ==== Proof.lean ====
/- The claims of the certificate, assembled from the modules that prove them. -/
module

public import proofs.«01_k».proof.Defs
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Pre_finite_qk
public import proofs.«01_k».proof.Proof.Gen.MlaIdeal.Value
public import proofs.«01_k».proof.Proof.Gen.MlaRefIdeal.Run
public import proofs.«01_k».proof.Proof.Gen.Diff
public import proofs.«01_k».proof.Proof.Gen.Diff.Skeleton
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffIdeal.Value
public import proofs.«01_k».proof.Proof.Gen.DiffRefIdeal
public import proofs.«01_k».proof.Proof.Gen.DiffRefIdeal.Run
public import proofs.«01_k».proof.Proof.Gen.Pre_finite_qkv_lam
public import proofs.«01_k».proof.Proof.Gen.EvenProj
public import proofs.«01_k».proof.Proof.Gen.EvenProj.Skeleton
public import proofs.«01_k».proof.Proof.Gen.EvenProj.Launch
public import proofs.«01_k».proof.Proof.Gen.EvenProj.Points
public import proofs.«01_k».proof.Proof.Gen.EvenProj.Frame
public import proofs.«01_k».proof.Proof.Gen.EvenProjIdeal
public import proofs.«01_k».proof.Proof.Gen.EvenProjIdeal.Skeleton
public import proofs.«01_k».proof.Proof.Gen.EvenProjIdeal.Launch
public import proofs.«01_k».proof.Proof.Gen.EvenProjIdeal.Points
public import proofs.«01_k».proof.Proof.Gen.EvenProjIdeal.Frame
public import proofs.«01_k».proof.Proof.Gen.EvenProjIdeal.Value
public import proofs.«01_k».proof.Proof.Gen.EvenProjRefIdeal
public import proofs.«01_k».proof.Proof.Gen.EvenProjRefIdeal.Run
public import proofs.«01_k».proof.Proof.Gen.EvenQk
public import proofs.«01_k».proof.Proof.Gen.EvenQk.Skeleton
public import proofs.«01_k».proof.Proof.Gen.EvenQk.Launch
public import proofs.«01_k».proof.Proof.Gen.EvenQk.Points
public import proofs.«01_k».proof.Proof.Gen.EvenQk.Frame
public import proofs.«01_k».proof.Proof.Gen.EvenQkIdeal
public import proofs.«01_k».proof.Proof.Gen.EvenQkIdeal.Skeleton
public import proofs.«01_k».proof.Proof.Gen.EvenQkIdeal.Launch
public import proofs.«01_k».proof.Proof.Gen.EvenQkIdeal.Points
public import proofs.«01_k».proof.Proof.Gen.EvenQkIdeal.Frame
public import proofs.«01_k».proof.Proof.Gen.EvenQkRefIdeal
public import proofs.«01_k».proof.Proof.Gen.EvenQkRefIdeal.Run
public import proofs.«01_k».proof.Proof.Gen.OddProj
public import proofs.«01_k».proof.Proof.Gen.OddProj.Skeleton
public import proofs.«01_k».proof.Proof.Gen.OddProj.Launch
public import proofs.«01_k».proof.Proof.Gen.OddProj.Points
public import proofs.«01_k».proof.Proof.Gen.OddProj.Frame
public import proofs.«01_k».proof.Proof.Gen.OddProjIdeal
public import proofs.«01_k».proof.Proof.Gen.OddProjIdeal.Skeleton
public import proofs.«01_k».proof.Proof.Gen.OddProjIdeal.Launch
public import proofs.«01_k».proof.Proof.Gen.OddProjIdeal.Points
public import proofs.«01_k».proof.Proof.Gen.OddProjIdeal.Frame
public import proofs.«01_k».proof.Proof.Gen.OddProjIdeal.Value
public import proofs.«01_k».proof.Proof.Gen.OddProjRefIdeal
public import proofs.«01_k».proof.Proof.Gen.OddProjRefIdeal.Run
public import proofs.«01_k».proof.Proof.Gen.OddQk
public import proofs.«01_k».proof.Proof.Gen.OddQk.Skeleton
public import proofs.«01_k».proof.Proof.Gen.OddQk.Launch
public import proofs.«01_k».proof.Proof.Gen.OddQk.Points
public import proofs.«01_k».proof.Proof.Gen.OddQk.Frame
public import proofs.«01_k».proof.Proof.Gen.OddQkIdeal
public import proofs.«01_k».proof.Proof.Gen.OddQkIdeal.Skeleton
public import proofs.«01_k».proof.Proof.Gen.OddQkIdeal.Launch
public import proofs.«01_k».proof.Proof.Gen.OddQkIdeal.Points
public import proofs.«01_k».proof.Proof.Gen.OddQkIdeal.Frame
public import proofs.«01_k».proof.Proof.Gen.OddQkRefIdeal
public import proofs.«01_k».proof.Proof.Gen.OddQkRefIdeal.Run
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutRefIdeal
public import proofs.«01_k».proof.Proof.Gen.EvenOutRefIdeal.Run
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutRefIdeal
public import proofs.«01_k».proof.Proof.Gen.OddOutRefIdeal.Run
public import proofs.«01_k».proof.Proof.Gen.EvenOutIdeal.Value
public import proofs.«01_k».proof.Proof.Gen.OddOutIdeal.Value
public import proofs.«01_k».proof.Proof.Mla.Claims
public import proofs.«01_k».proof.Proof.Diff.Claims
public import proofs.«01_k».proof.Proof.EvenQk.Claims
public import proofs.«01_k».proof.Proof.EvenProj.Claims
public import proofs.«01_k».proof.Proof.OddQk.Claims
public import proofs.«01_k».proof.Proof.OddProj.Claims
public import proofs.«01_k».proof.Proof.EvenOut.Claims
public import proofs.«01_k».proof.Proof.OddOut.Claims
public import proofs.«01_k».proof.Proof.Gen.MlaPrep
public import proofs.«01_k».proof.Proof.Gen.MlaPrep.Skeleton
public import proofs.«01_k».proof.Proof.Gen.MlaPrep.Launch
public import proofs.«01_k».proof.Proof.Gen.MlaPrep.Points
public import proofs.«01_k».proof.Proof.Gen.MlaPrep.Frame
public import proofs.«01_k».proof.Proof.Gen.MlaPrepIdeal
public import proofs.«01_k».proof.Proof.Gen.MlaPrepIdeal.Skeleton
public import proofs.«01_k».proof.Proof.Gen.MlaPrepIdeal.Launch
public import proofs.«01_k».proof.Proof.Gen.MlaPrepIdeal.Points
public import proofs.«01_k».proof.Proof.Gen.MlaPrepIdeal.Frame
public import proofs.«01_k».proof.Proof.Gen.MlaPrepRefIdeal
public import proofs.«01_k».proof.Proof.Gen.MlaPrepRefIdeal.Run
public import proofs.«01_k».proof.Proof.MlaPrep.Claims
public import Idealize.ShloMosaic.Adequacy
public import Idealize.ShloMosaic.Init

@[expose] public section

noncomputable section

namespace Cert.Proof

open Idealize.ShloMosaic Idealize.SL.Sem Cert.Mla

/-- Every claim. -/
theorem claim : Cert.Claim := ⟨Cert.Mla.Gen.facts, Cert.MlaIdeal.Gen.facts, Cert.MlaRefIdeal.Gen.facts,
  Cert.Diff.Gen.facts, Cert.DiffIdeal.Gen.facts, Cert.DiffRefIdeal.Gen.facts,
  Cert.EvenQk.Gen.facts, Cert.EvenQkIdeal.Gen.facts, Cert.EvenQkRefIdeal.Gen.facts,
  Cert.EvenProj.Gen.facts, Cert.EvenProjIdeal.Gen.facts, Cert.EvenProjRefIdeal.Gen.facts,
  Cert.OddQk.Gen.facts, Cert.OddQkIdeal.Gen.facts, Cert.OddQkRefIdeal.Gen.facts,
  Cert.OddProj.Gen.facts, Cert.OddProjIdeal.Gen.facts, Cert.OddProjRefIdeal.Gen.facts,
  Cert.EvenOut.Gen.facts, Cert.EvenOutIdeal.Gen.facts, Cert.EvenOutRefIdeal.Gen.facts,
  Cert.OddOut.Gen.facts, Cert.OddOutIdeal.Gen.facts, Cert.OddOutRefIdeal.Gen.facts,
  Cert.MlaPrep.Gen.facts, Cert.MlaPrepIdeal.Gen.facts, Cert.MlaPrepRefIdeal.Gen.facts,
  Cert.Pre_finite_qk.Gen.facts, Cert.Pre_finite_qkv_lam.Gen.facts,
  fun m ρ _ => Cert.Mla.Gen.frame m ρ,
  fun m ρ _ => Cert.MlaIdeal.Gen.frame m ρ,
  fun m ρ _ => Cert.MlaIdeal.Gen.frame m ρ,
  Cert.MlaClaims.frame_ref,
  fun m ρ _ => Cert.MlaClaims.frame_ref m ρ trivial,
  fun m ρ _ => Cert.Diff.Gen.frame m ρ,
  fun m ρ _ => Cert.DiffIdeal.Gen.frame m ρ,
  fun m ρ _ => Cert.DiffIdeal.Gen.frame m ρ,
  Cert.DiffClaims.frame_ref,
  fun m ρ _ => Cert.DiffClaims.frame_ref m ρ trivial,
  fun m ρ _ => Cert.EvenQk.Gen.frame m ρ,
  fun m ρ _ => Cert.EvenQkIdeal.Gen.frame m ρ,
  EvenQk.frame_ref,
  fun m ρ _ => Cert.EvenProj.Gen.frame m ρ,
  fun m ρ _ => Cert.EvenProjIdeal.Gen.frame m ρ,
  EvenProj.frame_ref,
  fun m ρ _ => Cert.OddQk.Gen.frame m ρ,
  fun m ρ _ => Cert.OddQkIdeal.Gen.frame m ρ,
  OddQk.frame_ref,
  fun m ρ _ => Cert.OddProj.Gen.frame m ρ,
  fun m ρ _ => Cert.OddProjIdeal.Gen.frame m ρ,
  OddProj.frame_ref,
  fun m ρ _ => Cert.EvenOut.Gen.frame m ρ,
  fun m ρ _ => Cert.EvenOutIdeal.Gen.frame m ρ,
  EvenOut.frame_ref,
  fun m ρ _ => Cert.OddOut.Gen.frame m ρ,
  fun m ρ _ => Cert.OddOutIdeal.Gen.frame m ρ,
  OddOut.frame_ref,
  fun m ρ _ => Cert.MlaPrep.Gen.frame m ρ,
  fun m ρ _ => Cert.MlaPrepIdeal.Gen.frame m ρ,
  MlaPrep.frame_ref,
  trivial,
  Cert.MlaClaims.algebraic,
  trivial,
  Cert.DiffClaims.algebraic,
  trivial,
  EvenQk.algebraic,
  trivial,
  EvenProj.algebraic,
  trivial,
  OddQk.algebraic,
  trivial,
  OddProj.algebraic,
  trivial,
  EvenOut.algebraic,
  trivial,
  OddOut.algebraic,
  trivial,
  MlaPrep.algebraic⟩

end Cert.Proof

end
